-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S6x160x2432 : Shape := ⟨3, ![6, 160, 2432]⟩
abbrev S2400x6x128 : Shape := ⟨3, ![2400, 6, 128]⟩
abbrev S2400x6 : Shape := ⟨2, ![2400, 6]⟩
abbrev S6 : Shape := ⟨1, ![6]⟩
abbrev S_ : Shape := ⟨0, ![]⟩
abbrev S2400x6x1 : Shape := ⟨3, ![2400, 6, 1]⟩

class Facts : Prop where
  bcast_S_S2400x6x128 : S_.BroadcastsInDim S2400x6x128 (![] : Fin 0 → Fin S2400x6x128.rank)
  bcast_S_S2400x6 : S_.BroadcastsInDim S2400x6 (![] : Fin 0 → Fin S2400x6.rank)
  bcast_S2400x6_S2400x6x1_0_1 : S2400x6.BroadcastsInDim S2400x6x1 (![0, 1] : Fin 2 → Fin S2400x6x1.rank)
  bcast_S2400x6x1_S2400x6x128_0_1_2 : S2400x6x1.BroadcastsInDim S2400x6x128 (![0, 1, 2] : Fin 3 → Fin S2400x6x128.rank)

variable [Facts]

def fn {F : FTy → Type} [FloatOps F] (main_arg0 : FVec F S6x160x2432 .f32) (main_arg1 : IVec S2400x6x128 32) (main_arg2 : FVec F S2400x6x128 .f32) (main_arg3 : IVec S2400x6 32) (main_arg4 : FVec F S6 .f32) (main_arg5 : FVec F S6 .f32) : IVec S2400x6x128 1 :=
  let main_c : IVec S_ 32 := constantI S_ 32 0#32
  let main_v0 : IVec S2400x6x128 32 := broadcastInDim S2400x6x128 ![] bcast_S_S2400x6x128 main_c
  let main_v1 : IVec S2400x6x128 1 := cmpi .sge main_arg1 main_v0
  let main_c_0 : IVec S_ 32 := constantI S_ 32 80000#32
  let main_v2 : IVec S2400x6x128 32 := broadcastInDim S2400x6x128 ![] bcast_S_S2400x6x128 main_c_0
  let main_v3 : IVec S2400x6x128 1 := cmpi .slt main_arg1 main_v2
  let main_v4 : IVec S2400x6x128 1 := andi main_v1 main_v3
  let main_c_1 : IVec S_ 32 := constantI S_ 32 128#32
  let main_v5 : IVec S2400x6 32 := broadcastInDim S2400x6 ![] bcast_S_S2400x6 main_c_1
  let main_v6 : IVec S2400x6 1 := cmpi .sle main_arg3 main_v5
  let main_v7 : IVec S2400x6x1 1 := broadcastInDim S2400x6x1 ![0, 1] bcast_S2400x6_S2400x6x1_0_1 main_v6
  let main_v8 : IVec S2400x6x128 1 := broadcastInDim S2400x6x128 ![0, 1, 2] bcast_S2400x6x1_S2400x6x128_0_1_2 main_v7
  let main_v9 : IVec S2400x6x128 1 := andi main_v4 main_v8
  main_v9
-- ==== Kernel.lean ====
abbrev S6x160x2432 : Shape := ⟨3, ![6, 160, 2432]⟩
abbrev S2400x6x128 : Shape := ⟨3, ![2400, 6, 128]⟩
abbrev S2400x6 : Shape := ⟨2, ![2400, 6]⟩
abbrev S6 : Shape := ⟨1, ![6]⟩
abbrev S6x1 : Shape := ⟨2, ![6, 1]⟩
abbrev S6x2 : Shape := ⟨2, ![6, 2]⟩
abbrev S6x2x1 : Shape := ⟨3, ![6, 2, 1]⟩
abbrev S6x2x16 : Shape := ⟨3, ![6, 2, 16]⟩
abbrev S192 : Shape := ⟨1, ![192]⟩
abbrev S6x20x8x19x128 : Shape := ⟨5, ![6, 20, 8, 19, 128]⟩
abbrev S6x20x19x8x128 : Shape := ⟨5, ![6, 20, 19, 8, 128]⟩
abbrev S6x2400x128 : Shape := ⟨3, ![6, 2400, 128]⟩
abbrev S6x2400 : Shape := ⟨2, ![6, 2400]⟩
abbrev S6x20x625x8x128 : Shape := ⟨5, ![6, 20, 625, 8, 128]⟩
abbrev S625x128 : Shape := ⟨2, ![625, 128]⟩
abbrev S125x128 : Shape := ⟨2, ![125, 128]⟩
abbrev S2x40x128 : Shape := ⟨3, ![2, 40, 128]⟩
abbrev S19x128 : Shape := ⟨2, ![19, 128]⟩
abbrev S2400 : Shape := ⟨1, ![2400]⟩
abbrev S2 : Shape := ⟨1, ![2]⟩
abbrev S5 : Shape := ⟨1, ![5]⟩
abbrev S_ : Shape := ⟨0, ![]⟩
abbrev S16 : Shape := ⟨1, ![16]⟩
abbrev S1x16 : Shape := ⟨2, ![1, 16]⟩
abbrev S1x2400 : Shape := ⟨2, ![1, 2400]⟩
abbrev S1x40x128 : Shape := ⟨3, ![1, 40, 128]⟩
abbrev S40x128 : Shape := ⟨2, ![40, 128]⟩
abbrev S1 : Shape := ⟨1, ![1]⟩
abbrev S1x1x19x1x128 : Shape := ⟨5, ![1, 1, 19, 1, 128]⟩
abbrev S1x1x16 : Shape := ⟨3, ![1, 1, 16]⟩
abbrev S1x1x125x1x128 : Shape := ⟨5, ![1, 1, 125, 1, 128]⟩
abbrev S6x625x128x20x8 : Shape := ⟨5, ![6, 625, 128, 20, 8]⟩
abbrev S6x80000x160 : Shape := ⟨3, ![6, 80000, 160]⟩

abbrev nBuf : Table → Nat
  | .hbm => 23
  | .local .scVector .vmem => 7
  | _ => 0

abbrev bufTy : (tb : Table) → Fin (nBuf tb) → BufTy
  | .hbm, ⟨0, _⟩ => ⟨S6x160x2432, .f32⟩
  | .hbm, ⟨1, _⟩ => ⟨S2400x6x128, .i32⟩
  | .hbm, ⟨2, _⟩ => ⟨S2400x6x128, .f32⟩
  | .hbm, ⟨3, _⟩ => ⟨S2400x6, .i32⟩
  | .hbm, ⟨4, _⟩ => ⟨S6, .f32⟩
  | .hbm, ⟨5, _⟩ => ⟨S6, .f32⟩
  | .hbm, ⟨6, _⟩ => ⟨S6x1, .f32⟩
  | .hbm, ⟨7, _⟩ => ⟨S6x1, .f32⟩
  | .hbm, ⟨8, _⟩ => ⟨S6x2, .f32⟩
  | .hbm, ⟨9, _⟩ => ⟨S6x2x1, .f32⟩
  | .hbm, ⟨10, _⟩ => ⟨S6x2x16, .f32⟩
  | .hbm, ⟨11, _⟩ => ⟨S192, .f32⟩
  | .hbm, ⟨12, _⟩ => ⟨S6x20x8x19x128, .f32⟩
  | .hbm, ⟨13, _⟩ => ⟨S6x20x19x8x128, .f32⟩
  | .hbm, ⟨14, _⟩ => ⟨S6x2400x128, .i32⟩
  | .hbm, ⟨15, _⟩ => ⟨S6x2400x128, .f32⟩
  | .hbm, ⟨16, _⟩ => ⟨S6x2400, .i32⟩
  | .hbm, ⟨17, _⟩ => ⟨S6x20x625x8x128, .f32⟩
  | .hbm, ⟨18, _⟩ => ⟨S6x20x625x8x128, .i32⟩
  | .hbm, ⟨19, _⟩ => ⟨S6x625x128x20x8, .f32⟩
  | .hbm, ⟨20, _⟩ => ⟨S6x80000x160, .f32⟩
  | .hbm, ⟨21, _⟩ => ⟨S6x625x128x20x8, .i32⟩
  | .hbm, ⟨22, _⟩ => ⟨S6x80000x160, .i32⟩
  | .local .scVector .vmem, ⟨0, _⟩ => ⟨S625x128, .i32⟩
  | .local .scVector .vmem, ⟨1, _⟩ => ⟨S125x128, .f32⟩
  | .local .scVector .vmem, ⟨2, _⟩ => ⟨S2x40x128, .i32⟩
  | .local .scVector .vmem, ⟨3, _⟩ => ⟨S2x40x128, .f32⟩
  | .local .scVector .vmem, ⟨4, _⟩ => ⟨S19x128, .f32⟩
  | .local .scVector .vmem, ⟨5, _⟩ => ⟨S2400, .i32⟩
  | .local .scVector .vmem, ⟨6, _⟩ => ⟨S192, .f32⟩
  | _, _ => ⟨S6x160x2432, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v7_scv : Ref sig .scVector := ⟨.hbm, 13, rfl⟩
abbrev main_v8_scv : Ref sig .scVector := ⟨.hbm, 14, rfl⟩
abbrev main_v9_scv : Ref sig .scVector := ⟨.hbm, 15, rfl⟩
abbrev main_v10_scv : Ref sig .scVector := ⟨.hbm, 16, rfl⟩
abbrev main_v5_scv : Ref sig .scVector := ⟨.hbm, 11, rfl⟩
abbrev main_v11_0_scv : Ref sig .scVector := ⟨.hbm, 17, rfl⟩
abbrev main_v11_1_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c5000_i32 : BitVec 32 := 5000#32
  let v1 : BitVec 32 := Scalar.addi c0_i32 c5000_i32
  let c1_i32 : BitVec 32 := 1#32
  ⟨c0_i32, v1, c1_i32⟩
def k0_off1 (k0_t1 : Fin k0_t1_loop.trips) : Fin 2 → Nat :=
  let c0_i32_4 : BitVec 32 := 0#32
  let c0_i32 : BitVec 32 := 0#32
  let c1_i32 : BitVec 32 := 1#32
  let arg19 : BitVec 32 := Scf.iv c0_i32 c1_i32 k0_t1
  let c16_i32 : BitVec 32 := 16#32
  let v3 : BitVec 32 := Scalar.muli arg19 c16_i32
  let v4 : BitVec 32 := Scalar.addi c0_i32_4 v3
  let c0_i32_6 : BitVec 32 := 0#32
  let v7 : BitVec 1 := Scalar.cmpi .sgt v4 c0_i32_6
  let v8 : BitVec 32 := Scalar.extui v7
  let c0_i32_7 : BitVec 32 := 0#32
  let v9 : BitVec 1 := Scalar.cmpi .slt v4 c0_i32_7
  let v10 : BitVec 32 := Scalar.extui v9
  let v11 : BitVec 32 := Scalar.subi v8 v10
  let c128_i32 : BitVec 32 := 128#32
  let c0_i32_8 : BitVec 32 := 0#32
  let v12 : BitVec 1 := Scalar.cmpi .sgt c128_i32 c0_i32_8
  let v13 : BitVec 32 := Scalar.extui v12
  let c0_i32_9 : BitVec 32 := 0#32
  let v14 : BitVec 1 := Scalar.cmpi .slt c128_i32 c0_i32_9
  let v15 : BitVec 32 := Scalar.extui v14
  let v16 : BitVec 32 := Scalar.subi v13 v15
  let v17 : BitVec 1 := Scalar.cmpi .ne v11 v16
  let v18 : BitVec 32 := Scalar.remsi v4 c128_i32
  let c0_i32_10 : BitVec 32 := 0#32
  let v19 : BitVec 1 := Scalar.cmpi .ne v18 c0_i32_10
  let v20 : BitVec 1 := Scalar.andi v17 v19
  let v6 : BitVec 32 := Scalar.divsi v4 c128_i32
  let c1_i32_11 : BitVec 32 := 1#32
  let v21 : BitVec 32 := Scalar.subi v6 c1_i32_11
  let v22 : BitVec 32 := Scalar.select v20 v21 v6
  let v33 : Index := Scalar.indexCast v22
  let c128_i32_12 : BitVec 32 := 128#32
  let c0_i32_13 : BitVec 32 := 0#32
  let v23 : BitVec 1 := Scalar.cmpi .eq c128_i32_12 c0_i32_13
  let c1_i32_14 : BitVec 32 := 1#32
  let v24 : BitVec 32 := Scalar.select v23 c1_i32_14 c128_i32_12
  let v25 : BitVec 32 := Scalar.remsi v4 v24
  let c0_i32_16 : BitVec 32 := 0#32
  let v27 : BitVec 1 := Scalar.cmpi .slt v25 c0_i32_16
  let c0_i32_17 : BitVec 32 := 0#32
  let v28 : BitVec 1 := Scalar.cmpi .slt v24 c0_i32_17
  let v29 : BitVec 1 := Scalar.xori v27 v28
  let c0_i32_15 : BitVec 32 := 0#32
  let v26 : BitVec 1 := Scalar.cmpi .ne v25 c0_i32_15
  let v30 : BitVec 1 := Scalar.andi v29 v26
  let v31 : BitVec 32 := Scalar.addi v25 v24
  let v32 : BitVec 32 := Scalar.select v30 v31 v25
  let v34 : Index := Scalar.indexCast v32
  ![v33.toNat, v34.toNat]
@[reducible] def k0_t2_loop : Scf.Loop 32 :=
  let c0_i32_1 : BitVec 32 := 0#32
  let c3_i32 : BitVec 32 := 3#32
  let v2 : BitVec 32 := Scalar.addi c0_i32_1 c3_i32
  let c1_i32_2 : BitVec 32 := 1#32
  ⟨c0_i32_1, v2, c1_i32_2⟩
def k0_off2 (i : grid0.Coords) (k0_t2 : Fin k0_t2_loop.trips) : Fin 2 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c0_i32_13_r1 : BitVec 32 := 0#32
  ![v6.toNat, 0]
def k0_off3 (i : grid0.Coords) (k0_t2 : Fin k0_t2_loop.trips) : Fin 1 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c2_i32 : BitVec 32 := 2#32
  let v7 : BitVec 32 := Scalar.muli v6 c2_i32
  let c16_i32 : BitVec 32 := 16#32
  let v8 : BitVec 32 := Scalar.muli v7 c16_i32
  let v9 : Index := Scalar.indexCast v8
  ![v9.toNat]
def k0_off4 (i : grid0.Coords) (k0_t2 : Fin k0_t2_loop.trips) : Fin 1 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c2_i32_7 : BitVec 32 := 2#32
  let v11 : BitVec 32 := Scalar.muli v6 c2_i32_7
  let c1_i32_8 : BitVec 32 := 1#32
  let v12 : BitVec 32 := Scalar.addi v11 c1_i32_8
  let c16_i32_9 : BitVec 32 := 16#32
  let v13 : BitVec 32 := Scalar.muli v12 c16_i32_9
  let v14 : Index := Scalar.indexCast v13
  ![v14.toNat]
@[reducible] def k0_t3_loop : Scf.Loop 32 :=
  let c0_i32_10 : BitVec 32 := 0#32
  let c10_i32 : BitVec 32 := 10#32
  let v16 : BitVec 32 := Scalar.addi c0_i32_10 c10_i32
  let c1_i32_11 : BitVec 32 := 1#32
  ⟨c0_i32_10, v16, c1_i32_11⟩
def k0_off5 (i : grid0.Coords) (k0_t2 : Fin k0_t2_loop.trips) : Fin 3 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c0_i32_32 : BitVec 32 := 0#32
  let c0_i32_33 : BitVec 32 := 0#32
  ![v6.toNat, 0, 0]
def k0_off6 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c0_i32_196_r2 : BitVec 32 := 0#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_197_r2 : BitVec 32 := 0#32
  ![v6.toNat, v37.toNat, 0, v47.toNat, 0]
@[reducible] def k0_t4_loop : Scf.Loop 32 :=
  let c0_i32_48 : BitVec 32 := 0#32
  let c60_i32 : BitVec 32 := 60#32
  let v68 : BitVec 32 := Scalar.addi c0_i32_48 c60_i32
  let c1_i32_49 : BitVec 32 := 1#32
  ⟨c0_i32_48, v68, c1_i32_49⟩
def k0_off7 (k0_t4 : Fin k0_t4_loop.trips) : Fin 3 → Nat :=
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  let c0_i32_204 : BitVec 32 := 0#32
  let c0_i32_205 : BitVec 32 := 0#32
  ![v205.toNat, 0, 0]
def k0_off8 (i : grid0.Coords) (k0_t2 : Fin k0_t2_loop.trips) (k0_t4 : Fin k0_t4_loop.trips) : Fin 3 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c40_i32 : BitVec 32 := 40#32
  let v206 : BitVec 32 := Scalar.muli v195 c40_i32
  let c0_i32_206 : BitVec 32 := 0#32
  ![v6.toNat, v206.toNat, 0]
def k0_off9 (k0_t4 : Fin k0_t4_loop.trips) : Fin 1 → Nat :=
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  ![v205.toNat]
def k0_cond1 (k0_t4 : Fin k0_t4_loop.trips) : BitVec 1 :=
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c1_i32_216 : BitVec 32 := 1#32
  let v227 : BitVec 32 := Scalar.addi v195 c1_i32_216
  let c60_i32_217 : BitVec 32 := 60#32
  let v228 : BitVec 1 := Scalar.cmpi .slt v227 c60_i32_217
  let v229 : BitVec 32 := Scalar.extui v228
  let c0_i32_218 : BitVec 32 := 0#32
  let v230 : BitVec 1 := Scalar.cmpi .ne v229 c0_i32_218
  v230

def k0_off10 (k0_t4 : Fin k0_t4_loop.trips) : Fin 3 → Nat :=
  let c1_i32_224 : BitVec 32 := 1#32
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  let v233 : BitVec 32 := Scalar.subi c1_i32_224 v205
  let c0_i32_226 : BitVec 32 := 0#32
  let c0_i32_227 : BitVec 32 := 0#32
  ![v233.toNat, 0, 0]
def k0_off11 (i : grid0.Coords) (k0_t2 : Fin k0_t2_loop.trips) (k0_t4 : Fin k0_t4_loop.trips) : Fin 3 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c1_i32_223 : BitVec 32 := 1#32
  let v232 : BitVec 32 := Scalar.addi v195 c1_i32_223
  let c40_i32_225 : BitVec 32 := 40#32
  let v234 : BitVec 32 := Scalar.muli v232 c40_i32_225
  let c0_i32_228 : BitVec 32 := 0#32
  ![v6.toNat, v234.toNat, 0]
def k0_off12 (k0_t4 : Fin k0_t4_loop.trips) : Fin 1 → Nat :=
  let c1_i32_224 : BitVec 32 := 1#32
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  let v233 : BitVec 32 := Scalar.subi c1_i32_224 v205
  ![v233.toNat]
@[reducible] def k0_t5_loop : Scf.Loop 32 :=
  let c0_i32_219 : BitVec 32 := 0#32
  let c40_i32_220 : BitVec 32 := 40#32
  let v231 : BitVec 32 := Scalar.addi c0_i32_219 c40_i32_220
  let c1_i32_221 : BitVec 32 := 1#32
  ⟨c0_i32_219, v231, c1_i32_221⟩

def k0_chk1 (v236 : IVec S16 32) : Prop :=
  (∀ a x, ((![v236] : Fin 1 → IVec S16 32) a x).toNat < S2400.size a)
theorem k0_idx1_inb : ∀ (v236 : IVec S16 32) (k0_hw1 : k0_chk1 v236), ∀ a x, ((![v236] : Fin 1 → IVec S16 32) a x).toNat < S2400.size a := fun v236 k0_hw1 => k0_hw1

def k0_chk2 (v239 : IVec S16 32) (v241 : IVec S16 32) : Prop :=
  (∀ a x, ((![v239, v241] : Fin 2 → IVec S16 32) a x).toNat < S19x128.size a)
theorem k0_idx2_inb : ∀ (v239 : IVec S16 32) (v241 : IVec S16 32) (k0_hw2 : k0_chk2 v239 v241), ∀ a x, ((![v239, v241] : Fin 2 → IVec S16 32) a x).toNat < S19x128.size a := fun v239 v241 k0_hw2 => k0_hw2
@[reducible] def k0_t6_loop (v244 : BitVec 32) : Scf.Loop 32 :=
  let c0_i32_241 : BitVec 32 := 0#32
  let c16_i32_226 : BitVec 32 := 16#32
  let v245 : BitVec 32 := Scalar.addi v244 c16_i32_226
  let c1_i32_227 : BitVec 32 := 1#32
  let v246 : BitVec 32 := Scalar.subi v245 c1_i32_227
  let c0_i32_229 : BitVec 32 := 0#32
  let v248 : BitVec 1 := Scalar.cmpi .sgt v246 c0_i32_229
  let v249 : BitVec 32 := Scalar.extui v248
  let c0_i32_230 : BitVec 32 := 0#32
  let v250 : BitVec 1 := Scalar.cmpi .slt v246 c0_i32_230
  let v251 : BitVec 32 := Scalar.extui v250
  let v252 : BitVec 32 := Scalar.subi v249 v251
  let c16_i32_228 : BitVec 32 := 16#32
  let c0_i32_231 : BitVec 32 := 0#32
  let v253 : BitVec 1 := Scalar.cmpi .sgt c16_i32_228 c0_i32_231
  let v254 : BitVec 32 := Scalar.extui v253
  let c0_i32_232 : BitVec 32 := 0#32
  let v255 : BitVec 1 := Scalar.cmpi .slt c16_i32_228 c0_i32_232
  let v256 : BitVec 32 := Scalar.extui v255
  let v257 : BitVec 32 := Scalar.subi v254 v256
  let v258 : BitVec 1 := Scalar.cmpi .ne v252 v257
  let v259 : BitVec 32 := Scalar.remsi v246 c16_i32_228
  let c0_i32_233 : BitVec 32 := 0#32
  let v260 : BitVec 1 := Scalar.cmpi .ne v259 c0_i32_233
  let v261 : BitVec 1 := Scalar.andi v258 v260
  let v247 : BitVec 32 := Scalar.divsi v246 c16_i32_228
  let c1_i32_234 : BitVec 32 := 1#32
  let v262 : BitVec 32 := Scalar.subi v247 c1_i32_234
  let v263 : BitVec 32 := Scalar.select v261 v262 v247
  let c0_i32_235 : BitVec 32 := 0#32
  let v264 : BitVec 32 := Scalar.subi v263 c0_i32_235
  let c1_i32_236 : BitVec 32 := 1#32
  let c1_i32_237 : BitVec 32 := 1#32
  let v265 : BitVec 32 := Scalar.subi c1_i32_236 c1_i32_237
  let v266 : BitVec 32 := Scalar.addi v264 v265
  let c1_i32_238 : BitVec 32 := 1#32
  let v267 : BitVec 32 := Scalar.divsi v266 c1_i32_238
  let v268 : BitVec 32 := Scalar.subi v267 c0_i32_241
  let c1_i32_242 : BitVec 32 := 1#32
  let v270 : BitVec 32 := Scalar.divsi v268 c1_i32_242
  let v271 : BitVec 32 := Scalar.muli v270 c1_i32_242
  let v272 : BitVec 32 := Scalar.addi c0_i32_241 v271
  let c1_i32_243 : BitVec 32 := 1#32
  ⟨c0_i32_241, v272, c1_i32_243⟩

def k0_off13 (k0_t4 : Fin k0_t4_loop.trips) (k0_t5 : Fin k0_t5_loop.trips) (v244 : BitVec 32) (k0_t6 : Fin (k0_t6_loop v244).trips) : Fin 3 → Nat :=
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  let v276 : Index := Scalar.indexCast v205
  let c0_i32_224 : BitVec 32 := 0#32
  let c0_i32_219 : BitVec 32 := 0#32
  let c1_i32_221 : BitVec 32 := 1#32
  let arg22 : BitVec 32 := Scf.iv c0_i32_219 c1_i32_221 k0_t5
  let c1_i32_223 : BitVec 32 := 1#32
  let v232 : BitVec 32 := Scalar.muli arg22 c1_i32_223
  let v233 : BitVec 32 := Scalar.addi c0_i32_224 v232
  let v277 : Index := Scalar.indexCast v233
  let c0_i32_240 : BitVec 32 := 0#32
  let c0_i32_241 : BitVec 32 := 0#32
  let c1_i32_243 : BitVec 32 := 1#32
  let arg23 : BitVec 32 := Scf.iv c0_i32_241 c1_i32_243 k0_t6
  let c1_i32_239 : BitVec 32 := 1#32
  let v273 : BitVec 32 := Scalar.muli arg23 c1_i32_239
  let v274 : BitVec 32 := Scalar.addi c0_i32_240 v273
  let c16_i32_245 : BitVec 32 := 16#32
  let v275 : BitVec 32 := Scalar.muli v274 c16_i32_245
  let v278 : Index := Scalar.indexCast v275
  ![v276.toNat, v277.toNat, v278.toNat]

def k0_chk4 (v289 : IVec S16 32) (v291 : IVec S16 32) : Prop :=
  (∀ a x, ((![v289, v291] : Fin 2 → IVec S16 32) a x).toNat < S625x128.size a)
theorem k0_idx3_inb : ∀ (v289 : IVec S16 32) (v291 : IVec S16 32) (k0_hw4 : k0_chk4 v289 v291), ∀ a x, ((![v289, v291] : Fin 2 → IVec S16 32) a x).toNat < S625x128.size a := fun v289 v291 k0_hw4 => k0_hw4
@[reducible] def k0_t7_loop (v244 : BitVec 32) : Scf.Loop 32 :=
  let c0_i32_241 : BitVec 32 := 0#32
  let c16_i32_226 : BitVec 32 := 16#32
  let v245 : BitVec 32 := Scalar.addi v244 c16_i32_226
  let c1_i32_227 : BitVec 32 := 1#32
  let v246 : BitVec 32 := Scalar.subi v245 c1_i32_227
  let c0_i32_229 : BitVec 32 := 0#32
  let v248 : BitVec 1 := Scalar.cmpi .sgt v246 c0_i32_229
  let v249 : BitVec 32 := Scalar.extui v248
  let c0_i32_230 : BitVec 32 := 0#32
  let v250 : BitVec 1 := Scalar.cmpi .slt v246 c0_i32_230
  let v251 : BitVec 32 := Scalar.extui v250
  let v252 : BitVec 32 := Scalar.subi v249 v251
  let c16_i32_228 : BitVec 32 := 16#32
  let c0_i32_231 : BitVec 32 := 0#32
  let v253 : BitVec 1 := Scalar.cmpi .sgt c16_i32_228 c0_i32_231
  let v254 : BitVec 32 := Scalar.extui v253
  let c0_i32_232 : BitVec 32 := 0#32
  let v255 : BitVec 1 := Scalar.cmpi .slt c16_i32_228 c0_i32_232
  let v256 : BitVec 32 := Scalar.extui v255
  let v257 : BitVec 32 := Scalar.subi v254 v256
  let v258 : BitVec 1 := Scalar.cmpi .ne v252 v257
  let v259 : BitVec 32 := Scalar.remsi v246 c16_i32_228
  let c0_i32_233 : BitVec 32 := 0#32
  let v260 : BitVec 1 := Scalar.cmpi .ne v259 c0_i32_233
  let v261 : BitVec 1 := Scalar.andi v258 v260
  let v247 : BitVec 32 := Scalar.divsi v246 c16_i32_228
  let c1_i32_234 : BitVec 32 := 1#32
  let v262 : BitVec 32 := Scalar.subi v247 c1_i32_234
  let v263 : BitVec 32 := Scalar.select v261 v262 v247
  let c0_i32_235 : BitVec 32 := 0#32
  let v264 : BitVec 32 := Scalar.subi v263 c0_i32_235
  let c1_i32_236 : BitVec 32 := 1#32
  let c1_i32_237 : BitVec 32 := 1#32
  let v265 : BitVec 32 := Scalar.subi c1_i32_236 c1_i32_237
  let v266 : BitVec 32 := Scalar.addi v264 v265
  let c1_i32_238 : BitVec 32 := 1#32
  let v267 : BitVec 32 := Scalar.divsi v266 c1_i32_238
  let v268 : BitVec 32 := Scalar.subi v267 c0_i32_241
  let c1_i32_242 : BitVec 32 := 1#32
  let v270 : BitVec 32 := Scalar.divsi v268 c1_i32_242
  let v271 : BitVec 32 := Scalar.muli v270 c1_i32_242
  let v272 : BitVec 32 := Scalar.addi c0_i32_241 v271
  let v269 : BitVec 32 := Scalar.addi c0_i32_241 v268
  let c1_i32_244 : BitVec 32 := 1#32
  ⟨v272, v269, c1_i32_244⟩
def k0_off14 (k0_t4 : Fin k0_t4_loop.trips) (k0_t5 : Fin k0_t5_loop.trips) (v244 : BitVec 32) (k0_t7 : Fin (k0_t7_loop v244).trips) : Fin 3 → Nat :=
  let c0_i32_197 : BitVec 32 := 0#32
  let c0_i32_48 : BitVec 32 := 0#32
  let c1_i32_49 : BitVec 32 := 1#32
  let arg21 : BitVec 32 := Scf.iv c0_i32_48 c1_i32_49 k0_t4
  let c1_i32_196 : BitVec 32 := 1#32
  let v194 : BitVec 32 := Scalar.muli arg21 c1_i32_196
  let v195 : BitVec 32 := Scalar.addi c0_i32_197 v194
  let c2_i32_198 : BitVec 32 := 2#32
  let c0_i32_199 : BitVec 32 := 0#32
  let v196 : BitVec 1 := Scalar.cmpi .eq c2_i32_198 c0_i32_199
  let c1_i32_200 : BitVec 32 := 1#32
  let v197 : BitVec 32 := Scalar.select v196 c1_i32_200 c2_i32_198
  let v198 : BitVec 32 := Scalar.remsi v195 v197
  let c0_i32_202 : BitVec 32 := 0#32
  let v200 : BitVec 1 := Scalar.cmpi .slt v198 c0_i32_202
  let c0_i32_203 : BitVec 32 := 0#32
  let v201 : BitVec 1 := Scalar.cmpi .slt v197 c0_i32_203
  let v202 : BitVec 1 := Scalar.xori v200 v201
  let c0_i32_201 : BitVec 32 := 0#32
  let v199 : BitVec 1 := Scalar.cmpi .ne v198 c0_i32_201
  let v203 : BitVec 1 := Scalar.andi v202 v199
  let v204 : BitVec 32 := Scalar.addi v198 v197
  let v205 : BitVec 32 := Scalar.select v203 v204 v198
  let v276 : Index := Scalar.indexCast v205
  let c0_i32_224 : BitVec 32 := 0#32
  let c0_i32_219 : BitVec 32 := 0#32
  let c1_i32_221 : BitVec 32 := 1#32
  let arg22 : BitVec 32 := Scf.iv c0_i32_219 c1_i32_221 k0_t5
  let c1_i32_223 : BitVec 32 := 1#32
  let v232 : BitVec 32 := Scalar.muli arg22 c1_i32_223
  let v233 : BitVec 32 := Scalar.addi c0_i32_224 v232
  let v277 : Index := Scalar.indexCast v233
  let c0_i32_240 : BitVec 32 := 0#32
  let c0_i32_241 : BitVec 32 := 0#32
  let c16_i32_226 : BitVec 32 := 16#32
  let v245 : BitVec 32 := Scalar.addi v244 c16_i32_226
  let c1_i32_227 : BitVec 32 := 1#32
  let v246 : BitVec 32 := Scalar.subi v245 c1_i32_227
  let c0_i32_229 : BitVec 32 := 0#32
  let v248 : BitVec 1 := Scalar.cmpi .sgt v246 c0_i32_229
  let v249 : BitVec 32 := Scalar.extui v248
  let c0_i32_230 : BitVec 32 := 0#32
  let v250 : BitVec 1 := Scalar.cmpi .slt v246 c0_i32_230
  let v251 : BitVec 32 := Scalar.extui v250
  let v252 : BitVec 32 := Scalar.subi v249 v251
  let c16_i32_228 : BitVec 32 := 16#32
  let c0_i32_231 : BitVec 32 := 0#32
  let v253 : BitVec 1 := Scalar.cmpi .sgt c16_i32_228 c0_i32_231
  let v254 : BitVec 32 := Scalar.extui v253
  let c0_i32_232 : BitVec 32 := 0#32
  let v255 : BitVec 1 := Scalar.cmpi .slt c16_i32_228 c0_i32_232
  let v256 : BitVec 32 := Scalar.extui v255
  let v257 : BitVec 32 := Scalar.subi v254 v256
  let v258 : BitVec 1 := Scalar.cmpi .ne v252 v257
  let v259 : BitVec 32 := Scalar.remsi v246 c16_i32_228
  let c0_i32_233 : BitVec 32 := 0#32
  let v260 : BitVec 1 := Scalar.cmpi .ne v259 c0_i32_233
  let v261 : BitVec 1 := Scalar.andi v258 v260
  let v247 : BitVec 32 := Scalar.divsi v246 c16_i32_228
  let c1_i32_234 : BitVec 32 := 1#32
  let v262 : BitVec 32 := Scalar.subi v247 c1_i32_234
  let v263 : BitVec 32 := Scalar.select v261 v262 v247
  let c0_i32_235 : BitVec 32 := 0#32
  let v264 : BitVec 32 := Scalar.subi v263 c0_i32_235
  let c1_i32_236 : BitVec 32 := 1#32
  let c1_i32_237 : BitVec 32 := 1#32
  let v265 : BitVec 32 := Scalar.subi c1_i32_236 c1_i32_237
  let v266 : BitVec 32 := Scalar.addi v264 v265
  let c1_i32_238 : BitVec 32 := 1#32
  let v267 : BitVec 32 := Scalar.divsi v266 c1_i32_238
  let v268 : BitVec 32 := Scalar.subi v267 c0_i32_241
  let c1_i32_242 : BitVec 32 := 1#32
  let v270 : BitVec 32 := Scalar.divsi v268 c1_i32_242
  let v271 : BitVec 32 := Scalar.muli v270 c1_i32_242
  let v272 : BitVec 32 := Scalar.addi c0_i32_241 v271
  let c1_i32_244 : BitVec 32 := 1#32
  let arg23 : BitVec 32 := Scf.iv v272 c1_i32_244 k0_t7
  let c1_i32_239 : BitVec 32 := 1#32
  let v273 : BitVec 32 := Scalar.muli arg23 c1_i32_239
  let v274 : BitVec 32 := Scalar.addi c0_i32_240 v273
  let c16_i32_245 : BitVec 32 := 16#32
  let v275 : BitVec 32 := Scalar.muli v274 c16_i32_245
  let v278 : Index := Scalar.indexCast v275
  ![v276.toNat, v277.toNat, v278.toNat]

def k0_chk3 (k0_t4 : Fin k0_t4_loop.trips) (k0_t5 : Fin k0_t5_loop.trips) (v244 : BitVec 32) : Prop :=
  ((k0_t6_loop v244).OK) ∧
  (∀ k0_t6 : Fin (k0_t6_loop v244).trips, ∀ a, (k0_off13 k0_t4 k0_t5 v244 k0_t6) a + S1x1x16.size a ≤ S2x40x128.size a) ∧
  ((k0_t7_loop v244).OK) ∧
  (∀ k0_t7 : Fin (k0_t7_loop v244).trips, ∀ a, (k0_off14 k0_t4 k0_t5 v244 k0_t7) a + S1x1x16.size a ≤ S2x40x128.size a)
theorem k0_t6_ok : ∀ (k0_t4 : Fin k0_t4_loop.trips) (k0_t5 : Fin k0_t5_loop.trips) (v244 : BitVec 32) (k0_hw3 : k0_chk3 k0_t4 k0_t5 v244), (k0_t6_loop v244).OK := fun k0_t4 k0_t5 v244 k0_hw3 => k0_hw3.1
theorem k0_off13_inb : ∀ (k0_t4 : Fin k0_t4_loop.trips) (k0_t5 : Fin k0_t5_loop.trips) (v244 : BitVec 32) (k0_hw3 : k0_chk3 k0_t4 k0_t5 v244) (k0_t6 : Fin (k0_t6_loop v244).trips), ∀ a, (k0_off13 k0_t4 k0_t5 v244 k0_t6) a + S1x1x16.size a ≤ S2x40x128.size a := fun k0_t4 k0_t5 v244 k0_hw3 k0_t6 => k0_hw3.2.1 k0_t6
theorem k0_t7_ok : ∀ (k0_t4 : Fin k0_t4_loop.trips) (k0_t5 : Fin k0_t5_loop.trips) (v244 : BitVec 32) (k0_hw3 : k0_chk3 k0_t4 k0_t5 v244), (k0_t7_loop v244).OK := fun k0_t4 k0_t5 v244 k0_hw3 => k0_hw3.2.2.1
theorem k0_off14_inb : ∀ (k0_t4 : Fin k0_t4_loop.trips) (k0_t5 : Fin k0_t5_loop.trips) (v244 : BitVec 32) (k0_hw3 : k0_chk3 k0_t4 k0_t5 v244) (k0_t7 : Fin (k0_t7_loop v244).trips), ∀ a, (k0_off14 k0_t4 k0_t5 v244 k0_t7) a + S1x1x16.size a ≤ S2x40x128.size a := fun k0_t4 k0_t5 v244 k0_hw3 k0_t7 => k0_hw3.2.2.2 k0_t7

def k0_chk5 (v289 : IVec S16 32) (v291 : IVec S16 32) : Prop :=
  (∀ a x, ((![v289, v291] : Fin 2 → IVec S16 32) a x).toNat < S625x128.size a)
theorem k0_idx4_inb : ∀ (v289 : IVec S16 32) (v291 : IVec S16 32) (k0_hw5 : k0_chk5 v289 v291), ∀ a x, ((![v289, v291] : Fin 2 → IVec S16 32) a x).toNat < S625x128.size a := fun v289 v291 k0_hw5 => k0_hw5
def k0_off15 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c0_i32_54 : BitVec 32 := 0#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_55 : BitVec 32 := 0#32
  ![v6.toNat, v37.toNat, 0, v47.toNat, 0]
def k0_off16 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c125_i32_62 : BitVec 32 := 125#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_63 : BitVec 32 := 0#32
  ![v6.toNat, v37.toNat, 125, v47.toNat, 0]
def k0_off17 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c250_i32_70 : BitVec 32 := 250#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_71 : BitVec 32 := 0#32
  ![v6.toNat, v37.toNat, 250, v47.toNat, 0]
def k0_off18 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c375_i32_78 : BitVec 32 := 375#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_79 : BitVec 32 := 0#32
  ![v6.toNat, v37.toNat, 375, v47.toNat, 0]
def k0_off19 (i : grid0.Coords) (k0_t2 : Fin k0_t2_loop.trips) (k0_t3 : Fin k0_t3_loop.trips) : Fin 5 → Nat :=
  let arg0 : BitVec 32 := BitVec.ofNat 32 (i 0).val
  let c3_i32_6 : BitVec 32 := 3#32
  let v5 : BitVec 32 := Scalar.muli arg0 c3_i32_6
  let c0_i32_5 : BitVec 32 := 0#32
  let c0_i32_1 : BitVec 32 := 0#32
  let c1_i32_2 : BitVec 32 := 1#32
  let arg19 : BitVec 32 := Scf.iv c0_i32_1 c1_i32_2 k0_t2
  let c1_i32_4 : BitVec 32 := 1#32
  let v3 : BitVec 32 := Scalar.muli arg19 c1_i32_4
  let v4 : BitVec 32 := Scalar.addi c0_i32_5 v3
  let v6 : BitVec 32 := Scalar.addi v5 v4
  let arg1 : BitVec 32 := BitVec.ofNat 32 (i 1).val
  let c10_i32_15 : BitVec 32 := 10#32
  let v19 : BitVec 32 := Scalar.muli arg1 c10_i32_15
  let c0_i32_14 : BitVec 32 := 0#32
  let c0_i32_10 : BitVec 32 := 0#32
  let c1_i32_11 : BitVec 32 := 1#32
  let arg20 : BitVec 32 := Scf.iv c0_i32_10 c1_i32_11 k0_t3
  let c1_i32_13 : BitVec 32 := 1#32
  let v17 : BitVec 32 := Scalar.muli arg20 c1_i32_13
  let v18 : BitVec 32 := Scalar.addi c0_i32_14 v17
  let v20 : BitVec 32 := Scalar.addi v19 v18
  let c0_i32_16 : BitVec 32 := 0#32
  let v22 : BitVec 1 := Scalar.cmpi .sgt v20 c0_i32_16
  let v23 : BitVec 32 := Scalar.extui v22
  let c0_i32_17 : BitVec 32 := 0#32
  let v24 : BitVec 1 := Scalar.cmpi .slt v20 c0_i32_17
  let v25 : BitVec 32 := Scalar.extui v24
  let v26 : BitVec 32 := Scalar.subi v23 v25
  let c8_i32 : BitVec 32 := 8#32
  let c0_i32_18 : BitVec 32 := 0#32
  let v27 : BitVec 1 := Scalar.cmpi .sgt c8_i32 c0_i32_18
  let v28 : BitVec 32 := Scalar.extui v27
  let c0_i32_19 : BitVec 32 := 0#32
  let v29 : BitVec 1 := Scalar.cmpi .slt c8_i32 c0_i32_19
  let v30 : BitVec 32 := Scalar.extui v29
  let v31 : BitVec 32 := Scalar.subi v28 v30
  let v32 : BitVec 1 := Scalar.cmpi .ne v26 v31
  let v33 : BitVec 32 := Scalar.remsi v20 c8_i32
  let c0_i32_20 : BitVec 32 := 0#32
  let v34 : BitVec 1 := Scalar.cmpi .ne v33 c0_i32_20
  let v35 : BitVec 1 := Scalar.andi v32 v34
  let v21 : BitVec 32 := Scalar.divsi v20 c8_i32
  let c1_i32_21 : BitVec 32 := 1#32
  let v36 : BitVec 32 := Scalar.subi v21 c1_i32_21
  let v37 : BitVec 32 := Scalar.select v35 v36 v21
  let c500_i32_85 : BitVec 32 := 500#32
  let c8_i32_22 : BitVec 32 := 8#32
  let c0_i32_23 : BitVec 32 := 0#32
  let v38 : BitVec 1 := Scalar.cmpi .eq c8_i32_22 c0_i32_23
  let c1_i32_24 : BitVec 32 := 1#32
  let v39 : BitVec 32 := Scalar.select v38 c1_i32_24 c8_i32_22
  let v40 : BitVec 32 := Scalar.remsi v20 v39
  let c0_i32_26 : BitVec 32 := 0#32
  let v42 : BitVec 1 := Scalar.cmpi .slt v40 c0_i32_26
  let c0_i32_27 : BitVec 32 := 0#32
  let v43 : BitVec 1 := Scalar.cmpi .slt v39 c0_i32_27
  let v44 : BitVec 1 := Scalar.xori v42 v43
  let c0_i32_25 : BitVec 32 := 0#32
  let v41 : BitVec 1 := Scalar.cmpi .ne v40 c0_i32_25
  let v45 : BitVec 1 := Scalar.andi v44 v41
  let v46 : BitVec 32 := Scalar.addi v40 v39
  let v47 : BitVec 32 := Scalar.select v45 v46 v40
  let c0_i32_86 : BitVec 32 := 0#32
  ![v6.toNat, v37.toNat, 500, v47.toNat, 0]
@[reducible] def k0_t8_loop : Scf.Loop 32 :=
  let c0_i32_100 : BitVec 32 := 0#32
  let c125_i32_101 : BitVec 32 := 125#32
  let v117 : BitVec 32 := Scalar.addi c0_i32_100 c125_i32_101
  let c1_i32_102 : BitVec 32 := 1#32
  ⟨c0_i32_100, v117, c1_i32_102⟩
def k0_off20 (k0_t8 : Fin k0_t8_loop.trips) : Fin 2 → Nat :=
  let c0_i32_198 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v196 : BitVec 32 := Scalar.addi c0_i32_198 v195
  let v197 : Index := Scalar.indexCast v196
  let c0 : Index := 0#32
  ![v197.toNat, 0]
def k0_off21 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v201 : Index := Scalar.indexCast v195
  let c0_199 : Index := 0#32
  ![v201.toNat, 0]
def k0_off22 (k0_t8 : Fin k0_t8_loop.trips) : Fin 2 → Nat :=
  let c0_i32_202 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v206 : BitVec 32 := Scalar.addi c0_i32_202 v195
  let v207 : Index := Scalar.indexCast v206
  let c16 : Index := 16#32
  ![v207.toNat, 16]
def k0_off23 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v211 : Index := Scalar.indexCast v195
  let c16_203 : Index := 16#32
  ![v211.toNat, 16]
def k0_off24 (k0_t8 : Fin k0_t8_loop.trips) : Fin 2 → Nat :=
  let c0_i32_206 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v216 : BitVec 32 := Scalar.addi c0_i32_206 v195
  let v217 : Index := Scalar.indexCast v216
  let c32 : Index := 32#32
  ![v217.toNat, 32]
def k0_off25 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v221 : Index := Scalar.indexCast v195
  let c32_207 : Index := 32#32
  ![v221.toNat, 32]
def k0_off26 (k0_t8 : Fin k0_t8_loop.trips) : Fin 2 → Nat :=
  let c0_i32_210 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v226 : BitVec 32 := Scalar.addi c0_i32_210 v195
  let v227 : Index := Scalar.indexCast v226
  let c48 : Index := 48#32
  ![v227.toNat, 48]
def k0_off27 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v231 : Index := Scalar.indexCast v195
  let c48_211 : Index := 48#32
  ![v231.toNat, 48]
def k0_off28 (k0_t8 : Fin k0_t8_loop.trips) : Fin 2 → Nat :=
  let c0_i32_214 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v236 : BitVec 32 := Scalar.addi c0_i32_214 v195
  let v237 : Index := Scalar.indexCast v236
  let c64 : Index := 64#32
  ![v237.toNat, 64]
def k0_off29 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v241 : Index := Scalar.indexCast v195
  let c64_215 : Index := 64#32
  ![v241.toNat, 64]
def k0_off30 (k0_t8 : Fin k0_t8_loop.trips) : Fin 2 → Nat :=
  let c0_i32_218 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v246 : BitVec 32 := Scalar.addi c0_i32_218 v195
  let v247 : Index := Scalar.indexCast v246
  let c80 : Index := 80#32
  ![v247.toNat, 80]
def k0_off31 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v251 : Index := Scalar.indexCast v195
  let c80_219 : Index := 80#32
  ![v251.toNat, 80]
def k0_off32 (k0_t8 : Fin k0_t8_loop.trips) : Fin 2 → Nat :=
  let c0_i32_222 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v256 : BitVec 32 := Scalar.addi c0_i32_222 v195
  let v257 : Index := Scalar.indexCast v256
  let c96 : Index := 96#32
  ![v257.toNat, 96]
def k0_off33 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v261 : Index := Scalar.indexCast v195
  let c96_223 : Index := 96#32
  ![v261.toNat, 96]
def k0_off34 (k0_t8 : Fin k0_t8_loop.trips) : Fin 2 → Nat :=
  let c0_i32_226 : BitVec 32 := 0#32
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v266 : BitVec 32 := Scalar.addi c0_i32_226 v195
  let v267 : Index := Scalar.indexCast v266
  let c112 : Index := 112#32
  ![v267.toNat, 112]
def k0_off35 (k0_t8 : Fin k0_t8_loop.trips) : Fin 2 → Nat :=
  let c0_i32_197 : BitVec 32 := 0#32
  let c0_i32_100 : BitVec 32 := 0#32
  let c1_i32_102 : BitVec 32 := 1#32
  let arg21 : BitVec 32 := Scf.iv c0_i32_100 c1_i32_102 k0_t8
  let c1_i32_196 : BitVec 32 := 1#32
  let v194 : BitVec 32 := Scalar.muli arg21 c1_i32_196
  let v195 : BitVec 32 := Scalar.addi c0_i32_197 v194
  let v271 : Index := Scalar.indexCast v195
  let c112_227 : Index := 112#32
  ![v271.toNat, 112]
@[reducible] def k0_t9_loop : Scf.Loop 32 :=
  let c0_i32_121 : BitVec 32 := 0#32
  let c125_i32_122 : BitVec 32 := 125#32
  let v134 : BitVec 32 := Scalar.addi c0_i32_121 c125_i32_122
  let c1_i32_123 : BitVec 32 := 1#32
  ⟨c0_i32_121, v134, c1_i32_123⟩
def k0_off36 (k0_t9 : Fin k0_t9_loop.trips) : Fin 2 → Nat :=
  let c125_i32_198 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v196 : BitVec 32 := Scalar.addi c125_i32_198 v195
  let v197 : Index := Scalar.indexCast v196
  let c0 : Index := 0#32
  ![v197.toNat, 0]
def k0_off37 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v201 : Index := Scalar.indexCast v195
  let c0_199 : Index := 0#32
  ![v201.toNat, 0]
def k0_off38 (k0_t9 : Fin k0_t9_loop.trips) : Fin 2 → Nat :=
  let c125_i32_202 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v206 : BitVec 32 := Scalar.addi c125_i32_202 v195
  let v207 : Index := Scalar.indexCast v206
  let c16 : Index := 16#32
  ![v207.toNat, 16]
def k0_off39 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v211 : Index := Scalar.indexCast v195
  let c16_203 : Index := 16#32
  ![v211.toNat, 16]
def k0_off40 (k0_t9 : Fin k0_t9_loop.trips) : Fin 2 → Nat :=
  let c125_i32_206 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v216 : BitVec 32 := Scalar.addi c125_i32_206 v195
  let v217 : Index := Scalar.indexCast v216
  let c32 : Index := 32#32
  ![v217.toNat, 32]
def k0_off41 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v221 : Index := Scalar.indexCast v195
  let c32_207 : Index := 32#32
  ![v221.toNat, 32]
def k0_off42 (k0_t9 : Fin k0_t9_loop.trips) : Fin 2 → Nat :=
  let c125_i32_210 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v226 : BitVec 32 := Scalar.addi c125_i32_210 v195
  let v227 : Index := Scalar.indexCast v226
  let c48 : Index := 48#32
  ![v227.toNat, 48]
def k0_off43 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v231 : Index := Scalar.indexCast v195
  let c48_211 : Index := 48#32
  ![v231.toNat, 48]
def k0_off44 (k0_t9 : Fin k0_t9_loop.trips) : Fin 2 → Nat :=
  let c125_i32_214 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v236 : BitVec 32 := Scalar.addi c125_i32_214 v195
  let v237 : Index := Scalar.indexCast v236
  let c64 : Index := 64#32
  ![v237.toNat, 64]
def k0_off45 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v241 : Index := Scalar.indexCast v195
  let c64_215 : Index := 64#32
  ![v241.toNat, 64]
def k0_off46 (k0_t9 : Fin k0_t9_loop.trips) : Fin 2 → Nat :=
  let c125_i32_218 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v246 : BitVec 32 := Scalar.addi c125_i32_218 v195
  let v247 : Index := Scalar.indexCast v246
  let c80 : Index := 80#32
  ![v247.toNat, 80]
def k0_off47 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v251 : Index := Scalar.indexCast v195
  let c80_219 : Index := 80#32
  ![v251.toNat, 80]
def k0_off48 (k0_t9 : Fin k0_t9_loop.trips) : Fin 2 → Nat :=
  let c125_i32_222 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v256 : BitVec 32 := Scalar.addi c125_i32_222 v195
  let v257 : Index := Scalar.indexCast v256
  let c96 : Index := 96#32
  ![v257.toNat, 96]
def k0_off49 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v261 : Index := Scalar.indexCast v195
  let c96_223 : Index := 96#32
  ![v261.toNat, 96]
def k0_off50 (k0_t9 : Fin k0_t9_loop.trips) : Fin 2 → Nat :=
  let c125_i32_226 : BitVec 32 := 125#32
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v266 : BitVec 32 := Scalar.addi c125_i32_226 v195
  let v267 : Index := Scalar.indexCast v266
  let c112 : Index := 112#32
  ![v267.toNat, 112]
def k0_off51 (k0_t9 : Fin k0_t9_loop.trips) : Fin 2 → Nat :=
  let c0_i32_197 : BitVec 32 := 0#32
  let c0_i32_121 : BitVec 32 := 0#32
  let c1_i32_123 : BitVec 32 := 1#32
  let arg21 : BitVec 32 := Scf.iv c0_i32_121 c1_i32_123 k0_t9
  let c1_i32_196 : BitVec 32 := 1#32
  let v194 : BitVec 32 := Scalar.muli arg21 c1_i32_196
  let v195 : BitVec 32 := Scalar.addi c0_i32_197 v194
  let v271 : Index := Scalar.indexCast v195
  let c112_227 : Index := 112#32
  ![v271.toNat, 112]
@[reducible] def k0_t10_loop : Scf.Loop 32 :=
  let c0_i32_142 : BitVec 32 := 0#32
  let c125_i32_143 : BitVec 32 := 125#32
  let v151 : BitVec 32 := Scalar.addi c0_i32_142 c125_i32_143
  let c1_i32_144 : BitVec 32 := 1#32
  ⟨c0_i32_142, v151, c1_i32_144⟩
def k0_off52 (k0_t10 : Fin k0_t10_loop.trips) : Fin 2 → Nat :=
  let c250_i32_198 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v196 : BitVec 32 := Scalar.addi c250_i32_198 v195
  let v197 : Index := Scalar.indexCast v196
  let c0 : Index := 0#32
  ![v197.toNat, 0]
def k0_off53 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v201 : Index := Scalar.indexCast v195
  let c0_199 : Index := 0#32
  ![v201.toNat, 0]
def k0_off54 (k0_t10 : Fin k0_t10_loop.trips) : Fin 2 → Nat :=
  let c250_i32_202 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v206 : BitVec 32 := Scalar.addi c250_i32_202 v195
  let v207 : Index := Scalar.indexCast v206
  let c16 : Index := 16#32
  ![v207.toNat, 16]
def k0_off55 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v211 : Index := Scalar.indexCast v195
  let c16_203 : Index := 16#32
  ![v211.toNat, 16]
def k0_off56 (k0_t10 : Fin k0_t10_loop.trips) : Fin 2 → Nat :=
  let c250_i32_206 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v216 : BitVec 32 := Scalar.addi c250_i32_206 v195
  let v217 : Index := Scalar.indexCast v216
  let c32 : Index := 32#32
  ![v217.toNat, 32]
def k0_off57 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v221 : Index := Scalar.indexCast v195
  let c32_207 : Index := 32#32
  ![v221.toNat, 32]
def k0_off58 (k0_t10 : Fin k0_t10_loop.trips) : Fin 2 → Nat :=
  let c250_i32_210 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v226 : BitVec 32 := Scalar.addi c250_i32_210 v195
  let v227 : Index := Scalar.indexCast v226
  let c48 : Index := 48#32
  ![v227.toNat, 48]
def k0_off59 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v231 : Index := Scalar.indexCast v195
  let c48_211 : Index := 48#32
  ![v231.toNat, 48]
def k0_off60 (k0_t10 : Fin k0_t10_loop.trips) : Fin 2 → Nat :=
  let c250_i32_214 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v236 : BitVec 32 := Scalar.addi c250_i32_214 v195
  let v237 : Index := Scalar.indexCast v236
  let c64 : Index := 64#32
  ![v237.toNat, 64]
def k0_off61 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v241 : Index := Scalar.indexCast v195
  let c64_215 : Index := 64#32
  ![v241.toNat, 64]
def k0_off62 (k0_t10 : Fin k0_t10_loop.trips) : Fin 2 → Nat :=
  let c250_i32_218 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v246 : BitVec 32 := Scalar.addi c250_i32_218 v195
  let v247 : Index := Scalar.indexCast v246
  let c80 : Index := 80#32
  ![v247.toNat, 80]
def k0_off63 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v251 : Index := Scalar.indexCast v195
  let c80_219 : Index := 80#32
  ![v251.toNat, 80]
def k0_off64 (k0_t10 : Fin k0_t10_loop.trips) : Fin 2 → Nat :=
  let c250_i32_222 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v256 : BitVec 32 := Scalar.addi c250_i32_222 v195
  let v257 : Index := Scalar.indexCast v256
  let c96 : Index := 96#32
  ![v257.toNat, 96]
def k0_off65 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v261 : Index := Scalar.indexCast v195
  let c96_223 : Index := 96#32
  ![v261.toNat, 96]
def k0_off66 (k0_t10 : Fin k0_t10_loop.trips) : Fin 2 → Nat :=
  let c250_i32_226 : BitVec 32 := 250#32
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v266 : BitVec 32 := Scalar.addi c250_i32_226 v195
  let v267 : Index := Scalar.indexCast v266
  let c112 : Index := 112#32
  ![v267.toNat, 112]
def k0_off67 (k0_t10 : Fin k0_t10_loop.trips) : Fin 2 → Nat :=
  let c0_i32_197 : BitVec 32 := 0#32
  let c0_i32_142 : BitVec 32 := 0#32
  let c1_i32_144 : BitVec 32 := 1#32
  let arg21 : BitVec 32 := Scf.iv c0_i32_142 c1_i32_144 k0_t10
  let c1_i32_196 : BitVec 32 := 1#32
  let v194 : BitVec 32 := Scalar.muli arg21 c1_i32_196
  let v195 : BitVec 32 := Scalar.addi c0_i32_197 v194
  let v271 : Index := Scalar.indexCast v195
  let c112_227 : Index := 112#32
  ![v271.toNat, 112]
@[reducible] def k0_t11_loop : Scf.Loop 32 :=
  let c0_i32_163 : BitVec 32 := 0#32
  let c125_i32_164 : BitVec 32 := 125#32
  let v168 : BitVec 32 := Scalar.addi c0_i32_163 c125_i32_164
  let c1_i32_165 : BitVec 32 := 1#32
  ⟨c0_i32_163, v168, c1_i32_165⟩
def k0_off68 (k0_t11 : Fin k0_t11_loop.trips) : Fin 2 → Nat :=
  let c375_i32_198 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v196 : BitVec 32 := Scalar.addi c375_i32_198 v195
  let v197 : Index := Scalar.indexCast v196
  let c0 : Index := 0#32
  ![v197.toNat, 0]
def k0_off69 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v201 : Index := Scalar.indexCast v195
  let c0_199 : Index := 0#32
  ![v201.toNat, 0]
def k0_off70 (k0_t11 : Fin k0_t11_loop.trips) : Fin 2 → Nat :=
  let c375_i32_202 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v206 : BitVec 32 := Scalar.addi c375_i32_202 v195
  let v207 : Index := Scalar.indexCast v206
  let c16 : Index := 16#32
  ![v207.toNat, 16]
def k0_off71 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v211 : Index := Scalar.indexCast v195
  let c16_203 : Index := 16#32
  ![v211.toNat, 16]
def k0_off72 (k0_t11 : Fin k0_t11_loop.trips) : Fin 2 → Nat :=
  let c375_i32_206 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v216 : BitVec 32 := Scalar.addi c375_i32_206 v195
  let v217 : Index := Scalar.indexCast v216
  let c32 : Index := 32#32
  ![v217.toNat, 32]
def k0_off73 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v221 : Index := Scalar.indexCast v195
  let c32_207 : Index := 32#32
  ![v221.toNat, 32]
def k0_off74 (k0_t11 : Fin k0_t11_loop.trips) : Fin 2 → Nat :=
  let c375_i32_210 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v226 : BitVec 32 := Scalar.addi c375_i32_210 v195
  let v227 : Index := Scalar.indexCast v226
  let c48 : Index := 48#32
  ![v227.toNat, 48]
def k0_off75 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v231 : Index := Scalar.indexCast v195
  let c48_211 : Index := 48#32
  ![v231.toNat, 48]
def k0_off76 (k0_t11 : Fin k0_t11_loop.trips) : Fin 2 → Nat :=
  let c375_i32_214 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v236 : BitVec 32 := Scalar.addi c375_i32_214 v195
  let v237 : Index := Scalar.indexCast v236
  let c64 : Index := 64#32
  ![v237.toNat, 64]
def k0_off77 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v241 : Index := Scalar.indexCast v195
  let c64_215 : Index := 64#32
  ![v241.toNat, 64]
def k0_off78 (k0_t11 : Fin k0_t11_loop.trips) : Fin 2 → Nat :=
  let c375_i32_218 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v246 : BitVec 32 := Scalar.addi c375_i32_218 v195
  let v247 : Index := Scalar.indexCast v246
  let c80 : Index := 80#32
  ![v247.toNat, 80]
def k0_off79 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v251 : Index := Scalar.indexCast v195
  let c80_219 : Index := 80#32
  ![v251.toNat, 80]
def k0_off80 (k0_t11 : Fin k0_t11_loop.trips) : Fin 2 → Nat :=
  let c375_i32_222 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v256 : BitVec 32 := Scalar.addi c375_i32_222 v195
  let v257 : Index := Scalar.indexCast v256
  let c96 : Index := 96#32
  ![v257.toNat, 96]
def k0_off81 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v261 : Index := Scalar.indexCast v195
  let c96_223 : Index := 96#32
  ![v261.toNat, 96]
def k0_off82 (k0_t11 : Fin k0_t11_loop.trips) : Fin 2 → Nat :=
  let c375_i32_226 : BitVec 32 := 375#32
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v266 : BitVec 32 := Scalar.addi c375_i32_226 v195
  let v267 : Index := Scalar.indexCast v266
  let c112 : Index := 112#32
  ![v267.toNat, 112]
def k0_off83 (k0_t11 : Fin k0_t11_loop.trips) : Fin 2 → Nat :=
  let c0_i32_197 : BitVec 32 := 0#32
  let c0_i32_163 : BitVec 32 := 0#32
  let c1_i32_165 : BitVec 32 := 1#32
  let arg21 : BitVec 32 := Scf.iv c0_i32_163 c1_i32_165 k0_t11
  let c1_i32_196 : BitVec 32 := 1#32
  let v194 : BitVec 32 := Scalar.muli arg21 c1_i32_196
  let v195 : BitVec 32 := Scalar.addi c0_i32_197 v194
  let v271 : Index := Scalar.indexCast v195
  let c112_227 : Index := 112#32
  ![v271.toNat, 112]
@[reducible] def k0_t12_loop : Scf.Loop 32 :=
  let c0_i32_184 : BitVec 32 := 0#32
  let c125_i32_185 : BitVec 32 := 125#32
  let v185 : BitVec 32 := Scalar.addi c0_i32_184 c125_i32_185
  let c1_i32_186 : BitVec 32 := 1#32
  ⟨c0_i32_184, v185, c1_i32_186⟩
def k0_off84 (k0_t12 : Fin k0_t12_loop.trips) : Fin 2 → Nat :=
  let c500_i32_198 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v196 : BitVec 32 := Scalar.addi c500_i32_198 v195
  let v197 : Index := Scalar.indexCast v196
  let c0 : Index := 0#32
  ![v197.toNat, 0]
def k0_off85 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v201 : Index := Scalar.indexCast v195
  let c0_199 : Index := 0#32
  ![v201.toNat, 0]
def k0_off86 (k0_t12 : Fin k0_t12_loop.trips) : Fin 2 → Nat :=
  let c500_i32_202 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v206 : BitVec 32 := Scalar.addi c500_i32_202 v195
  let v207 : Index := Scalar.indexCast v206
  let c16 : Index := 16#32
  ![v207.toNat, 16]
def k0_off87 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v211 : Index := Scalar.indexCast v195
  let c16_203 : Index := 16#32
  ![v211.toNat, 16]
def k0_off88 (k0_t12 : Fin k0_t12_loop.trips) : Fin 2 → Nat :=
  let c500_i32_206 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v216 : BitVec 32 := Scalar.addi c500_i32_206 v195
  let v217 : Index := Scalar.indexCast v216
  let c32 : Index := 32#32
  ![v217.toNat, 32]
def k0_off89 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v221 : Index := Scalar.indexCast v195
  let c32_207 : Index := 32#32
  ![v221.toNat, 32]
def k0_off90 (k0_t12 : Fin k0_t12_loop.trips) : Fin 2 → Nat :=
  let c500_i32_210 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v226 : BitVec 32 := Scalar.addi c500_i32_210 v195
  let v227 : Index := Scalar.indexCast v226
  let c48 : Index := 48#32
  ![v227.toNat, 48]
def k0_off91 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v231 : Index := Scalar.indexCast v195
  let c48_211 : Index := 48#32
  ![v231.toNat, 48]
def k0_off92 (k0_t12 : Fin k0_t12_loop.trips) : Fin 2 → Nat :=
  let c500_i32_214 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v236 : BitVec 32 := Scalar.addi c500_i32_214 v195
  let v237 : Index := Scalar.indexCast v236
  let c64 : Index := 64#32
  ![v237.toNat, 64]
def k0_off93 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v241 : Index := Scalar.indexCast v195
  let c64_215 : Index := 64#32
  ![v241.toNat, 64]
def k0_off94 (k0_t12 : Fin k0_t12_loop.trips) : Fin 2 → Nat :=
  let c500_i32_218 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v246 : BitVec 32 := Scalar.addi c500_i32_218 v195
  let v247 : Index := Scalar.indexCast v246
  let c80 : Index := 80#32
  ![v247.toNat, 80]
def k0_off95 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v251 : Index := Scalar.indexCast v195
  let c80_219 : Index := 80#32
  ![v251.toNat, 80]
def k0_off96 (k0_t12 : Fin k0_t12_loop.trips) : Fin 2 → Nat :=
  let c500_i32_222 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v256 : BitVec 32 := Scalar.addi c500_i32_222 v195
  let v257 : Index := Scalar.indexCast v256
  let c96 : Index := 96#32
  ![v257.toNat, 96]
def k0_off97 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v261 : Index := Scalar.indexCast v195
  let c96_223 : Index := 96#32
  ![v261.toNat, 96]
def k0_off98 (k0_t12 : Fin k0_t12_loop.trips) : Fin 2 → Nat :=
  let c500_i32_226 : BitVec 32 := 500#32
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v266 : BitVec 32 := Scalar.addi c500_i32_226 v195
  let v267 : Index := Scalar.indexCast v266
  let c112 : Index := 112#32
  ![v267.toNat, 112]
def k0_off99 (k0_t12 : Fin k0_t12_loop.trips) : Fin 2 → Nat :=
  let c0_i32_197 : BitVec 32 := 0#32
  let c0_i32_184 : BitVec 32 := 0#32
  let c1_i32_186 : BitVec 32 := 1#32
  let arg21 : BitVec 32 := Scf.iv c0_i32_184 c1_i32_186 k0_t12
  let c1_i32_196 : BitVec 32 := 1#32
  let v194 : BitVec 32 := Scalar.muli arg21 c1_i32_196
  let v195 : BitVec 32 := Scalar.addi c0_i32_197 v194
  let v271 : Index := Scalar.indexCast v195
  let c112_227 : Index := 112#32
  ![v271.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6x160x2432 : Shape := ⟨3, ![6, 160, 2432]⟩
abbrev S2400x6x128 : Shape := ⟨3, ![2400, 6, 128]⟩
abbrev S2400x6 : Shape := ⟨2, ![2400, 6]⟩
abbrev S6 : Shape := ⟨1, ![6]⟩
abbrev S6x160x2400 : Shape := ⟨3, ![6, 160, 2400]⟩
abbrev S2400x6x160 : Shape := ⟨3, ![2400, 6, 160]⟩
abbrev S2400x6x1x160 : Shape := ⟨4, ![2400, 6, 1, 160]⟩
abbrev S2400x6x128x1 : Shape := ⟨4, ![2400, 6, 128, 1]⟩
abbrev S2400x6x128x160 : Shape := ⟨4, ![2400, 6, 128, 160]⟩
abbrev S1x6x1x1 : Shape := ⟨4, ![1, 6, 1, 1]⟩
abbrev S128 : Shape := ⟨1, ![128]⟩
abbrev S1x1x128 : Shape := ⟨3, ![1, 1, 128]⟩
abbrev S2400x6x1 : Shape := ⟨3, ![2400, 6, 1]⟩
abbrev S_ : Shape := ⟨0, ![]⟩
abbrev S1x6x1 : Shape := ⟨3, ![1, 6, 1]⟩
abbrev S1843200 : Shape := ⟨1, ![1843200]⟩
abbrev S1843200x160 : Shape := ⟨2, ![1843200, 160]⟩
abbrev S480000x160 : Shape := ⟨2, ![480000, 160]⟩
abbrev S1843200x1 : Shape := ⟨2, ![1843200, 1]⟩
abbrev S6x80000x160 : Shape := ⟨3, ![6, 80000, 160]⟩
abbrev S6x1x1 : Shape := ⟨3, ![6, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S6x160x2432, .f32⟩
  | .hbm, ⟨1, _⟩ => ⟨S2400x6x128, .i32⟩
  | .hbm, ⟨2, _⟩ => ⟨S2400x6x128, .f32⟩
  | .hbm, ⟨3, _⟩ => ⟨S2400x6, .i32⟩
  | .hbm, ⟨4, _⟩ => ⟨S6, .f32⟩
  | .hbm, ⟨5, _⟩ => ⟨S6, .f32⟩
  | .hbm, ⟨6, _⟩ => ⟨S6x160x2400, .f32⟩
  | .hbm, ⟨7, _⟩ => ⟨S2400x6x160, .f32⟩
  | .hbm, ⟨8, _⟩ => ⟨S2400x6x1x160, .f32⟩
  | .hbm, ⟨9, _⟩ => ⟨S2400x6x128x1, .f32⟩
  | .hbm, ⟨10, _⟩ => ⟨S2400x6x128x160, .f32⟩
  | .hbm, ⟨11, _⟩ => ⟨S2400x6x128x160, .f32⟩
  | .hbm, ⟨12, _⟩ => ⟨S2400x6x128x160, .f32⟩
  | .hbm, ⟨13, _⟩ => ⟨S1x6x1x1, .f32⟩
  | .hbm, ⟨14, _⟩ => ⟨S2400x6x128x160, .f32⟩
  | .hbm, ⟨15, _⟩ => ⟨S2400x6x128x160, .f32⟩
  | .hbm, ⟨16, _⟩ => ⟨S2400x6x128x160, .f32⟩
  | .hbm, ⟨17, _⟩ => ⟨S2400x6x128x160, .i32⟩
  | .hbm, ⟨18, _⟩ => ⟨S128, .i32⟩
  | .hbm, ⟨19, _⟩ => ⟨S1x1x128, .i32⟩
  | .hbm, ⟨20, _⟩ => ⟨S2400x6x1, .i32⟩
  | .hbm, ⟨21, _⟩ => ⟨S2400x6x128, .i32⟩
  | .hbm, ⟨22, _⟩ => ⟨S2400x6x128, .i32⟩
  | .hbm, ⟨23, _⟩ => ⟨S2400x6x128, .i1⟩
  | .hbm, ⟨24, _⟩ => ⟨S2400x6x128x1, .i1⟩
  | .hbm, ⟨25, _⟩ => ⟨S_, .i32⟩
  | .hbm, ⟨26, _⟩ => ⟨S_, .i32⟩
  | .hbm, ⟨27, _⟩ => ⟨S2400x6x128x160, .i1⟩
  | .hbm, ⟨28, _⟩ => ⟨S2400x6x128x160, .i32⟩
  | .hbm, ⟨29, _⟩ => ⟨S2400x6x128x160, .i32⟩
  | .hbm, ⟨30, _⟩ => ⟨S6, .i32⟩
  | .hbm, ⟨31, _⟩ => ⟨S1x6x1, .i32⟩
  | .hbm, ⟨32, _⟩ => ⟨S_, .i32⟩
  | .hbm, ⟨33, _⟩ => ⟨S1x6x1, .i32⟩
  | .hbm, ⟨34, _⟩ => ⟨S1x6x1, .i32⟩
  | .hbm, ⟨35, _⟩ => ⟨S2400x6x128, .i32⟩
  | .hbm, ⟨36, _⟩ => ⟨S2400x6x128, .i32⟩
  | .hbm, ⟨37, _⟩ => ⟨S1843200, .i32⟩
  | .hbm, ⟨38, _⟩ => ⟨S1843200x160, .i32⟩
  | .hbm, ⟨39, _⟩ => ⟨S_, .i32⟩
  | .hbm, ⟨40, _⟩ => ⟨S480000x160, .i32⟩
  | .hbm, ⟨41, _⟩ => ⟨S1843200x1, .i32⟩
  | .hbm, ⟨42, _⟩ => ⟨S480000x160, .i32⟩
  | .hbm, ⟨43, _⟩ => ⟨S6x80000x160, .i32⟩
  | .hbm, ⟨44, _⟩ => ⟨S6x80000x160, .f32⟩
  | .hbm, ⟨45, _⟩ => ⟨S6x1x1, .f32⟩
  | .hbm, ⟨46, _⟩ => ⟨S6x80000x160, .f32⟩
  | .hbm, ⟨47, _⟩ => ⟨S6x80000x160, .f32⟩
  | _, _ => ⟨S6x160x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Words.lean ====
/-
  The offsets and the trip counts which the kernel computes by word arithmetic, in closed form.
-/
module

public import proofs.«01_k».proof.Proof.Gen.Kernel
public import proofs.«01_k».proof.Proof.Gen.Kernel.Skeleton
public import Idealize.ShloMosaic.Lib.Decide
public import Idealize.ShloMosaic.Lib.LoopRemainder

@[expose] public section

set_option Elab.async false

noncomputable section

namespace Cert.Kernel.Pf

open Cert.Kernel Cert.Kernel.Gen
open Idealize.ShloMosaic

/-- The table a tile works on in its trip `t2`, its channel in trip `t3`. -/
def tabN (i : grid0.Coords) (t2 : ℕ) : ℕ := 3 * (i 0).val + t2
def chN (i : grid0.Coords) (t3 : ℕ) : ℕ := 10 * (i 1).val + t3

theorem trips1 : k0_t1_loop.trips = 5000 := by decide +kernel
theorem trips2 : k0_t2_loop.trips = 3 := by decide +kernel
theorem trips3 : k0_t3_loop.trips = 10 := by decide +kernel
theorem trips4 : k0_t4_loop.trips = 60 := by decide +kernel
theorem trips5 : k0_t5_loop.trips = 40 := by decide +kernel

theorem trips8 : k0_t8_loop.trips = 125 := by decide +kernel

theorem trips9 : k0_t9_loop.trips = 125 := by decide +kernel

theorem trips10 : k0_t10_loop.trips = 125 := by decide +kernel

theorem trips11 : k0_t11_loop.trips = 125 := by decide +kernel

theorem trips12 : k0_t12_loop.trips = 125 := by decide +kernel

theorem cf1 : ∀ (t1 : Fin k0_t1_loop.trips), k0_off1 t1 = ![t1.val / 8, 16 * (t1.val % 8)] := by
  have h : ∀ (t1 : Fin k0_t1_loop.trips), ∀ a, k0_off1 t1 a = (![t1.val / 8, 16 * (t1.val % 8)]) a := by decide +kernel
  intros; funext a; apply h

theorem cf2 : ∀ (i : grid0.Coords) (t2 : Fin k0_t2_loop.trips), k0_off2 i t2 = ![tabN i t2.val, 0] := by
  have h : ∀ (i : grid0.Coords) (t2 : Fin k0_t2_loop.trips), ∀ a, k0_off2 i t2 a = (![tabN i t2.val, 0]) a := by decide +kernel
  intros; funext a; apply h

theorem cf3 : ∀ (i : grid0.Coords) (t2 : Fin k0_t2_loop.trips), k0_off3 i t2 = ![32 * tabN i t2.val] := by
  have h : ∀ (i : grid0.Coords) (t2 : Fin k0_t2_loop.trips), ∀ a, k0_off3 i t2 a = (![32 * tabN i t2.val]) a := by decide +kernel
  intros; funext a; apply h

theorem cf4 : ∀ (i : grid0.Coords) (t2 : Fin k0_t2_loop.trips), k0_off4 i t2 = ![32 * tabN i t2.val + 16] := by
  have h : ∀ (i : grid0.Coords) (t2 : Fin k0_t2_loop.trips), ∀ a, k0_off4 i t2 a = (![32 * tabN i t2.val + 16]) a := by decide +kernel
  intros; funext a; apply h

theorem cf5 : ∀ (i : grid0.Coords) (t2 : Fin k0_t2_loop.trips), k0_off5 i t2 = ![tabN i t2.val, 0, 0] := by
  have h : ∀ (i : grid0.Coords) (t2 : Fin k0_t2_loop.trips), ∀ a, k0_off5 i t2 a = (![tabN i t2.val, 0, 0]) a := by decide +kernel
  intros; funext a; apply h

theorem cf6 : ∀ (i : grid0.Coords) (t2 : Fin k0_t2_loop.trips) (t3 : Fin k0_t3_loop.trips), k0_off6 i t2 t3 = ![tabN i t2.val, chN i t3.val / 8, 0, chN i t3.val % 8, 0] := by
  have h : ∀ (i : grid0.Coords) (t2 : Fin k0_t2_loop.trips) (t3 : Fin k0_t3_loop.trips), ∀ a, k0_off6 i t2 t3 a = (![tabN i t2.val, chN i t3.val / 8, 0, chN i t3.val % 8, 0]) a := by decide +kernel
  intros; funext a; apply h

theorem cf7 : ∀ (t4 : Fin k0_t4_loop.trips), k0_off7 t4 = ![t4.val % 2, 0, 0] := by
  have h : ∀ (t4 : Fin k0_t4_loop.trips), ∀ a, k0_off7 t4 a = (![t4.val % 2, 0, 0]) a := by decide +kernel
  intros; funext a; apply h

theorem cf8 : ∀ (i : grid0.Coords) (t2 : Fin k0_t2_loop.trips) (t4 : Fin k0_t4_loop.trips), k0_off8 i t2 t4 = ![tabN i t2.val, 40 * t4.val, 0] := by
  have h : ∀ (i : grid0.Coords) (t2 : Fin k0_t2_loop.trips) (t4 : Fin k0_t4_loop.trips), ∀ a, k0_off8 i t2 t4 a = (![tabN i t2.val, 40 * t4.val, 0]) a := by decide +kernel
  intros; funext a; apply h

theorem cf9 : ∀ (t4 : Fin k0_t4_loop.trips), k0_off9 t4 = ![t4.val % 2] := by
  have h : ∀ (t4 : Fin k0_t4_loop.trips), ∀ a, k0_off9 t4 a = (![t4.val % 2]) a := by decide +kernel
  intros; funext a; apply h

theorem cf10 : ∀ (t4 : Fin k0_t4_loop.trips), k0_off10 t4 = ![(t4.val + 1) % 2, 0, 0] := by
  have h : ∀ (t4 : Fin k0_t4_loop.trips), ∀ a, k0_off10 t4 a = (![(t4.val + 1) % 2, 0, 0]) a := by decide +kernel
  intros; funext a; apply h

theorem cf11 : ∀ (i : grid0.Coords) (t2 : Fin k0_t2_loop.trips) (t4 : Fin k0_t4_loop.trips), k0_off11 i t2 t4 = ![tabN i t2.val, 40 * (t4.val + 1), 0] := by
  have h : ∀ (i : grid0.Coords) (t2 : Fin k0_t2_loop.trips) (t4 : Fin k0_t4_loop.trips), ∀ a, k0_off11 i t2 t4 a = (![tabN i t2.val, 40 * (t4.val + 1), 0]) a := by decide +kernel
  intros; funext a; apply h

theorem cf12 : ∀ (t4 : Fin k0_t4_loop.trips), k0_off12 t4 = ![(t4.val + 1) % 2] := by
  have h : ∀ (t4 : Fin k0_t4_loop.trips), ∀ a, k0_off12 t4 a = (![(t4.val + 1) % 2]) a := by decide +kernel
  intros; funext a; apply h

theorem cf15 : ∀ (i : grid0.Coords) (t2 : Fin k0_t2_loop.trips) (t3 : Fin k0_t3_loop.trips), k0_off15 i t2 t3 = ![tabN i t2.val, chN i t3.val / 8, 0, chN i t3.val % 8, 0] := by
  have h : ∀ (i : grid0.Coords) (t2 : Fin k0_t2_loop.trips) (t3 : Fin k0_t3_loop.trips), ∀ a, k0_off15 i t2 t3 a = (![tabN i t2.val, chN i t3.val / 8, 0, chN i t3.val % 8, 0]) a := by decide +kernel
  intros; funext a; apply h

theorem cf16 : ∀ (i : grid0.Coords) (t2 : Fin k0_t2_loop.trips) (t3 : Fin k0_t3_loop.trips), k0_off16 i t2 t3 = ![tabN i t2.val, chN i t3.val / 8, 125, chN i t3.val % 8, 0] := by
  have h : ∀ (i : grid0.Coords) (t2 : Fin k0_t2_loop.trips) (t3 : Fin k0_t3_loop.trips), ∀ a, k0_off16 i t2 t3 a = (![tabN i t2.val, chN i t3.val / 8, 125, chN i t3.val % 8, 0]) a := by decide +kernel
  intros; funext a; apply h

theorem cf17 : ∀ (i : grid0.Coords) (t2 : Fin k0_t2_loop.trips) (t3 : Fin k0_t3_loop.trips), k0_off17 i t2 t3 = ![tabN i t2.val, chN i t3.val / 8, 250, chN i t3.val % 8, 0] := by
  have h : ∀ (i : grid0.Coords) (t2 : Fin k0_t2_loop.trips) (t3 : Fin k0_t3_loop.trips), ∀ a, k0_off17 i t2 t3 a = (![tabN i t2.val, chN i t3.val / 8, 250, chN i t3.val % 8, 0]) a := by decide +kernel
  intros; funext a; apply h

theorem cf18 : ∀ (i : grid0.Coords) (t2 : Fin k0_t2_loop.trips) (t3 : Fin k0_t3_loop.trips), k0_off18 i t2 t3 = ![tabN i t2.val, chN i t3.val / 8, 375, chN i t3.val % 8, 0] := by
  have h : ∀ (i : grid0.Coords) (t2 : Fin k0_t2_loop.trips) (t3 : Fin k0_t3_loop.trips), ∀ a, k0_off18 i t2 t3 a = (![tabN i t2.val, chN i t3.val / 8, 375, chN i t3.val % 8, 0]) a := by decide +kernel
  intros; funext a; apply h

theorem cf19 : ∀ (i : grid0.Coords) (t2 : Fin k0_t2_loop.trips) (t3 : Fin k0_t3_loop.trips), k0_off19 i t2 t3 = ![tabN i t2.val, chN i t3.val / 8, 500, chN i t3.val % 8, 0] := by
  have h : ∀ (i : grid0.Coords) (t2 : Fin k0_t2_loop.trips) (t3 : Fin k0_t3_loop.trips), ∀ a, k0_off19 i t2 t3 a = (![tabN i t2.val, chN i t3.val / 8, 500, chN i t3.val % 8, 0]) a := by decide +kernel
  intros; funext a; apply h

theorem cf20 : ∀ (t : Fin k0_t8_loop.trips), k0_off20 t = ![0 + t.val, 0] := by
  have h : ∀ (t : Fin k0_t8_loop.trips), ∀ a, k0_off20 t a = (![0 + t.val, 0]) a := by decide +kernel
  intros; funext a; apply h

theorem cf21 : ∀ (t : Fin k0_t8_loop.trips), k0_off21 t = ![t.val, 0] := by
  have h : ∀ (t : Fin k0_t8_loop.trips), ∀ a, k0_off21 t a = (![t.val, 0]) a := by decide +kernel
  intros; funext a; apply h

theorem cf22 : ∀ (t : Fin k0_t8_loop.trips), k0_off22 t = ![0 + t.val, 16] := by
  have h : ∀ (t : Fin k0_t8_loop.trips), ∀ a, k0_off22 t a = (![0 + t.val, 16]) a := by decide +kernel
  intros; funext a; apply h

theorem cf23 : ∀ (t : Fin k0_t8_loop.trips), k0_off23 t = ![t.val, 16] := by
  have h : ∀ (t : Fin k0_t8_loop.trips), ∀ a, k0_off23 t a = (![t.val, 16]) a := by decide +kernel
  intros; funext a; apply h

theorem cf24 : ∀ (t : Fin k0_t8_loop.trips), k0_off24 t = ![0 + t.val, 32] := by
  have h : ∀ (t : Fin k0_t8_loop.trips), ∀ a, k0_off24 t a = (![0 + t.val, 32]) a := by decide +kernel
  intros; funext a; apply h

theorem cf25 : ∀ (t : Fin k0_t8_loop.trips), k0_off25 t = ![t.val, 32] := by
  have h : ∀ (t : Fin k0_t8_loop.trips), ∀ a, k0_off25 t a = (![t.val, 32]) a := by decide +kernel
  intros; funext a; apply h

theorem cf26 : ∀ (t : Fin k0_t8_loop.trips), k0_off26 t = ![0 + t.val, 48] := by
  have h : ∀ (t : Fin k0_t8_loop.trips), ∀ a, k0_off26 t a = (![0 + t.val, 48]) a := by decide +kernel
  intros; funext a; apply h

theorem cf27 : ∀ (t : Fin k0_t8_loop.trips), k0_off27 t = ![t.val, 48] := by
  have h : ∀ (t : Fin k0_t8_loop.trips), ∀ a, k0_off27 t a = (![t.val, 48]) a := by decide +kernel
  intros; funext a; apply h

theorem cf28 : ∀ (t : Fin k0_t8_loop.trips), k0_off28 t = ![0 + t.val, 64] := by
  have h : ∀ (t : Fin k0_t8_loop.trips), ∀ a, k0_off28 t a = (![0 + t.val, 64]) a := by decide +kernel
  intros; funext a; apply h

theorem cf29 : ∀ (t : Fin k0_t8_loop.trips), k0_off29 t = ![t.val, 64] := by
  have h : ∀ (t : Fin k0_t8_loop.trips), ∀ a, k0_off29 t a = (![t.val, 64]) a := by decide +kernel
  intros; funext a; apply h

theorem cf30 : ∀ (t : Fin k0_t8_loop.trips), k0_off30 t = ![0 + t.val, 80] := by
  have h : ∀ (t : Fin k0_t8_loop.trips), ∀ a, k0_off30 t a = (![0 + t.val, 80]) a := by decide +kernel
  intros; funext a; apply h

theorem cf31 : ∀ (t : Fin k0_t8_loop.trips), k0_off31 t = ![t.val, 80] := by
  have h : ∀ (t : Fin k0_t8_loop.trips), ∀ a, k0_off31 t a = (![t.val, 80]) a := by decide +kernel
  intros; funext a; apply h

theorem cf32 : ∀ (t : Fin k0_t8_loop.trips), k0_off32 t = ![0 + t.val, 96] := by
  have h : ∀ (t : Fin k0_t8_loop.trips), ∀ a, k0_off32 t a = (![0 + t.val, 96]) a := by decide +kernel
  intros; funext a; apply h

theorem cf33 : ∀ (t : Fin k0_t8_loop.trips), k0_off33 t = ![t.val, 96] := by
  have h : ∀ (t : Fin k0_t8_loop.trips), ∀ a, k0_off33 t a = (![t.val, 96]) a := by decide +kernel
  intros; funext a; apply h

theorem cf34 : ∀ (t : Fin k0_t8_loop.trips), k0_off34 t = ![0 + t.val, 112] := by
  have h : ∀ (t : Fin k0_t8_loop.trips), ∀ a, k0_off34 t a = (![0 + t.val, 112]) a := by decide +kernel
  intros; funext a; apply h

theorem cf35 : ∀ (t : Fin k0_t8_loop.trips), k0_off35 t = ![t.val, 112] := by
  have h : ∀ (t : Fin k0_t8_loop.trips), ∀ a, k0_off35 t a = (![t.val, 112]) a := by decide +kernel
  intros; funext a; apply h

theorem cf36 : ∀ (t : Fin k0_t9_loop.trips), k0_off36 t = ![125 + t.val, 0] := by
  have h : ∀ (t : Fin k0_t9_loop.trips), ∀ a, k0_off36 t a = (![125 + t.val, 0]) a := by decide +kernel
  intros; funext a; apply h

theorem cf37 : ∀ (t : Fin k0_t9_loop.trips), k0_off37 t = ![t.val, 0] := by
  have h : ∀ (t : Fin k0_t9_loop.trips), ∀ a, k0_off37 t a = (![t.val, 0]) a := by decide +kernel
  intros; funext a; apply h

theorem cf38 : ∀ (t : Fin k0_t9_loop.trips), k0_off38 t = ![125 + t.val, 16] := by
  have h : ∀ (t : Fin k0_t9_loop.trips), ∀ a, k0_off38 t a = (![125 + t.val, 16]) a := by decide +kernel
  intros; funext a; apply h

theorem cf39 : ∀ (t : Fin k0_t9_loop.trips), k0_off39 t = ![t.val, 16] := by
  have h : ∀ (t : Fin k0_t9_loop.trips), ∀ a, k0_off39 t a = (![t.val, 16]) a := by decide +kernel
  intros; funext a; apply h

theorem cf40 : ∀ (t : Fin k0_t9_loop.trips), k0_off40 t = ![125 + t.val, 32] := by
  have h : ∀ (t : Fin k0_t9_loop.trips), ∀ a, k0_off40 t a = (![125 + t.val, 32]) a := by decide +kernel
  intros; funext a; apply h

theorem cf41 : ∀ (t : Fin k0_t9_loop.trips), k0_off41 t = ![t.val, 32] := by
  have h : ∀ (t : Fin k0_t9_loop.trips), ∀ a, k0_off41 t a = (![t.val, 32]) a := by decide +kernel
  intros; funext a; apply h

theorem cf42 : ∀ (t : Fin k0_t9_loop.trips), k0_off42 t = ![125 + t.val, 48] := by
  have h : ∀ (t : Fin k0_t9_loop.trips), ∀ a, k0_off42 t a = (![125 + t.val, 48]) a := by decide +kernel
  intros; funext a; apply h

theorem cf43 : ∀ (t : Fin k0_t9_loop.trips), k0_off43 t = ![t.val, 48] := by
  have h : ∀ (t : Fin k0_t9_loop.trips), ∀ a, k0_off43 t a = (![t.val, 48]) a := by decide +kernel
  intros; funext a; apply h

theorem cf44 : ∀ (t : Fin k0_t9_loop.trips), k0_off44 t = ![125 + t.val, 64] := by
  have h : ∀ (t : Fin k0_t9_loop.trips), ∀ a, k0_off44 t a = (![125 + t.val, 64]) a := by decide +kernel
  intros; funext a; apply h

theorem cf45 : ∀ (t : Fin k0_t9_loop.trips), k0_off45 t = ![t.val, 64] := by
  have h : ∀ (t : Fin k0_t9_loop.trips), ∀ a, k0_off45 t a = (![t.val, 64]) a := by decide +kernel
  intros; funext a; apply h

theorem cf46 : ∀ (t : Fin k0_t9_loop.trips), k0_off46 t = ![125 + t.val, 80] := by
  have h : ∀ (t : Fin k0_t9_loop.trips), ∀ a, k0_off46 t a = (![125 + t.val, 80]) a := by decide +kernel
  intros; funext a; apply h

theorem cf47 : ∀ (t : Fin k0_t9_loop.trips), k0_off47 t = ![t.val, 80] := by
  have h : ∀ (t : Fin k0_t9_loop.trips), ∀ a, k0_off47 t a = (![t.val, 80]) a := by decide +kernel
  intros; funext a; apply h

theorem cf48 : ∀ (t : Fin k0_t9_loop.trips), k0_off48 t = ![125 + t.val, 96] := by
  have h : ∀ (t : Fin k0_t9_loop.trips), ∀ a, k0_off48 t a = (![125 + t.val, 96]) a := by decide +kernel
  intros; funext a; apply h

theorem cf49 : ∀ (t : Fin k0_t9_loop.trips), k0_off49 t = ![t.val, 96] := by
  have h : ∀ (t : Fin k0_t9_loop.trips), ∀ a, k0_off49 t a = (![t.val, 96]) a := by decide +kernel
  intros; funext a; apply h

theorem cf50 : ∀ (t : Fin k0_t9_loop.trips), k0_off50 t = ![125 + t.val, 112] := by
  have h : ∀ (t : Fin k0_t9_loop.trips), ∀ a, k0_off50 t a = (![125 + t.val, 112]) a := by decide +kernel
  intros; funext a; apply h

theorem cf51 : ∀ (t : Fin k0_t9_loop.trips), k0_off51 t = ![t.val, 112] := by
  have h : ∀ (t : Fin k0_t9_loop.trips), ∀ a, k0_off51 t a = (![t.val, 112]) a := by decide +kernel
  intros; funext a; apply h

theorem cf52 : ∀ (t : Fin k0_t10_loop.trips), k0_off52 t = ![250 + t.val, 0] := by
  have h : ∀ (t : Fin k0_t10_loop.trips), ∀ a, k0_off52 t a = (![250 + t.val, 0]) a := by decide +kernel
  intros; funext a; apply h

theorem cf53 : ∀ (t : Fin k0_t10_loop.trips), k0_off53 t = ![t.val, 0] := by
  have h : ∀ (t : Fin k0_t10_loop.trips), ∀ a, k0_off53 t a = (![t.val, 0]) a := by decide +kernel
  intros; funext a; apply h

theorem cf54 : ∀ (t : Fin k0_t10_loop.trips), k0_off54 t = ![250 + t.val, 16] := by
  have h : ∀ (t : Fin k0_t10_loop.trips), ∀ a, k0_off54 t a = (![250 + t.val, 16]) a := by decide +kernel
  intros; funext a; apply h

theorem cf55 : ∀ (t : Fin k0_t10_loop.trips), k0_off55 t = ![t.val, 16] := by
  have h : ∀ (t : Fin k0_t10_loop.trips), ∀ a, k0_off55 t a = (![t.val, 16]) a := by decide +kernel
  intros; funext a; apply h

theorem cf56 : ∀ (t : Fin k0_t10_loop.trips), k0_off56 t = ![250 + t.val, 32] := by
  have h : ∀ (t : Fin k0_t10_loop.trips), ∀ a, k0_off56 t a = (![250 + t.val, 32]) a := by decide +kernel
  intros; funext a; apply h

theorem cf57 : ∀ (t : Fin k0_t10_loop.trips), k0_off57 t = ![t.val, 32] := by
  have h : ∀ (t : Fin k0_t10_loop.trips), ∀ a, k0_off57 t a = (![t.val, 32]) a := by decide +kernel
  intros; funext a; apply h

theorem cf58 : ∀ (t : Fin k0_t10_loop.trips), k0_off58 t = ![250 + t.val, 48] := by
  have h : ∀ (t : Fin k0_t10_loop.trips), ∀ a, k0_off58 t a = (![250 + t.val, 48]) a := by decide +kernel
  intros; funext a; apply h

theorem cf59 : ∀ (t : Fin k0_t10_loop.trips), k0_off59 t = ![t.val, 48] := by
  have h : ∀ (t : Fin k0_t10_loop.trips), ∀ a, k0_off59 t a = (![t.val, 48]) a := by decide +kernel
  intros; funext a; apply h

theorem cf60 : ∀ (t : Fin k0_t10_loop.trips), k0_off60 t = ![250 + t.val, 64] := by
  have h : ∀ (t : Fin k0_t10_loop.trips), ∀ a, k0_off60 t a = (![250 + t.val, 64]) a := by decide +kernel
  intros; funext a; apply h

theorem cf61 : ∀ (t : Fin k0_t10_loop.trips), k0_off61 t = ![t.val, 64] := by
  have h : ∀ (t : Fin k0_t10_loop.trips), ∀ a, k0_off61 t a = (![t.val, 64]) a := by decide +kernel
  intros; funext a; apply h

theorem cf62 : ∀ (t : Fin k0_t10_loop.trips), k0_off62 t = ![250 + t.val, 80] := by
  have h : ∀ (t : Fin k0_t10_loop.trips), ∀ a, k0_off62 t a = (![250 + t.val, 80]) a := by decide +kernel
  intros; funext a; apply h

theorem cf63 : ∀ (t : Fin k0_t10_loop.trips), k0_off63 t = ![t.val, 80] := by
  have h : ∀ (t : Fin k0_t10_loop.trips), ∀ a, k0_off63 t a = (![t.val, 80]) a := by decide +kernel
  intros; funext a; apply h

theorem cf64 : ∀ (t : Fin k0_t10_loop.trips), k0_off64 t = ![250 + t.val, 96] := by
  have h : ∀ (t : Fin k0_t10_loop.trips), ∀ a, k0_off64 t a = (![250 + t.val, 96]) a := by decide +kernel
  intros; funext a; apply h

theorem cf65 : ∀ (t : Fin k0_t10_loop.trips), k0_off65 t = ![t.val, 96] := by
  have h : ∀ (t : Fin k0_t10_loop.trips), ∀ a, k0_off65 t a = (![t.val, 96]) a := by decide +kernel
  intros; funext a; apply h

theorem cf66 : ∀ (t : Fin k0_t10_loop.trips), k0_off66 t = ![250 + t.val, 112] := by
  have h : ∀ (t : Fin k0_t10_loop.trips), ∀ a, k0_off66 t a = (![250 + t.val, 112]) a := by decide +kernel
  intros; funext a; apply h

theorem cf67 : ∀ (t : Fin k0_t10_loop.trips), k0_off67 t = ![t.val, 112] := by
  have h : ∀ (t : Fin k0_t10_loop.trips), ∀ a, k0_off67 t a = (![t.val, 112]) a := by decide +kernel
  intros; funext a; apply h

theorem cf68 : ∀ (t : Fin k0_t11_loop.trips), k0_off68 t = ![375 + t.val, 0] := by
  have h : ∀ (t : Fin k0_t11_loop.trips), ∀ a, k0_off68 t a = (![375 + t.val, 0]) a := by decide +kernel
  intros; funext a; apply h

theorem cf69 : ∀ (t : Fin k0_t11_loop.trips), k0_off69 t = ![t.val, 0] := by
  have h : ∀ (t : Fin k0_t11_loop.trips), ∀ a, k0_off69 t a = (![t.val, 0]) a := by decide +kernel
  intros; funext a; apply h

theorem cf70 : ∀ (t : Fin k0_t11_loop.trips), k0_off70 t = ![375 + t.val, 16] := by
  have h : ∀ (t : Fin k0_t11_loop.trips), ∀ a, k0_off70 t a = (![375 + t.val, 16]) a := by decide +kernel
  intros; funext a; apply h

theorem cf71 : ∀ (t : Fin k0_t11_loop.trips), k0_off71 t = ![t.val, 16] := by
  have h : ∀ (t : Fin k0_t11_loop.trips), ∀ a, k0_off71 t a = (![t.val, 16]) a := by decide +kernel
  intros; funext a; apply h

theorem cf72 : ∀ (t : Fin k0_t11_loop.trips), k0_off72 t = ![375 + t.val, 32] := by
  have h : ∀ (t : Fin k0_t11_loop.trips), ∀ a, k0_off72 t a = (![375 + t.val, 32]) a := by decide +kernel
  intros; funext a; apply h

theorem cf73 : ∀ (t : Fin k0_t11_loop.trips), k0_off73 t = ![t.val, 32] := by
  have h : ∀ (t : Fin k0_t11_loop.trips), ∀ a, k0_off73 t a = (![t.val, 32]) a := by decide +kernel
  intros; funext a; apply h

theorem cf74 : ∀ (t : Fin k0_t11_loop.trips), k0_off74 t = ![375 + t.val, 48] := by
  have h : ∀ (t : Fin k0_t11_loop.trips), ∀ a, k0_off74 t a = (![375 + t.val, 48]) a := by decide +kernel
  intros; funext a; apply h

theorem cf75 : ∀ (t : Fin k0_t11_loop.trips), k0_off75 t = ![t.val, 48] := by
  have h : ∀ (t : Fin k0_t11_loop.trips), ∀ a, k0_off75 t a = (![t.val, 48]) a := by decide +kernel
  intros; funext a; apply h

theorem cf76 : ∀ (t : Fin k0_t11_loop.trips), k0_off76 t = ![375 + t.val, 64] := by
  have h : ∀ (t : Fin k0_t11_loop.trips), ∀ a, k0_off76 t a = (![375 + t.val, 64]) a := by decide +kernel
  intros; funext a; apply h

theorem cf77 : ∀ (t : Fin k0_t11_loop.trips), k0_off77 t = ![t.val, 64] := by
  have h : ∀ (t : Fin k0_t11_loop.trips), ∀ a, k0_off77 t a = (![t.val, 64]) a := by decide +kernel
  intros; funext a; apply h

theorem cf78 : ∀ (t : Fin k0_t11_loop.trips), k0_off78 t = ![375 + t.val, 80] := by
  have h : ∀ (t : Fin k0_t11_loop.trips), ∀ a, k0_off78 t a = (![375 + t.val, 80]) a := by decide +kernel
  intros; funext a; apply h

theorem cf79 : ∀ (t : Fin k0_t11_loop.trips), k0_off79 t = ![t.val, 80] := by
  have h : ∀ (t : Fin k0_t11_loop.trips), ∀ a, k0_off79 t a = (![t.val, 80]) a := by decide +kernel
  intros; funext a; apply h

theorem cf80 : ∀ (t : Fin k0_t11_loop.trips), k0_off80 t = ![375 + t.val, 96] := by
  have h : ∀ (t : Fin k0_t11_loop.trips), ∀ a, k0_off80 t a = (![375 + t.val, 96]) a := by decide +kernel
  intros; funext a; apply h

theorem cf81 : ∀ (t : Fin k0_t11_loop.trips), k0_off81 t = ![t.val, 96] := by
  have h : ∀ (t : Fin k0_t11_loop.trips), ∀ a, k0_off81 t a = (![t.val, 96]) a := by decide +kernel
  intros; funext a; apply h

theorem cf82 : ∀ (t : Fin k0_t11_loop.trips), k0_off82 t = ![375 + t.val, 112] := by
  have h : ∀ (t : Fin k0_t11_loop.trips), ∀ a, k0_off82 t a = (![375 + t.val, 112]) a := by decide +kernel
  intros; funext a; apply h

theorem cf83 : ∀ (t : Fin k0_t11_loop.trips), k0_off83 t = ![t.val, 112] := by
  have h : ∀ (t : Fin k0_t11_loop.trips), ∀ a, k0_off83 t a = (![t.val, 112]) a := by decide +kernel
  intros; funext a; apply h

theorem cf84 : ∀ (t : Fin k0_t12_loop.trips), k0_off84 t = ![500 + t.val, 0] := by
  have h : ∀ (t : Fin k0_t12_loop.trips), ∀ a, k0_off84 t a = (![500 + t.val, 0]) a := by decide +kernel
  intros; funext a; apply h

theorem cf85 : ∀ (t : Fin k0_t12_loop.trips), k0_off85 t = ![t.val, 0] := by
  have h : ∀ (t : Fin k0_t12_loop.trips), ∀ a, k0_off85 t a = (![t.val, 0]) a := by decide +kernel
  intros; funext a; apply h

theorem cf86 : ∀ (t : Fin k0_t12_loop.trips), k0_off86 t = ![500 + t.val, 16] := by
  have h : ∀ (t : Fin k0_t12_loop.trips), ∀ a, k0_off86 t a = (![500 + t.val, 16]) a := by decide +kernel
  intros; funext a; apply h

theorem cf87 : ∀ (t : Fin k0_t12_loop.trips), k0_off87 t = ![t.val, 16] := by
  have h : ∀ (t : Fin k0_t12_loop.trips), ∀ a, k0_off87 t a = (![t.val, 16]) a := by decide +kernel
  intros; funext a; apply h

theorem cf88 : ∀ (t : Fin k0_t12_loop.trips), k0_off88 t = ![500 + t.val, 32] := by
  have h : ∀ (t : Fin k0_t12_loop.trips), ∀ a, k0_off88 t a = (![500 + t.val, 32]) a := by decide +kernel
  intros; funext a; apply h

theorem cf89 : ∀ (t : Fin k0_t12_loop.trips), k0_off89 t = ![t.val, 32] := by
  have h : ∀ (t : Fin k0_t12_loop.trips), ∀ a, k0_off89 t a = (![t.val, 32]) a := by decide +kernel
  intros; funext a; apply h

theorem cf90 : ∀ (t : Fin k0_t12_loop.trips), k0_off90 t = ![500 + t.val, 48] := by
  have h : ∀ (t : Fin k0_t12_loop.trips), ∀ a, k0_off90 t a = (![500 + t.val, 48]) a := by decide +kernel
  intros; funext a; apply h

theorem cf91 : ∀ (t : Fin k0_t12_loop.trips), k0_off91 t = ![t.val, 48] := by
  have h : ∀ (t : Fin k0_t12_loop.trips), ∀ a, k0_off91 t a = (![t.val, 48]) a := by decide +kernel
  intros; funext a; apply h

theorem cf92 : ∀ (t : Fin k0_t12_loop.trips), k0_off92 t = ![500 + t.val, 64] := by
  have h : ∀ (t : Fin k0_t12_loop.trips), ∀ a, k0_off92 t a = (![500 + t.val, 64]) a := by decide +kernel
  intros; funext a; apply h

theorem cf93 : ∀ (t : Fin k0_t12_loop.trips), k0_off93 t = ![t.val, 64] := by
  have h : ∀ (t : Fin k0_t12_loop.trips), ∀ a, k0_off93 t a = (![t.val, 64]) a := by decide +kernel
  intros; funext a; apply h

theorem cf94 : ∀ (t : Fin k0_t12_loop.trips), k0_off94 t = ![500 + t.val, 80] := by
  have h : ∀ (t : Fin k0_t12_loop.trips), ∀ a, k0_off94 t a = (![500 + t.val, 80]) a := by decide +kernel
  intros; funext a; apply h

theorem cf95 : ∀ (t : Fin k0_t12_loop.trips), k0_off95 t = ![t.val, 80] := by
  have h : ∀ (t : Fin k0_t12_loop.trips), ∀ a, k0_off95 t a = (![t.val, 80]) a := by decide +kernel
  intros; funext a; apply h

theorem cf96 : ∀ (t : Fin k0_t12_loop.trips), k0_off96 t = ![500 + t.val, 96] := by
  have h : ∀ (t : Fin k0_t12_loop.trips), ∀ a, k0_off96 t a = (![500 + t.val, 96]) a := by decide +kernel
  intros; funext a; apply h

theorem cf97 : ∀ (t : Fin k0_t12_loop.trips), k0_off97 t = ![t.val, 96] := by
  have h : ∀ (t : Fin k0_t12_loop.trips), ∀ a, k0_off97 t a = (![t.val, 96]) a := by decide +kernel
  intros; funext a; apply h

theorem cf98 : ∀ (t : Fin k0_t12_loop.trips), k0_off98 t = ![500 + t.val, 112] := by
  have h : ∀ (t : Fin k0_t12_loop.trips), ∀ a, k0_off98 t a = (![500 + t.val, 112]) a := by decide +kernel
  intros; funext a; apply h

theorem cf99 : ∀ (t : Fin k0_t12_loop.trips), k0_off99 t = ![t.val, 112] := by
  have h : ∀ (t : Fin k0_t12_loop.trips), ∀ a, k0_off99 t a = (![t.val, 112]) a := by decide +kernel
  intros; funext a; apply h

end Cert.Kernel.Pf

end
-- ==== Proof.Words2.lean ====
/-
  The inner loop's trip count — a bag's length, read as a signed word, divided by 16 and rounded up — and the offsets inside it.
-/
module

public import proofs.«01_k».proof.Proof.Words

@[expose] public section

set_option Elab.async false

noncomputable section

namespace Cert.Kernel.Pf

open Cert.Kernel Cert.Kernel.Gen
open Idealize.ShloMosaic

/-- The number of 16-lane steps over a bag of `v` (signed) ids. -/
def nvec (v : BitVec 32) : ℕ := if 0 < v.toInt then (v.toNat + 15) / 16 else 0

theorem nvec_ub_small : ∀ n : Fin 144, (k0_t6_loop (BitVec.ofInt 32 ((n.val : ℤ) - 15))).ub.toInt = ((n.val : ℤ) - 15 + 15) / 16 := by
  decide +kernel

theorem nvec_ub_neg (v : BitVec 32) (h : v.toInt < -14) : (k0_t6_loop v).ub.toInt ≤ 0 := by
  have hr := Affine.word_range v
  have h246 : (v + 16#32 - 1#32).toInt = v.toInt + 15 := by
    rw [show v + 16#32 - 1#32 = v + 15#32 by rw [BitVec.sub_eq_add_neg, BitVec.add_assoc]; rfl, BitVec.toInt_add, show (15#32 : BitVec 32).toInt = 15 by decide]
    exact Int.bmod_eq_of_le (by omega) (by omega)
  have hq' : (v.toInt + 15).tdiv 16 ≤ 0 ∧ -2 ^ 28 ≤ (v.toInt + 15).tdiv 16 := by
    obtain ⟨y, hy⟩ : ∃ y : ℤ, v.toInt + 15 = -y := ⟨-(v.toInt + 15), by omega⟩
    rw [hy, Int.neg_tdiv, Int.tdiv_eq_ediv_of_nonneg (by omega)]; omega
  have hq : ((v + 16#32 - 1#32).sdiv 16#32).toInt = (v.toInt + 15).tdiv 16 := by
    rw [BitVec.toInt_sdiv, h246, show (16#32 : BitVec 32).toInt = 16 by decide]
    apply Int.bmod_eq_of_le <;> omega
  have hc : ¬ IntOp.SDivCorner (v + 16#32 - 1#32) 16#32 := by
    rintro (h | ⟨-, h⟩) <;> exact absurd h (by decide)
  simp only [k0_t6_loop, Scalar.muli_divsi_one, Scalar.subi, IntOp.subi, Scalar.addi, IntOp.addi, BitVec.sub_zero, BitVec.zero_add, BitVec.add_zero, BitVec.sub_self]
  have h1 : ∀ x : BitVec 32, Scalar.divsi x 1#32 = x := fun x => by unfold Scalar.divsi; exact WordArith.divsi_one _ x
  rw [h1]
  have hd : Scalar.divsi (v + 16#32 - 1#32) 16#32 = (v + 16#32 - 1#32).sdiv 16#32 := by
    unfold Scalar.divsi IntOp.divsi; rw [if_neg hc]
  rw [hd]
  have hs : ∀ (c : BitVec 1) (a b : BitVec 32), a.toInt ≤ 0 → b.toInt ≤ 0 → (Scalar.select c a b).toInt ≤ 0 := by
    intro c a b ha hb; unfold Scalar.select; split <;> assumption
  apply hs
  · rw [BitVec.toInt_sub, hq, show (1#32 : BitVec 32).toInt = 1 by decide, Int.bmod_eq_of_le (by omega) (by omega)]; omega
  · rw [hq]; exact hq'.1

theorem nvec_ub (v : BitVec 32) (h : v.toInt ≤ 128) : ((k0_t6_loop v).ub.toInt).toNat = nvec v := by
  have hr := Affine.word_range v
  by_cases h0 : v.toInt < -14
  · have := nvec_ub_neg v h0
    unfold nvec; rw [if_neg (by omega)]; omega
  · have e := nvec_ub_small ⟨(v.toInt + 15).toNat, by omega⟩
    have e2 : BitVec.ofInt 32 ((((v.toInt + 15).toNat : ℕ) : ℤ) - 15) = v := by
      rw [show ((((v.toInt + 15).toNat : ℕ) : ℤ) - 15) = v.toInt by omega]; exact BitVec.ofInt_toInt
    simp only [] at e
    rw [e2] at e
    rw [e]
    unfold nvec
    split
    · have : (v.toNat : ℤ) = v.toInt := by
        have hc := BitVec.toInt_eq_toNat_cond v; have := v.isLt; split at hc <;> omega
      omega
    · omega

theorem nvec_le (v : BitVec 32) (h : v.toInt ≤ 128) : nvec v ≤ 8 := by
  have hc := BitVec.toInt_eq_toNat_cond v; have := v.isLt
  unfold nvec; split at hc <;> split <;> omega

theorem trips6 (v : BitVec 32) (h : v.toInt ≤ 128) : (k0_t6_loop v).trips = nvec v := by
  rw [← nvec_ub v h]
  show (((k0_t6_loop v).ub.toInt - (0#32 : BitVec 32).toInt + (1#32 : BitVec 32).toInt - 1) / (1#32 : BitVec 32).toInt).toNat = _
  rw [show (0#32 : BitVec 32).toInt = 0 by decide, show (1#32 : BitVec 32).toInt = 1 by decide]
  congr 1; omega

theorem trips7 (v : BitVec 32) : (k0_t7_loop v).trips = 0 := Scf.rem_trips _ _

theorem ok6 (v : BitVec 32) (h : v.toInt ≤ 128) : (k0_t6_loop v).OK := by
  refine ⟨by show 0 < (1#32 : BitVec 32).toInt; decide, ?_⟩
  rw [show Scf.trips (k0_t6_loop v).lb (k0_t6_loop v).ub (k0_t6_loop v).st = nvec v from trips6 v h]
  show (0#32 : BitVec 32).toInt + (nvec v : ℤ) * (1#32 : BitVec 32).toInt < _
  rw [show (0#32 : BitVec 32).toInt = 0 by decide, show (1#32 : BitVec 32).toInt = 1 by decide]
  have := nvec_le v h; show _ < (2 : Int) ^ 31; omega

theorem ok7 (v : BitVec 32) : (k0_t7_loop v).OK := Scf.rem_ok _ _

theorem iv16 : ∀ n : Fin 8, (Scalar.indexCast (Scalar.muli (Scalar.addi 0#32 (Scalar.muli (Scf.iv 0#32 1#32 n.val) 1#32)) 16#32)).toNat = 16 * n.val := by
  decide +kernel
theorem iv5 : ∀ n : Fin k0_t5_loop.trips, (Scalar.indexCast (Scalar.addi 0#32 (Scalar.muli (Scf.iv 0#32 1#32 n.val) 1#32))).toNat = n.val := by
  decide +kernel

/-- The ids and weights of step `t6` of bag `t5` of chunk `t4`. -/
theorem cf13 (t4 : Fin k0_t4_loop.trips) (t5 : Fin k0_t5_loop.trips) (v : BitVec 32) (h : v.toInt ≤ 128) (t6 : Fin (k0_t6_loop v).trips) :
    k0_off13 t4 t5 v t6 = ![t4.val % 2, t5.val, 16 * t6.val] := by
  have e7 : k0_off7 t4 0 = t4.val % 2 := congrFun (cf7 t4) 0
  have h6 : t6.val < 8 := lt_of_lt_of_le t6.isLt (by rw [trips6 v h]; exact nvec_le v h)
  have e16 := iv16 ⟨t6.val, h6⟩
  have e5 := iv5 t5
  unfold k0_off7 at e7
  unfold k0_off13
  funext a
  match a with
  | 0 => exact e7
  | 1 => exact e5
  | 2 => exact e16

theorem chk3 (t4 : Fin k0_t4_loop.trips) (t5 : Fin k0_t5_loop.trips) (v : BitVec 32) (h : v.toInt ≤ 128) : k0_chk3 t4 t5 v := by
  refine ⟨ok6 v h, ?_, ok7 v, fun t7 => absurd (lt_of_lt_of_eq t7.isLt (trips7 v)) (Nat.not_lt_zero _)⟩
  intro t6 a
  have h6 : t6.val < 8 := lt_of_lt_of_le t6.isLt (by rw [trips6 v h]; exact nvec_le v h)
  have h5 : t5.val < 40 := lt_of_lt_of_eq t5.isLt trips5
  rw [cf13 t4 t5 v h t6]
  match a with
  | 0 => show t4.val % 2 + 1 ≤ 2; omega
  | 1 => show t5.val + 1 ≤ 40; omega
  | 2 => show 16 * t6.val + 16 ≤ 128; omega

end Cert.Kernel.Pf

end
-- ==== Proof.Spec.lean ====
/-
  What the scatter computes, as plain functions of the arrays' contents: the code of one (bag, position, channel), the words
  one bag adds to one row, and the row's words after a number of bags — together with the masked scatter-add of one 16-lane
  step read as a sum.
-/
module

public import proofs.«01_k».proof.Proof.Words2
public import Idealize.ShloMosaic.Lib.Pointwise.Index
public import Idealize.ShloMosaic.Lib.Pointwise.Reshape

@[expose] public section

set_option Elab.async false

noncomputable section

namespace Cert.Kernel.Pf

open Cert.Kernel Cert.Kernel.Gen
open Idealize.ShloMosaic

variable {F : FTy → Type} [FloatOps F]

/-! ## Indices by numbers -/

/-- The multi-index with the given coordinates, each taken modulo its extent. -/
def ixm (s : Shape) (hs : ∀ a, 0 < s.size a) (v : Fin s.rank → ℕ) : s.Idx := fun a => ⟨v a % s.size a, Nat.mod_lt _ (hs a)⟩

theorem ixm_eq {s : Shape} {hs : ∀ a, 0 < s.size a} {v : Fin s.rank → ℕ} (i : s.Idx) (h : ∀ a, v a = (i a).val) : ixm s hs v = i := by
  funext a; apply Fin.ext; show v a % s.size a = _; rw [h a]; exact Nat.mod_eq_of_lt (i a).isLt

theorem ixm_val {s : Shape} {hs : ∀ a, 0 < s.size a} {v : Fin s.rank → ℕ} (a : Fin s.rank) (h : v a < s.size a) : (ixm s hs v a).val = v a :=
  Nat.mod_eq_of_lt h

abbrev i5 (a b c d e : ℕ) : S6x20x19x8x128.Idx := ixm S6x20x19x8x128 (by decide) ![a, b, c, d, e]
abbrev i3 (a b c : ℕ) : S6x2400x128.Idx := ixm S6x2400x128 (by decide) ![a, b, c]
abbrev i2 (a b : ℕ) : S6x2400.Idx := ixm S6x2400 (by decide) ![a, b]
abbrev i1 (a : ℕ) : S192.Idx := ixm S192 (by decide) ![a]

/-! ## The values -/

/-- The code of a gradient value `g` under a weight `w` and a scale `s`: the product scaled, rounded to an integer. -/
def codeV (g w s : F .f32) : BitVec 32 :=
  fptosi 32 (roundeven (mulf (mulf (fun _ : S16.Idx => g) (fun _ => w)) (fun _ => s))) (ix1 0)

/-- A sum of codes as a value: converted to a float and scaled back. -/
def gradV (x : BitVec 32) (s : F .f32) : F .f32 :=
  mulf (sitofp .f32 (fun _ : S16.Idx => x)) (fun _ => s) (ix1 0)

section Values

variable (g5 : S6x20x19x8x128.Idx → F .f32) (ids : S6x2400x128.Idx → BitVec 32) (wts : S6x2400x128.Idx → F .f32)
  (len : S6x2400.Idx → BitVec 32) (sc : S192.Idx → F .f32)

/-- What position `l` of bag `b` of table `t` adds to row `p` of channel `ch`. -/
def term (t ch b l p : ℕ) : BitVec 32 :=
  if (BitVec.ofNat 32 l).slt (len (i2 t b)) = true ∧ (ids (i3 t b l)).toNat = p then
    codeV (g5 (i5 t (ch / 8) (b / 128) (ch % 8) (b % 128))) (wts (i3 t b l)) (sc (i1 (32 * t + l % 16)))
  else 0

/-- What the first `j` 16-lane steps of bag `b` add. -/
def bagSteps (t ch b j p : ℕ) : BitVec 32 := ∑ j' ∈ Finset.range j, ∑ x ∈ Finset.range 16, term g5 ids wts len sc t ch b (16 * j' + x) p
/-- What bag `b` adds. -/
def bag (t ch b p : ℕ) : BitVec 32 := bagSteps g5 ids wts len sc t ch b (nvec (len (i2 t b))) p
/-- Row `p` of channel `ch` of table `t` after `n` bags. -/
def accN (t ch n p : ℕ) : BitVec 32 := ∑ b ∈ Finset.range n, bag g5 ids wts len sc t ch b p

theorem accN_zero (t ch p : ℕ) : accN g5 ids wts len sc t ch 0 p = 0 := rfl
theorem accN_succ (t ch n p : ℕ) : accN g5 ids wts len sc t ch (n + 1) p = accN g5 ids wts len sc t ch n p + bag g5 ids wts len sc t ch n p :=
  Finset.sum_range_succ _ _
theorem bagSteps_succ (t ch b j p : ℕ) : bagSteps g5 ids wts len sc t ch b (j + 1) p
    = bagSteps g5 ids wts len sc t ch b j p + ∑ x ∈ Finset.range 16, term g5 ids wts len sc t ch b (16 * j + x) p :=
  Finset.sum_range_succ _ _

/-- The accumulator's row number of an index. -/
abbrev rowOf (p : S625x128.Idx) : ℕ := 128 * (p 0).val + (p 1).val

/-- The accumulator after `n` whole bags. -/
def accF (t ch n : ℕ) : S625x128.Idx → BitVec 32 := fun p => accN g5 ids wts len sc t ch n (rowOf p)
/-- The accumulator after `n` whole bags and `j` steps of the next. -/
def accS (t ch n j : ℕ) : S625x128.Idx → BitVec 32 := fun p => accN g5 ids wts len sc t ch n (rowOf p) + bagSteps g5 ids wts len sc t ch n j (rowOf p)

theorem accS_zero (t ch n : ℕ) : accS g5 ids wts len sc t ch n 0 = accF g5 ids wts len sc t ch n := by
  funext p; show _ + (0 : BitVec 32) = _; exact BitVec.add_zero _
theorem accS_all (t ch n : ℕ) : accS g5 ids wts len sc t ch n (nvec (len (i2 t n))) = accF g5 ids wts len sc t ch (n + 1) := by
  funext p; exact (accN_succ ..).symm

end Values

/-! ## One step's scatter -/

/-- A masked scatter-add is, at each element, what was there and the sum of the set lanes that name it. -/
theorem storeIdx_sum' {s : Shape} {d : Fin 1 → Nat} (f : Vec F s .i32) (idxs : Fin s.rank → IVec ⟨1, d⟩ 32) (v : Vec F ⟨1, d⟩ .i32) (mask : IVec ⟨1, d⟩ 1)
    (h : ∀ a x, (idxs a x).toNat < s.size a) (p : s.Idx) :
    (storeIdx f idxs v mask true h p : BitVec 32)
      = f p + ∑ k : Fin (d 0), if mask (Shape.ofLane k) = 1 ∧ (∀ a, (p a).val = (idxs a (Shape.ofLane k)).toNat) then v (Shape.ofLane k) else (0 : BitVec 32) := by
  rw [Fin.sum_univ_def]
  unfold storeIdx
  generalize List.finRange (d 0) = l
  induction l generalizing f with
  | nil => exact (BitVec.add_zero _).symm
  | cons k l ih =>
    rw [List.foldl_cons, ih, List.map_cons, List.sum_cons, ← BitVec.add_assoc]
    congr 1
    by_cases hm : mask (Shape.ofLane k) = 1
    · simp only [hm, if_true, true_and]
      by_cases hp : ∀ a, (p a).val = (idxs a (Shape.ofLane k)).toNat
      · rw [if_pos hp]
        refine (if_pos hp).trans ?_
        have : idxAt idxs h (Shape.ofLane k) = p := by funext a; exact Fin.ext (hp a).symm
        rw [this]; rfl
      · rw [if_neg hp]; refine (if_neg hp).trans ?_; exact (BitVec.add_zero _).symm
    · rw [if_neg hm, if_neg (fun h => hm h.1)]; exact (BitVec.add_zero _).symm

theorem ofLane_ix1 (k : Fin 16) : (Shape.ofLane (d := ![16]) k : S16.Idx) = ix1 k := by funext a; match a with | 0 => rfl

theorem storeIdx_sum {s : Shape} (f : Vec F s .i32) (idxs : Fin s.rank → IVec S16 32) (v : Vec F S16 .i32) (mask : IVec S16 1)
    (h : ∀ a x, (idxs a x).toNat < s.size a) (p : s.Idx) :
    (storeIdx f idxs v mask true h p : BitVec 32)
      = f p + ∑ x : Fin 16, if mask (ix1 x) = 1 ∧ (∀ a, (p a).val = (idxs a (ix1 x)).toNat) then v (ix1 x) else (0 : BitVec 32) := by
  rw [storeIdx_sum']
  refine congrArg (fun z : BitVec 32 => f p + z) (Finset.sum_congr rfl fun (k : Fin 16) _ => ?_)
  rw [ofLane_ix1 k]

theorem cast_1_1_16 (x : Fin 16) : Shape.reshapeEquiv (s := S1x1x16) (s' := S16) shapeCasts_S1x1x16_S16 (ix1 x) = ix3 0 0 x := by
  refine Shape.reshapeEquiv_eq_of_vals _ _ _ _ _ (rowMajor_val3 _ 16 16 rfl rfl) (rowMajor_val1 _) ?_
  show 0 * 16 + 0 * 16 + x.val = x.val
  omega

theorem pay65_apply (ld : Vec F S1x1x16 .i32) (x : Fin 16) : k0_pay65 ld (ix1 x) = ld (ix3 0 0 x) := by
  show ld (Shape.reshapeEquiv (s := S1x1x16) (s' := S16) shapeCasts_S1x1x16_S16 (ix1 x)) = _
  rw [cast_1_1_16]

theorem row_toNat (v : BitVec 32) (h : v.toNat < 80000) : (IntOp.shrsi .vector v 7#32).toNat = v.toNat / 128 := by
  unfold IntOp.shrsi
  rw [if_pos (by decide)]
  have hm : v.msb = false := by rw [BitVec.msb_eq_false_iff_two_mul_lt]; omega
  show (v.sshiftRight (7#32 : BitVec 32).toNat).toNat = _
  rw [BitVec.toNat_sshiftRight_of_msb_false hm, Nat.shiftRight_eq_div_pow]; rfl

theorem lane_toNat (v : BitVec 32) : (IntOp.andi v 127#32).toNat = v.toNat % 128 := by
  unfold IntOp.andi
  rw [BitVec.toNat_and]
  exact Nat.and_two_pow_sub_one_eq_mod v.toNat 7

theorem pay67_toNat (ld : Vec F S1x1x16 .i32) (x : Fin 16) (h : (ld (ix3 0 0 x)).toNat < 80000) :
    (k0_pay67 ld (ix1 x)).toNat = (ld (ix3 0 0 x)).toNat / 128 := by
  show (IntOp.shrsi .vector (k0_pay65 ld (ix1 x)) 7#32).toNat = _
  rw [pay65_apply]; exact row_toNat _ h
theorem pay68_toNat (ld : Vec F S1x1x16 .i32) (x : Fin 16) :
    (k0_pay68 ld (ix1 x)).toNat = (ld (ix3 0 0 x)).toNat % 128 := by
  show (IntOp.andi (k0_pay65 ld (ix1 x)) 127#32).toNat = _
  rw [pay65_apply]; exact lane_toNat _

/-- Ids inside the table name an element of the accumulator. -/
theorem chk4 (ld : Vec F S1x1x16 .i32) (h : ∀ x, (ld (ix3 0 0 x)).toNat < 80000) : k0_chk4 (k0_pay67 ld) (k0_pay68 ld) := by
  intro a x
  obtain ⟨y, rfl⟩ : ∃ y : Fin 16, x = ix1 y := ⟨x 0, eq_ix1 x⟩
  match a with
  | 0 => show (k0_pay67 ld (ix1 y)).toNat < 625; rw [pay67_toNat _ _ (h _)]; have := h y; omega
  | 1 => show (k0_pay68 ld (ix1 y)).toNat < 128; rw [pay68_toNat]; exact Nat.mod_lt _ (by decide)

theorem pay66_apply (v10 v242 : Vec F S16 .f32) (wl : Vec F S1x1x16 .f32) (x : Fin 16) :
    k0_pay66 v10 v242 wl (ix1 x) = codeV (v242 (ix1 x)) (wl (ix3 0 0 x)) (v10 (ix1 x)) := by
  have e : shapeCast S16 wl shapeCasts_S1x1x16_S16 (ix1 x) = wl (ix3 0 0 x) := congrArg wl (cast_1_1_16 x)
  rw [← e]; rfl

/-- Lane `x` of step `j` is set exactly when its position is below the bag's length. -/
theorem pay69_apply (v0 : IVec S16 32) (hv0 : ∀ x : Fin 16, v0 (ix1 x) = BitVec.ofNat 32 x.val) (v237 : Vec F S16 .i32) (v244 : BitVec 32)
    (hv : v244.toInt ≤ 128) (j : Fin (k0_t6_loop v244).trips) (x : Fin 16) :
    k0_pay69 v0 v237 v244 1#32 0#32 j (ix1 x) = 1 ↔ (BitVec.ofNat 32 (16 * j.val + x.val)).slt (v237 (ix1 x)) = true := by
  have h6 : j.val < 8 := lt_of_lt_of_le j.isLt (by rw [trips6 v244 hv]; exact nvec_le v244 hv)
  have e16 := iv16 ⟨j.val, h6⟩
  have e : IntOp.addi (v0 (ix1 x)) (Scalar.muli (Scalar.addi 0#32 (Scalar.muli (Scf.iv 0#32 1#32 j.val) 1#32)) 16#32) = BitVec.ofNat 32 (16 * j.val + x.val) := by
    rw [hv0]
    have : (Scalar.muli (Scalar.addi 0#32 (Scalar.muli (Scf.iv 0#32 1#32 j.val) 1#32)) 16#32) = BitVec.ofNat 32 (16 * j.val) := by
      apply BitVec.eq_of_toNat_eq; rw [BitVec.toNat_ofNat, Nat.mod_eq_of_lt (by omega)]; exact e16
    rw [this]; show BitVec.ofNat 32 x.val + BitVec.ofNat 32 (16 * j.val) = _
    rw [← BitVec.ofNat_add]; congr 1; omega
  show IntOp.cmpi .slt (IntOp.addi (v0 (ix1 x)) (Scalar.muli (Scalar.addi 0#32 (Scalar.muli (Scf.iv 0#32 1#32 j.val) 1#32)) 16#32)) (v237 (ix1 x)) = 1 ↔ _
  rw [e]
  show BitVec.ofBool _ = 1 ↔ _
  show BitVec.ofBool ((BitVec.ofNat 32 (16 * j.val + x.val)).slt (v237 (ix1 x))) = 1 ↔ _
  generalize (BitVec.ofNat 32 (16 * j.val + x.val)).slt (v237 (ix1 x)) = b
  cases b <;> decide

/-- One step of a bag: over the ids, weights, scale and gradient lanes it reads, the scatter adds step `j`'s terms. -/
theorem step_eq (g5 : S6x20x19x8x128.Idx → F .f32) (ids : S6x2400x128.Idx → BitVec 32) (wts : S6x2400x128.Idx → F .f32)
    (len : S6x2400.Idx → BitVec 32) (sc : S192.Idx → F .f32) (t ch n : ℕ)
    (ld : Vec F S1x1x16 .i32) (wl : Vec F S1x1x16 .f32) (v0 : IVec S16 32) (v10 v242 : Vec F S16 .f32) (v237 : Vec F S16 .i32) (v244 : BitVec 32)
    (hlen : (len (i2 t n)).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t n)) (hv244 : v244 = len (i2 t n))
    (hv242 : ∀ x : Fin 16, v242 (ix1 x) = g5 (i5 t (ch / 8) (n / 128) (ch % 8) (n % 128)))
    (j : Fin (k0_t6_loop v244).trips)
    (hld : ∀ x : Fin 16, ld (ix3 0 0 x) = ids (i3 t n (16 * j.val + x.val)))
    (hwl : ∀ x : Fin 16, wl (ix3 0 0 x) = wts (i3 t n (16 * j.val + x.val)))
    (hids : ∀ i, (ids i).toNat < 80000)
    (h : ∀ a x, ((![k0_pay67 ld, k0_pay68 ld] : Fin 2 → IVec S16 32) a x).toNat < S625x128.size a) :
    storeIdx (F := F) (e := .i32) (accS g5 ids wts len sc t ch n j.val) ![k0_pay67 ld, k0_pay68 ld] (k0_pay66 v10 v242 wl)
        (k0_pay69 v0 v237 v244 1#32 0#32 j) true h
      = accS g5 ids wts len sc t ch n (j.val + 1) := by
  funext p
  rw [storeIdx_sum]
  unfold accS
  rw [bagSteps_succ, ← BitVec.add_assoc, Finset.sum_range]
  refine congrArg (fun z : BitVec 32 => accN g5 ids wts len sc t ch n (rowOf p) + bagSteps g5 ids wts len sc t ch n j.val (rowOf p) + z)
    (Finset.sum_congr rfl fun x _ => ?_)
  unfold term
  have hm := pay69_apply v0 hv0 v237 v244 (by rw [hv244]; exact hlen) j x
  rw [hv237] at hm
  have hidx : (∀ a, (p a).val = ((![k0_pay67 ld, k0_pay68 ld] : Fin 2 → IVec S16 32) a (ix1 x)).toNat)
      ↔ (ids (i3 t n (16 * j.val + x.val))).toNat = rowOf p := by
    have e0 := pay67_toNat ld x (by rw [hld]; exact hids _)
    have e1 := pay68_toNat ld x
    rw [hld] at e0 e1
    have hp1 : (p 1).val < 128 := (p 1).isLt
    constructor
    · intro ha
      have h0 : (p 0).val = (k0_pay67 ld (ix1 x)).toNat := ha 0
      have h1 : (p 1).val = (k0_pay68 ld (ix1 x)).toNat := ha 1
      unfold rowOf; omega
    · intro ha a
      unfold rowOf at ha
      match a with
      | 0 => show (p 0).val = (k0_pay67 ld (ix1 x)).toNat; omega
      | 1 => show (p 1).val = (k0_pay68 ld (ix1 x)).toNat; omega
  refine if_congr (and_congr hm hidx) ?_ rfl
  rw [pay66_apply, hv242, hwl, hv10, show (16 * j.val + x.val) % 16 = x.val by have := x.isLt; omega]

end Cert.Kernel.Pf

end
-- ==== Proof.Common.lean ====
/-
  The program as the launch theorem sees it, the resource algebra, and the memrefs of the scatter's tasks: where a slice of a
  whole buffer lies and which element it names.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 0) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

abbrev MM (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL

/-! ## A task and its memrefs -/

abbrev thr (d : Dev nD) (L : grid0.Coords) : Thread nD τ := V d ((L 0).castLE hcore0) ((L 1).castLE hsub0)

abbrev mG5 : Memref sig .scVector .hbm S6x20x19x8x128 .f32 := Memref.whole main_v7_scv
abbrev mIds : Memref sig .scVector .hbm S6x2400x128 .i32 := Memref.whole main_v8_scv
abbrev mWts : Memref sig .scVector .hbm S6x2400x128 .f32 := Memref.whole main_v9_scv
abbrev mLen : Memref sig .scVector .hbm S6x2400 .i32 := Memref.whole main_v10_scv
abbrev mSc : Memref sig .scVector .hbm S192 .f32 := Memref.whole main_v5_scv
abbrev mOG : Memref sig .scVector .hbm S6x20x625x8x128 .f32 := Memref.whole main_v11_0_scv
abbrev mOF : Memref sig .scVector .hbm S6x20x625x8x128 .i32 := Memref.whole main_v11_1_scv
abbrev mAcc : Memref sig .scVector .vmem S625x128 .i32 := Memref.whole cc0_scratch0
abbrev mStage : Memref sig .scVector .vmem S125x128 .f32 := Memref.whole cc0_scratch1
abbrev mIdsV : Memref sig .scVector .vmem S2x40x128 .i32 := Memref.whole cc0_scratch2
abbrev mWV : Memref sig .scVector .vmem S2x40x128 .f32 := Memref.whole cc0_scratch3
abbrev mGV : Memref sig .scVector .vmem S19x128 .f32 := Memref.whole cc0_scratch4
abbrev mLenV : Memref sig .scVector .vmem S2400 .i32 := Memref.whole cc0_scratch5
abbrev mScV : Memref sig .scVector .vmem S192 .f32 := Memref.whole cc0_scratch6

/-- The memref's buffer as the task `thr d L` addresses it. -/
abbrev ml {sp : Space} {s : Shape} {e : EltTy} (d : Dev nD) (L : grid0.Coords) (m : Memref sig .scVector sp s e) : Loc nD τ sig := m.view.loc (thr d L)

/-! ## Slices of a whole buffer -/

variable [FloatOps F]

theorem mem_slice {κ : Kind} (b : Ref sig κ) {off size : Fin b.ty.shape.rank → ℕ} (inb : ∀ a, off a + size a ≤ b.ty.shape.size a) (i : b.ty.shape.Idx) :
    i ∈ ((View.whole b : View sig κ _ _ _).slice (Rect.unit off size inb)).set ↔ ∀ a, off a ≤ (i a).val ∧ (i a).val < off a + size a := by
  rw [View.set_slice_whole, Rect.mem_set_unit]

theorem emb_slice_val {κ : Kind} (b : Ref sig κ) {off size : Fin b.ty.shape.rank → ℕ} (inb : ∀ a, off a + size a ≤ b.ty.shape.size a)
    (x : (Rect.unit off size inb).shape.Idx) (a : Fin b.ty.shape.rank) :
    ((((View.whole b : View sig κ _ _ _).slice (Rect.unit off size inb)).emb x) a).val = off a + (x a).val := by
  show off a + 1 * (x a).val = _
  rw [Nat.one_mul]

/-- A counted loop by an invariant, the loop given by its bounds record. -/
theorem wp_loop (c : Thread nD τ) {σ : Type} (bd) (l : Scf.Loop 32) (hok : l.OK) (init : σ)
    (body : Fin l.trips → σ → Prog (TpuEff nD τ sig (Elt F) Λ₀ c.2) σ) (I : ℕ → σ → sProp 𝕄) (Q : σ → sProp 𝕄)
    (hbody : ∀ (k : Fin l.trips) (acc : σ), I k.val acc ⊢ wp frame (wpE (defs₀ (F := F)) 𝒱₀ c bd) Set.univ (body k acc) (I (k.val + 1)))
    (hQ : ∀ acc, I l.trips acc ⊢ Q acc) :
    I 0 init ⊢ wp frame (wpE (defs₀ (F := F)) 𝒱₀ c bd) Set.univ (Scf.Loop.for l hok init body) Q := by
  iintro H
  iapply (Scf.wp_for frame _ Set.univ l.lb l.ub l.st hok init body I hbody (Q := Q))
  isplitl [H]
  · iexact H
  · iintro %u H
    iapply (hQ u) $$ H

/-- A program's triple, its continuation a wand. -/
theorem wp_seq {c : Thread nD τ} {bd} {α β : Type} {p : Prog (TpuEff nD τ sig (Elt F) Λ₀ c.2) α} {k : α → Prog (TpuEff nD τ sig (Elt F) Λ₀ c.2) β}
    {P : sProp 𝕄} {Q : α → sProp 𝕄} {R : β → sProp 𝕄} (h : P ⊢ wp frame (wpE (defs₀ (F := F)) 𝒱₀ c bd) Set.univ p Q) :
    P ⊢ iprop((∀ a, Q a -∗ wp frame (wpE (defs₀ (F := F)) 𝒱₀ c bd) Set.univ (k a) R) -∗ wp frame (wpE (defs₀ (F := F)) 𝒱₀ c bd) Set.univ (p >>= k) R) := by
  rw [wp_bind]
  exact h.trans (wp_wand frame _ Set.univ)
theorem wp_cons {c : Thread nD τ} {bd} {α : Type} {p : Prog (TpuEff nD τ sig (Elt F) Λ₀ c.2) α}
    {P : sProp 𝕄} {Q R : α → sProp 𝕄} (h : P ⊢ wp frame (wpE (defs₀ (F := F)) 𝒱₀ c bd) Set.univ p Q) :
    P ⊢ iprop((∀ a, Q a -∗ R a) -∗ wp frame (wpE (defs₀ (F := F)) 𝒱₀ c bd) Set.univ p R) :=
  h.trans (wp_wand frame _ Set.univ)

/-- A counted loop of no trips, its continuation next. -/
theorem wp_loop0 {c : Thread nD τ} {bd} {β : Type} (l : Scf.Loop 32) (hok : l.OK)
    (body : Fin l.trips → Unit → Prog (TpuEff nD τ sig (Elt F) Λ₀ c.2) Unit) (h0 : l.trips = 0)
    (k : Unit → Prog (TpuEff nD τ sig (Elt F) Λ₀ c.2) β) (R : β → sProp 𝕄) :
    wp frame (wpE (defs₀ (F := F)) 𝒱₀ c bd) Set.univ (k ()) R ⊢ wp frame (wpE (defs₀ (F := F)) 𝒱₀ c bd) Set.univ (Scf.Loop.for l hok () body >>= k) R :=
  Scf.wp_for0_bind frame _ Set.univ l.lb l.ub l.st hok body h0 k R _ .rfl

/-- The elements of slot `s` of a two-slot staging buffer. -/
def slotSet (s : ℕ) : Finset S2x40x128.Idx := Finset.univ.filter fun i => (i 0).val = s

theorem mem_slotSet {s : ℕ} {i : S2x40x128.Idx} : i ∈ slotSet s ↔ (i 0).val = s := by simp [slotSet]

end Cert.Kernel.Pf

end
-- ==== Proof.Tile1.lean ====
/-
  One bag: the inner loop over its 16-lane steps, and the loads before it.
-/
module

public import proofs.«01_k».proof.Proof.Common

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Bag

variable (d : Dev nD) (L : grid0.Coords)
variable (g5 : S6x20x19x8x128.Idx → F .f32) (ids : S6x2400x128.Idx → BitVec 32) (wts : S6x2400x128.Idx → F .f32)
  (len : S6x2400.Idx → BitVec 32) (sc : S192.Idx → F .f32)

/-- The staged ids and weights of slot `s` are chunk `k` of table `t`. -/
def ChunkI (ids : S6x2400x128.Idx → BitVec 32) (t k s : ℕ) (fi : S2x40x128.Idx → BitVec 32) : Prop :=
  ∀ i : S2x40x128.Idx, (i 0).val = s → fi i = ids (i3 t (40 * k + (i 1).val) (i 2).val)
def ChunkW (wts : S6x2400x128.Idx → F .f32) (t k s : ℕ) (fw : S2x40x128.Idx → F .f32) : Prop :=
  ∀ i : S2x40x128.Idx, (i 0).val = s → fw i = wts (i3 t (40 * k + (i 1).val) (i 2).val)

/-- The staged gradient lanes are channel `ch` of table `t`. -/
def RowG (t ch : ℕ) (fg : S19x128.Idx → F .f32) : Prop :=
  ∀ i : S19x128.Idx, fg i = g5 (i5 t (ch / 8) (i 0).val (ch % 8) (i 1).val)
/-- The staged lengths are table `t`'s. -/
def RowL (t : ℕ) (fl : S2400.Idx → BitVec 32) : Prop := ∀ i : S2400.Idx, fl i = len (i2 t (i 0).val)

abbrev idsRect (t4 : Fin k0_t4_loop.trips) (t5 : Fin k0_t5_loop.trips) (v : BitVec 32) (h : k0_chk3 t4 t5 v) (t6 : Fin (k0_t6_loop v).trips) : Rect S2x40x128 :=
  Rect.unit (s := S2x40x128) (k0_off13 t4 t5 v t6) S1x1x16.size (k0_off13_inb t4 t5 v h t6)

theorem idsRect_sub (t4 : Fin k0_t4_loop.trips) (t5 : Fin k0_t5_loop.trips) (v : BitVec 32) (h : k0_chk3 t4 t5 v) (hv : v.toInt ≤ 128)
    (t6 : Fin (k0_t6_loop v).trips) (b : Ref sig .scVector) (hb : b.ty.shape = S2x40x128) :
    ∀ i : S2x40x128.Idx, i ∈ (idsRect t4 t5 v h t6).set → i ∈ slotSet (t4.val % 2) := by
  intro i hi
  rw [Rect.mem_set_unit] at hi
  have := hi 0
  rw [cf13 t4 t5 v hv t6] at this
  rw [mem_slotSet]
  have h0 : t4.val % 2 ≤ (i 0).val ∧ (i 0).val < t4.val % 2 + 1 := this
  omega

theorem acc_access (f : Buf (Elt F) (ml d L mAcc)) :
    (((mAcc.access (.whole S625x128)).loc (thr d L) ↦[(mAcc.access (.whole S625x128)).set]{fullShare} f : sProp 𝕄)) = (ml d L mAcc ↦{fullShare} f) := by
  rw [show (mAcc.access (.whole S625x128)).set = Finset.univ from Memref.set_access_whole cc0_scratch0]

theorem acc_write (f w : S625x128.Idx → BitVec 32) :
    View.write (Elt F) (mAcc.access (.whole S625x128)) f w Finset.univ = w := Memref.write_access_whole_univ (Elt F) cc0_scratch0 f w

theorem acc_read (f : S625x128.Idx → BitVec 32) :
    View.read (Elt F) (mAcc.access (.whole S625x128)) f = f := Memref.read_access_whole (Elt F) cc0_scratch0 f

theorem t6_step (t2 : Fin k0_t2_loop.trips) (t3 : Fin k0_t3_loop.trips) (t4 : Fin k0_t4_loop.trips) (t5 : Fin k0_t5_loop.trips) (t ch : ℕ)
    (v0 : IVec S16 32) (v10 v242 : Vec F S16 .f32) (v237 : Vec F S16 .i32) (v244 : BitVec 32) (hw3 : k0_chk3 t4 t5 v244)
    (hlen : (len (i2 t (40 * t4.val + t5.val))).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t (40 * t4.val + t5.val))) (hv244 : v244 = len (i2 t (40 * t4.val + t5.val)))
    (hv242 : ∀ x : Fin 16, v242 (ix1 x) = g5 (i5 t (ch / 8) ((40 * t4.val + t5.val) / 128) (ch % 8) ((40 * t4.val + t5.val) % 128)))
    (hids : ∀ i, (ids i).toNat < 80000)
    (fi : S2x40x128.Idx → BitVec 32) (fw : S2x40x128.Idx → F .f32) (hfi : ChunkI ids t t4.val (t4.val % 2) fi) (hfw : ChunkW wts t t4.val (t4.val % 2) fw)
    (j : Fin (k0_t6_loop v244).trips) (u : Unit) :
    (iprop((ml d L mAcc ↦{fullShare} (accS g5 ids wts len sc t ch (40 * t4.val + t5.val) j.val : S625x128.Idx → BitVec 32))
        ∗ (ml d L mIdsV ↦[slotSet (t4.val % 2)]{fullShare} fi) ∗ (ml d L mWV ↦[slotSet (t4.val % 2)]{fullShare} fw)) : sProp 𝕄)
      ⊢ wp frame (wpE (defs₀ (F := F)) 𝒱₀ (thr d L) none) Set.univ
          (k0_t6_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 t5 v237 v242 v244 hw3 1#32 0#32 j u)
          (fun _ => iprop((ml d L mAcc ↦{fullShare} (accS g5 ids wts len sc t ch (40 * t4.val + t5.val) (j.val + 1) : S625x128.Idx → BitVec 32))
            ∗ (ml d L mIdsV ↦[slotSet (t4.val % 2)]{fullShare} fi) ∗ (ml d L mWV ↦[slotSet (t4.val % 2)]{fullShare} fw))) := by
  have hv : v244.toInt ≤ 128 := by rw [hv244]; exact hlen
  unfold k0_t6_body
  simp only [Prog.lift, Prog.bind_op, Prog.bind_ret, Prog.pure_eq_ret]
  iintro ⟨Ha, Hi, Hw⟩
  iapply (wp_load_rect 𝒱₀ (thr d L) none Set.univ (m := mIdsV) (r := idsRect t4 t5 v244 hw3 j) (S := slotSet (t4.val % 2)) (f := fi) ?hsI) $$ Hi
  case hsI =>
    show ((View.whole cc0_scratch2 : View sig .scVector _ _ _).slice _).set ⊆ _
    intro i hi; rw [View.set_slice_whole] at hi; exact idsRect_sub t4 t5 v244 hw3 hv j cc0_scratch2 rfl i hi
  iintro Hi
  iapply (wp_load_rect 𝒱₀ (thr d L) none Set.univ (m := mWV) (r := idsRect t4 t5 v244 hw3 j) (S := slotSet (t4.val % 2)) (f := fw) ?hsW) $$ Hw
  case hsW =>
    show ((View.whole cc0_scratch3 : View sig .scVector _ _ _).slice _).set ⊆ _
    intro i hi; rw [View.set_slice_whole] at hi; exact idsRect_sub t4 t5 v244 hw3 hv j cc0_scratch3 rfl i hi
  iintro Hw
  have e0 : ∀ x : Fin 16, ((idsRect t4 t5 v244 hw3 j).emb (ix3 0 0 x) 0).val = t4.val % 2 := fun x => by
    rw [Rect.emb_apply, Rect.off_unit, cf13 t4 t5 v244 hv j]; rfl
  have e1 : ∀ x : Fin 16, ((idsRect t4 t5 v244 hw3 j).emb (ix3 0 0 x) 1).val = t5.val := fun x => by
    rw [Rect.emb_apply, Rect.off_unit, cf13 t4 t5 v244 hv j]; rfl
  have e2 : ∀ x : Fin 16, ((idsRect t4 t5 v244 hw3 j).emb (ix3 0 0 x) 2).val = 16 * j.val + x.val := fun x => by
    rw [Rect.emb_apply, Rect.off_unit, cf13 t4 t5 v244 hv j]; show 16 * j.val + 1 * x.val = _; omega
  have hld : ∀ x : Fin 16, ((mIdsV.access (idsRect t4 t5 v244 hw3 j)).read (Elt F) fi) (ix3 0 0 x) = ids (i3 t (40 * t4.val + t5.val) (16 * j.val + x.val)) := fun x => by
    refine (hfi ((idsRect t4 t5 v244 hw3 j).emb (ix3 0 0 x)) (e0 x)).trans ?_
    rw [e1, e2]
  have hwl : ∀ x : Fin 16, ((mWV.access (idsRect t4 t5 v244 hw3 j)).read (Elt F) fw) (ix3 0 0 x) = wts (i3 t (40 * t4.val + t5.val) (16 * j.val + x.val)) := fun x => by
    refine (hfw ((idsRect t4 t5 v244 hw3 j).emb (ix3 0 0 x)) (e0 x)).trans ?_
    rw [e1, e2]
  have hj : j.val < nvec v244 := lt_of_lt_of_eq j.isLt (trips6 v244 hv)
  rw [wp_assume_of _ _ _ _ (chk4 _ fun x => by rw [hld x]; exact hids _)]
  ihave Ha := (Entails.of_eq (acc_access d L _).symm) $$ Ha
  iapply (SparseCore.wp_vectorStoreIdx 𝒱₀ (thr d L) none Set.univ (base := mAcc)) $$ Ha
  iintro Ha
  ihave Ha := (Entails.of_eq (acc_access d L _)) $$ Ha
  sl_step
  rw [acc_write]
  simp only [acc_read]
  rw [step_eq g5 ids wts len sc t ch (40 * t4.val + t5.val) _ _ v0 v10 v242 v237 v244 hlen hv0 hv10 hv237 hv244 hv242 j hld hwl hids]
  iframe

theorem t6_loop (t2 : Fin k0_t2_loop.trips) (t3 : Fin k0_t3_loop.trips) (t4 : Fin k0_t4_loop.trips) (t5 : Fin k0_t5_loop.trips) (t ch : ℕ)
    (v0 : IVec S16 32) (v10 v242 : Vec F S16 .f32) (v237 : Vec F S16 .i32) (v244 : BitVec 32) (hw3 : k0_chk3 t4 t5 v244)
    (hlen : (len (i2 t (40 * t4.val + t5.val))).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t (40 * t4.val + t5.val))) (hv244 : v244 = len (i2 t (40 * t4.val + t5.val)))
    (hv242 : ∀ x : Fin 16, v242 (ix1 x) = g5 (i5 t (ch / 8) ((40 * t4.val + t5.val) / 128) (ch % 8) ((40 * t4.val + t5.val) % 128)))
    (hids : ∀ i, (ids i).toNat < 80000)
    (fi : S2x40x128.Idx → BitVec 32) (fw : S2x40x128.Idx → F .f32) (hfi : ChunkI ids t t4.val (t4.val % 2) fi) (hfw : ChunkW wts t t4.val (t4.val % 2) fw) :
    (iprop((ml d L mAcc ↦{fullShare} (accF g5 ids wts len sc t ch (40 * t4.val + t5.val) : S625x128.Idx → BitVec 32))
        ∗ (ml d L mIdsV ↦[slotSet (t4.val % 2)]{fullShare} fi) ∗ (ml d L mWV ↦[slotSet (t4.val % 2)]{fullShare} fw)) : sProp 𝕄)
      ⊢ wp frame (wpE (defs₀ (F := F)) 𝒱₀ (thr d L) none) Set.univ
          (Scf.Loop.for (k0_t6_loop v244) (k0_t6_ok t4 t5 v244 hw3) ⟨⟩ (k0_t6_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 t5 v237 v242 v244 hw3 1#32 0#32))
          (fun _ => iprop((ml d L mAcc ↦{fullShare} (accF g5 ids wts len sc t ch (40 * t4.val + t5.val + 1) : S625x128.Idx → BitVec 32))
            ∗ (ml d L mIdsV ↦[slotSet (t4.val % 2)]{fullShare} fi) ∗ (ml d L mWV ↦[slotSet (t4.val % 2)]{fullShare} fw))) := by
  have hv : v244.toInt ≤ 128 := by rw [hv244]; exact hlen
  have hstep := t6_step d L g5 ids wts len sc t2 t3 t4 t5 t ch v0 v10 v242 v237 v244 hw3 hlen hv0 hv10 hv237 hv244 hv242 hids fi fw hfi hfw
  have hend : accS g5 ids wts len sc t ch (40 * t4.val + t5.val) (k0_t6_loop v244).trips = accF g5 ids wts len sc t ch (40 * t4.val + t5.val + 1) := by
    rw [trips6 v244 hv, hv244, accS_all]
  rw [← accS_zero]
  exact wp_loop (thr d L) none (k0_t6_loop v244) (k0_t6_ok t4 t5 v244 hw3) ⟨⟩ _ (fun j _ => iprop((ml d L mAcc ↦{fullShare} (accS g5 ids wts len sc t ch (40 * t4.val + t5.val) j : S625x128.Idx → BitVec 32))
        ∗ (ml d L mIdsV ↦[slotSet (t4.val % 2)]{fullShare} fi) ∗ (ml d L mWV ↦[slotSet (t4.val % 2)]{fullShare} fw))) _ hstep
    (fun _ => Entails.of_eq (by rw [hend]))

/-! ## The loads before the loop -/

theorem v235_toNat (n : Fin k0_t5_loop.trips) (k : ℕ) (hk : k < 60) (v195 : BitVec 32) (h : v195.toNat = k) :
    (Scalar.addi (Scalar.muli v195 40#32) (Scalar.addi 0#32 (Scalar.muli (Scf.iv 0#32 1#32 n.val) 1#32))).toNat = 40 * k + n.val := by
  have h5 : (Scalar.addi 0#32 (Scalar.muli (Scf.iv 0#32 1#32 n.val) 1#32)).toNat = n.val := iv5 n
  have hn : n.val < 40 := lt_of_lt_of_eq n.isLt trips5
  show (v195 * 40#32 + Scalar.addi 0#32 (Scalar.muli (Scf.iv 0#32 1#32 n.val) 1#32)).toNat = _
  rw [BitVec.toNat_add, h5, BitVec.toNat_mul, h]
  show (k * 40 % 4294967296 + n.val) % 4294967296 = _
  omega

theorem chk1 (v : BitVec 32) (h : v.toNat < 2400) : k0_chk1 (broadcast S16 v) := by
  intro a x
  match a with
  | 0 => exact h

theorem chk2 (v : BitVec 32) (h : v.toNat < 2400) : k0_chk2 (k0_pay2 (broadcast S16 v)) (k0_pay3 (broadcast S16 v)) := by
  intro a x
  match a with
  | 0 =>
    show (IntOp.shrsi .vector v 7#32).toNat < 19
    rw [row_toNat _ (by omega)]; omega
  | 1 =>
    show (IntOp.andi v 127#32).toNat < 128
    rw [lane_toNat]; omega

theorem lenV_read (f : S2400.Idx → BitVec 32) :
    View.read (Elt F) (mLenV.access (.whole S2400)) f = f := Memref.read_access_whole (Elt F) cc0_scratch5 f
theorem gV_read (f : S19x128.Idx → F .f32) :
    View.read (Elt F) (mGV.access (.whole S19x128)) f = f := Memref.read_access_whole (Elt F) cc0_scratch4 f

theorem load_len (v : BitVec 32) (h : v.toNat < 2400) (fl : S2400.Idx → BitVec 32) (t : ℕ) (hfl : RowL len t fl) (hc) (x : S16.Idx) :
    loadIdx (F := F) (s := S2400) (e := .i32) (View.read (Elt F) (mLenV.access (.whole S2400)) fl) ![broadcast S16 v] hc x = len (i2 t v.toNat) := by
  rw [lenV_read]
  show fl _ = _
  rw [hfl]; rfl

theorem load_g (v : BitVec 32) (h : v.toNat < 2400) (fg : S19x128.Idx → F .f32) (t ch : ℕ) (hfg : RowG g5 t ch fg) (hc) (x : S16.Idx) :
    loadIdx (F := F) (s := S19x128) (e := .f32) (View.read (Elt F) (mGV.access (.whole S19x128)) fg) ![k0_pay2 (broadcast S16 v), k0_pay3 (broadcast S16 v)] hc x
      = g5 (i5 t (ch / 8) (v.toNat / 128) (ch % 8) (v.toNat % 128)) := by
  rw [gV_read]
  show fg _ = _
  rw [hfg]
  show g5 (i5 t (ch / 8) (IntOp.shrsi .vector v 7#32).toNat (ch % 8) (IntOp.andi v 127#32).toNat) = _
  rw [row_toNat _ (by omega), lane_toNat]

theorem lenV_access (f : Buf (Elt F) (ml d L mLenV)) :
    (((mLenV.access (.whole S2400)).loc (thr d L) ↦[Finset.univ]{fullShare} f : sProp 𝕄)) = (ml d L mLenV ↦{fullShare} f) := rfl
theorem gV_access (f : Buf (Elt F) (ml d L mGV)) :
    (((mGV.access (.whole S19x128)).loc (thr d L) ↦[Finset.univ]{fullShare} f : sProp 𝕄)) = (ml d L mGV ↦{fullShare} f) := rfl

/-- What the loads before the loop hand to it. -/
structure Part1 (t ch n : ℕ) (v237 : Vec F S16 .i32) (v242 : Vec F S16 .f32) (v244 : BitVec 32) : Prop where
  hv237 : ∀ x : Fin 16, v237 (ix1 x) = len (i2 t n)
  hv242 : ∀ x : Fin 16, v242 (ix1 x) = g5 (i5 t (ch / 8) (n / 128) (ch % 8) (n % 128))
  hv244 : v244 = len (i2 t n)

set_option maxHeartbeats 2000000 in
theorem part1 (t4 : Fin k0_t4_loop.trips) (t5 : Fin k0_t5_loop.trips) (t ch : ℕ) (v195 : BitVec 32) (hv195 : v195.toNat = t4.val)
    (hlen : ∀ i, (len i).toInt ≤ 128)
    (fg : S19x128.Idx → F .f32) (hfg : RowG g5 t ch fg) (fl : S2400.Idx → BitVec 32) (hfl : RowL len t fl)
    (Q : _ → sProp 𝕄) :
    iprop((ml d L mGV ↦{fullShare} fg) ∗ (ml d L mLenV ↦{fullShare} fl)
        ∗ (∀ r, ⌜Part1 g5 len t ch (40 * t4.val + t5.val) r.2.1 r.2.2.1 r.2.2.2.1 ∧ r.2.2.2.2.2.2.1 = 1#32 ∧ r.2.2.2.2.2.2.2 = 0#32⌝
            -∗ (ml d L mGV ↦{fullShare} fg) -∗ (ml d L mLenV ↦{fullShare} fl) -∗ Q r))
      ⊢ wp frame (wpE (defs₀ (F := F)) 𝒱₀ (thr d L) none) Set.univ
          (k0_part1 L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t4 v195 0#32 1#32 t5) Q := by
  have hk : t4.val < 60 := lt_of_lt_of_eq t4.isLt trips4
  have hn : t5.val < 40 := lt_of_lt_of_eq t5.isLt trips5
  have hv := v235_toNat t5 t4.val hk v195 hv195
  have hvl := (show 40 * t4.val + t5.val < 2400 by omega)
  rw [← hv] at hvl
  rw [k0_part1_eq_skeleton]
  unfold k0_part1_skel
  simp only [Prog.lift, Prog.bind_op, Prog.bind_ret, Prog.pure_eq_ret]
  generalize Scalar.addi (Scalar.muli v195 40#32) (Scalar.addi 0#32 (Scalar.muli (Scf.iv 0#32 1#32 t5.val) 1#32)) = v235 at hv hvl ⊢
  iintro ⟨Hg, Hl, HQ⟩
  rw [wp_assume_of _ _ _ _ (chk1 _ hvl)]
  ihave Hl := (Entails.of_eq (lenV_access d L _).symm) $$ Hl
  iapply (SparseCore.wp_vectorLoadIdx 𝒱₀ (thr d L) none Set.univ (base := mLenV) (S := Finset.univ) (q := fullShare) (Finset.subset_univ _)) $$ Hl
  iintro Hl
  ihave Hl := (Entails.of_eq (lenV_access d L _)) $$ Hl
  rw [wp_assume_of _ _ _ _ (chk2 _ hvl)]
  have h237 := load_len (F := F) len v235 hvl fl t hfl (k0_idx1_inb (broadcast S16 v235) (chk1 _ hvl))
  rw [hv] at h237
  generalize loadIdx (F := F) (s := S2400) (e := .i32) (View.read (Elt F) (mLenV.access (.whole S2400)) fl) ![broadcast S16 v235] _ = v237 at h237 ⊢
  have h244 : extractAt ![0] (k0_pay4 (F := F) v237) inpos_S1_p0 = len (i2 t (40 * t4.val + t5.val)) := h237 _
  ihave Hg := (Entails.of_eq (gV_access d L _).symm) $$ Hg
  iapply (SparseCore.wp_vectorLoadIdx 𝒱₀ (thr d L) none Set.univ (base := mGV) (S := Finset.univ) (q := fullShare) (Finset.subset_univ _)) $$ Hg
  iintro Hg
  ihave Hg := (Entails.of_eq (gV_access d L _)) $$ Hg
  have h242 := load_g g5 v235 hvl fg t ch hfg (k0_idx2_inb _ _ (chk2 _ hvl))
  rw [hv] at h242
  generalize loadIdx (F := F) (s := S19x128) (e := .f32) (View.read (Elt F) (mGV.access (.whole S19x128)) fg) ![k0_pay2 (broadcast S16 v235), k0_pay3 (broadcast S16 v235)] _ = v242 at h242 ⊢
  rw [wp_assume_of _ _ _ _ (chk3 t4 t5 _ (by rw [h244]; exact hlen _))]
  sl_step
  iapply HQ $$ %_ %⟨⟨fun x => h237 _, fun x => h242 _, h244⟩, rfl, rfl⟩ Hg Hl

theorem t5_step (t2 : Fin k0_t2_loop.trips) (t3 : Fin k0_t3_loop.trips) (t4 : Fin k0_t4_loop.trips) (t5 : Fin k0_t5_loop.trips) (t ch : ℕ)
    (v0 : IVec S16 32) (v10 : Vec F S16 .f32) (v195 : BitVec 32) (hv195 : v195.toNat = t4.val)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * t + x.val)))
    (fi : S2x40x128.Idx → BitVec 32) (fw : S2x40x128.Idx → F .f32) (hfi : ChunkI ids t t4.val (t4.val % 2) fi) (hfw : ChunkW wts t t4.val (t4.val % 2) fw)
    (fg : S19x128.Idx → F .f32) (hfg : RowG g5 t ch fg) (fl : S2400.Idx → BitVec 32) (hfl : RowL len t fl) (u : Unit) :
    (iprop((ml d L mAcc ↦{fullShare} (accF g5 ids wts len sc t ch (40 * t4.val + t5.val) : S625x128.Idx → BitVec 32))
        ∗ (ml d L mIdsV ↦[slotSet (t4.val % 2)]{fullShare} fi) ∗ (ml d L mWV ↦[slotSet (t4.val % 2)]{fullShare} fw)
        ∗ (ml d L mGV ↦{fullShare} fg) ∗ (ml d L mLenV ↦{fullShare} fl)) : sProp 𝕄)
      ⊢ wp frame (wpE (defs₀ (F := F)) 𝒱₀ (thr d L) none) Set.univ
          (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195 t5 u)
          (fun _ => iprop((ml d L mAcc ↦{fullShare} (accF g5 ids wts len sc t ch (40 * t4.val + (t5.val + 1)) : S625x128.Idx → BitVec 32))
            ∗ (ml d L mIdsV ↦[slotSet (t4.val % 2)]{fullShare} fi) ∗ (ml d L mWV ↦[slotSet (t4.val % 2)]{fullShare} fw)
            ∗ (ml d L mGV ↦{fullShare} fg) ∗ (ml d L mLenV ↦{fullShare} fl))) := by
  have hk : t4.val < 60 := lt_of_lt_of_eq t4.isLt trips4
  have hn : t5.val < 40 := lt_of_lt_of_eq t5.isLt trips5
  have hv := v235_toNat t5 t4.val hk v195 hv195
  have hvl := (show 40 * t4.val + t5.val < 2400 by omega)
  rw [← hv] at hvl
  unfold k0_t5_body
  beta_reduce
  iintro ⟨Ha, Hi, Hw, Hg, Hl⟩
  rw [wp_bind]
  iapply (part1 d L g5 len t4 t5 t ch v195 hv195 hlen fg hfg fl hfl)
  isplitl [Hg]; · iexact Hg
  isplitl [Hl]; · iexact Hl
  iintro %r %hr Hg Hl
  obtain ⟨v233, v237, v242, v244, hw3, v267, c1, c0⟩ := r
  obtain ⟨⟨h237, h242, h244⟩, h1, h0⟩ := hr
  dsimp only at h237 h242 h244 h1 h0
  subst h1 h0
  dsimp only
  iapply (wp_seq (t6_loop d L g5 ids wts len sc t2 t3 t4 t5 t ch v0 v10 v242 v237 v244 hw3 (hlen _) hv0 hv10 h237 h244 h242 hids fi fw hfi hfw)) $$ [Ha Hi Hw]
  · iframe
  iintro %_ ⟨Ha, Hi, Hw⟩
  iapply (wp_loop0 (k0_t7_loop v244) (k0_t7_ok t4 t5 v244 hw3) _ (trips7 v244))
  sl_step
  iframe

end Bag

end Cert.Kernel.Pf

end
-- ==== Proof.Tile2.lean ====
/-
  A chunk of forty bags: fetching its ids and weights into a slot, and waiting for them.
-/
module

public import proofs.«01_k».proof.Proof.Tile1

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EC : UEmb Counters (MT nD τ sig (HIx 1) (Elt F) ℕ UU ℕ) := countersEmb (U := UU)

theorem carve {ℓ : Loc nD τ sig} {I S : Finset (Idx ℓ)} {q : PosShare TreeShare} {f : Buf (Elt F) ℓ} (h : I ⊆ S) :
    (ℓ ↦[S]{q} f : sProp 𝕄) ⊢ iprop((ℓ ↦[I]{q} f) ∗ ℓ ↦[S \ I]{q} f) := (pointsTo_split_subset h).1
theorem uncarve {ℓ : Loc nD τ sig} {I S : Finset (Idx ℓ)} {q : PosShare TreeShare} {f : Buf (Elt F) ℓ} (h : I ⊆ S) :
    iprop((ℓ ↦[I]{q} f) ∗ ℓ ↦[S \ I]{q} f) ⊢ (ℓ ↦[S]{q} f : sProp 𝕄) := (pointsTo_split_subset h).2

/-! ## Slices and squeezes -/

theorem sq_set (b : Ref sig .scVector) (off size : Fin b.ty.shape.rank → ℕ) (inb : ∀ a, off a + size a ≤ b.ty.shape.size a)
    (s' : Shape) (h : (Rect.unit off size inb).shape.Squeezes s') (hn) :
    (((Memref.whole b).slice (Rect.unit off size inb) hn).squeeze s' h).view.set = (Rect.unit off size inb).set := by
  show ((View.whole b : View sig .scVector _ _ _).slice (Rect.unit off size inb) |>.reshape s' h.numel_eq).set = _
  rw [View.set_reshape, View.set_slice_whole]

theorem sq_emb (b : Ref sig .scVector) (off size : Fin b.ty.shape.rank → ℕ) (inb : ∀ a, off a + size a ≤ b.ty.shape.size a)
    (s' : Shape) (h : (Rect.unit off size inb).shape.Squeezes s') (hn) (x : s'.Idx) (a : Fin b.ty.shape.rank) :
    ((((Memref.whole b).slice (Rect.unit off size inb) hn).squeeze s' h).view.emb x a).val
      = off a + (Shape.reshapeEquiv h.numel_eq x a).val := by
  show off a + 1 * (Shape.reshapeEquiv h.numel_eq x a).val = _
  rw [Nat.one_mul]

abbrev cIds (off : Fin 3 → ℕ) (inb : ∀ a, off a + S1x40x128.size a ≤ S6x2400x128.size a) : Memref sig .scVector .hbm S40x128 .i32 :=
  (mIds.slice (Rect.unit (s := S6x2400x128) off S1x40x128.size inb) (fun _ => rfl)).squeeze S40x128 squeezes_S1x40x128_S40x128
abbrev cWts (off : Fin 3 → ℕ) (inb : ∀ a, off a + S1x40x128.size a ≤ S6x2400x128.size a) : Memref sig .scVector .hbm S40x128 .f32 :=
  (mWts.slice (Rect.unit (s := S6x2400x128) off S1x40x128.size inb) (fun _ => rfl)).squeeze S40x128 squeezes_S1x40x128_S40x128
abbrev sIds (off : Fin 3 → ℕ) (inb : ∀ a, off a + S1x40x128.size a ≤ S2x40x128.size a) : Memref sig .scVector .vmem S40x128 .i32 :=
  (mIdsV.slice (Rect.unit (s := S2x40x128) off S1x40x128.size inb) (fun _ => rfl)).squeeze S40x128 squeezes_S1x40x128_S40x128
abbrev sWts (off : Fin 3 → ℕ) (inb : ∀ a, off a + S1x40x128.size a ≤ S2x40x128.size a) : Memref sig .scVector .vmem S40x128 .f32 :=
  (mWV.slice (Rect.unit (s := S2x40x128) off S1x40x128.size inb) (fun _ => rfl)).squeeze S40x128 squeezes_S1x40x128_S40x128
abbrev inS (off : Fin 1 → ℕ) (inb : ∀ a, off a + S1.size a ≤ S2.size a) : DmaSem sig :=
  ((cc0_scratch7.slice (Rect.unit (s := S2) off S1.size inb)).squeeze S_ squeezes_S1_S_).sem

/-- The semaphore of slot `s`. -/
def inC (s : ℕ) : DmaSem sig := ⟨s % 2, show s % 2 < 11 by omega⟩

theorem inS_eq (off : Fin 1 → ℕ) (inb) (s : ℕ) (hs : s < 2) (h : off = ![s]) : inS off inb = inC s := by
  subst h
  apply Fin.ext
  show 0 + (S2.rowMajor _).val = s % 2
  rw [show (S2.rowMajor ((Rect.unit (s := S2) ![s] S1.size inb).emb (Shape.reshapeEquiv squeezes_S1_S_.numel_eq fun i => i.elim0))).val
      = ((Rect.unit (s := S2) ![s] S1.size inb).emb (Shape.reshapeEquiv squeezes_S1_S_.numel_eq fun i => i.elim0) 0).val from rowMajor_val1 _]
  have h1 : (Shape.reshapeEquiv (s := S1) (s' := S_) squeezes_S1_S_.numel_eq (fun i => i.elim0) 0).val < 1 := (Shape.reshapeEquiv (s := S1) (s' := S_) squeezes_S1_S_.numel_eq (fun i => i.elim0) 0).isLt
  show 0 + (s + 1 * (Shape.reshapeEquiv (s := S1) (s' := S_) squeezes_S1_S_.numel_eq (fun i => i.elim0) 0).val) = _
  omega

/-- The elements of chunk `k` of table `t`. -/
def chunkSet (t k : ℕ) : Finset S6x2400x128.Idx := Finset.univ.filter fun i => (i 0).val = t ∧ 40 * k ≤ (i 1).val ∧ (i 1).val < 40 * k + 40

theorem chunk_set (off : Fin 3 → ℕ) (inb : ∀ a, off a + S1x40x128.size a ≤ S6x2400x128.size a) (t k : ℕ) (h : off = ![t, 40 * k, 0]) :
    (Rect.unit (s := S6x2400x128) off S1x40x128.size inb).set = chunkSet t k := by
  subst h
  ext i
  rw [Rect.mem_set_unit]
  unfold chunkSet
  rw [Finset.mem_filter]
  constructor
  · intro h
    have h0 : t ≤ (i 0).val ∧ (i 0).val < t + 1 := h 0
    have h1 : 40 * k ≤ (i 1).val ∧ (i 1).val < 40 * k + 40 := h 1
    exact ⟨Finset.mem_univ _, by omega, h1⟩
  · rintro ⟨-, h0, h1⟩ a
    match a with
    | 0 => show t ≤ (i 0).val ∧ (i 0).val < t + 1; omega
    | 1 => exact h1
    | 2 => exact ⟨Nat.zero_le _, show (i 2).val < 0 + 128 by have := (i 2).isLt; exact (Nat.zero_add 128).symm ▸ this⟩

theorem slot_set (off : Fin 3 → ℕ) (inb : ∀ a, off a + S1x40x128.size a ≤ S2x40x128.size a) (s : ℕ) (h : off = ![s, 0, 0]) :
    (Rect.unit (s := S2x40x128) off S1x40x128.size inb).set = slotSet s := by
  subst h
  ext i
  rw [Rect.mem_set_unit, mem_slotSet]
  constructor
  · intro h
    have h0 : s ≤ (i 0).val ∧ (i 0).val < s + 1 := h 0
    omega
  · rintro h0 a
    match a with
    | 0 => show s ≤ (i 0).val ∧ (i 0).val < s + 1; omega
    | 1 => exact ⟨Nat.zero_le _, show (i 1).val < 0 + 40 by have := (i 1).isLt; exact (Nat.zero_add 40).symm ▸ this⟩
    | 2 => exact ⟨Nat.zero_le _, show (i 2).val < 0 + 128 by have := (i 2).isLt; exact (Nat.zero_add 128).symm ▸ this⟩

theorem re40 (x : Fin 40) (y : Fin 128) : Shape.reshapeEquiv (s := S1x40x128) (s' := S40x128) squeezes_S1x40x128_S40x128.numel_eq (ix2 x y) = ix3 0 x y := by
  refine Shape.reshapeEquiv_eq_of_vals _ _ _ _ _ (rowMajor_val3 _ (40 * 128) 128 rfl rfl) (rowMajor_val2 _ 128 rfl) ?_
  show 0 * (40 * 128) + x.val * 128 + y.val = x.val * 128 + y.val
  omega

theorem sIds_at (o inb) (s : ℕ) (hs : s < 2) (h : o = ![s, 0, 0]) (x : Fin 40) (y : Fin 128) : (sIds o inb).view.emb (ix2 x y) = ix3 ⟨s, hs⟩ x y := by
  subst h
  funext a
  apply Fin.ext
  match a with
  | 0 => show s + 1 * (Shape.reshapeEquiv (s := S1x40x128) (s' := S40x128) squeezes_S1x40x128_S40x128.numel_eq (ix2 x y) 0).val = s; rw [re40]; rfl
  | 1 => show 0 + 1 * (Shape.reshapeEquiv (s := S1x40x128) (s' := S40x128) squeezes_S1x40x128_S40x128.numel_eq (ix2 x y) 1).val = x.val; rw [re40]; show 0 + 1 * x.val = _; omega
  | 2 => show 0 + 1 * (Shape.reshapeEquiv (s := S1x40x128) (s' := S40x128) squeezes_S1x40x128_S40x128.numel_eq (ix2 x y) 2).val = y.val; rw [re40]; show 0 + 1 * y.val = _; omega
theorem sWts_at (o inb) (s : ℕ) (hs : s < 2) (h : o = ![s, 0, 0]) (x : Fin 40) (y : Fin 128) : (sWts o inb).view.emb (ix2 x y) = ix3 ⟨s, hs⟩ x y :=
  sIds_at o inb s hs h x y
theorem cIds_at (o inb) (t k : ℕ) (ht : t < 6) (hk : k < 60) (h : o = ![t, 40 * k, 0]) (x : Fin 40) (y : Fin 128) :
    (cIds o inb).view.emb (ix2 x y) = i3 t (40 * k + x.val) y.val := by
  subst h
  refine (ixm_eq _ fun a => ?_).symm
  match a with
  | 0 => show t = t + 1 * (Shape.reshapeEquiv (s := S1x40x128) (s' := S40x128) squeezes_S1x40x128_S40x128.numel_eq (ix2 x y) 0).val; rw [re40]; rfl
  | 1 => show _ = 40 * k + 1 * (Shape.reshapeEquiv (s := S1x40x128) (s' := S40x128) squeezes_S1x40x128_S40x128.numel_eq (ix2 x y) 1).val; rw [re40]; show 40 * k + x.val = 40 * k + 1 * x.val; omega
  | 2 => show _ = 0 + 1 * (Shape.reshapeEquiv (s := S1x40x128) (s' := S40x128) squeezes_S1x40x128_S40x128.numel_eq (ix2 x y) 2).val; rw [re40]; show y.val = 0 + 1 * y.val; omega
theorem cWts_at (o inb) (t k : ℕ) (ht : t < 6) (hk : k < 60) (h : o = ![t, 40 * k, 0]) (x : Fin 40) (y : Fin 128) :
    (cWts o inb).view.emb (ix2 x y) = i3 t (40 * k + x.val) y.val := cIds_at o inb t k ht hk h x y

abbrev NI : ℕ := cc0_scratch2.dmaCredit S40x128 .i32
theorem NW_eq : cc0_scratch3.dmaCredit S40x128 .f32 = NI := rfl
theorem NI_pos : 0 < NI := by decide
theorem NI_first : 0 + NI < NI * 2 := by decide
theorem NI_last : (0 + NI) + NI = NI * 2 := by decide

theorem ids_land (t k s : ℕ) (ids : S6x2400x128.Idx → BitVec 32) (fd : S2x40x128.Idx → BitVec 32) (o1 o2) (i1 i2)
    (h1 : o1 = ![s, 0, 0]) (h2 : o2 = ![t, 40 * k, 0]) (hk : k < 60) (ht : t < 6) (hs : s < 2) :
    ChunkI ids t k s ((sIds o1 i1).view.write (Elt F) fd ((cIds o2 i2).view.read (Elt F) ids) Finset.univ) := by
  intro i hi
  obtain ⟨a, x, y, rfl⟩ : ∃ a x y, i = ix3 a x y := ⟨i 0, i 1, i 2, eq_ix3 i⟩
  obtain rfl : a = ⟨s, hs⟩ := Fin.ext hi
  have e := View.write_emb_of_mem (v := (sIds o1 i1).view) (Val := Elt F) fd ((cIds o2 i2).view.read (Elt F) ids) (Finset.mem_univ (ix2 x y))
  rw [sIds_at o1 i1 s hs h1] at e
  refine e.trans ?_
  show ids ((cIds o2 i2).view.emb (ix2 x y)) = _
  rw [cIds_at o2 i2 t k ht hk h2]
  rfl
theorem wts_land (t k s : ℕ) (wts : S6x2400x128.Idx → F .f32) (fd : S2x40x128.Idx → F .f32) (o1 o2) (i1 i2)
    (h1 : o1 = ![s, 0, 0]) (h2 : o2 = ![t, 40 * k, 0]) (hk : k < 60) (ht : t < 6) (hs : s < 2) :
    ChunkW wts t k s ((sWts o1 i1).view.write (Elt F) fd ((cWts o2 i2).view.read (Elt F) wts) Finset.univ) := by
  intro i hi
  obtain ⟨a, x, y, rfl⟩ : ∃ a x y, i = ix3 a x y := ⟨i 0, i 1, i 2, eq_ix3 i⟩
  obtain rfl : a = ⟨s, hs⟩ := Fin.ext hi
  have e := View.write_emb_of_mem (v := (sWts o1 i1).view) (Val := Elt F) fd ((cWts o2 i2).view.read (Elt F) wts) (Finset.mem_univ (ix2 x y))
  rw [sWts_at o1 i1 s hs h1] at e
  refine e.trans ?_
  show wts ((cWts o2 i2).view.emb (ix2 x y)) = _
  rw [cWts_at o2 i2 t k ht hk h2]
  rfl

/-! ## A chunk in flight -/

section Chunk

variable (d : Dev nD) (L : grid0.Coords) (q : PosShare TreeShare)
variable (ids : S6x2400x128.Idx → BitVec 32) (wts : S6x2400x128.Idx → F .f32)

/-- What the two transfers of chunk `k` of table `t` into slot `s` deliver. -/
def ChD (t k s : ℕ) : Fin 2 → sProp 𝕄
  | 0 => iprop((∃ fi : S2x40x128.Idx → BitVec 32, ⌜ChunkI ids t k s fi⌝ ∗ (ml d L mIdsV ↦[slotSet s]{fullShare} fi)) ∗ (ml d L mIds ↦[chunkSet t k]{q} ids))
  | 1 => iprop((∃ fw : S2x40x128.Idx → F .f32, ⌜ChunkW wts t k s fw⌝ ∗ (ml d L mWV ↦[slotSet s]{fullShare} fw)) ∗ (ml d L mWts ↦[chunkSet t k]{q} wts))

instance (t k s : ℕ) (i : Fin 2) : Storable (upEmb : UEmb _ 𝕄) (ChD d L q ids wts t k s i) := by
  match i with
  | 0 => unfold ChD; infer_instance
  | 1 => unfold ChD; infer_instance

/-- Chunk `k` of table `t` on its way into slot `s`. -/
def InFl (t k s : ℕ) : sProp 𝕄 :=
  iprop(Transfers.Batch EC (thr d L) (.dma (inC s)) none NI (ChD d L q ids wts t k s) 2 0
    ∗ (ml d L mIds ↦[Finset.univ \ chunkSet t k]{q} ids) ∗ (ml d L mWts ↦[Finset.univ \ chunkSet t k]{q} wts))
/-- Slot `s` idle. -/
def Free (s : ℕ) : sProp 𝕄 :=
  iprop((∃ fi : S2x40x128.Idx → BitVec 32, (ml d L mIdsV ↦[slotSet s]{fullShare} fi)) ∗ (∃ fw : S2x40x128.Idx → F .f32, (ml d L mWV ↦[slotSet s]{fullShare} fw))
    ∗ semVal (thr d L, .dma (inC s)) 0)

theorem issue (t k s : ℕ) (hk : k < 60) (ht : t < 6) (hs : s < 2) (o1 o2 o3) (i1 i2 i3)
    (h1 : o1 = ![s, 0, 0]) (h2 : o2 = ![t, 40 * k, 0]) (h3 : o3 = ![s]) {α : Type} {Q : α → sProp 𝕄}
    {hs1 hd1 hm1 hs2 hd2 hm2} {kk : PUnit → Prog (TpuEff nD τ sig (Elt F) Λ₀ (thr d L).2) α} :
    iprop((ml d L mIds ↦{q} ids) ∗ (ml d L mWts ↦{q} wts) ∗ Free (F := F) d L s)
      ⊢ iprop((InFl d L q ids wts t k s -∗ wp frame (wpE (defs₀ (F := F)) 𝒱₀ (thr d L) none) Set.univ (kk ⟨⟩) Q)
        -∗ wp frame (wpE (defs₀ (F := F)) 𝒱₀ (thr d L) none) Set.univ
          (.op (.enqueueDma (cIds o2 i2) (.here (sIds o1 i1)) (.dma (inS o3 i3)) hs1 hd1 hm1) fun _ =>
           .op (.enqueueDma (cWts o2 i2) (.here (sWts o1 i1)) (.dma (inS o3 i3)) hs2 hd2 hm2) kk) Q) := by
  unfold Free
  rw [← inS_eq o3 i3 s hs h3]
  iintro ⟨Hi, Hw, ⟨%fi, Hfi⟩, ⟨%fw, Hfw⟩, Hs⟩ Hk
  imod (Transfers.batch_alloc' EC (thr d L) none NI (ChD d L q ids wts t k s)) $$ Hs with HB
  ihave Hi := (carve (ℓ := ml d L mIds) (q := q) (f := ids) (Finset.subset_univ (chunkSet t k))) $$ Hi
  ihave Hw := (carve (ℓ := ml d L mWts) (q := q) (f := wts) (Finset.subset_univ (chunkSet t k))) $$ Hw
  icases Hi with ⟨Hi, Hir⟩
  icases Hw with ⟨Hw, Hwr⟩
  have eI : (cIds o2 i2).view.set = chunkSet t k := (sq_set _ _ _ _ _ _ _).trans (chunk_set o2 i2 t k h2)
  have eW : (cWts o2 i2).view.set = chunkSet t k := (sq_set _ _ _ _ _ _ _).trans (chunk_set o2 i2 t k h2)
  have fI : (sIds o1 i1).view.set = slotSet s := (sq_set _ _ _ _ _ _ _).trans (slot_set o1 i1 s h1)
  have fW : (sWts o1 i1).view.set = slotSet s := (sq_set _ _ _ _ _ _ _).trans (slot_set o1 i1 s h1)
  iapply (Transfers.wp_dmaBatch EC 𝒱₀ (thr d L) none (src := cIds o2 i2) (dst := sIds o1 i1) (q := q) (fs := ids) (Sd := slotSet s) (fd := fi)
    (D := ChD d L q ids wts t k s) none NI rfl (subset_of_eq fI) (by decide : 0 < 2) (Nat.zero_le _) ?hD1) $$ [Hi Hfi HB]
  case hD1 =>
    rw [eI]
    show _ ⊢ iprop((∃ f, ⌜_⌝ ∗ _) ∗ _)
    iintro ⟨Ha, Hb⟩
    isplitl [Ha]
    · iexists _; isplitr
      · ipureintro; exact ids_land (F := F) t k s ids fi o1 o2 i1 i2 h1 h2 hk ht hs
      · iexact Ha
    · iexact Hb
  · rw [eI]; iframe
  iintro HB
  iapply (Transfers.wp_dmaBatch EC 𝒱₀ (thr d L) none (src := cWts o2 i2) (dst := sWts o1 i1) (q := q) (fs := wts) (Sd := slotSet s) (fd := fw)
    (D := ChD d L q ids wts t k s) none NI rfl (subset_of_eq fW) (by decide : 1 < 2) (Nat.zero_le _) ?hD2) $$ [Hw Hfw HB]
  case hD2 =>
    rw [eW]
    show _ ⊢ iprop((∃ f, ⌜_⌝ ∗ _) ∗ _)
    iintro ⟨Ha, Hb⟩
    isplitl [Ha]
    · iexists _; isplitr
      · ipureintro; exact wts_land (F := F) t k s wts fw o1 o2 i1 i2 h1 h2 hk ht hs
      · iexact Ha
    · iexact Hb
  · rw [eW]; iframe
  iintro HB
  iapply Hk
  unfold InFl
  rw [← inS_eq o3 i3 s hs h3]
  iframe

variable (O : CellTallies nD τ sig (HIx 1)) (W : Waits sig (HIx 1))

/-- The task's owed tallies, every wait it added being of the transfers' index. -/
def OW : sProp 𝕄 := iprop(∃ W', ⌜∀ p ∈ W', p ∈ W ∨ p.2 = none⌝ ∗ owes (thr d L) O W')

theorem ow_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact Or.inr rfl
  · exact h p hp

theorem ow_put {W' : Waits sig (HIx 1)} (sm : SemLoc sig) (h : ∀ p ∈ W', p ∈ W ∨ p.2 = none) :
    (owes (thr d L) O (insert (sm, (none : HIx 1)) W') : sProp 𝕄) ⊢ OW (F := F) d L O W := by
  unfold OW
  iintro HO
  iexists _
  isplitr
  · ipureintro; exact ow_insert h sm
  · iexact HO

abbrev Lv : sProp 𝕄 := levAts (K (F := F)).L (K (F := F)).lev

theorem land (t k s : ℕ) (hk : k < 60) (ht : t < 6) (hs : s < 2) (hO : ∀ g, O g none = 0) (o1 o2 o3) (i1 i2 i3)
    (h1 : o1 = ![s, 0, 0]) (h2 : o2 = ![t, 40 * k, 0]) (h3 : o3 = ![s]) {α : Type} {Q : α → sProp 𝕄}
    {hs1 hd1 hs2 hd2} {kk : PUnit → Prog (TpuEff nD τ sig (Elt F) Λ₀ (thr d L).2) α} :
    iprop(Lv (F := F) ∗ InFl d L q ids wts t k s ∗ OW (F := F) d L O W)
      ⊢ iprop((∀ fi fw, ⌜ChunkI ids t k s fi⌝ -∗ ⌜ChunkW wts t k s fw⌝ -∗ (ml d L mIdsV ↦[slotSet s]{fullShare} fi) -∗ (ml d L mWV ↦[slotSet s]{fullShare} fw)
            -∗ semVal (thr d L, .dma (inC s)) 0 -∗ (ml d L mIds ↦{q} ids) -∗ (ml d L mWts ↦{q} wts) -∗ OW (F := F) d L O W
            -∗ wp frame (wpE (defs₀ (F := F)) 𝒱₀ (thr d L) none) Set.univ (kk ⟨⟩) Q)
        -∗ wp frame (wpE (defs₀ (F := F)) 𝒱₀ (thr d L) none) Set.univ
          (.op (.waitDma2 (inS o3 i3) (cIds o2 i2) (sIds o1 i1) hs1 hd1) fun _ =>
           .op (.waitDma2 (inS o3 i3) (cWts o2 i2) (sWts o1 i1) hs2 hd2) kk) Q) := by
  unfold InFl OW
  rw [← inS_eq o3 i3 s hs h3]
  iintro ⟨#Hlv, ⟨HB, Hir, Hwr⟩, ⟨%W', %hW, HO⟩⟩ Hk
  iapply (Transfers.wp_waitBatchO EC 𝒱₀ (thr d L) none (srcw := cIds o2 i2) (dstw := sIds o1 i1) none (N := NI) rfl (u := 0) NI_first) $$ [HB HO]
  · isplitl [HB]; · iexact HB
    isplitl [HO]; · iexact HO
    iapply ((K (F := F)).mayWait_none _ hO); iexact Hlv
  iintro ⟨HB, HO⟩
  iapply (Transfers.wp_waitBatchLastO EC 𝒱₀ (thr d L) none (srcw := cWts o2 i2) (dstw := sWts o1 i1) none (N := NI) rfl NI_pos (u := 0 + NI) NI_last) $$ [HB HO]
  · isplitl [HB]; · iexact HB
    isplitl [HO]; · iexact HO
    iapply ((K (F := F)).mayWait_none _ hO); iexact Hlv
  iintro ⟨HD, Hs, HO⟩
  ihave HD := (Entails.of_eq (show bigSep Finset.univ (ChD d L q ids wts t k s) = iprop(ChD d L q ids wts t k s 0 ∗ ChD d L q ids wts t k s 1) from BI.bigSep_fin_two _)) $$ HD
  icases HD with ⟨HD0, HD1⟩
  unfold ChD
  icases HD0 with ⟨⟨%fi, %hfi, Hfi⟩, Hi⟩
  icases HD1 with ⟨⟨%fw, %hfw, Hfw⟩, Hw⟩
  ihave Hi := (uncarve (ℓ := ml d L mIds) (q := q) (f := ids) (Finset.subset_univ (chunkSet t k))) $$ [Hi Hir]
  · iframe
  ihave Hw := (uncarve (ℓ := ml d L mWts) (q := q) (f := wts) (Finset.subset_univ (chunkSet t k))) $$ [Hw Hwr]
  · iframe
  ihave HO := (ow_put (F := F) d L O W (.dma (inS o3 i3)) (ow_insert hW (.dma (inS o3 i3)))) $$ HO
  iapply Hk $$ %fi %fw %hfi %hfw Hfi Hfw Hs Hi Hw
  unfold OW
  iexact HO

end Chunk

end Cert.Kernel.Pf

end
-- ==== Proof.Tile3.lean ====
/-
  The loop over the sixty chunks of a channel.
-/
module

public import proofs.«01_k».proof.Proof.Tile2

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem cond1 (t4 : Fin k0_t4_loop.trips) : k0_cond1 t4 = 1#1 ↔ t4.val + 1 < 60 := by
  revert t4; decide +kernel

theorem v195_toNat (t4 : Fin k0_t4_loop.trips) : (Scalar.addi 0#32 (Scalar.muli (Scf.iv 0#32 1#32 t4) 1#32) : BitVec 32).toNat = t4.val := by
  revert t4; decide +kernel

theorem tabN_lt (L : grid0.Coords) {t2 : ℕ} (h : t2 < 3) : tabN L t2 < 6 := by
  have : (L 0).val < 2 := (L 0).isLt
  unfold tabN; omega

section Chunks

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (O : CellTallies nD τ sig (HIx 1)) (W : Waits sig (HIx 1))

/-- Chunk `k` on its way, or, past the last, its slot idle and the arrays whole. -/
def Pend (t k s : ℕ) : sProp 𝕄 :=
  if k < 60 then InFl d L q ids wts t k s else iprop(Free (F := F) d L s ∗ (ml d L mIds ↦{q} ids) ∗ (ml d L mWts ↦{q} wts))

variable (t2 : Fin k0_t2_loop.trips) (t3 : Fin k0_t3_loop.trips) (ch : ℕ)
variable (fg : S19x128.Idx → F .f32) (fl : S2400.Idx → BitVec 32)

/-- Before chunk `k`. -/
def T4I (k : ℕ) (_ : Unit) : sProp 𝕄 :=
  iprop(Lv (F := F) ∗ (ml d L mAcc ↦{fullShare} (accF g5 ids wts len sc (tabN L t2.val) ch (40 * k) : S625x128.Idx → BitVec 32))
    ∗ (ml d L mGV ↦{fullShare} fg) ∗ (ml d L mLenV ↦{fullShare} fl)
    ∗ Pend d L q ids wts (tabN L t2.val) k (k % 2) ∗ Free (F := F) d L ((k + 1) % 2) ∗ OW (F := F) d L O W)

/-- Before bag `n` of chunk `k`. -/
def T5I (k s : ℕ) (fi : S2x40x128.Idx → BitVec 32) (fw : S2x40x128.Idx → F .f32) (n : ℕ) (_ : Unit) : sProp 𝕄 :=
  iprop((ml d L mAcc ↦{fullShare} (accF g5 ids wts len sc (tabN L t2.val) ch (40 * k + n) : S625x128.Idx → BitVec 32))
        ∗ (ml d L mIdsV ↦[slotSet s]{fullShare} fi) ∗ (ml d L mWV ↦[slotSet s]{fullShare} fw)
        ∗ (ml d L mGV ↦{fullShare} fg) ∗ (ml d L mLenV ↦{fullShare} fl))

theorem t5_loop (t4 : Fin k0_t4_loop.trips) (v0 : IVec S16 32) (v10 : Vec F S16 .f32) (v195 : BitVec 32) (hv195 : v195.toNat = t4.val)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (fi : S2x40x128.Idx → BitVec 32) (fw : S2x40x128.Idx → F .f32) (hfi : ChunkI ids (tabN L t2.val) t4.val (t4.val % 2) fi)
    (hfw : ChunkW wts (tabN L t2.val) t4.val (t4.val % 2) fw) (hfg : RowG g5 (tabN L t2.val) ch fg) (hfl : RowL len (tabN L t2.val) fl) :
    T5I d L g5 ids wts len sc t2 ch fg fl t4.val (t4.val % 2) fi fw 0 ()
      ⊢ wp frame (wpE (defs₀ (F := F)) 𝒱₀ (thr d L) none) Set.univ
          (Scf.Loop.for k0_t5_loop k0_t5_ok ⟨⟩ (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195))
          (T5I d L g5 ids wts len sc t2 ch fg fl t4.val (t4.val % 2) fi fw 40) :=
  wp_loop (thr d L) none k0_t5_loop k0_t5_ok () _ (T5I d L g5 ids wts len sc t2 ch fg fl t4.val (t4.val % 2) fi fw) _
    (fun t5 u => t5_step d L g5 ids wts len sc t2 t3 t4 t5 (tabN L t2.val) ch v0 v10 v195 hv195 hlen hids hv0 hv10 fi fw hfi hfw fg hfg fl hfl u)
    (fun _ => Entails.of_eq (by rw [trips5]))

theorem t4_step (t4 : Fin k0_t4_loop.trips) (v0 : IVec S16 32) (v10 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hfg : RowG g5 (tabN L t2.val) ch fg) (hfl : RowL len (tabN L t2.val) fl) (hO : ∀ g, O g none = 0) (u : Unit) :
    T4I d L q g5 ids wts len sc O W t2 ch fg fl t4.val u
      ⊢ wp frame (wpE (defs₀ (F := F)) 𝒱₀ (thr d L) none) Set.univ
          (k0_t4_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 u)
          (T4I d L q g5 ids wts len sc O W t2 ch fg fl (t4.val + 1)) := by
  have hk : t4.val < 60 := lt_of_lt_of_eq t4.isLt trips4
  have ht : tabN L t2.val < 6 := tabN_lt L (lt_of_lt_of_eq t2.isLt trips2)
  have hv := v195_toNat t4
  unfold k0_t4_body
  beta_reduce
  rw [k0_part2_eq_skeleton]
  unfold k0_part2_skel
  dsimp only
  generalize (Scalar.addi 0#32 (Scalar.muli (Scf.iv 0#32 1#32 t4) 1#32) : BitVec 32) = v195 at hv ⊢
  simp only [Prog.lift, Prog.bind_op, Prog.bind_ret, Prog.pure_eq_ret]
  generalize hQ : T4I d L q g5 ids wts len sc O W t2 ch fg fl (t4.val + 1) = Q
  unfold T4I Pend
  rw [if_pos hk]
  iintro ⟨#Hlv, Ha, Hg, Hl, HF, Hfr, HO⟩
  iapply (land d L q ids wts O W (tabN L t2.val) t4.val (t4.val % 2) hk ht (Nat.mod_lt _ (by decide)) hO _ _ _ _ _ _ (cf7 t4) (cf8 L t2 t4) (cf9 t4)) $$ [HF HO]
  · iframe
    iexact Hlv
  iintro %fi %fw %hfi %hfw Hfi Hfw Hs Hi Hw HO
  have fin : ∀ (R : sProp 𝕄) (Q : Unit → sProp 𝕄), (iprop(R ∗ T5I d L g5 ids wts len sc t2 ch fg fl t4.val (t4.val % 2) fi fw 40 ()) ⊢ Q ()) →
      iprop(R ∗ T5I d L g5 ids wts len sc t2 ch fg fl t4.val (t4.val % 2) fi fw 0 ())
      ⊢ wp frame (wpE (defs₀ (F := F)) 𝒱₀ (thr d L) none) Set.univ
          (Scf.Loop.for k0_t5_loop k0_t5_ok ⟨⟩ (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195) >>= fun _ => Prog.ret ()) Q := by
    intro R Q hRQ
    iintro ⟨HR, HT⟩
    iapply (wp_seq (t5_loop d L g5 ids wts len sc t2 t3 ch fg fl t4 v0 v10 v195 hv hlen hids hv0 hv10 fi fw hfi hfw hfg hfl)) $$ HT
    iintro %_ HT
    sl_step
    iapply hRQ
    iframe
  by_cases hc : k0_cond1 t4 = 1#1
  · have hk1 : t4.val + 1 < 60 := (cond1 t4).mp hc
    rw [dif_pos hc]
    simp only [Prog.lift, Prog.bind_op, Prog.bind_ret, Prog.pure_eq_ret]
    iapply (issue d L q ids wts (tabN L t2.val) (t4.val + 1) ((t4.val + 1) % 2) hk1 ht (Nat.mod_lt _ (by decide)) _ _ _ _ _ _ (cf10 t4) (cf11 L t2 t4) (cf12 t4)) $$ [Hi Hw Hfr]
    · iframe
    iintro HN
    iapply (fin iprop(Lv (F := F) ∗ InFl d L q ids wts (tabN L t2.val) (t4.val + 1) ((t4.val + 1) % 2) ∗ semVal (thr d L, .dma (inC (t4.val % 2))) 0 ∗ OW (F := F) d L O W) Q ?hR)
    case hR =>
      rw [← hQ]
      unfold T4I T5I Pend Free
      rw [if_pos hk1, show (t4.val + 1 + 1) % 2 = t4.val % 2 by omega]
      iintro ⟨⟨#Hlv, HN, Hs, HO⟩, Ha, Hfi, Hfw, Hg, Hl⟩
      isplitr; · iexact Hlv
      isplitl [Ha]; · iexact Ha
      isplitl [Hg]; · iexact Hg
      isplitl [Hl]; · iexact Hl
      isplitl [HN]; · iexact HN
      isplitr [HO]
      · isplitl [Hfi]; · iexists _; iexact Hfi
        isplitl [Hfw]; · iexists _; iexact Hfw
        iexact Hs
      · iexact HO
    unfold T5I
    iframe
    iexact Hlv
  · have hk1 : ¬ t4.val + 1 < 60 := fun h => hc ((cond1 t4).mpr h)
    rw [dif_neg hc]
    simp only [Prog.lift, Prog.bind_op, Prog.bind_ret, Prog.pure_eq_ret]
    iapply (fin iprop(Lv (F := F) ∗ Free (F := F) d L ((t4.val + 1) % 2) ∗ (ml d L mIds ↦{q} ids) ∗ (ml d L mWts ↦{q} wts) ∗ semVal (thr d L, .dma (inC (t4.val % 2))) 0 ∗ OW (F := F) d L O W) Q ?hR)
    case hR =>
      rw [← hQ]
      unfold T4I T5I Pend
      rw [if_neg hk1, show (t4.val + 1 + 1) % 2 = t4.val % 2 by omega]
      iintro ⟨⟨#Hlv, HN, Hi, Hw, Hs, HO⟩, Ha, Hfi, Hfw, Hg, Hl⟩
      isplitr; · iexact Hlv
      isplitl [Ha]; · iexact Ha
      isplitl [Hg]; · iexact Hg
      isplitl [Hl]; · iexact Hl
      isplitl [HN Hi Hw]; · iframe
      isplitr [HO]
      · unfold Free
        isplitl [Hfi]; · iexists _; iexact Hfi
        isplitl [Hfw]; · iexists _; iexact Hfw
        iexact Hs
      · iexact HO
    unfold T5I
    iframe
    iexact Hlv

theorem t4_loop (v0 : IVec S16 32) (v10 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hfg : RowG g5 (tabN L t2.val) ch fg) (hfl : RowL len (tabN L t2.val) fl) (hO : ∀ g, O g none = 0) :
    T4I d L q g5 ids wts len sc O W t2 ch fg fl 0 ()
      ⊢ wp frame (wpE (defs₀ (F := F)) 𝒱₀ (thr d L) none) Set.univ
          (Scf.Loop.for k0_t4_loop k0_t4_ok ⟨⟩ (k0_t4_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3))
          (T4I d L q g5 ids wts len sc O W t2 ch fg fl 60) :=
  wp_loop (thr d L) none k0_t4_loop k0_t4_ok () _ (T4I d L q g5 ids wts len sc O W t2 ch fg fl) _
    (fun t4 u => t4_step d L q g5 ids wts len sc O W t2 t3 ch fg fl t4 v0 v10 hlen hids hv0 hv10 hfg hfl hO u)
    (fun _ => Entails.of_eq (by rw [trips4]))

end Chunks

end Cert.Kernel.Pf

end
-- ==== Proof.Tile4.lean ====
/-
  The staging loops: sixteen sums at a time converted into the stage and zeroed in the accumulator.
-/
module

public import proofs.«01_k».proof.Proof.Tile3

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The elements of row slice `s` of the accumulator. -/
def accSet (s : ℕ) : Finset S625x128.Idx := Finset.univ.filter fun p => (p 0).val / 125 = s
theorem mem_accSet {s : ℕ} {p : S625x128.Idx} : p ∈ accSet s ↔ (p 0).val / 125 = s := by simp [accSet]

/-! ## Sixteen elements of a row -/

section Row

variable {Val : EltTy → Type}

theorem acc_write16 (o : Fin 2 → ℕ) (inb : ∀ a, o a + S1x16.size a ≤ S625x128.size a) (a j : ℕ) (ho : o = ![a, 16 * j])
    (f : S625x128.Idx → Val .i32) (w : S1x16.Idx → Val .i32) (p : S625x128.Idx) :
    View.write Val (mAcc.access (Rect.unit (s := S625x128) o S1x16.size inb)) f w Finset.univ p
      = if (p 0).val = a ∧ (p 1).val / 16 = j then w (ix2 0 ⟨(p 1).val % 16, Nat.mod_lt _ (by decide)⟩) else f p := by
  subst ho
  split
  · next h =>
    have hp : p = (mAcc.access (Rect.unit (s := S625x128) ![a, 16 * j] S1x16.size inb)).emb (ix2 0 ⟨(p 1).val % 16, Nat.mod_lt _ (by decide)⟩) := by
      funext x
      apply Fin.ext
      match x with
      | 0 => show (p 0).val = a + 1 * 0; omega
      | 1 => show (p 1).val = 16 * j + 1 * ((p 1).val % 16); omega
    conv_lhs => rw [hp]
    exact View.write_emb_of_mem (v := mAcc.access (Rect.unit (s := S625x128) ![a, 16 * j] S1x16.size inb)) (Val := Val) f w (Finset.mem_univ _)
  · next h =>
    refine View.write_of_not_mem (v := mAcc.access (Rect.unit (s := S625x128) ![a, 16 * j] S1x16.size inb)) (Val := Val) f w Finset.univ fun hm => h ?_
    obtain ⟨x, -, rfl⟩ := Finset.mem_map.mp hm
    have h0 := (x 0).isLt
    have h1 := (x 1).isLt
    have h0' : (x 0).val < 1 := h0
    have h1' : (x 1).val < 16 := h1
    refine ⟨?_, ?_⟩
    · show a + 1 * (x 0).val = a; omega
    · show (16 * j + 1 * (x 1).val) / 16 = j; omega

theorem stage_write16 (o : Fin 2 → ℕ) (inb : ∀ a, o a + S1x16.size a ≤ S125x128.size a) (a j : ℕ) (ho : o = ![a, 16 * j])
    (f : S125x128.Idx → Val .f32) (w : S1x16.Idx → Val .f32) (p : S125x128.Idx) :
    View.write Val (mStage.access (Rect.unit (s := S125x128) o S1x16.size inb)) f w Finset.univ p
      = if (p 0).val = a ∧ (p 1).val / 16 = j then w (ix2 0 ⟨(p 1).val % 16, Nat.mod_lt _ (by decide)⟩) else f p := by
  subst ho
  split
  · next h =>
    have hp : p = (mStage.access (Rect.unit (s := S125x128) ![a, 16 * j] S1x16.size inb)).emb (ix2 0 ⟨(p 1).val % 16, Nat.mod_lt _ (by decide)⟩) := by
      funext x
      apply Fin.ext
      match x with
      | 0 => show (p 0).val = a + 1 * 0; omega
      | 1 => show (p 1).val = 16 * j + 1 * ((p 1).val % 16); omega
    conv_lhs => rw [hp]
    exact View.write_emb_of_mem (v := mStage.access (Rect.unit (s := S125x128) ![a, 16 * j] S1x16.size inb)) (Val := Val) f w (Finset.mem_univ _)
  · next h =>
    refine View.write_of_not_mem (v := mStage.access (Rect.unit (s := S125x128) ![a, 16 * j] S1x16.size inb)) (Val := Val) f w Finset.univ fun hm => h ?_
    obtain ⟨x, -, rfl⟩ := Finset.mem_map.mp hm
    have h0 := (x 0).isLt
    have h1 := (x 1).isLt
    have h0' : (x 0).val < 1 := h0
    have h1' : (x 1).val < 16 := h1
    refine ⟨?_, ?_⟩
    · show a + 1 * (x 0).val = a; omega
    · show (16 * j + 1 * (x 1).val) / 16 = j; omega

theorem acc_read16 (o : Fin 2 → ℕ) (inb : ∀ a, o a + S1x16.size a ≤ S625x128.size a) (f : S625x128.Idx → Val .i32) (x : S1x16.Idx) :
    View.read Val (mAcc.access (Rect.unit (s := S625x128) o S1x16.size inb)) f x
      = f ((mAcc.access (Rect.unit (s := S625x128) o S1x16.size inb)).emb x) := rfl

theorem acc_set16 (o : Fin 2 → ℕ) (inb : ∀ a, o a + S1x16.size a ≤ S625x128.size a) (a j s : ℕ) (ho : o = ![a, 16 * j]) (hs : a / 125 = s) :
    (mAcc.access (Rect.unit (s := S625x128) o S1x16.size inb)).set ⊆ accSet s := by
  subst ho
  intro p hm
  obtain ⟨x, -, rfl⟩ := Finset.mem_map.mp hm
  have h0 : (x 0).val < 1 := (x 0).isLt
  rw [mem_accSet]
  show (a + 1 * (x 0).val) / 125 = s
  rw [show a + 1 * (x 0).val = a by omega, hs]

end Row

theorem cast_1_16 (x : Fin 16) : Shape.reshapeEquiv (s := S1x16) (s' := S16) shapeCasts_S1x16_S16 (ix1 x) = ix2 0 x := by
  refine Shape.reshapeEquiv_eq_of_vals _ _ _ _ _ (rowMajor_val2 _ 16 rfl) (rowMajor_val1 _) ?_
  show 0 * 16 + x.val = x.val
  omega
theorem cast_16_1 (x : Fin 16) : Shape.reshapeEquiv (s := S16) (s' := S1x16) shapeCasts_S16_S1x16 (ix2 0 x) = ix1 x := by
  refine Shape.reshapeEquiv_eq_of_vals _ _ _ _ _ (rowMajor_val1 _) (rowMajor_val2 _ 16 rfl) ?_
  show x.val = 0 * 16 + x.val
  omega

theorem grad_apply (u : Vec F S16 .i32) (w : Vec F S16 .f32) (x : S16.Idx) : mulf (sitofp .f32 u) w x = gradV (u x) (w x) := rfl

/-! ## The stage loop's state -/

/-- Slice `s` of the accumulator `A`, its first `m` sixteens zeroed. -/
def fZ (A : S625x128.Idx → BitVec 32) (s m : ℕ) : S625x128.Idx → BitVec 32 := fun p =>
  if 8 * ((p 0).val - 125 * s) + (p 1).val / 16 < m then 0 else A p
/-- The stage, its first `m` sixteens slice `s` of `A` converted and scaled by `v`. -/
def fS (A : S625x128.Idx → BitVec 32) (v : F .f32) (B : S125x128.Idx → F .f32) (s m : ℕ) : S125x128.Idx → F .f32 := fun p =>
  if 8 * (p 0).val + (p 1).val / 16 < m then gradV (A (ixm S625x128 (by decide) ![125 * s + (p 0).val, (p 1).val])) v else B p

section Stage

variable (d : Dev nD) (L : grid0.Coords)

theorem stage_step (A : S625x128.Idx → BitVec 32) (v : F .f32) (B : S125x128.Idx → F .f32) (v15 : Vec F S16 .f32) (hv15 : ∀ x, v15 x = v)
    (s t j a b c : ℕ) (hs : s < 5) (ht : t < 125) (hj : j < 8) (ha : a = 125 * s + t) (hb : b = 16 * j) (hc : c = t) (o1 o2 : Fin 2 → ℕ) (i1 i2)
    (h1 : o1 = ![a, b]) (h2 : o2 = ![c, b])
    (P : Vec F S1x16 .i32 → FVec F S16 .f32) (hP : ∀ ld, P ld = mulf (sitofp .f32 (shapeCast S16 ld shapeCasts_S1x16_S16)) v15)
    (Z : IVec S16 32) (hZ : Z = broadcast S16 0#32)
    {α : Type} {Q : α → sProp 𝕄} {l1 l2 x2 m2 l3 x1 m1} {kk : PUnit → Prog (TpuEff nD τ sig (Elt F) Λ₀ (thr d L).2) α} :
    iprop((ml d L mAcc ↦[accSet s]{fullShare} (fZ A s (8 * t + j) : S625x128.Idx → BitVec 32))
        ∗ (ml d L mStage ↦{fullShare} (fS A v B s (8 * t + j) : S125x128.Idx → F .f32)))
      ⊢ iprop(((iprop((ml d L mAcc ↦[accSet s]{fullShare} (fZ A s (8 * t + j + 1) : S625x128.Idx → BitVec 32))
        ∗ (ml d L mStage ↦{fullShare} (fS A v B s (8 * t + j + 1) : S125x128.Idx → F .f32)))) -∗ wp frame (wpE (defs₀ (F := F)) 𝒱₀ (thr d L) none) Set.univ (kk ⟨⟩) Q)
        -∗ wp frame (wpE (defs₀ (F := F)) 𝒱₀ (thr d L) none) Set.univ
          (.op (.load mAcc (Rect.unit (s := S625x128) o1 S1x16.size i1).toLoadRect l1) fun ld =>
           .op (.load mStage (Rect.unit (s := S125x128) o2 S1x16.size i2).toLoadRect l2) fun _ =>
           .op (.store mStage (Rect.unit (s := S125x128) o2 S1x16.size i2) (shapeCast S1x16 (P ld) shapeCasts_S16_S1x16) Finset.univ x2 m2) fun _ =>
           .op (.load mAcc (Rect.unit (s := S625x128) o1 S1x16.size i1).toLoadRect l3) fun _ =>
           .op (.store mAcc (Rect.unit (s := S625x128) o1 S1x16.size i1) (shapeCast S1x16 Z shapeCasts_S16_S1x16) Finset.univ x1 m1) kk) Q) := by
  subst hb
  subst hc
  have hsub := acc_set16 o1 i1 a j s h1 (by omega)
  iintro ⟨Ha, Hs⟩
  iintro Hk
  iapply (wp_load_rect 𝒱₀ (thr d L) none Set.univ (m := mAcc) (r := Rect.unit (s := S625x128) o1 S1x16.size i1) (S := accSet s) (f := fZ A s (8 * c + j)) hsub) $$ Ha
  iintro Ha
  iapply (wp_load_rect 𝒱₀ (thr d L) none Set.univ (m := mStage) (r := Rect.unit (s := S125x128) o2 S1x16.size i2) (S := Finset.univ) (f := fS A v B s (8 * c + j)) (Finset.subset_univ _)) $$ Hs
  iintro Hs
  have hst : ∀ p, View.write (Elt F) (mStage.access (Rect.unit (s := S125x128) o2 S1x16.size i2)) (fS A v B s (8 * c + j))
      (shapeCast S1x16 (P (View.read (Elt F) (mAcc.access (Rect.unit (s := S625x128) o1 S1x16.size i1)) (fZ A s (8 * c + j)))) shapeCasts_S16_S1x16) Finset.univ p
      = fS A v B s (8 * c + j + 1) p := by
    intro p
    rw [stage_write16 (Val := Elt F) o2 i2 c j h2]
    have hp1 : (p 1).val < 128 := (p 1).isLt
    split
    · next h =>
      show P _ (Shape.reshapeEquiv (s := S16) (s' := S1x16) shapeCasts_S16_S1x16 (ix2 0 _)) = _
      rw [cast_16_1, hP]
      unfold fS
      rw [if_pos (by omega)]
      refine (grad_apply _ _ _).trans ?_
      rw [hv15]
      refine congrArg (fun z => gradV z v) ?_
      show View.read (Elt F) _ _ (Shape.reshapeEquiv (s := S1x16) (s' := S16) shapeCasts_S1x16_S16 (ix1 _)) = _
      rw [cast_1_16, acc_read16]
      subst h1
      have e : (mAcc.access (Rect.unit (s := S625x128) ![a, 16 * j] S1x16.size i1)).emb (ix2 0 ⟨(p 1).val % 16, Nat.mod_lt _ (by decide)⟩)
          = ixm S625x128 (by decide) ![125 * s + (p 0).val, (p 1).val] := by
        refine (ixm_eq _ ?_).symm
        intro x
        match x with
        | 0 => show 125 * s + (p 0).val = a + 1 * 0; omega
        | 1 => show (p 1).val = 16 * j + 1 * ((p 1).val % 16); omega
      rw [e]
      unfold fZ
      rw [if_neg]
      rw [ixm_val 0 (show 125 * s + (p 0).val < 625 by omega), ixm_val 1 (show (p 1).val < 128 by omega)]
      show ¬ 8 * (125 * s + (p 0).val - 125 * s) + (p 1).val / 16 < _
      omega
    · next h =>
      unfold fS
      have : (8 * (p 0).val + (p 1).val / 16 < 8 * c + j) = (8 * (p 0).val + (p 1).val / 16 < 8 * c + j + 1) := by
        apply propext; omega
      simp only [this]
  have hz : ∀ p ∈ accSet s, View.write (Elt F) (mAcc.access (Rect.unit (s := S625x128) o1 S1x16.size i1)) (fZ A s (8 * c + j))
      (shapeCast S1x16 Z shapeCasts_S16_S1x16) Finset.univ p = fZ A s (8 * c + j + 1) p := by
    intro p hp
    rw [mem_accSet] at hp
    rw [acc_write16 (Val := Elt F) o1 i1 a j h1]
    have hp1 : (p 1).val < 128 := (p 1).isLt
    unfold fZ
    split
    · next h => rw [if_pos (by omega), hZ]; rfl
    · next h =>
      have : (8 * ((p 0).val - 125 * s) + (p 1).val / 16 < 8 * c + j) = (8 * ((p 0).val - 125 * s) + (p 1).val / 16 < 8 * c + j + 1) := by
        apply propext; omega
      simp only [this]
  iapply (wp_store 𝒱₀ (thr d L) none Set.univ (m := mStage) (r := Rect.unit (s := S125x128) o2 S1x16.size i2) (S := Finset.univ) (Finset.subset_univ _)) $$ Hs
  iintro Hs
  ihave Hs := (Entails.of_eq (pointsTo_congr (fun p _ => hst p))) $$ Hs
  iapply (wp_load_rect 𝒱₀ (thr d L) none Set.univ (m := mAcc) (r := Rect.unit (s := S625x128) o1 S1x16.size i1) (S := accSet s) (f := fZ A s (8 * c + j)) hsub) $$ Ha
  iintro Ha
  iapply (wp_store 𝒱₀ (thr d L) none Set.univ (m := mAcc) (r := Rect.unit (s := S625x128) o1 S1x16.size i1) (S := accSet s) (by rw [View.setOn_univ]; exact hsub)) $$ Ha
  iintro Ha
  ihave Ha := (Entails.of_eq (pointsTo_congr hz)) $$ Ha
  iapply Hk
  iframe

end Stage

end Cert.Kernel.Pf

end
-- ==== Proof.Tile5.lean ====
/-
  The five staging loops, one to a row slice of the accumulator.
-/
module

public import proofs.«01_k».proof.Proof.Tile4

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Slice `s` of `A` converted and scaled by `v`. -/
def stageF (A : S625x128.Idx → BitVec 32) (v : F .f32) (s : ℕ) : S125x128.Idx → F .f32 := fun p =>
  gradV (A (ixm S625x128 (by decide) ![125 * s + (p 0).val, (p 1).val])) v

section Stage

variable (d : Dev nD) (L : grid0.Coords)
variable (A : S625x128.Idx → BitVec 32) (v : F .f32) (B : S125x128.Idx → F .f32) (v15 : Vec F S16 .f32)
variable (t2 : Fin k0_t2_loop.trips) (t3 : Fin k0_t3_loop.trips)

/-- Before row `k` of slice `s`. -/
def StI (s k : ℕ) (_ : Unit) : sProp 𝕄 :=
  iprop((ml d L mAcc ↦[accSet s]{fullShare} (fZ A s (8 * k) : S625x128.Idx → BitVec 32))
        ∗ (ml d L mStage ↦{fullShare} (fS A v B s (8 * k) : S125x128.Idx → F .f32)))

theorem st_first (s : ℕ) : iprop((ml d L mAcc ↦[accSet s]{fullShare} A) ∗ (ml d L mStage ↦{fullShare} B)) ⊢ StI d L A v B s 0 () := by
  unfold StI
  rw [show fZ A s (8 * 0) = A from funext fun p => if_neg (Nat.not_lt_zero _), show fS A v B s (8 * 0) = B from funext fun p => if_neg (Nat.not_lt_zero _)]

theorem st_last (s : ℕ) (u : Unit) : StI d L A v B s 125 u ⊢ iprop((ml d L mAcc ↦[accSet s]{fullShare} (fun _ => 0#32)) ∗ (ml d L mStage ↦{fullShare} stageF A v s)) := by
  unfold StI
  have h1 : ∀ p ∈ accSet s, fZ A s (8 * 125) p = (fun _ => 0#32 : S625x128.Idx → BitVec 32) p := by
    intro p hp
    rw [mem_accSet] at hp
    have h1 : (p 1).val < 128 := (p 1).isLt
    have h0 : (p 0).val < 625 := (p 0).isLt
    exact if_pos (by omega)
  have h2 : fS A v B s (8 * 125) = stageF A v s := by
    funext p
    have h1 : (p 1).val < 128 := (p 1).isLt
    have h0 : (p 0).val < 125 := (p 0).isLt
    exact if_pos (by omega)
  rw [h2]
  rw [pointsTo_congr h1]

theorem t8_step (hv15 : ∀ x : S16.Idx, v15 x = v) (k : Fin k0_t8_loop.trips) (u : Unit) :
    StI d L A v B 0 k.val u ⊢ wp frame (wpE (defs₀ (F := F)) 𝒱₀ (thr d L) none) Set.univ
          (k0_t8_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 0 (k.val + 1)) := by
  have hk : k.val < 125 := lt_of_lt_of_eq k.isLt trips8
  unfold k0_t8_body
  beta_reduce
  rw [k0_part3_eq_skeleton, k0_part4_eq_skeleton]
  unfold k0_part3_skel k0_part4_skel
  simp only [Prog.lift, Prog.bind_op, Prog.bind_ret, Prog.pure_eq_ret]
  unfold StI
  iintro H
  iapply (stage_step d L A v B v15 hv15 0 k.val 0 (0 + k.val) 0 k.val (by decide) hk (by decide) (by omega) rfl rfl _ _ _ _ (cf20 k) (cf21 k) _ (fun _ => rfl) _ rfl) $$ H
  iintro H
  iapply (stage_step d L A v B v15 hv15 0 k.val 1 (0 + k.val) 16 k.val (by decide) hk (by decide) (by omega) rfl rfl _ _ _ _ (cf22 k) (cf23 k) _ (fun _ => rfl) _ rfl) $$ H
  iintro H
  iapply (stage_step d L A v B v15 hv15 0 k.val 2 (0 + k.val) 32 k.val (by decide) hk (by decide) (by omega) rfl rfl _ _ _ _ (cf24 k) (cf25 k) _ (fun _ => rfl) _ rfl) $$ H
  iintro H
  iapply (stage_step d L A v B v15 hv15 0 k.val 3 (0 + k.val) 48 k.val (by decide) hk (by decide) (by omega) rfl rfl _ _ _ _ (cf26 k) (cf27 k) _ (fun _ => rfl) _ rfl) $$ H
  iintro H
  iapply (stage_step d L A v B v15 hv15 0 k.val 4 (0 + k.val) 64 k.val (by decide) hk (by decide) (by omega) rfl rfl _ _ _ _ (cf28 k) (cf29 k) _ (fun _ => rfl) _ rfl) $$ H
  iintro H
  iapply (stage_step d L A v B v15 hv15 0 k.val 5 (0 + k.val) 80 k.val (by decide) hk (by decide) (by omega) rfl rfl _ _ _ _ (cf30 k) (cf31 k) _ (fun _ => rfl) _ rfl) $$ H
  iintro H
  iapply (stage_step d L A v B v15 hv15 0 k.val 6 (0 + k.val) 96 k.val (by decide) hk (by decide) (by omega) rfl rfl _ _ _ _ (cf32 k) (cf33 k) _ (fun _ => rfl) _ rfl) $$ H
  iintro H
  iapply (stage_step d L A v B v15 hv15 0 k.val 7 (0 + k.val) 112 k.val (by decide) hk (by decide) (by omega) rfl rfl _ _ _ _ (cf34 k) (cf35 k) _ (fun _ => rfl) _ rfl) $$ H
  iintro H
  sl_step
  iexact H

theorem t8_loop (hv15 : ∀ x : S16.Idx, v15 x = v) :
    (iprop((ml d L mAcc ↦[accSet 0]{fullShare} A) ∗ (ml d L mStage ↦{fullShare} B)) : sProp 𝕄) ⊢ wp frame (wpE (defs₀ (F := F)) 𝒱₀ (thr d L) none) Set.univ
          (Scf.Loop.for k0_t8_loop k0_t8_ok ⟨⟩ (k0_t8_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 0]{fullShare} (fun _ => 0#32)) ∗ (ml d L mStage ↦{fullShare} stageF A v 0))) :=
  (st_first d L A v B 0).trans (wp_loop (thr d L) none k0_t8_loop k0_t8_ok () _ (StI d L A v B 0) _
    (fun k u => t8_step d L A v B v15 t2 t3 hv15 k u)
    (fun u => by
      rw [trips8]
      exact st_last d L A v B 0 u))

theorem t9_step (hv15 : ∀ x : S16.Idx, v15 x = v) (k : Fin k0_t9_loop.trips) (u : Unit) :
    StI d L A v B 1 k.val u ⊢ wp frame (wpE (defs₀ (F := F)) 𝒱₀ (thr d L) none) Set.univ
          (k0_t9_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 1 (k.val + 1)) := by
  have hk : k.val < 125 := lt_of_lt_of_eq k.isLt trips9
  unfold k0_t9_body
  beta_reduce
  rw [k0_part5_eq_skeleton, k0_part6_eq_skeleton]
  unfold k0_part5_skel k0_part6_skel
  simp only [Prog.lift, Prog.bind_op, Prog.bind_ret, Prog.pure_eq_ret]
  unfold StI
  iintro H
  iapply (stage_step d L A v B v15 hv15 1 k.val 0 (125 + k.val) 0 k.val (by decide) hk (by decide) rfl rfl rfl _ _ _ _ (cf36 k) (cf37 k) _ (fun _ => rfl) _ rfl) $$ H
  iintro H
  iapply (stage_step d L A v B v15 hv15 1 k.val 1 (125 + k.val) 16 k.val (by decide) hk (by decide) rfl rfl rfl _ _ _ _ (cf38 k) (cf39 k) _ (fun _ => rfl) _ rfl) $$ H
  iintro H
  iapply (stage_step d L A v B v15 hv15 1 k.val 2 (125 + k.val) 32 k.val (by decide) hk (by decide) rfl rfl rfl _ _ _ _ (cf40 k) (cf41 k) _ (fun _ => rfl) _ rfl) $$ H
  iintro H
  iapply (stage_step d L A v B v15 hv15 1 k.val 3 (125 + k.val) 48 k.val (by decide) hk (by decide) rfl rfl rfl _ _ _ _ (cf42 k) (cf43 k) _ (fun _ => rfl) _ rfl) $$ H
  iintro H
  iapply (stage_step d L A v B v15 hv15 1 k.val 4 (125 + k.val) 64 k.val (by decide) hk (by decide) rfl rfl rfl _ _ _ _ (cf44 k) (cf45 k) _ (fun _ => rfl) _ rfl) $$ H
  iintro H
  iapply (stage_step d L A v B v15 hv15 1 k.val 5 (125 + k.val) 80 k.val (by decide) hk (by decide) rfl rfl rfl _ _ _ _ (cf46 k) (cf47 k) _ (fun _ => rfl) _ rfl) $$ H
  iintro H
  iapply (stage_step d L A v B v15 hv15 1 k.val 6 (125 + k.val) 96 k.val (by decide) hk (by decide) rfl rfl rfl _ _ _ _ (cf48 k) (cf49 k) _ (fun _ => rfl) _ rfl) $$ H
  iintro H
  iapply (stage_step d L A v B v15 hv15 1 k.val 7 (125 + k.val) 112 k.val (by decide) hk (by decide) rfl rfl rfl _ _ _ _ (cf50 k) (cf51 k) _ (fun _ => rfl) _ rfl) $$ H
  iintro H
  sl_step
  iexact H

theorem t9_loop (hv15 : ∀ x : S16.Idx, v15 x = v) :
    (iprop((ml d L mAcc ↦[accSet 1]{fullShare} A) ∗ (ml d L mStage ↦{fullShare} B)) : sProp 𝕄) ⊢ wp frame (wpE (defs₀ (F := F)) 𝒱₀ (thr d L) none) Set.univ
          (Scf.Loop.for k0_t9_loop k0_t9_ok ⟨⟩ (k0_t9_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 1]{fullShare} (fun _ => 0#32)) ∗ (ml d L mStage ↦{fullShare} stageF A v 1))) :=
  (st_first d L A v B 1).trans (wp_loop (thr d L) none k0_t9_loop k0_t9_ok () _ (StI d L A v B 1) _
    (fun k u => t9_step d L A v B v15 t2 t3 hv15 k u)
    (fun u => by
      rw [trips9]
      exact st_last d L A v B 1 u))

theorem t10_step (hv15 : ∀ x : S16.Idx, v15 x = v) (k : Fin k0_t10_loop.trips) (u : Unit) :
    StI d L A v B 2 k.val u ⊢ wp frame (wpE (defs₀ (F := F)) 𝒱₀ (thr d L) none) Set.univ
          (k0_t10_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 2 (k.val + 1)) := by
  have hk : k.val < 125 := lt_of_lt_of_eq k.isLt trips10
  unfold k0_t10_body
  beta_reduce
  rw [k0_part7_eq_skeleton, k0_part8_eq_skeleton]
  unfold k0_part7_skel k0_part8_skel
  simp only [Prog.lift, Prog.bind_op, Prog.bind_ret, Prog.pure_eq_ret]
  unfold StI
  iintro H
  iapply (stage_step d L A v B v15 hv15 2 k.val 0 (250 + k.val) 0 k.val (by decide) hk (by decide) rfl rfl rfl _ _ _ _ (cf52 k) (cf53 k) _ (fun _ => rfl) _ rfl) $$ H
  iintro H
  iapply (stage_step d L A v B v15 hv15 2 k.val 1 (250 + k.val) 16 k.val (by decide) hk (by decide) rfl rfl rfl _ _ _ _ (cf54 k) (cf55 k) _ (fun _ => rfl) _ rfl) $$ H
  iintro H
  iapply (stage_step d L A v B v15 hv15 2 k.val 2 (250 + k.val) 32 k.val (by decide) hk (by decide) rfl rfl rfl _ _ _ _ (cf56 k) (cf57 k) _ (fun _ => rfl) _ rfl) $$ H
  iintro H
  iapply (stage_step d L A v B v15 hv15 2 k.val 3 (250 + k.val) 48 k.val (by decide) hk (by decide) rfl rfl rfl _ _ _ _ (cf58 k) (cf59 k) _ (fun _ => rfl) _ rfl) $$ H
  iintro H
  iapply (stage_step d L A v B v15 hv15 2 k.val 4 (250 + k.val) 64 k.val (by decide) hk (by decide) rfl rfl rfl _ _ _ _ (cf60 k) (cf61 k) _ (fun _ => rfl) _ rfl) $$ H
  iintro H
  iapply (stage_step d L A v B v15 hv15 2 k.val 5 (250 + k.val) 80 k.val (by decide) hk (by decide) rfl rfl rfl _ _ _ _ (cf62 k) (cf63 k) _ (fun _ => rfl) _ rfl) $$ H
  iintro H
  iapply (stage_step d L A v B v15 hv15 2 k.val 6 (250 + k.val) 96 k.val (by decide) hk (by decide) rfl rfl rfl _ _ _ _ (cf64 k) (cf65 k) _ (fun _ => rfl) _ rfl) $$ H
  iintro H
  iapply (stage_step d L A v B v15 hv15 2 k.val 7 (250 + k.val) 112 k.val (by decide) hk (by decide) rfl rfl rfl _ _ _ _ (cf66 k) (cf67 k) _ (fun _ => rfl) _ rfl) $$ H
  iintro H
  sl_step
  iexact H

theorem t10_loop (hv15 : ∀ x : S16.Idx, v15 x = v) :
    (iprop((ml d L mAcc ↦[accSet 2]{fullShare} A) ∗ (ml d L mStage ↦{fullShare} B)) : sProp 𝕄) ⊢ wp frame (wpE (defs₀ (F := F)) 𝒱₀ (thr d L) none) Set.univ
          (Scf.Loop.for k0_t10_loop k0_t10_ok ⟨⟩ (k0_t10_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 2]{fullShare} (fun _ => 0#32)) ∗ (ml d L mStage ↦{fullShare} stageF A v 2))) :=
  (st_first d L A v B 2).trans (wp_loop (thr d L) none k0_t10_loop k0_t10_ok () _ (StI d L A v B 2) _
    (fun k u => t10_step d L A v B v15 t2 t3 hv15 k u)
    (fun u => by
      rw [trips10]
      exact st_last d L A v B 2 u))

theorem t11_step (hv15 : ∀ x : S16.Idx, v15 x = v) (k : Fin k0_t11_loop.trips) (u : Unit) :
    StI d L A v B 3 k.val u ⊢ wp frame (wpE (defs₀ (F := F)) 𝒱₀ (thr d L) none) Set.univ
          (k0_t11_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 3 (k.val + 1)) := by
  have hk : k.val < 125 := lt_of_lt_of_eq k.isLt trips11
  unfold k0_t11_body
  beta_reduce
  rw [k0_part9_eq_skeleton, k0_part10_eq_skeleton]
  unfold k0_part9_skel k0_part10_skel
  simp only [Prog.lift, Prog.bind_op, Prog.bind_ret, Prog.pure_eq_ret]
  unfold StI
  iintro H
  iapply (stage_step d L A v B v15 hv15 3 k.val 0 (375 + k.val) 0 k.val (by decide) hk (by decide) rfl rfl rfl _ _ _ _ (cf68 k) (cf69 k) _ (fun _ => rfl) _ rfl) $$ H
  iintro H
  iapply (stage_step d L A v B v15 hv15 3 k.val 1 (375 + k.val) 16 k.val (by decide) hk (by decide) rfl rfl rfl _ _ _ _ (cf70 k) (cf71 k) _ (fun _ => rfl) _ rfl) $$ H
  iintro H
  iapply (stage_step d L A v B v15 hv15 3 k.val 2 (375 + k.val) 32 k.val (by decide) hk (by decide) rfl rfl rfl _ _ _ _ (cf72 k) (cf73 k) _ (fun _ => rfl) _ rfl) $$ H
  iintro H
  iapply (stage_step d L A v B v15 hv15 3 k.val 3 (375 + k.val) 48 k.val (by decide) hk (by decide) rfl rfl rfl _ _ _ _ (cf74 k) (cf75 k) _ (fun _ => rfl) _ rfl) $$ H
  iintro H
  iapply (stage_step d L A v B v15 hv15 3 k.val 4 (375 + k.val) 64 k.val (by decide) hk (by decide) rfl rfl rfl _ _ _ _ (cf76 k) (cf77 k) _ (fun _ => rfl) _ rfl) $$ H
  iintro H
  iapply (stage_step d L A v B v15 hv15 3 k.val 5 (375 + k.val) 80 k.val (by decide) hk (by decide) rfl rfl rfl _ _ _ _ (cf78 k) (cf79 k) _ (fun _ => rfl) _ rfl) $$ H
  iintro H
  iapply (stage_step d L A v B v15 hv15 3 k.val 6 (375 + k.val) 96 k.val (by decide) hk (by decide) rfl rfl rfl _ _ _ _ (cf80 k) (cf81 k) _ (fun _ => rfl) _ rfl) $$ H
  iintro H
  iapply (stage_step d L A v B v15 hv15 3 k.val 7 (375 + k.val) 112 k.val (by decide) hk (by decide) rfl rfl rfl _ _ _ _ (cf82 k) (cf83 k) _ (fun _ => rfl) _ rfl) $$ H
  iintro H
  sl_step
  iexact H

theorem t11_loop (hv15 : ∀ x : S16.Idx, v15 x = v) :
    (iprop((ml d L mAcc ↦[accSet 3]{fullShare} A) ∗ (ml d L mStage ↦{fullShare} B)) : sProp 𝕄) ⊢ wp frame (wpE (defs₀ (F := F)) 𝒱₀ (thr d L) none) Set.univ
          (Scf.Loop.for k0_t11_loop k0_t11_ok ⟨⟩ (k0_t11_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 3]{fullShare} (fun _ => 0#32)) ∗ (ml d L mStage ↦{fullShare} stageF A v 3))) :=
  (st_first d L A v B 3).trans (wp_loop (thr d L) none k0_t11_loop k0_t11_ok () _ (StI d L A v B 3) _
    (fun k u => t11_step d L A v B v15 t2 t3 hv15 k u)
    (fun u => by
      rw [trips11]
      exact st_last d L A v B 3 u))

theorem t12_step (arg1 : BitVec 32) (v0 : IVec S16 32) (v10 : Vec F S16 .f32) (c0 c1 : BitVec 32) (hv15 : ∀ x : S16.Idx, v15 x = v) (k : Fin k0_t12_loop.trips) (u : Unit) :
    StI d L A v B 4 k.val u ⊢ wp frame (wpE (defs₀ (F := F)) 𝒱₀ (thr d L) none) Set.univ
          (k0_t12_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 c0 c1 t3 k u)
          (StI d L A v B 4 (k.val + 1)) := by
  have hk : k.val < 125 := lt_of_lt_of_eq k.isLt trips12
  unfold k0_t12_body
  beta_reduce
  rw [k0_part11_eq_skeleton, k0_part12_eq_skeleton]
  unfold k0_part11_skel k0_part12_skel
  simp only [Prog.lift, Prog.bind_op, Prog.bind_ret, Prog.pure_eq_ret]
  unfold StI
  iintro H
  iapply (stage_step d L A v B v15 hv15 4 k.val 0 (500 + k.val) 0 k.val (by decide) hk (by decide) rfl rfl rfl _ _ _ _ (cf84 k) (cf85 k) _ (fun _ => rfl) _ rfl) $$ H
  iintro H
  iapply (stage_step d L A v B v15 hv15 4 k.val 1 (500 + k.val) 16 k.val (by decide) hk (by decide) rfl rfl rfl _ _ _ _ (cf86 k) (cf87 k) _ (fun _ => rfl) _ rfl) $$ H
  iintro H
  iapply (stage_step d L A v B v15 hv15 4 k.val 2 (500 + k.val) 32 k.val (by decide) hk (by decide) rfl rfl rfl _ _ _ _ (cf88 k) (cf89 k) _ (fun _ => rfl) _ rfl) $$ H
  iintro H
  iapply (stage_step d L A v B v15 hv15 4 k.val 3 (500 + k.val) 48 k.val (by decide) hk (by decide) rfl rfl rfl _ _ _ _ (cf90 k) (cf91 k) _ (fun _ => rfl) _ rfl) $$ H
  iintro H
  iapply (stage_step d L A v B v15 hv15 4 k.val 4 (500 + k.val) 64 k.val (by decide) hk (by decide) rfl rfl rfl _ _ _ _ (cf92 k) (cf93 k) _ (fun _ => rfl) _ rfl) $$ H
  iintro H
  iapply (stage_step d L A v B v15 hv15 4 k.val 5 (500 + k.val) 80 k.val (by decide) hk (by decide) rfl rfl rfl _ _ _ _ (cf94 k) (cf95 k) _ (fun _ => rfl) _ rfl) $$ H
  iintro H
  iapply (stage_step d L A v B v15 hv15 4 k.val 6 (500 + k.val) 96 k.val (by decide) hk (by decide) rfl rfl rfl _ _ _ _ (cf96 k) (cf97 k) _ (fun _ => rfl) _ rfl) $$ H
  iintro H
  iapply (stage_step d L A v B v15 hv15 4 k.val 7 (500 + k.val) 112 k.val (by decide) hk (by decide) rfl rfl rfl _ _ _ _ (cf98 k) (cf99 k) _ (fun _ => rfl) _ rfl) $$ H
  iintro H
  sl_step
  iexact H

theorem t12_loop (arg1 : BitVec 32) (v0 : IVec S16 32) (v10 : Vec F S16 .f32) (c0 c1 : BitVec 32) (hv15 : ∀ x : S16.Idx, v15 x = v) :
    (iprop((ml d L mAcc ↦[accSet 4]{fullShare} A) ∗ (ml d L mStage ↦{fullShare} B)) : sProp 𝕄) ⊢ wp frame (wpE (defs₀ (F := F)) 𝒱₀ (thr d L) none) Set.univ
          (Scf.Loop.for k0_t12_loop k0_t12_ok ⟨⟩ (k0_t12_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 c0 c1 t3))
          (fun _ => iprop((ml d L mAcc ↦[accSet 4]{fullShare} (fun _ => 0#32)) ∗ (ml d L mStage ↦{fullShare} stageF A v 4))) :=
  (st_first d L A v B 4).trans (wp_loop (thr d L) none k0_t12_loop k0_t12_ok () _ (StI d L A v B 4) _
    (fun k u => t12_step d L A v B v15 t2 t3 arg1 v0 v10 c0 c1 hv15 k u)
    (fun u => by
      rw [trips12]
      exact st_last d L A v B 4 u))

end Stage

end Cert.Kernel.Pf

end
-- ==== Proof.Tile6.lean ====
/-
  The copies of the task: an array row into a buffer, a slice of the accumulator and the stage out to the results.
-/
module

public import proofs.«01_k».proof.Proof.Tile5

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copy

variable (d : Dev nD) (L : grid0.Coords)
variable (O : CellTallies nD τ sig (HIx 1)) (W : Waits sig (HIx 1))

/-- A local copy issued, what it will deliver named. -/
theorem copy_issue {sp sp' : Space} {s₀ : Shape} {e₀ : EltTy} {src : Memref sig (thr d L).2.kind sp s₀ e₀} {dst : Memref sig (thr d L).2.kind sp' s₀ e₀} {sm : DmaSem sig} (sm' : DmaSem sig)
    {h1 : src.view.WordExact} {h2 : dst.view.WordExact} {h3 : DmaTarget.Typed (nD := nD) sp (.dma sm) (.here dst)} {q : PosShare TreeShare}
    {fs : Buf (Elt F) (src.view.loc (thr d L))} {fd : Buf (Elt F) (dst.view.loc (thr d L))}
    (Ss : Finset (Idx (src.view.loc (thr d L)))) (Sd : Finset (Idx (dst.view.loc (thr d L)))) (gd : Buf (Elt F) (dst.view.loc (thr d L)))
    (hsm : sm = sm') (hS : src.view.set = Ss) (hD : dst.view.set = Sd) (hl : ∀ p ∈ Sd, dst.view.write (Elt F) fd (src.view.read (Elt F) fs) Finset.univ p = gd p)
    (N : ℕ) (hN : dst.view.amount (.dma sm') = N) (hN0 : 0 < N)
    {α : Type} {Q : α → sProp 𝕄} {kk : PUnit → Prog (TpuEff nD τ sig (Elt F) Λ₀ (thr d L).2) α} :
    iprop((src.view.loc (thr d L) ↦[Ss]{q} fs) ∗ (dst.view.loc (thr d L) ↦[Sd]{fullShare} fd) ∗ semVal (thr d L, .dma sm') 0)
      ⊢ iprop((Transfers.Flight EC (thr d L) (.dma sm') none N iprop((dst.view.loc (thr d L) ↦[Sd]{fullShare} gd) ∗ (src.view.loc (thr d L) ↦[Ss]{q} fs))
          -∗ wp frame (wpE (defs₀ (F := F)) 𝒱₀ (thr d L) none) Set.univ (kk ⟨⟩) Q)
        -∗ wp frame (wpE (defs₀ (F := F)) 𝒱₀ (thr d L) none) Set.univ (.op (.enqueueDma src (.here dst) (.dma sm) h1 h2 h3) kk) Q) := by
  subst hsm hS hD
  have e := Transfers.wp_dmaLocal (defs := defs₀ (F := F)) EC 𝒱₀ (thr d L) none (via := .same) (hsrc := h1) (hdst := h2) (hsem := h3) (src := src) (dst := dst) (q := q) (fs := fs) (fd := fd) (k := kk) (Q := Q) none N hN hN0 (Finset.Subset.refl _)
  have e2 : (dst.view.loc (thr d L) ↦[dst.view.set]{fullShare} dst.view.write (Elt F) fd (src.view.read (Elt F) fs) Finset.univ : sProp 𝕄)
      = (dst.view.loc (thr d L) ↦[dst.view.set]{fullShare} gd) := pointsTo_congr hl
  rw [← e2]
  exact e

/-- A copy waited for. -/
theorem copy_wait {sp sp' : Space} {s₀ s' : Shape} {e₀ e' : EltTy} {src : Memref sig (thr d L).2.kind sp s' e'} {dst : Memref sig (thr d L).2.kind sp' s₀ e₀} {sm : DmaSem sig} (sm' : DmaSem sig)
    {h1 : src.view.WordExact} {h2 : dst.view.WordExact} (hsm : sm = sm') (hO : ∀ g, O g none = 0) (N : ℕ) (hN : dst.view.dmaCredit = N) {P : sProp 𝕄}
    {α : Type} {Q : α → sProp 𝕄} {kk : PUnit → Prog (TpuEff nD τ sig (Elt F) Λ₀ (thr d L).2) α} :
    iprop(Lv (F := F) ∗ Transfers.Flight EC (thr d L) (.dma sm') none N P ∗ OW (F := F) d L O W)
      ⊢ iprop((P -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm src dst h1 h2) kk) Q) := by
  subst hsm
  unfold OW
  iintro ⟨#Hlv, HF, ⟨%W', %hW, HO⟩⟩ Hk
  iapply (Transfers.wp_waitLocalO EC 𝒱₀ (thr d L) none (srcw := src) (dstw := dst) none (N := N) hN (D := P)) $$ [HF HO]
  · isplitl [HF]; · iexact HF
    isplitl [HO]; · iexact HO
    iapply ((K (F := F)).mayWait_none _ hO); iexact Hlv
  iintro ⟨HP, Hs, HO⟩
  ihave HO := (ow_put (F := F) d L O W (.dma sm) hW) $$ HO
  iapply Hk $$ HP Hs
  unfold OW
  iexact HO

end Copy

/-! ## The accumulator in its five slices -/

abbrev aS (off : Fin 2 → ℕ) (inb : ∀ a, off a + S125x128.size a ≤ S625x128.size a) : Memref sig .scVector .vmem S125x128 .i32 :=
  mAcc.slice (Rect.unit (s := S625x128) off S125x128.size inb) (fun _ => rfl)

theorem aS_set (off inb) (s : ℕ) (h : off = ![125 * s, 0]) : (aS off inb).view.set = accSet s := by
  subst h
  ext p
  rw [mem_accSet, show p ∈ (aS ![125 * s, 0] inb).view.set ↔ _ from mem_slice cc0_scratch0 inb p]
  constructor
  · intro h
    have h0 := h 0
    have h0 : 125 * s ≤ (p 0).val ∧ (p 0).val < 125 * s + 125 := h0
    omega
  · intro h a
    match a with
    | 0 => show 125 * s ≤ (p 0).val ∧ (p 0).val < 125 * s + 125; omega
    | 1 => have : (p 1).val < 128 := (p 1).isLt
           show 0 ≤ (p 1).val ∧ (p 1).val < 0 + 128; omega

/-! ## A channel of a result in its five slices -/

abbrev dF (off : Fin 5 → ℕ) (inb : ∀ a, off a + S1x1x125x1x128.size a ≤ S6x20x625x8x128.size a) : Memref sig .scVector .hbm S125x128 .i32 :=
  (mOF.slice (Rect.unit (s := S6x20x625x8x128) off S1x1x125x1x128.size inb) (fun _ => rfl)).squeeze S125x128 squeezes_S1x1x125x1x128_S125x128
abbrev dG (off : Fin 5 → ℕ) (inb : ∀ a, off a + S1x1x125x1x128.size a ≤ S6x20x625x8x128.size a) : Memref sig .scVector .hbm S125x128 .f32 :=
  (mOG.slice (Rect.unit (s := S6x20x625x8x128) off S1x1x125x1x128.size inb) (fun _ => rfl)).squeeze S125x128 squeezes_S1x1x125x1x128_S125x128

/-- Slice `s` of channel `ch` of table `t` of a result. -/
def outSet (t ch s : ℕ) : Finset S6x20x625x8x128.Idx :=
  Finset.univ.filter fun p => (p 0).val = t ∧ 8 * (p 1).val + (p 3).val = ch ∧ (p 2).val / 125 = s
theorem mem_outSet {t ch s : ℕ} {p : S6x20x625x8x128.Idx} : p ∈ outSet t ch s ↔ (p 0).val = t ∧ 8 * (p 1).val + (p 3).val = ch ∧ (p 2).val / 125 = s := by simp [outSet]

theorem out_rect (off inb) (t ch s : ℕ) (h : off = ![t, ch / 8, 125 * s, ch % 8, 0]) :
    (Rect.unit (s := S6x20x625x8x128) off S1x1x125x1x128.size inb).set = outSet t ch s := by
  subst h
  ext p
  rw [mem_outSet, Rect.mem_set_unit]
  have p0 : (p 0).val < 6 := (p 0).isLt
  have p1 : (p 1).val < 20 := (p 1).isLt
  have p3 : (p 3).val < 8 := (p 3).isLt
  have p4 : (p 4).val < 128 := (p 4).isLt
  constructor
  · intro h
    have h0 : t ≤ (p 0).val ∧ (p 0).val < t + 1 := h 0
    have h1 : ch / 8 ≤ (p 1).val ∧ (p 1).val < ch / 8 + 1 := h 1
    have h2 : 125 * s ≤ (p 2).val ∧ (p 2).val < 125 * s + 125 := h 2
    have h3 : ch % 8 ≤ (p 3).val ∧ (p 3).val < ch % 8 + 1 := h 3
    omega
  · intro h a
    match a with
    | 0 => show t ≤ (p 0).val ∧ (p 0).val < t + 1; omega
    | 1 => show ch / 8 ≤ (p 1).val ∧ (p 1).val < ch / 8 + 1; omega
    | 2 => show 125 * s ≤ (p 2).val ∧ (p 2).val < 125 * s + 125; omega
    | 3 => show ch % 8 ≤ (p 3).val ∧ (p 3).val < ch % 8 + 1; omega
    | 4 => show 0 ≤ (p 4).val ∧ (p 4).val < 0 + 128; omega

theorem dF_set (off inb) (t ch s : ℕ) (h : off = ![t, ch / 8, 125 * s, ch % 8, 0]) : (dF off inb).view.set = outSet t ch s :=
  (sq_set _ _ _ _ _ _ _).trans (out_rect off inb t ch s h)
theorem dG_set (off inb) (t ch s : ℕ) (h : off = ![t, ch / 8, 125 * s, ch % 8, 0]) : (dG off inb).view.set = outSet t ch s :=
  (sq_set _ _ _ _ _ _ _).trans (out_rect off inb t ch s h)

theorem re125 (x : Fin 125) (y : Fin 128) :
    Shape.reshapeEquiv (s := S1x1x125x1x128) (s' := S125x128) squeezes_S1x1x125x1x128_S125x128.numel_eq (ix2 x y) = ix5 0 0 x 0 y := by
  refine Shape.reshapeEquiv_eq_of_vals _ _ _ _ _ (rowMajor_val5 _ (125 * 128) (125 * 128) 128 128 rfl rfl rfl rfl) (rowMajor_val2 _ 128 rfl) ?_
  show 0 * (125 * 128) + 0 * (125 * 128) + x.val * 128 + 0 * 128 + y.val = x.val * 128 + y.val
  omega

/-- An accumulator laid out as the result's. -/
def outF (A : S625x128.Idx → BitVec 32) : S6x20x625x8x128.Idx → BitVec 32 := fun p => A (ix2 (p 2) (p 4))
/-- The same converted and scaled. -/
def outG (A : S625x128.Idx → BitVec 32) (v : F .f32) : S6x20x625x8x128.Idx → F .f32 := fun p => gradV (A (ix2 (p 2) (p 4))) v

theorem dF_at (off inb) (t ch s : ℕ) (h : off = ![t, ch / 8, 125 * s, ch % 8, 0]) (p : S6x20x625x8x128.Idx) (hp : p ∈ outSet t ch s) (hb : (p 2).val - 125 * s < 125) :
    (dF off inb).view.emb (ix2 ⟨(p 2).val - 125 * s, hb⟩ (p 4)) = p := by
  subst h
  rw [mem_outSet] at hp
  have p3 : (p 3).val < 8 := (p 3).isLt
  funext a
  apply Fin.ext
  refine (sq_emb main_v11_1_scv _ _ inb S125x128 squeezes_S1x1x125x1x128_S125x128 (fun _ => rfl) _ a).trans ?_
  rw [show Shape.reshapeEquiv (s := (Rect.unit (s := S6x20x625x8x128) ![t, ch / 8, 125 * s, ch % 8, 0] S1x1x125x1x128.size inb).shape) (s' := S125x128) squeezes_S1x1x125x1x128_S125x128.numel_eq
    (ix2 ⟨(p 2).val - 125 * s, hb⟩ (p 4)) = ix5 0 0 ⟨(p 2).val - 125 * s, hb⟩ 0 (p 4) from re125 _ _]
  match a with
  | 0 => show t + 0 = (p 0).val; omega
  | 1 => show ch / 8 + 0 = (p 1).val; omega
  | 2 => show 125 * s + ((p 2).val - 125 * s) = (p 2).val; omega
  | 3 => show ch % 8 + 0 = (p 3).val; omega
  | 4 => show 0 + (p 4).val = (p 4).val; omega
theorem dG_at (off inb) (t ch s : ℕ) (h : off = ![t, ch / 8, 125 * s, ch % 8, 0]) (p : S6x20x625x8x128.Idx) (hp : p ∈ outSet t ch s) (hb : (p 2).val - 125 * s < 125) :
    (dG off inb).view.emb (ix2 ⟨(p 2).val - 125 * s, hb⟩ (p 4)) = p := dF_at off inb t ch s h p hp hb

theorem dF_land (A : S625x128.Idx → BitVec 32) (fd : S6x20x625x8x128.Idx → BitVec 32) (o1 i1 o2 i2) (t ch s : ℕ) (h1 : o1 = ![125 * s, 0]) (h2 : o2 = ![t, ch / 8, 125 * s, ch % 8, 0]) :
    ∀ p ∈ outSet t ch s, (dF o2 i2).view.write (Elt F) fd ((aS o1 i1).view.read (Elt F) A) Finset.univ p = outF A p := by
  intro p hp
  have hp' := mem_outSet.mp hp
  have hb : (p 2).val - 125 * s < 125 := by omega
  conv_lhs => rw [← dF_at o2 i2 t ch s h2 p hp hb]
  refine (View.write_emb_of_mem (v := (dF o2 i2).view) (Val := Elt F) fd _ (Finset.mem_univ _)).trans ?_
  show A ((aS o1 i1).view.emb (ix2 ⟨(p 2).val - 125 * s, hb⟩ (p 4))) = A (ix2 (p 2) (p 4))
  congr 1
  subst h1
  funext a
  apply Fin.ext
  refine (emb_slice_val cc0_scratch0 i1 _ a).trans ?_
  match a with
  | 0 => show 125 * s + ((p 2).val - 125 * s) = (p 2).val; omega
  | 1 => show 0 + (p 4).val = (p 4).val; omega

theorem dG_land (A : S625x128.Idx → BitVec 32) (v : F .f32) (fd : S6x20x625x8x128.Idx → F .f32) (o2 i2) (t ch s : ℕ) (h2 : o2 = ![t, ch / 8, 125 * s, ch % 8, 0]) :
    ∀ p ∈ outSet t ch s, (dG o2 i2).view.write (Elt F) fd (mStage.view.read (Elt F) (stageF A v s)) Finset.univ p = outG A v p := by
  intro p hp
  have hp' := mem_outSet.mp hp
  have hb : (p 2).val - 125 * s < 125 := by omega
  conv_lhs => rw [← dG_at o2 i2 t ch s h2 p hp hb]
  refine (View.write_emb_of_mem (v := (dG o2 i2).view) (Val := Elt F) fd _ (Finset.mem_univ _)).trans ?_
  show gradV (A (ixm S625x128 _ ![125 * s + ((p 2).val - 125 * s), (p 4).val])) v = gradV (A (ix2 (p 2) (p 4))) v
  congr 2
  refine ixm_eq _ fun a => ?_
  match a with
  | 0 => show 125 * s + ((p 2).val - 125 * s) = (p 2).val; omega
  | 1 => rfl

abbrev NF : ℕ := main_v11_1_scv.dmaCredit S125x128 .i32
theorem NF_pos : 0 < NF := by decide

section Pieces

variable (d : Dev nD) (L : grid0.Coords)
variable (O : CellTallies nD τ sig (HIx 1)) (W : Waits sig (HIx 1))

/-- Slice `s` of the accumulator on its way out. -/
def FlF (A : S625x128.Idx → BitVec 32) (t ch s : ℕ) (sm : DmaSem sig) : sProp 𝕄 :=
  Transfers.Flight EC (thr d L) (.dma sm) none NF iprop((ml d L mOF ↦[outSet t ch s]{fullShare} outF A) ∗ (ml d L mAcc ↦[accSet s]{fullShare} A))
/-- The stage on its way out as slice `s`. -/
def FlG (A : S625x128.Idx → BitVec 32) (v : F .f32) (t ch s : ℕ) (sm : DmaSem sig) : sProp 𝕄 :=
  Transfers.Flight EC (thr d L) (.dma sm) none NF iprop((ml d L mOG ↦[outSet t ch s]{fullShare} outG A v) ∗ (ml d L mStage ↦{fullShare} stageF A v s))

theorem fixed_issue (A : S625x128.Idx → BitVec 32) (fd : S6x20x625x8x128.Idx → BitVec 32) (t ch s : ℕ) (sm' : DmaSem sig) {sm : DmaSem sig} (hsm : sm = sm') (o1 i1 o2 i2) (h1 : o1 = ![125 * s, 0])
    (h2 : o2 = ![t, ch / 8, 125 * s, ch % 8, 0]) {w1 w2 w3}
    {α : Type} {Q : α → sProp 𝕄} {kk : PUnit → Prog (TpuEff nD τ sig (Elt F) Λ₀ (thr d L).2) α} :
    iprop((ml d L mAcc ↦[accSet s]{fullShare} A) ∗ (ml d L mOF ↦[outSet t ch s]{fullShare} fd) ∗ semVal (thr d L, .dma sm') 0)
      ⊢ iprop((FlF d L A t ch s sm' -∗ wp frame (wpE (defs₀ (F := F)) 𝒱₀ (thr d L) none) Set.univ (kk ⟨⟩) Q)
        -∗ wp frame (wpE (defs₀ (F := F)) 𝒱₀ (thr d L) none) Set.univ (.op (.enqueueDma (aS o1 i1) (.here (dF o2 i2)) (.dma sm) w1 w2 w3) kk) Q) :=
  copy_issue d L (src := aS o1 i1) (dst := dF o2 i2) (fs := A) (fd := fd) sm' (accSet s) (outSet t ch s) (outF A) hsm (aS_set o1 i1 s h1) (dF_set o2 i2 t ch s h2)
    (dF_land A fd o1 i1 o2 i2 t ch s h1 h2) NF rfl NF_pos

theorem grad_issue (A : S625x128.Idx → BitVec 32) (v : F .f32) (fd : S6x20x625x8x128.Idx → F .f32) (t ch s : ℕ) (sm' : DmaSem sig) {sm : DmaSem sig} (hsm : sm = sm') (o2 i2)
    (h2 : o2 = ![t, ch / 8, 125 * s, ch % 8, 0]) {w1 w2 w3}
    {α : Type} {Q : α → sProp 𝕄} {kk : PUnit → Prog (TpuEff nD τ sig (Elt F) Λ₀ (thr d L).2) α} :
    iprop((ml d L mStage ↦{fullShare} stageF A v s) ∗ (ml d L mOG ↦[outSet t ch s]{fullShare} fd) ∗ semVal (thr d L, .dma sm') 0)
      ⊢ iprop((FlG d L A v t ch s sm' -∗ wp frame (wpE (defs₀ (F := F)) 𝒱₀ (thr d L) none) Set.univ (kk ⟨⟩) Q)
        -∗ wp frame (wpE (defs₀ (F := F)) 𝒱₀ (thr d L) none) Set.univ (.op (.enqueueDma mStage (.here (dG o2 i2)) (.dma sm) w1 w2 w3) kk) Q) :=
  copy_issue d L (src := mStage) (dst := dG o2 i2) (fs := stageF A v s) (fd := fd) sm' Finset.univ (outSet t ch s) (outG A v) hsm (View.set_whole _) (dG_set o2 i2 t ch s h2)
    (dG_land A v fd o2 i2 t ch s h2) NF rfl NF_pos

theorem fixed_wait (A : S625x128.Idx → BitVec 32) (t ch s : ℕ) (sm' : DmaSem sig) {sm : DmaSem sig} (hsm : sm = sm') (hO : ∀ g, O g none = 0) (o1 i1 o2 i2) {w1 w2}
    {α : Type} {Q : α → sProp 𝕄} {kk : PUnit → Prog (TpuEff nD τ sig (Elt F) Λ₀ (thr d L).2) α} :
    iprop(Lv (F := F) ∗ FlF d L A t ch s sm' ∗ OW (F := F) d L O W)
      ⊢ iprop((iprop((ml d L mOF ↦[outSet t ch s]{fullShare} outF A) ∗ (ml d L mAcc ↦[accSet s]{fullShare} A)) -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm (aS o1 i1) (dF o2 i2) w1 w2) kk) Q) :=
  copy_wait d L O W (src := aS o1 i1) (dst := dF o2 i2) sm' hsm hO NF rfl

theorem grad_wait (A : S625x128.Idx → BitVec 32) (v : F .f32) (t ch s : ℕ) (sm' : DmaSem sig) {sm : DmaSem sig} (hsm : sm = sm') (hO : ∀ g, O g none = 0) (o2 i2) {w1 w2}
    {α : Type} {Q : α → sProp 𝕄} {kk : PUnit → Prog (TpuEff nD τ sig (Elt F) Λ₀ (thr d L).2) α} :
    iprop(Lv (F := F) ∗ FlG d L A v t ch s sm' ∗ OW (F := F) d L O W)
      ⊢ iprop((iprop((ml d L mOG ↦[outSet t ch s]{fullShare} outG A v) ∗ (ml d L mStage ↦{fullShare} stageF A v s)) -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm mStage (dG o2 i2) w1 w2) kk) Q) :=
  copy_wait d L O W (src := mStage) (dst := dG o2 i2) sm' hsm hO NF rfl

end Pieces

end Cert.Kernel.Pf

end
-- ==== Proof.Tile7.lean ====
/-
  The fetches of a task and the splitting of its buffers.
-/
module

public import proofs.«01_k».proof.Proof.Tile6

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Splitting -/

theorem split5 {ℓ : Loc nD τ sig} {S : Finset (Idx ℓ)} {q : PosShare TreeShare} (f : Buf (Elt F) ℓ) (T : ℕ → Finset (Idx ℓ))
    (hU : S = T 0 ∪ (T 1 ∪ (T 2 ∪ (T 3 ∪ T 4)))) (hd : ∀ a b, a ≠ b → Disjoint (T a) (T b)) :
    (ℓ ↦[S]{q} f : sProp 𝕄) = iprop((ℓ ↦[T 0]{q} f) ∗ (ℓ ↦[T 1]{q} f) ∗ (ℓ ↦[T 2]{q} f) ∗ (ℓ ↦[T 3]{q} f) ∗ ℓ ↦[T 4]{q} f) := by
  have hu : ∀ {A B : Finset (Idx ℓ)}, Disjoint A B → (ℓ ↦[A ∪ B]{q} f : sProp 𝕄) = iprop((ℓ ↦[A]{q} f) ∗ ℓ ↦[B]{q} f) := fun h =>
    BI.equiv_iff.mp ⟨(pointsTo_union h).1, (pointsTo_union h).2⟩
  rw [hU, hu, hu, hu, hu (hd 3 4 (by decide))]
  · simp only [Finset.disjoint_union_right]; exact ⟨hd 2 3 (by decide), hd 2 4 (by decide)⟩
  · simp only [Finset.disjoint_union_right]; exact ⟨hd 1 2 (by decide), hd 1 3 (by decide), hd 1 4 (by decide)⟩
  · simp only [Finset.disjoint_union_right]; exact ⟨hd 0 1 (by decide), hd 0 2 (by decide), hd 0 3 (by decide), hd 0 4 (by decide)⟩

theorem five {n : ℕ} (h : n < 5) : n = 0 ∨ n = 1 ∨ n = 2 ∨ n = 3 ∨ n = 4 := by omega

theorem acc_univ : (Finset.univ : Finset S625x128.Idx) = accSet 0 ∪ (accSet 1 ∪ (accSet 2 ∪ (accSet 3 ∪ accSet 4))) := by
  ext p
  simp only [Finset.mem_union, mem_accSet, Finset.mem_univ, true_iff]
  have : (p 0).val < 625 := (p 0).isLt
  exact five (by omega)
theorem acc_disj (a b : ℕ) (h : a ≠ b) : Disjoint (accSet a) (accSet b) := by
  rw [Finset.disjoint_left]
  intro p h1 h2
  rw [mem_accSet] at h1 h2
  exact h (h1.symm.trans h2)

/-- Channel `ch` of table `t` of a result. -/
def chanSet (t ch : ℕ) : Finset S6x20x625x8x128.Idx := Finset.univ.filter fun p => (p 0).val = t ∧ 8 * (p 1).val + (p 3).val = ch
theorem mem_chanSet {t ch : ℕ} {p : S6x20x625x8x128.Idx} : p ∈ chanSet t ch ↔ (p 0).val = t ∧ 8 * (p 1).val + (p 3).val = ch := by simp [chanSet]
theorem chan_eq (t ch : ℕ) : chanSet t ch = outSet t ch 0 ∪ (outSet t ch 1 ∪ (outSet t ch 2 ∪ (outSet t ch 3 ∪ outSet t ch 4))) := by
  ext p
  simp only [Finset.mem_union, mem_outSet, mem_chanSet]
  have : (p 2).val < 625 := (p 2).isLt
  have := five (n := (p 2).val / 125) (by omega)
  constructor
  · rintro ⟨h1, h2⟩
    simp only [h1, h2, true_and]
    exact this
  · rintro (h | h | h | h | h) <;> exact ⟨h.1, h.2.1⟩
theorem out_disj (t ch a b : ℕ) (h : a ≠ b) : Disjoint (outSet t ch a) (outSet t ch b) := by
  rw [Finset.disjoint_left]
  intro p h1 h2
  rw [mem_outSet] at h1 h2
  exact h (h1.2.2.symm.trans h2.2.2)

/-- The channels of a task before channel number `n` of its thirty, and the rest. -/
def doneSet (L : grid0.Coords) (n : ℕ) : Finset S6x20x625x8x128.Idx := Finset.univ.filter fun p =>
  (3 * (L 0).val ≤ (p 0).val ∧ (p 0).val < 3 * (L 0).val + 3 ∧ 10 * (L 1).val ≤ 8 * (p 1).val + (p 3).val ∧ 8 * (p 1).val + (p 3).val < 10 * (L 1).val + 10)
    ∧ 10 * ((p 0).val - 3 * (L 0).val) + (8 * (p 1).val + (p 3).val - 10 * (L 1).val) < n
def todoSet (L : grid0.Coords) (n : ℕ) : Finset S6x20x625x8x128.Idx := Finset.univ.filter fun p =>
  (3 * (L 0).val ≤ (p 0).val ∧ (p 0).val < 3 * (L 0).val + 3 ∧ 10 * (L 1).val ≤ 8 * (p 1).val + (p 3).val ∧ 8 * (p 1).val + (p 3).val < 10 * (L 1).val + 10)
    ∧ n ≤ 10 * ((p 0).val - 3 * (L 0).val) + (8 * (p 1).val + (p 3).val - 10 * (L 1).val)

theorem mem_doneSet {L : grid0.Coords} {n : ℕ} {p : S6x20x625x8x128.Idx} : p ∈ doneSet L n ↔
  (3 * (L 0).val ≤ (p 0).val ∧ (p 0).val < 3 * (L 0).val + 3 ∧ 10 * (L 1).val ≤ 8 * (p 1).val + (p 3).val ∧ 8 * (p 1).val + (p 3).val < 10 * (L 1).val + 10)
    ∧ 10 * ((p 0).val - 3 * (L 0).val) + (8 * (p 1).val + (p 3).val - 10 * (L 1).val) < n := by simp [doneSet]
theorem mem_todoSet {L : grid0.Coords} {n : ℕ} {p : S6x20x625x8x128.Idx} : p ∈ todoSet L n ↔
  (3 * (L 0).val ≤ (p 0).val ∧ (p 0).val < 3 * (L 0).val + 3 ∧ 10 * (L 1).val ≤ 8 * (p 1).val + (p 3).val ∧ 8 * (p 1).val + (p 3).val < 10 * (L 1).val + 10)
    ∧ n ≤ 10 * ((p 0).val - 3 * (L 0).val) + (8 * (p 1).val + (p 3).val - 10 * (L 1).val) := by simp [todoSet]

theorem chan_todo (L : grid0.Coords) {t2 t3 : ℕ} (h2 : t2 < 3) (h3 : t3 < 10) : chanSet (tabN L t2) (chN L t3) ⊆ todoSet L (10 * t2 + t3) := by
  intro p hp
  rw [mem_chanSet] at hp
  rw [mem_todoSet]
  unfold tabN chN at hp
  omega
theorem todo_succ (L : grid0.Coords) {t2 t3 : ℕ} (h2 : t2 < 3) (h3 : t3 < 10) :
    todoSet L (10 * t2 + t3) \ chanSet (tabN L t2) (chN L t3) = todoSet L (10 * t2 + t3 + 1) := by
  ext p
  rw [Finset.mem_sdiff, mem_chanSet, mem_todoSet, mem_todoSet]
  unfold tabN chN
  omega
theorem chan_done (L : grid0.Coords) {t2 t3 : ℕ} (h2 : t2 < 3) (h3 : t3 < 10) : chanSet (tabN L t2) (chN L t3) ⊆ doneSet L (10 * t2 + t3 + 1) := by
  intro p hp
  rw [mem_chanSet] at hp
  rw [mem_doneSet]
  unfold tabN chN at hp
  omega
theorem done_succ (L : grid0.Coords) {t2 t3 : ℕ} (h2 : t2 < 3) (h3 : t3 < 10) :
    doneSet L (10 * t2 + t3 + 1) \ chanSet (tabN L t2) (chN L t3) = doneSet L (10 * t2 + t3) := by
  ext p
  rw [Finset.mem_sdiff, mem_chanSet, mem_doneSet, mem_doneSet]
  unfold tabN chN
  omega

/-! ## The results -/

section Targets

variable (g5 : S6x20x19x8x128.Idx → F .f32) (ids : S6x2400x128.Idx → BitVec 32) (wts : S6x2400x128.Idx → F .f32)
  (len : S6x2400.Idx → BitVec 32) (sc : S192.Idx → F .f32)

def fixT : S6x20x625x8x128.Idx → BitVec 32 := fun p =>
  accN g5 ids wts len sc (p 0).val (8 * (p 1).val + (p 3).val) 2400 (128 * (p 2).val + (p 4).val)
def gradT : S6x20x625x8x128.Idx → F .f32 := fun p => gradV (fixT g5 ids wts len sc p) (sc (i1 (32 * (p 0).val + 16)))

theorem outF_eq (t ch : ℕ) : ∀ p ∈ chanSet t ch, outF (accF g5 ids wts len sc t ch 2400) p = fixT g5 ids wts len sc p := by
  intro p hp
  obtain ⟨rfl, rfl⟩ := mem_chanSet.mp hp
  rfl
theorem outG_eq (t ch : ℕ) : ∀ p ∈ chanSet t ch, outG (accF g5 ids wts len sc t ch 2400) (sc (i1 (32 * t + 16))) p = gradT g5 ids wts len sc p := by
  intro p hp
  obtain ⟨rfl, rfl⟩ := mem_chanSet.mp hp
  rfl

end Targets

/-! ## The fetches -/

abbrev gSrc (off : Fin 5 → ℕ) (inb : ∀ a, off a + S1x1x19x1x128.size a ≤ S6x20x19x8x128.size a) : Memref sig .scVector .hbm S19x128 .f32 :=
  (mG5.slice (Rect.unit (s := S6x20x19x8x128) off S1x1x19x1x128.size inb) (fun _ => rfl)).squeeze S19x128 squeezes_S1x1x19x1x128_S19x128
abbrev lSrc (off : Fin 2 → ℕ) (inb : ∀ a, off a + S1x2400.size a ≤ S6x2400.size a) : Memref sig .scVector .hbm S2400 .i32 :=
  (mLen.slice (Rect.unit (s := S6x2400) off S1x2400.size inb) (fun _ => rfl)).squeeze S2400 squeezes_S1x2400_S2400

theorem re19 (x : Fin 19) (y : Fin 128) :
    Shape.reshapeEquiv (s := S1x1x19x1x128) (s' := S19x128) squeezes_S1x1x19x1x128_S19x128.numel_eq (ix2 x y) = ix5 0 0 x 0 y := by
  refine Shape.reshapeEquiv_eq_of_vals _ _ _ _ _ (rowMajor_val5 _ (19 * 128) (19 * 128) 128 128 rfl rfl rfl rfl) (rowMajor_val2 _ 128 rfl) ?_
  show 0 * (19 * 128) + 0 * (19 * 128) + x.val * 128 + 0 * 128 + y.val = x.val * 128 + y.val
  omega
theorem re2400 (x : Fin 2400) : Shape.reshapeEquiv (s := S1x2400) (s' := S2400) squeezes_S1x2400_S2400.numel_eq (ix1 x) = ix2 0 x := by
  refine Shape.reshapeEquiv_eq_of_vals _ _ _ _ _ (rowMajor_val2 _ 2400 rfl) (rowMajor_val1 _) ?_
  show 0 * 2400 + x.val = x.val
  omega

def gRow (g5 : S6x20x19x8x128.Idx → F .f32) (t ch : ℕ) : S19x128.Idx → F .f32 := fun i => g5 (i5 t (ch / 8) (i 0).val (ch % 8) (i 1).val)
def lRow (len : S6x2400.Idx → BitVec 32) (t : ℕ) : S2400.Idx → BitVec 32 := fun i => len (i2 t (i 0).val)
theorem gRow_row (g5 : S6x20x19x8x128.Idx → F .f32) (t ch : ℕ) : RowG g5 t ch (gRow g5 t ch) := fun _ => rfl
theorem lRow_row (len : S6x2400.Idx → BitVec 32) (t : ℕ) : RowL len t (lRow len t) := fun _ => rfl

theorem g_land (g5 : S6x20x19x8x128.Idx → F .f32) (fd : S19x128.Idx → F .f32) (o i) (t ch : ℕ) (h : o = ![t, ch / 8, 0, ch % 8, 0]) :
    ∀ p ∈ (Finset.univ : Finset S19x128.Idx), mGV.view.write (Elt F) fd ((gSrc o i).view.read (Elt F) g5) Finset.univ p = gRow g5 t ch p := by
  intro p _
  refine (View.write_emb_of_mem (v := mGV.view) (Val := Elt F) fd _ (Finset.mem_univ p)).trans ?_
  show g5 ((gSrc o i).view.emb p) = _
  unfold gRow
  congr 1
  subst h
  refine (ixm_eq _ fun a => ?_).symm
  refine Eq.trans ?_ (sq_emb main_v7_scv _ _ i S19x128 squeezes_S1x1x19x1x128_S19x128 (fun _ => rfl) p a).symm
  rw [eq_ix2 p, show Shape.reshapeEquiv (s := (Rect.unit (s := S6x20x19x8x128) ![t, ch / 8, 0, ch % 8, 0] S1x1x19x1x128.size i).shape) (s' := S19x128) squeezes_S1x1x19x1x128_S19x128.numel_eq
    (ix2 (p 0) (p 1)) = ix5 0 0 (p 0) 0 (p 1) from re19 _ _]
  match a with
  | 0 => rfl
  | 1 => rfl
  | 2 => show (p 0).val = 0 + (p 0).val; omega
  | 3 => rfl
  | 4 => show (p 1).val = 0 + (p 1).val; omega

theorem l_land (len : S6x2400.Idx → BitVec 32) (fd : S2400.Idx → BitVec 32) (o i) (t : ℕ) (h : o = ![t, 0]) :
    ∀ p ∈ (Finset.univ : Finset S2400.Idx), mLenV.view.write (Elt F) fd ((lSrc o i).view.read (Elt F) len) Finset.univ p = lRow len t p := by
  intro p _
  refine (View.write_emb_of_mem (v := mLenV.view) (Val := Elt F) fd _ (Finset.mem_univ p)).trans ?_
  show len ((lSrc o i).view.emb p) = _
  unfold lRow
  congr 1
  subst h
  refine (ixm_eq _ fun a => ?_).symm
  refine Eq.trans ?_ (sq_emb main_v10_scv _ _ i S2400 squeezes_S1x2400_S2400 (fun _ => rfl) p a).symm
  rw [eq_ix1 p, show Shape.reshapeEquiv (s := (Rect.unit (s := S6x2400) ![t, 0] S1x2400.size i).shape) (s' := S2400) squeezes_S1x2400_S2400.numel_eq
    (ix1 (p 0)) = ix2 0 (p 0) from re2400 _]
  match a with
  | 0 => rfl
  | 1 => show (p 0).val = 0 + (p 0).val; omega

end Cert.Kernel.Pf

end
-- ==== Proof.Tile8.lean ====
/-
  One channel of a task.
-/
module

public import proofs.«01_k».proof.Proof.Tile7

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task's copy semaphores. -/
abbrev dC (n : ℕ) (h : n < 11 := by decide) : DmaSem sig := ⟨n, h⟩

abbrev NG : ℕ := cc0_scratch4.dmaCredit S19x128 .f32
theorem NG_pos : 0 < NG := by decide
abbrev NL : ℕ := cc0_scratch5.dmaCredit S2400 .i32
theorem NL_pos : 0 < NL := by decide

section Channel

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)
variable (O : CellTallies nD τ sig (HIx 1)) (W : Waits sig (HIx 1))

/-- The semaphores of the copies out, at rest. -/
def OutSems : sProp 𝕄 :=
  iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0)

theorem out_open : OutSems (F := F) d L ⊢ iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0) := by
  unfold OutSems
  exact .rfl
theorem out_close : (iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0) : sProp 𝕄) ⊢ OutSems (F := F) d L := by
  unfold OutSems
  exact .rfl

theorem acc_open (f : S625x128.Idx → BitVec 32) : (iprop(ml d L mAcc ↦{fullShare} f) : sProp 𝕄) ⊢ iprop((ml d L mAcc ↦[accSet 0]{fullShare} f) ∗ (ml d L mAcc ↦[accSet 1]{fullShare} f) ∗ (ml d L mAcc ↦[accSet 2]{fullShare} f) ∗ (ml d L mAcc ↦[accSet 3]{fullShare} f) ∗ (ml d L mAcc ↦[accSet 4]{fullShare} f)) := by
  rw [split5 (ℓ := ml d L mAcc) (q := fullShare) f accSet acc_univ acc_disj]
theorem acc_close (f : S625x128.Idx → BitVec 32) : (iprop((ml d L mAcc ↦[accSet 0]{fullShare} f) ∗ (ml d L mAcc ↦[accSet 1]{fullShare} f) ∗ (ml d L mAcc ↦[accSet 2]{fullShare} f) ∗ (ml d L mAcc ↦[accSet 3]{fullShare} f) ∗ (ml d L mAcc ↦[accSet 4]{fullShare} f)) : sProp 𝕄) ⊢ iprop(ml d L mAcc ↦{fullShare} f) := by
  rw [split5 (ℓ := ml d L mAcc) (q := fullShare) f accSet acc_univ acc_disj]
theorem fix_open (f : S6x20x625x8x128.Idx → BitVec 32) {t2 t3 : ℕ} (h2 : t2 < 3) (h3 : t3 < 10) :
    (iprop(ml d L mOF ↦[todoSet L (10 * t2 + t3)]{fullShare} f) : sProp 𝕄) ⊢ iprop(((ml d L mOF ↦[outSet (tabN L t2) (chN L t3) 0]{fullShare} f) ∗ (ml d L mOF ↦[outSet (tabN L t2) (chN L t3) 1]{fullShare} f) ∗ (ml d L mOF ↦[outSet (tabN L t2) (chN L t3) 2]{fullShare} f) ∗ (ml d L mOF ↦[outSet (tabN L t2) (chN L t3) 3]{fullShare} f) ∗ (ml d L mOF ↦[outSet (tabN L t2) (chN L t3) 4]{fullShare} f)) ∗ (ml d L mOF ↦[todoSet L (10 * t2 + t3 + 1)]{fullShare} f)) := by
  refine (carve (ℓ := ml d L mOF) (q := fullShare) (f := f) (chan_todo L h2 h3)).trans ?_
  rw [todo_succ L h2 h3, split5 (ℓ := ml d L mOF) (q := fullShare) f (outSet (tabN L t2) (chN L t3)) (chan_eq _ _) (out_disj _ _)]
theorem fix_close (f f' : S6x20x625x8x128.Idx → BitVec 32) {t2 t3 : ℕ} (h2 : t2 < 3) (h3 : t3 < 10) (h : ∀ p ∈ chanSet (tabN L t2) (chN L t3), f p = f' p) :
    (iprop(((ml d L mOF ↦[outSet (tabN L t2) (chN L t3) 0]{fullShare} f) ∗ (ml d L mOF ↦[outSet (tabN L t2) (chN L t3) 1]{fullShare} f) ∗ (ml d L mOF ↦[outSet (tabN L t2) (chN L t3) 2]{fullShare} f) ∗ (ml d L mOF ↦[outSet (tabN L t2) (chN L t3) 3]{fullShare} f) ∗ (ml d L mOF ↦[outSet (tabN L t2) (chN L t3) 4]{fullShare} f)) ∗ (ml d L mOF ↦[doneSet L (10 * t2 + t3)]{fullShare} f')) : sProp 𝕄) ⊢ iprop(ml d L mOF ↦[doneSet L (10 * t2 + t3 + 1)]{fullShare} f') := by
  have u := uncarve (F := F) (ℓ := ml d L mOF) (q := fullShare) (f := f') (chan_done L h2 h3)
  rw [done_succ L h2 h3, ← (pointsTo_congr h : (iprop(ml d L mOF ↦[chanSet (tabN L t2) (chN L t3)]{fullShare} f) : sProp 𝕄) = iprop(ml d L mOF ↦[chanSet (tabN L t2) (chN L t3)]{fullShare} f')),
    split5 (ℓ := ml d L mOF) (q := fullShare) f (outSet (tabN L t2) (chN L t3)) (chan_eq _ _) (out_disj _ _)] at u
  exact u
theorem grad_open (f : S6x20x625x8x128.Idx → F .f32) {t2 t3 : ℕ} (h2 : t2 < 3) (h3 : t3 < 10) :
    (iprop(ml d L mOG ↦[todoSet L (10 * t2 + t3)]{fullShare} f) : sProp 𝕄) ⊢ iprop(((ml d L mOG ↦[outSet (tabN L t2) (chN L t3) 0]{fullShare} f) ∗ (ml d L mOG ↦[outSet (tabN L t2) (chN L t3) 1]{fullShare} f) ∗ (ml d L mOG ↦[outSet (tabN L t2) (chN L t3) 2]{fullShare} f) ∗ (ml d L mOG ↦[outSet (tabN L t2) (chN L t3) 3]{fullShare} f) ∗ (ml d L mOG ↦[outSet (tabN L t2) (chN L t3) 4]{fullShare} f)) ∗ (ml d L mOG ↦[todoSet L (10 * t2 + t3 + 1)]{fullShare} f)) := by
  refine (carve (ℓ := ml d L mOG) (q := fullShare) (f := f) (chan_todo L h2 h3)).trans ?_
  rw [todo_succ L h2 h3, split5 (ℓ := ml d L mOG) (q := fullShare) f (outSet (tabN L t2) (chN L t3)) (chan_eq _ _) (out_disj _ _)]
theorem grad_close (f f' : S6x20x625x8x128.Idx → F .f32) {t2 t3 : ℕ} (h2 : t2 < 3) (h3 : t3 < 10) (h : ∀ p ∈ chanSet (tabN L t2) (chN L t3), f p = f' p) :
    (iprop(((ml d L mOG ↦[outSet (tabN L t2) (chN L t3) 0]{fullShare} f) ∗ (ml d L mOG ↦[outSet (tabN L t2) (chN L t3) 1]{fullShare} f) ∗ (ml d L mOG ↦[outSet (tabN L t2) (chN L t3) 2]{fullShare} f) ∗ (ml d L mOG ↦[outSet (tabN L t2) (chN L t3) 3]{fullShare} f) ∗ (ml d L mOG ↦[outSet (tabN L t2) (chN L t3) 4]{fullShare} f)) ∗ (ml d L mOG ↦[doneSet L (10 * t2 + t3)]{fullShare} f')) : sProp 𝕄) ⊢ iprop(ml d L mOG ↦[doneSet L (10 * t2 + t3 + 1)]{fullShare} f') := by
  have u := uncarve (F := F) (ℓ := ml d L mOG) (q := fullShare) (f := f') (chan_done L h2 h3)
  rw [done_succ L h2 h3, ← (pointsTo_congr h : (iprop(ml d L mOG ↦[chanSet (tabN L t2) (chN L t3)]{fullShare} f) : sProp 𝕄) = iprop(ml d L mOG ↦[chanSet (tabN L t2) (chN L t3)]{fullShare} f')),
    split5 (ℓ := ml d L mOG) (q := fullShare) f (outSet (tabN L t2) (chN L t3)) (chan_eq _ _) (out_disj _ _)] at u
  exact u

/-- Between channels: `n` of the thirty are done. -/
def ChI (fl : S2400.Idx → BitVec 32) (n : ℕ) : sProp 𝕄 :=
  iprop(Lv (F := F) ∗ (ml d L mAcc ↦{fullShare} (fun _ => 0#32 : S625x128.Idx → BitVec 32))
    ∗ (∃ B : S125x128.Idx → F .f32, ml d L mStage ↦{fullShare} B) ∗ (∃ fg : S19x128.Idx → F .f32, ml d L mGV ↦{fullShare} fg) ∗ (ml d L mLenV ↦{fullShare} fl)
    ∗ Free (F := F) d L 0 ∗ Free (F := F) d L 1
    ∗ (ml d L mOF ↦[doneSet L n]{fullShare} fixT g5 ids wts len sc) ∗ (ml d L mOF ↦[todoSet L n]{fullShare} f0)
    ∗ (ml d L mOG ↦[doneSet L n]{fullShare} gradT g5 ids wts len sc) ∗ (ml d L mOG ↦[todoSet L n]{fullShare} g0)
    ∗ (ml d L mIds ↦{q} ids) ∗ (ml d L mWts ↦{q} wts) ∗ (ml d L mG5 ↦{q} g5)
    ∗ OutSems (F := F) d L ∗ semVal (thr d L, .dma (dC 10)) 0 ∗ OW (F := F) d L O W)

set_option maxHeartbeats 4000000 in
theorem t3_step (t2 : Fin k0_t2_loop.trips) (t3 : Fin k0_t3_loop.trips) (arg1 : BitVec 32) (v0 : IVec S16 32) (v10 v15 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hv15 : ∀ x : S16.Idx, v15 x = sc (i1 (32 * (tabN L t2.val) + 16)))
    (fl : S2400.Idx → BitVec 32) (hfl : RowL len (tabN L t2.val) fl) (hO : ∀ g, O g none = 0) (u : Unit) :
    ChI d L q g5 ids wts len sc f0 g0 O W fl (10 * t2.val + t3.val)
      ⊢ wp frame (wpE (defs₀ (F := F)) 𝒱₀ (thr d L) none) Set.univ
          (k0_t3_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 t3 u)
          (fun _ => ChI d L q g5 ids wts len sc f0 g0 O W fl (10 * t2.val + (t3.val + 1))) := by
  have h2 : t2.val < 3 := lt_of_lt_of_eq t2.isLt trips2
  have h3 : t3.val < 10 := lt_of_lt_of_eq t3.isLt trips3
  have ht : tabN L t2.val < 6 := tabN_lt L h2
  unfold k0_t3_body
  beta_reduce
  rw [k0_part19_eq_skeleton]
  unfold k0_part19_skel
  rw [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  dsimp only
  generalize hQ : ChI d L q g5 ids wts len sc f0 g0 O W fl (10 * t2.val + (t3.val + 1)) = Qn
  unfold ChI
  simp only [Prog.lift, Prog.bind_op, Prog.bind_ret, Prog.pure_eq_ret, Prog.bind_assoc]
  iintro ⟨#Hlv, Ha, ⟨%B, Hst⟩, ⟨%fg, Hg⟩, Hl, HF0, HF1, HFd, HFt, HGd, HGt, Hi, Hw, Hg5, HS, Hs15, HO⟩
  iapply (issue d L q ids wts (tabN L t2.val) 0 0 (by decide) ht (by decide) _ _ _ _ _ _ rfl (cf5 L t2) rfl) $$ [Hi Hw HF0]
  · iframe
  iintro HN
  ihave Hg5 := (carve (ℓ := ml d L mG5) (q := q) (f := g5) (Finset.subset_univ (gSrc _ (k0_off6_inb L t2 t3)).view.set)) $$ Hg5
  icases Hg5 with ⟨Hg5, Hg5r⟩
  iapply (copy_issue d L (src := gSrc _ (k0_off6_inb L t2 t3)) (dst := mGV) (q := q) (fs := g5) (fd := fg) (dC 10) _ Finset.univ (gRow g5 (tabN L t2.val) (chN L t3.val)) (by decide) rfl (View.set_whole _)
    (g_land g5 fg _ _ _ _ (cf6 L t2 t3)) NG rfl NG_pos) $$ [Hg5 Hg Hs15]
  · iframe
  iintro HFl
  iapply (copy_wait d L O W (src := gSrc _ (k0_off6_inb L t2 t3)) (dst := mGV) (dC 10) (by decide) hO NG rfl) $$ [HFl HO]
  · iframe
    iexact Hlv
  iintro ⟨Hg, Hg5⟩ Hs15 HO
  ihave Hg5 := (uncarve (ℓ := ml d L mG5) (q := q) (f := g5) (Finset.subset_univ (gSrc _ (k0_off6_inb L t2 t3)).view.set)) $$ [Hg5 Hg5r]
  · iframe
  iapply (wp_seq (t4_loop d L q g5 ids wts len sc O W t2 t3 (chN L t3.val) (gRow g5 (tabN L t2.val) (chN L t3.val)) fl v0 v10 hlen hids hv0 hv10 (gRow_row g5 _ _) hfl hO)) $$ [Ha Hg Hl HN HF1 HO]
  · unfold T4I Pend
    rw [if_pos (by decide)]
    isplitr; · iexact Hlv
    isplitl [Ha]; · iexact Ha
    iframe
  iintro %_ HT
  unfold T4I Pend
  rw [if_neg (by decide)]
  simp only [Nat.reduceMod, Nat.reduceMul, Nat.reduceAdd]
  have hfix := outF_eq g5 ids wts len sc (tabN L t2.val) (chN L t3.val)
  have hgrad := outG_eq g5 ids wts len sc (tabN L t2.val) (chN L t3.val)
  revert hfix hgrad hv15
  generalize accF g5 ids wts len sc (tabN L t2.val) (chN L t3.val) 2400 = A
  generalize sc (i1 (32 * tabN L t2.val + 16)) = v
  intro hv15 hfix hgrad
  icases HT with ⟨-, Ha, Hg, Hl, ⟨HF0, Hi, Hw⟩, HF1, HO⟩
  ihave Ha := (acc_open d L A) $$ Ha
  icases Ha with ⟨Ha0, Ha1, Ha2, Ha3, Ha4⟩
  ihave HFt := (fix_open d L f0 h2 h3) $$ HFt
  icases HFt with ⟨⟨Hf0, Hf1, Hf2, Hf3, Hf4⟩, HFt⟩
  ihave HGt := (grad_open d L g0 h2 h3) $$ HGt
  icases HGt with ⟨⟨Hg0, Hg1, Hg2, Hg3, Hg4⟩, HGt⟩
  ihave HS := (out_open d L) $$ HS
  icases HS with ⟨Hs0, Hs1, Hs2, Hs3, Hs4, Hs5⟩
  iapply (fixed_issue d L A f0 (tabN L t2.val) (chN L t3.val) 0 (dC 2) (by decide) ![0, 0] _ _ _ rfl (cf15 L t2 t3)) $$ [Ha0 Hf0 Hs0]
  · iframe
  iintro HP0
  iapply (fixed_issue d L A f0 (tabN L t2.val) (chN L t3.val) 1 (dC 3) (by decide) ![125, 0] _ _ _ rfl (cf16 L t2 t3)) $$ [Ha1 Hf1 Hs1]
  · iframe
  iintro HP1
  iapply (fixed_issue d L A f0 (tabN L t2.val) (chN L t3.val) 2 (dC 4) (by decide) ![250, 0] _ _ _ rfl (cf17 L t2 t3)) $$ [Ha2 Hf2 Hs2]
  · iframe
  iintro HP2
  iapply (fixed_issue d L A f0 (tabN L t2.val) (chN L t3.val) 3 (dC 5) (by decide) ![375, 0] _ _ _ rfl (cf18 L t2 t3)) $$ [Ha3 Hf3 Hs3]
  · iframe
  iintro HP3
  iapply (fixed_issue d L A f0 (tabN L t2.val) (chN L t3.val) 4 (dC 6) (by decide) ![500, 0] _ _ _ rfl (cf19 L t2 t3)) $$ [Ha4 Hf4 Hs4]
  · iframe
  iintro HP4
  iapply (fixed_wait d L O W A (tabN L t2.val) (chN L t3.val) 0 (dC 2) (by decide) hO _ _ _ _) $$ [HP0 HO]
  · iframe
    iexact Hlv
  iintro ⟨Hf0, Ha0⟩ Hs0 HO
  iapply (wp_seq (t8_loop d L A v B v15 t2 t3 hv15)) $$ [Ha0 Hst]
  · iframe
  iintro %_ ⟨Ha0, Hst⟩
  iapply (grad_issue d L A v g0 (tabN L t2.val) (chN L t3.val) 0 (dC 7) (by decide) _ _ (cf15 L t2 t3)) $$ [Hst Hg0 Hs5]
  · iframe
  iintro HP5
  iapply (fixed_wait d L O W A (tabN L t2.val) (chN L t3.val) 1 (dC 3) (by decide) hO _ _ _ _) $$ [HP1 HO]
  · iframe
    iexact Hlv
  iintro ⟨Hf1, Ha1⟩ Hs1 HO
  iapply (grad_wait d L O W A v (tabN L t2.val) (chN L t3.val) 0 (dC 7) (by decide) hO _ _) $$ [HP5 HO]
  · iframe
    iexact Hlv
  iintro ⟨Hg0, Hst⟩ Hs5 HO
  iapply (wp_seq (t9_loop d L A v _ v15 t2 t3 hv15)) $$ [Ha1 Hst]
  · iframe
  iintro %_ ⟨Ha1, Hst⟩
  iapply (grad_issue d L A v g0 (tabN L t2.val) (chN L t3.val) 1 (dC 7) (by decide) _ _ (cf16 L t2 t3)) $$ [Hst Hg1 Hs5]
  · iframe
  iintro HP5
  iapply (fixed_wait d L O W A (tabN L t2.val) (chN L t3.val) 2 (dC 4) (by decide) hO _ _ _ _) $$ [HP2 HO]
  · iframe
    iexact Hlv
  iintro ⟨Hf2, Ha2⟩ Hs2 HO
  iapply (grad_wait d L O W A v (tabN L t2.val) (chN L t3.val) 1 (dC 7) (by decide) hO _ _) $$ [HP5 HO]
  · iframe
    iexact Hlv
  iintro ⟨Hg1, Hst⟩ Hs5 HO
  iapply (wp_seq (t10_loop d L A v _ v15 t2 t3 hv15)) $$ [Ha2 Hst]
  · iframe
  iintro %_ ⟨Ha2, Hst⟩
  iapply (grad_issue d L A v g0 (tabN L t2.val) (chN L t3.val) 2 (dC 7) (by decide) _ _ (cf17 L t2 t3)) $$ [Hst Hg2 Hs5]
  · iframe
  iintro HP5
  iapply (fixed_wait d L O W A (tabN L t2.val) (chN L t3.val) 3 (dC 5) (by decide) hO _ _ _ _) $$ [HP3 HO]
  · iframe
    iexact Hlv
  iintro ⟨Hf3, Ha3⟩ Hs3 HO
  iapply (grad_wait d L O W A v (tabN L t2.val) (chN L t3.val) 2 (dC 7) (by decide) hO _ _) $$ [HP5 HO]
  · iframe
    iexact Hlv
  iintro ⟨Hg2, Hst⟩ Hs5 HO
  iapply (wp_seq (t11_loop d L A v _ v15 t2 t3 hv15)) $$ [Ha3 Hst]
  · iframe
  iintro %_ ⟨Ha3, Hst⟩
  iapply (grad_issue d L A v g0 (tabN L t2.val) (chN L t3.val) 3 (dC 7) (by decide) _ _ (cf18 L t2 t3)) $$ [Hst Hg3 Hs5]
  · iframe
  iintro HP5
  iapply (fixed_wait d L O W A (tabN L t2.val) (chN L t3.val) 4 (dC 6) (by decide) hO _ _ _ _) $$ [HP4 HO]
  · iframe
    iexact Hlv
  iintro ⟨Hf4, Ha4⟩ Hs4 HO
  iapply (grad_wait d L O W A v (tabN L t2.val) (chN L t3.val) 3 (dC 7) (by decide) hO _ _) $$ [HP5 HO]
  · iframe
    iexact Hlv
  iintro ⟨Hg3, Hst⟩ Hs5 HO
  iapply (wp_seq (t12_loop d L A v _ v15 t2 t3 arg1 v0 v10 _ _ hv15)) $$ [Ha4 Hst]
  · iframe
  iintro %_ ⟨Ha4, Hst⟩
  iapply (grad_issue d L A v g0 (tabN L t2.val) (chN L t3.val) 4 (dC 7) (by decide) _ _ (cf19 L t2 t3)) $$ [Hst Hg4 Hs5]
  · iframe
  iintro HP5
  iapply (grad_wait d L O W A v (tabN L t2.val) (chN L t3.val) 4 (dC 7) (by decide) hO _ _) $$ [HP5 HO]
  · iframe
    iexact Hlv
  iintro ⟨Hg4, Hst⟩ Hs5 HO
  ihave Ha := (acc_close d L (fun _ => 0#32)) $$ [Ha0 Ha1 Ha2 Ha3 Ha4]
  · iframe
  ihave HFd := (fix_close d L (outF A) (fixT g5 ids wts len sc) h2 h3 hfix) $$ [Hf0 Hf1 Hf2 Hf3 Hf4 HFd]
  · iframe
  ihave HGd := (grad_close d L (outG A v) (gradT g5 ids wts len sc) h2 h3 hgrad) $$ [Hg0 Hg1 Hg2 Hg3 Hg4 HGd]
  · iframe
  ihave HS := (out_close d L) $$ [Hs0 Hs1 Hs2 Hs3 Hs4 Hs5]
  · iframe
  sl_step
  rw [← hQ]
  unfold ChI
  simp only [← Nat.add_assoc]
  isplitr; · iexact Hlv
  isplitl [Ha]; · iexact Ha
  isplitl [Hst]; · iexists _; iexact Hst
  isplitl [Hg]; · iexists _; iexact Hg
  iframe

theorem t3_loop (t2 : Fin k0_t2_loop.trips) (arg1 : BitVec 32) (v0 : IVec S16 32) (v10 v15 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hv15 : ∀ x : S16.Idx, v15 x = sc (i1 (32 * (tabN L t2.val) + 16)))
    (fl : S2400.Idx → BitVec 32) (hfl : RowL len (tabN L t2.val) fl) (hO : ∀ g, O g none = 0) :
    ChI d L q g5 ids wts len sc f0 g0 O W fl (10 * t2.val)
      ⊢ wp frame (wpE (defs₀ (F := F)) 𝒱₀ (thr d L) none) Set.univ
          (Scf.Loop.for k0_t3_loop k0_t3_ok ⟨⟩ (k0_t3_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15))
          (fun _ => ChI d L q g5 ids wts len sc f0 g0 O W fl (10 * (t2.val + 1))) :=
  wp_loop (thr d L) none k0_t3_loop k0_t3_ok () _ (fun k _ => ChI d L q g5 ids wts len sc f0 g0 O W fl (10 * t2.val + k)) _
    (fun k u => t3_step d L q g5 ids wts len sc f0 g0 O W t2 k arg1 v0 v10 v15 hlen hids hv0 hv10 hv15 fl hfl hO u)
    (fun u => by
      rw [trips3]
      exact .rfl)

end Channel

end Cert.Kernel.Pf

end
-- ==== Proof.Tile9.lean ====
/-
  A whole task.
-/
module

public import proofs.«01_k».proof.Proof.Tile8

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Task

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)
variable (O : CellTallies nD τ sig (HIx 1)) (W : Waits sig (HIx 1))

/-- The accumulator when its first `n` groups of sixteen are cleared. -/
def zF (a0 : S625x128.Idx → BitVec 32) (n : ℕ) : S625x128.Idx → BitVec 32 := fun p =>
  if 8 * (p 0).val + (p 1).val / 16 < n then 0#32 else a0 p

def ZI (a0 : S625x128.Idx → BitVec 32) (n : ℕ) (_ : Unit) : sProp 𝕄 := iprop(ml d L mAcc ↦{fullShare} (zF a0 n : S625x128.Idx → BitVec 32))

theorem z_land (a0 : S625x128.Idx → BitVec 32) (k : Fin k0_t1_loop.trips) (p : S625x128.Idx) :
    View.write (Elt F) (mAcc.access (Rect.unit (s := S625x128) (k0_off1 k) S1x16.size (k0_off1_inb k))) (zF a0 k.val) (shapeCast S1x16 (k0_pay1 : IVec S16 32) shapeCasts_S16_S1x16) Finset.univ p
      = zF a0 (k.val + 1) p := by
  rw [acc_write16 (Val := Elt F) _ _ _ _ (cf1 k)]
  have hp : (p 1).val < 128 := (p 1).isLt
  split
  · next h =>
    show 0#32 = _
    unfold zF
    rw [if_pos (by omega)]
  · next h =>
    unfold zF
    by_cases h1 : 8 * (p 0).val + (p 1).val / 16 < k.val
    · rw [if_pos h1, if_pos (by omega)]
    · rw [if_neg h1, if_neg (by omega)]

theorem t1_step (a0 : S625x128.Idx → BitVec 32) (k : Fin k0_t1_loop.trips) (u : Unit) :
    ZI (F := F) d L a0 k.val u ⊢ wp frame (wpE (defs₀ (F := F)) 𝒱₀ (thr d L) none) Set.univ
          (k0_t1_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 k u)
          (ZI (F := F) d L a0 (k.val + 1)) := by
  unfold k0_t1_body
  beta_reduce
  simp only [Prog.lift, Prog.bind_op, Prog.bind_ret, Prog.pure_eq_ret]
  unfold ZI
  iintro Ha
  iapply (wp_load_rect 𝒱₀ (thr d L) none Set.univ (m := mAcc) (r := Rect.unit (s := S625x128) (k0_off1 k) S1x16.size (k0_off1_inb k)) (S := Finset.univ) (f := zF a0 k.val) (Finset.subset_univ _)) $$ Ha
  iintro Ha
  iapply (wp_store 𝒱₀ (thr d L) none Set.univ (m := mAcc) (r := Rect.unit (s := S625x128) (k0_off1 k) S1x16.size (k0_off1_inb k)) (S := Finset.univ) (Finset.subset_univ _)) $$ Ha
  iintro Ha
  ihave Ha := (Entails.of_eq (pointsTo_congr (fun p _ => z_land (F := F) a0 k p))) $$ Ha
  sl_step
  iexact Ha

theorem zF_all (a0 : S625x128.Idx → BitVec 32) : zF a0 5000 = fun _ => 0#32 := by
  funext p
  have h0 : (p 0).val < 625 := (p 0).isLt
  have h1 : (p 1).val < 128 := (p 1).isLt
  unfold zF
  exact if_pos (by omega)

theorem zF_none (a0 : S625x128.Idx → BitVec 32) : zF a0 0 = a0 := by
  funext p
  unfold zF
  exact if_neg (by omega)

theorem t1_loop (a0 : S625x128.Idx → BitVec 32) :
    (iprop(ml d L mAcc ↦{fullShare} a0) : sProp 𝕄) ⊢ wp frame (wpE (defs₀ (F := F)) 𝒱₀ (thr d L) none) Set.univ
          (Scf.Loop.for k0_t1_loop k0_t1_ok ⟨⟩ (k0_t1_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2))
          (fun _ => iprop(ml d L mAcc ↦{fullShare} (fun _ => 0#32 : S625x128.Idx → BitVec 32))) := by
  have h0 : (iprop(ml d L mAcc ↦{fullShare} a0) : sProp 𝕄) ⊢ ZI (F := F) d L a0 0 () := by
    unfold ZI
    rw [zF_none]
  refine h0.trans (wp_loop (thr d L) none k0_t1_loop k0_t1_ok () _ (ZI (F := F) d L a0) _ (fun k u => t1_step d L a0 k u) (fun u => ?_))
  rw [trips1]
  unfold ZI
  rw [zF_all]

/-- Between tables. -/
def TabI (n : ℕ) : sProp 𝕄 :=
  iprop(∃ fl : S2400.Idx → BitVec 32, ChI d L q g5 ids wts len sc f0 g0 O W fl n ∗ (ml d L mScV ↦{fullShare} sc) ∗ (ml d L mLen ↦{q} len) ∗ semVal (thr d L, .dma (dC 9)) 0)

theorem read_sc (o inb) (n : ℕ) (h : o = ![n]) (hn : n + 16 ≤ 192) (x : Fin 16) :
    View.read (Elt F) (mScV.access (Rect.unit (s := S192) o S16.size inb)) sc (ix1 x) = sc (i1 (n + x.val)) := by
  subst h
  show sc ((mScV.access (Rect.unit (s := S192) ![n] S16.size inb)).emb (ix1 x)) = _
  refine congrArg sc ?_
  funext a
  apply Fin.ext
  match a with
  | 0 =>
    show n + 1 * x.val = (n + x.val) % 192
    have := x.isLt
    rw [Nat.mod_eq_of_lt (by omega)]
    omega

set_option maxHeartbeats 4000000 in
theorem t2_step (t2 : Fin k0_t2_loop.trips) (arg1 : BitVec 32) (v0 : IVec S16 32)
    (hlen : ∀ i, (len i).toInt ≤ 128) (hids : ∀ i, (ids i).toNat < 80000)
    (hsc : ∀ t x : ℕ, t < 6 → x < 16 → sc (i1 (32 * t + 16 + x)) = sc (i1 (32 * t + 16)))
    (hv0 : ∀ x : Fin 16, v0 (ix1 x) = BitVec.ofNat 32 x.val) (hO : ∀ g, O g none = 0) (u : Unit) :
    TabI d L q g5 ids wts len sc f0 g0 O W (10 * t2.val)
      ⊢ wp frame (wpE (defs₀ (F := F)) 𝒱₀ (thr d L) none) Set.univ
          (k0_t2_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 u)
          (fun _ => TabI d L q g5 ids wts len sc f0 g0 O W (10 * (t2.val + 1))) := by
  have h2 : t2.val < 3 := lt_of_lt_of_eq t2.isLt trips2
  have ht : tabN L t2.val < 6 := tabN_lt L h2
  unfold k0_t2_body
  beta_reduce
  dsimp only
  generalize hQ : TabI d L q g5 ids wts len sc f0 g0 O W (10 * (t2.val + 1)) = Qn
  unfold TabI
  simp only [Prog.lift, Prog.bind_op, Prog.bind_ret, Prog.pure_eq_ret]
  iintro ⟨%fl, HC, Hscv, Hlen, Hs14⟩
  unfold ChI
  icases HC with ⟨#Hlv, Ha, Hst, Hg, Hl, HF0, HF1, HFd, HFt, HGd, HGt, Hi, Hw, Hg5, HS, Hs15, HO⟩
  ihave Hlen := (carve (ℓ := ml d L mLen) (q := q) (f := len) (Finset.subset_univ (lSrc _ (k0_off2_inb L t2)).view.set)) $$ Hlen
  icases Hlen with ⟨Hlen, Hlenr⟩
  iapply (copy_issue d L (src := lSrc _ (k0_off2_inb L t2)) (dst := mLenV) (q := q) (fs := len) (fd := fl) (dC 9) _ Finset.univ (lRow len (tabN L t2.val)) (by decide) rfl (View.set_whole _)
    (l_land len fl _ _ _ (cf2 L t2)) NL rfl NL_pos) $$ [Hlen Hl Hs14]
  · iframe
  iintro HFl
  iapply (copy_wait d L O W (src := lSrc _ (k0_off2_inb L t2)) (dst := mLenV) (dC 9) (by decide) hO NL rfl) $$ [HFl HO]
  · iframe
    iexact Hlv
  iintro ⟨Hl, Hlen⟩ Hs14 HO
  ihave Hlen := (uncarve (ℓ := ml d L mLen) (q := q) (f := len) (Finset.subset_univ (lSrc _ (k0_off2_inb L t2)).view.set)) $$ [Hlen Hlenr]
  · iframe
  iapply (wp_load_rect 𝒱₀ (thr d L) none Set.univ (m := mScV) (r := Rect.unit (s := S192) (k0_off3 L t2) S16.size (k0_off3_inb L t2)) (S := Finset.univ) (f := sc) (Finset.subset_univ _)) $$ Hscv
  iintro Hscv
  iapply (wp_load_rect 𝒱₀ (thr d L) none Set.univ (m := mScV) (r := Rect.unit (s := S192) (k0_off4 L t2) S16.size (k0_off4_inb L t2)) (S := Finset.univ) (f := sc) (Finset.subset_univ _)) $$ Hscv
  iintro Hscv
  iapply (wp_seq (t3_loop d L q g5 ids wts len sc f0 g0 O W t2 arg1 v0 _ _ hlen hids hv0 (read_sc sc _ _ _ (cf3 L t2) (by omega))
    (fun x => by
      rw [show x = ix1 (x 0) from funext fun a => match a with | 0 => rfl]
      exact (read_sc sc _ _ _ (cf4 L t2) (by omega) (x 0)).trans (hsc _ _ ht (x 0).isLt)) _ (lRow_row len (tabN L t2.val)) hO))
    $$ [Ha Hst Hg Hl HF0 HF1 HFd HFt HGd HGt Hi Hw Hg5 HS Hs15 HO]
  · unfold ChI
    isplitr; · iexact Hlv
    iframe
  iintro %_ HC
  sl_step
  rw [← hQ]
  unfold TabI
  iexists _
  iframe

theorem t2_loop (arg1 : BitVec 32) (v0 : IVec S16 32)
    (hlen : ∀ i, (len i).toInt ≤ 128) (hids : ∀ i, (ids i).toNat < 80000)
    (hsc : ∀ t x : ℕ, t < 6 → x < 16 → sc (i1 (32 * t + 16 + x)) = sc (i1 (32 * t + 16)))
    (hv0 : ∀ x : Fin 16, v0 (ix1 x) = BitVec.ofNat 32 x.val) (hO : ∀ g, O g none = 0) :
    TabI d L q g5 ids wts len sc f0 g0 O W 0
      ⊢ wp frame (wpE (defs₀ (F := F)) 𝒱₀ (thr d L) none) Set.univ
          (Scf.Loop.for k0_t2_loop k0_t2_ok ⟨⟩ (k0_t2_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0))
          (fun _ => TabI d L q g5 ids wts len sc f0 g0 O W 30) :=
  wp_loop (thr d L) none k0_t2_loop k0_t2_ok () _ (fun k _ => TabI d L q g5 ids wts len sc f0 g0 O W (10 * k)) _
    (fun k u => t2_step d L q g5 ids wts len sc f0 g0 O W k arg1 v0 hlen hids hsc hv0 hO u)
    (fun u => by
      rw [trips2])

theorem iota_eq (x : Fin 16) : iota .scVector S16 32 [0] iota_S16_d0_w32_scVector (ix1 x) = BitVec.ofNat 32 x.val := by
  revert x
  decide +kernel

abbrev NSc : ℕ := cc0_scratch6.dmaCredit S192 .f32
theorem NSc_pos : 0 < NSc := by decide

theorem sc_land (fd : S192.Idx → F .f32) :
    ∀ p ∈ (Finset.univ : Finset S192.Idx), mScV.view.write (Elt F) fd (mSc.view.read (Elt F) sc) Finset.univ p = sc p := fun p _ =>
  (View.write_emb_of_mem (v := mScV.view) (Val := Elt F) fd _ (Finset.mem_univ p)).trans rfl

set_option maxHeartbeats 4000000 in
theorem task_wp (hlen : ∀ i, (len i).toInt ≤ 128) (hids : ∀ i, (ids i).toNat < 80000)
    (hsc : ∀ t x : ℕ, t < 6 → x < 16 → sc (i1 (32 * t + 16 + x)) = sc (i1 (32 * t + 16))) (hO : ∀ g, O g none = 0) :
    (iprop(Lv (F := F) ∗ (∃ A : S625x128.Idx → BitVec 32, ml d L mAcc ↦{fullShare} A)
    ∗ (∃ B : S125x128.Idx → F .f32, ml d L mStage ↦{fullShare} B) ∗ (∃ fg : S19x128.Idx → F .f32, ml d L mGV ↦{fullShare} fg)
    ∗ (∃ fl : S2400.Idx → BitVec 32, ml d L mLenV ↦{fullShare} fl) ∗ (∃ fc : S192.Idx → F .f32, ml d L mScV ↦{fullShare} fc)
    ∗ Free (F := F) d L 0 ∗ Free (F := F) d L 1
    ∗ (ml d L mOF ↦[doneSet L 0]{fullShare} fixT g5 ids wts len sc) ∗ (ml d L mOF ↦[todoSet L 0]{fullShare} f0)
    ∗ (ml d L mOG ↦[doneSet L 0]{fullShare} gradT g5 ids wts len sc) ∗ (ml d L mOG ↦[todoSet L 0]{fullShare} g0)
    ∗ (ml d L mIds ↦{q} ids) ∗ (ml d L mWts ↦{q} wts) ∗ (ml d L mG5 ↦{q} g5) ∗ (ml d L mLen ↦{q} len) ∗ (ml d L mSc ↦{q} sc)
    ∗ OutSems (F := F) d L ∗ semVal (thr d L, .dma (dC 8)) 0 ∗ semVal (thr d L, .dma (dC 9)) 0 ∗ semVal (thr d L, .dma (dC 10)) 0 ∗ OW (F := F) d L O W) : sProp 𝕄)
      ⊢ wp frame (wpE (defs₀ (F := F)) 𝒱₀ (thr d L) none) Set.univ
          (cc0_bag_scatter L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2)
          (fun _ => iprop(TabI d L q g5 ids wts len sc f0 g0 O W 30 ∗ (ml d L mSc ↦{q} sc) ∗ semVal (thr d L, .dma (dC 8)) 0)) := by
  rw [cc0_bag_scatter_eq_skeleton]
  unfold cc0_bag_scatter_skel
  beta_reduce
  dsimp only
  simp only [Prog.lift, Prog.bind_op, Prog.bind_ret, Prog.pure_eq_ret]
  generalize hQ : TabI d L q g5 ids wts len sc f0 g0 O W 30 = Qn
  iintro ⟨#Hlv, ⟨%A, Ha⟩, Hst, Hg, ⟨%fl, Hl⟩, ⟨%fc, Hscv⟩, HF0, HF1, HFd, HFt, HGd, HGt, Hi, Hw, Hg5, Hlen, Hsc, HS, Hs13, Hs14, Hs15, HO⟩
  iapply (copy_issue d L (src := mSc) (dst := mScV) (q := q) (fs := sc) (fd := fc) (dC 8) Finset.univ Finset.univ sc (by decide) (View.set_whole _) (View.set_whole _)
    (sc_land sc fc) NSc rfl NSc_pos) $$ [Hsc Hscv Hs13]
  · iframe
  iintro HFl
  iapply (copy_wait d L O W (src := mSc) (dst := mScV) (dC 8) (by decide) hO NSc rfl) $$ [HFl HO]
  · iframe
    iexact Hlv
  iintro ⟨Hscv, Hsc⟩ Hs13 HO
  iapply (wp_seq (t1_loop d L A)) $$ Ha
  iintro %_ Ha
  iapply (wp_seq (t2_loop d L q g5 ids wts len sc f0 g0 O W _ _ hlen hids hsc iota_eq hO)) $$ [Ha Hst Hg Hl Hscv HF0 HF1 HFd HFt HGd HGt Hi Hw Hg5 HS Hs15 HO Hlen Hs14]
  · unfold TabI ChI
    iexists fl
    isplitr [Hscv Hlen Hs14]
    · isplitr; · iexact Hlv
      iframe
    · iframe
  iintro %_ HC
  sl_step
  rw [← hQ]
  iframe

end Task

end Cert.Kernel.Pf

end
-- ==== Proof.Task.lean ====
/-
  A task from the storage of its subcore, and the launch of the tasks.
-/
module

public import proofs.«01_k».proof.Proof.Tile9

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem sep7 {M : Type} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
theorem sep11 {M : Type} [URA M] (Φ : Fin 11 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The task's scratch buffers. -/
def scr : Fin 7 → Ref sig .scVector := fun
  | 0 => cc0_scratch0 | 1 => cc0_scratch1 | 2 => cc0_scratch2 | 3 => cc0_scratch3 | 4 => cc0_scratch4 | 5 => cc0_scratch5 | 6 => cc0_scratch6
theorem scr_inj : Function.Injective scr := by decide

section Store

variable (d : Dev nD) (L : grid0.Coords)

def cellE : Fin 11 ↪ GSem nD τ sig := ⟨fun n => (thr d L, .dma n), fun _ _ e => SemLoc.dma.inj (Prod.mk.inj e).2⟩
def bufE : Fin 7 ↪ DevRef τ sig := ⟨fun n => (thr d L).2.devRef (scr n), fun _ _ e => scr_inj (Proc.devRef_injective _ e)⟩

theorem cell_scoped : ∀ n : Fin 11, (SemLoc.dma n : SemLoc sig).isScoped .scVector = true := by decide

theorem cells_sub : Finset.univ.map (cellE d L) ⊆ ownCells (thr d L) := by
  intro g hg
  obtain ⟨n, -, rfl⟩ := Finset.mem_map.mp hg
  exact mem_ownCells.mpr ⟨rfl, cell_scoped n⟩
theorem bufs_sub : Finset.univ.map (bufE d L) ⊆ ownRefs (τ := τ) (sig := sig) (thr d L).2 := by
  intro g hg
  obtain ⟨n, -, rfl⟩ := Finset.mem_map.mp hg
  refine SparseCore.Cfg.mem_ownRefs_of_owner ?_
  match n with
  | 0 => rfl | 1 => rfl | 2 => rfl | 3 => rfl | 4 => rfl | 5 => rfl | 6 => rfl

theorem ownSems0_V : (ownSems0 (thr d L) : sProp 𝕄)
    = iprop((semVal (thr d L, .dma (dC 0)) 0 ∗ semVal (thr d L, .dma (dC 1)) 0 ∗ semVal (thr d L, .dma (dC 2)) 0 ∗ semVal (thr d L, .dma (dC 3)) 0
      ∗ semVal (thr d L, .dma (dC 4)) 0 ∗ semVal (thr d L, .dma (dC 5)) 0 ∗ semVal (thr d L, .dma (dC 6)) 0 ∗ semVal (thr d L, .dma (dC 7)) 0
      ∗ semVal (thr d L, .dma (dC 8)) 0 ∗ semVal (thr d L, .dma (dC 9)) 0 ∗ semVal (thr d L, .dma (dC 10)) 0)
      ∗ bigSep (ownCells (thr d L) \ Finset.univ.map (cellE d L)) fun g => semVal g 0) := by
  unfold SparseCore.Cfg.ownSems0
  rw [BI.bigSep_sdiff_split (cells_sub d L), BI.bigSep_map, sep11]
  rfl

theorem ownBufs_V : (ownBufs (thr d L) : sProp 𝕄)
    = iprop(((∃ f : S625x128.Idx → BitVec 32, ml d L mAcc ↦{fullShare} f) ∗ (∃ f : S125x128.Idx → F .f32, ml d L mStage ↦{fullShare} f)
      ∗ (∃ f : S2x40x128.Idx → BitVec 32, ml d L mIdsV ↦{fullShare} f) ∗ (∃ f : S2x40x128.Idx → F .f32, ml d L mWV ↦{fullShare} f)
      ∗ (∃ f : S19x128.Idx → F .f32, ml d L mGV ↦{fullShare} f) ∗ (∃ f : S2400.Idx → BitVec 32, ml d L mLenV ↦{fullShare} f) ∗ (∃ f : S192.Idx → F .f32, ml d L mScV ↦{fullShare} f))
      ∗ bigSep (ownRefs (τ := τ) (sig := sig) (thr d L).2 \ Finset.univ.map (bufE d L)) fun b => iprop(∃ f, ((d, b) : Loc nD τ sig) ↦{fullShare} f)) := by
  unfold SparseCore.Cfg.ownBufs
  rw [BI.bigSep_sdiff_split (bufs_sub d L), BI.bigSep_map, sep7]
  rfl

theorem slot_split {ℓ : Loc nD τ sig} (S T : Finset (Idx ℓ)) (f : Buf (Elt F) ℓ) (h : S ∪ T = Finset.univ) (hd : Disjoint S T) :
    (iprop(ℓ ↦{fullShare} f) : sProp 𝕄) ⊢ iprop((∃ f, ℓ ↦[S]{fullShare} f) ∗ (∃ f, ℓ ↦[T]{fullShare} f)) := by
  rw [← h]
  iintro H
  ihave H := (pointsTo_union hd).1 $$ H
  icases H with ⟨H1, H2⟩
  isplitl [H1]
  · iexists _; iexact H1
  · iexists _; iexact H2

theorem slot_join {ℓ : Loc nD τ sig} (S T : Finset (Idx ℓ)) (h : S ∪ T = Finset.univ) (hd : Disjoint S T) :
    (iprop((∃ f : Buf (Elt F) ℓ, ℓ ↦[S]{fullShare} f) ∗ (∃ f : Buf (Elt F) ℓ, ℓ ↦[T]{fullShare} f)) : sProp 𝕄) ⊢ iprop(∃ f, ℓ ↦{fullShare} f) := by
  iintro ⟨⟨%f, H1⟩, ⟨%g, H2⟩⟩
  ihave H := (pointsTo_join hd) $$ [H1 H2]
  · iframe
  iexists _
  rw [h]
  iexact H

theorem slots_union : slotSet 0 ∪ slotSet 1 = Finset.univ := by
  ext i
  simp only [Finset.mem_union, mem_slotSet, Finset.mem_univ, iff_true]
  have : (i 0).val < 2 := (i 0).isLt
  omega
theorem slots_disj : Disjoint (slotSet 0) (slotSet 1) := by
  rw [Finset.disjoint_left]
  intro i h1 h2
  rw [mem_slotSet] at h1 h2
  omega

theorem done_zero : doneSet L 0 = ∅ := by
  ext p
  simp only [mem_doneSet, Finset.notMem_empty, iff_false]
  omega
theorem todo_zero : todoSet L 0 = doneSet L 30 := by
  ext p
  rw [mem_doneSet, mem_todoSet]
  omega

variable (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)

/-- A task's share of the arrays read. -/
def InT : sProp 𝕄 := iprop((ml d L mIds ↦{q} ids) ∗ (ml d L mWts ↦{q} wts) ∗ (ml d L mG5 ↦{q} g5) ∗ (ml d L mLen ↦{q} len) ∗ (ml d L mSc ↦{q} sc))
/-- A task's part of the results. -/
def OutT (f : S6x20x625x8x128.Idx → BitVec 32) (g : S6x20x625x8x128.Idx → F .f32) : sProp 𝕄 :=
  iprop((ml d L mOF ↦[doneSet L 30]{fullShare} f) ∗ (ml d L mOG ↦[doneSet L 30]{fullShare} g))

set_option maxHeartbeats 4000000 in
theorem tile_body (hlen : ∀ i, (len i).toInt ≤ 128) (hids : ∀ i, (ids i).toNat < 80000)
    (hsc : ∀ t x : ℕ, t < 6 → x < 16 → sc (i1 (32 * t + 16 + x)) = sc (i1 (32 * t + 16)))
    (hF : (K (F := F)).Facts) (O : CellTallies nD τ sig (HIx 1)) (W : Waits sig (HIx 1)) (hO : ∀ g, O g none = 0) :
    iprop(levAts (K (F := F)).L (K (F := F)).lev ∗ emp
        ∗ (InT d L q g5 ids wts len sc ∗ OutT d L f0 g0)
        ∗ scopedBufs (thr d L) ∗ scopedSems0 (thr d L) ∗ owes (thr d L) O W)
      ⊢ wp frame (wpE (defs₀ (F := F)) 𝒱₀ (thr d L) none) Set.univ
          (cc0_bag_scatter L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2)
          fun _ => iprop((InT d L q g5 ids wts len sc ∗ OutT d L (fixT g5 ids wts len sc) (gradT g5 ids wts len sc)) ∗ scopedBufs (thr d L) ∗ scopedSems0 (thr d L)
            ∗ ∃ W', ⌜∀ p ∈ W', p ∈ W ∨ p.2 = none⌝ ∗ owes (thr d L) O W') := by
  rw [(K (F := F)).scopedBufs_V hF d ((L 0).castLE hcore0) ((L 1).castLE hsub0), SparseCore.Cfg.scopedSems0_V (Val := Elt F) d ((L 0).castLE hcore0) ((L 1).castLE hsub0), ownSems0_V, ownBufs_V]
  unfold InT OutT
  iintro ⟨#Hlv, -, ⟨⟨Hi, Hw, Hg5, Hlen, Hsc⟩, ⟨HF, HG⟩⟩, ⟨⟨Ha, Hst, ⟨%fi, Hiv⟩, ⟨%fw, Hwv⟩, Hg, Hl, Hscv⟩, Hbufs⟩, ⟨⟨Hs0, Hs1, Hs2, Hs3, Hs4, Hs5, Hs6, Hs7, Hs8, Hs9, Hs10⟩, Hsems⟩, HO⟩
  ihave Hiv := (slot_split (ℓ := ml d L mIdsV) (slotSet 0) (slotSet 1) fi slots_union slots_disj) $$ Hiv
  icases Hiv with ⟨Hi0, Hi1⟩
  ihave Hwv := (slot_split (ℓ := ml d L mWV) (slotSet 0) (slotSet 1) fw slots_union slots_disj) $$ Hwv
  icases Hwv with ⟨Hw0, Hw1⟩
  iapply (wp_wand frame _ Set.univ) $$ [Hi Hw Hg5 Hlen Hsc HF HG Ha Hst Hi0 Hi1 Hw0 Hw1 Hg Hl Hscv Hs0 Hs1 Hs2 Hs3 Hs4 Hs5 Hs6 Hs7 Hs8 Hs9 Hs10 HO]
  · iapply (task_wp d L q g5 ids wts len sc f0 g0 O W hlen hids hsc hO)
    rw [done_zero, todo_zero, pointsTo_empty, pointsTo_empty]
    unfold Free OutSems OW
    isplitr; · iexact Hlv
    isplitl [Ha]; · iexact Ha
    isplitl [Hst]; · iexact Hst
    isplitl [Hg]; · iexact Hg
    isplitl [Hl]; · iexact Hl
    isplitl [Hscv]; · iexact Hscv
    isplitl [Hi0 Hw0 Hs0]
    · isplitl [Hi0]; · iexact Hi0
      isplitl [Hw0]; · iexact Hw0
      iexact Hs0
    isplitl [Hi1 Hw1 Hs1]
    · isplitl [Hi1]; · iexact Hi1
      isplitl [Hw1]; · iexact Hw1
      iexact Hs1
    isplitr; · iempintro
    isplitl [HF]; · iexact HF
    isplitr; · iempintro
    isplitl [HG]; · iexact HG
    isplitl [Hi]; · iexact Hi
    isplitl [Hw]; · iexact Hw
    isplitl [Hg5]; · iexact Hg5
    isplitl [Hlen]; · iexact Hlen
    isplitl [Hsc]; · iexact Hsc
    isplitl [Hs2 Hs3 Hs4 Hs5 Hs6 Hs7]
    · iframe
    isplitl [Hs8]; · iexact Hs8
    isplitl [Hs9]; · iexact Hs9
    isplitl [Hs10]; · iexact Hs10
    iexists W
    isplitr
    · ipureintro; exact fun p hp => Or.inl hp
    · iexact HO
  iintro %_ ⟨HT, Hsc, Hs8⟩
  unfold TabI ChI Free OutSems OW
  icases HT with ⟨%fl, ⟨-, Ha, Hst, Hg, Hl, ⟨Hi0, Hw0, Hs0⟩, ⟨Hi1, Hw1, Hs1⟩, HF, -, HG, -, Hi, Hw, Hg5, ⟨Hs2, Hs3, Hs4, Hs5, Hs6, Hs7⟩, Hs10, HO⟩, Hscv, Hlen, Hs9⟩
  isplitl [Hi Hw Hg5 Hlen Hsc HF HG]
  · isplitl [Hi Hw Hg5 Hlen Hsc]
    · iframe
    · iframe
  isplitl [Ha Hst Hi0 Hi1 Hw0 Hw1 Hg Hl Hscv Hbufs]
  · isplitr [Hbufs]
    · isplitl [Ha]; · iexists _; iexact Ha
      isplitl [Hst]; · iexact Hst
      isplitl [Hi0 Hi1]
      · iapply (slot_join (ℓ := ml d L mIdsV) (slotSet 0) (slotSet 1) slots_union slots_disj)
        iframe
      isplitl [Hw0 Hw1]
      · iapply (slot_join (ℓ := ml d L mWV) (slotSet 0) (slotSet 1) slots_union slots_disj)
        iframe
      isplitl [Hg]; · iexact Hg
      isplitl [Hl]; · iexists _; iexact Hl
      iexists _; iexact Hscv
    · iexact Hbufs
  isplitr [HO]
  · isplitr [Hsems]
    · isplitl [Hs0]; · iexact Hs0
      isplitl [Hs1]; · iexact Hs1
      iframe
    · iexact Hsems
  · iexact HO

end Store

end Cert.Kernel.Pf

end
-- ==== Proof.HostOps.lean ====
/-
  The host operations of the kernel's program: @main as the list of its operations before the call, the call, and the list of
  its operations after it, with what each array the proof reads holds after either list.
-/
module

public import proofs.«01_k».proof.Proof.Gen.Kernel
public import Idealize.ShloMosaic.Lib.StableHlo.Run
public import Idealize.ShloMosaic.Lib.Pipeline.Frame

@[expose] public section

set_option Elab.async false

noncomputable section

namespace Cert.Kernel.Host

open Cert.Kernel Cert.Kernel.Gen Idealize.ShloMosaic Idealize.ShloMosaic.TcCoe Idealize.SL.Sem Idealize.ShloMosaic.StableHlo

variable {F : FTy → Type} [FloatOps F]

/-- The table of scales: for each table the step's inverse and the step. -/
def scales (a b : (⟨S6, .f32⟩ : BufTy).Contents (Elt F)) : (⟨S6x2, .f32⟩ : BufTy).Contents (Elt F) :=
  concatenate S6x2 1 [⟨S6x1, broadcastInDim S6x1 ![0] bcast_S6_S6x1_0 a⟩, ⟨S6x1, broadcastInDim S6x1 ![0] bcast_S6_S6x1_0 b⟩] concatenates_S6x1_S6x1_S6x2_d1

/-- The concatenation by name, so that its operands are plain arguments. -/
def fn_main_v2 : (⟨S6x1, .f32⟩ : BufTy).Contents (Elt F) → (⟨S6x1, .f32⟩ : BufTy).Contents (Elt F) → (⟨S6x2, .f32⟩ : BufTy).Contents (Elt F) :=
  (fun a b => concatenate S6x2 1 [⟨S6x1, a⟩, ⟨S6x1, b⟩] concatenates_S6x1_S6x1_S6x2_d1)

/-- @main's operations before the call. -/
abbrev ops : List (HloOp τ sig (Elt F)) :=
  [ unary main_arg4 main_v0 (broadcastInDim S6x1 ![0] bcast_S6_S6x1_0 : (⟨S6, .f32⟩ : BufTy).Contents (Elt F) → (⟨S6x1, .f32⟩ : BufTy).Contents (Elt F)),
    unary main_arg5 main_v1 (broadcastInDim S6x1 ![0] bcast_S6_S6x1_0 : (⟨S6, .f32⟩ : BufTy).Contents (Elt F) → (⟨S6x1, .f32⟩ : BufTy).Contents (Elt F)),
    binary main_v0 main_v1 main_v2 fn_main_v2,
    unary main_v2 main_v3 (broadcastInDim S6x2x1 ![0, 1] bcast_S6x2_S6x2x1_0_1 : (⟨S6x2, .f32⟩ : BufTy).Contents (Elt F) → (⟨S6x2x1, .f32⟩ : BufTy).Contents (Elt F)),
    unary main_v3 main_v4 (broadcastInDim S6x2x16 ![0, 1, 2] bcast_S6x2x1_S6x2x16_0_1_2 : (⟨S6x2x1, .f32⟩ : BufTy).Contents (Elt F) → (⟨S6x2x16, .f32⟩ : BufTy).Contents (Elt F)),
    reshape main_v4 main_v5 (rfl : (.f32 : EltTy) = .f32) shapeCasts_S6x2x16_S192,
    reshape main_arg0 main_v6 (rfl : (.f32 : EltTy) = .f32) shapeCasts_S6x160x2432_S6x20x8x19x128,
    unary main_v6 main_v7 ((transpose S6x20x19x8x128 [0, 1, 3, 2, 4] · transposes_S6x20x8x19x128_S6x20x19x8x128_0_1_3_2_4) : (⟨S6x20x8x19x128, .f32⟩ : BufTy).Contents (Elt F) → (⟨S6x20x19x8x128, .f32⟩ : BufTy).Contents (Elt F)),
    unary main_arg1 main_v8 ((transpose S6x2400x128 [1, 0, 2] · transposes_S2400x6x128_S6x2400x128_1_0_2) : (⟨S2400x6x128, .i32⟩ : BufTy).Contents (Elt F) → (⟨S6x2400x128, .i32⟩ : BufTy).Contents (Elt F)),
    unary main_arg2 main_v9 ((transpose S6x2400x128 [1, 0, 2] · transposes_S2400x6x128_S6x2400x128_1_0_2) : (⟨S2400x6x128, .f32⟩ : BufTy).Contents (Elt F) → (⟨S6x2400x128, .f32⟩ : BufTy).Contents (Elt F)),
    unary main_arg3 main_v10 ((transpose S6x2400 [1, 0] · transposes_S2400x6_S6x2400_1_0) : (⟨S2400x6, .i32⟩ : BufTy).Contents (Elt F) → (⟨S6x2400, .i32⟩ : BufTy).Contents (Elt F)) ]

theorem scopedRefs_eq : (Finset.univ.filter fun b : Ref sig .tc => b.isScoped) = ∅ := by decide
theorem ops_sub : (ops : List (HloOp τ sig (Elt F))).Forall fun op => op.bufs ⊆ tcRefs τ sig :=
  ⟨unary_bufs_sub .., unary_bufs_sub .., binary_bufs_sub .., unary_bufs_sub .., unary_bufs_sub .., reshape_bufs_sub .., reshape_bufs_sub .., unary_bufs_sub .., unary_bufs_sub .., unary_bufs_sub .., unary_bufs_sub ..⟩
theorem ops_fresh : ∀ op ∈ (ops : List (HloOp τ sig (Elt F))), op.fresh = ∅ := by
  have h : (ops : List (HloOp τ sig (Elt F))).Forall fun op => op.fresh = ∅ := ⟨rfl, rfl, rfl, rfl, rfl, rfl, rfl, rfl, rfl, rfl, rfl⟩
  exact List.forall_iff_forall_mem.mp h

/-- The buffers the operations before the call write. -/
abbrev ops_W : List (Ref sig .tc) := [main_v0, main_v1, main_v2, main_v3, main_v4, main_v5, main_v6, main_v7, main_v8, main_v9, main_v10]
theorem ops_writes : (ops : List (HloOp τ sig (Elt F))).Forall fun op => op.writes ⊆ (ops_W.map (Proc.devRef (τ := τ) .tc)).toFinset := by
  simp only [List.Forall]
  refine ⟨?_, ?_, ?_, ?_, ?_, ?_, ?_, ?_, ?_, ?_, ?_⟩ <;>
    (simp only [unary_writes, binary_writes, reshape_writes, Finset.singleton_subset_iff, List.mem_toFinset]; exact List.mem_map_of_mem (by decide))

/-- The device's buffer contents before the call. -/
def val1 (V0 : Valuation τ sig (Elt F)) : Valuation τ sig (Elt F) := after ops V0
theorem after_ops (V0 : Valuation τ sig (Elt F)) : after ops V0 = val1 V0 := rfl

/-- A buffer the operations before the call do not write keeps its contents. -/
theorem val1_keep (V0 : Valuation τ sig (Elt F)) (r : Ref sig .tc) (h : r ∉ ops_W) :
    val1 V0 (Proc.devRef .tc r) = V0 (Proc.devRef .tc r) :=
  after_of_writes_sub ops _ ops_writes h

theorem val1_main_v5 (V0 : Valuation τ sig (Elt F)) : val1 V0 (Proc.devRef .tc main_v5)
    = shapeCast S192 (broadcastInDim S6x2x16 ![0, 1, 2] bcast_S6x2x1_S6x2x16_0_1_2 (broadcastInDim S6x2x1 ![0, 1] bcast_S6x2_S6x2x1_0_1
        (scales (V0 (Proc.devRef .tc main_arg4)) (V0 (Proc.devRef .tc main_arg5))))) shapeCasts_S6x2x16_S192 := by
  unfold val1
  simp only [ops]
  after_results_simp
  rfl
theorem val1_main_v7 (V0 : Valuation τ sig (Elt F)) : val1 V0 (Proc.devRef .tc main_v7)
    = transpose S6x20x19x8x128 [0, 1, 3, 2, 4] (shapeCast _ (V0 (Proc.devRef .tc main_arg0)) shapeCasts_S6x160x2432_S6x20x8x19x128) transposes_S6x20x8x19x128_S6x20x19x8x128_0_1_3_2_4 := by
  unfold val1
  simp only [ops]
  after_results_simp
  rfl
theorem val1_main_v8 (V0 : Valuation τ sig (Elt F)) : val1 V0 (Proc.devRef .tc main_v8)
    = transpose S6x2400x128 [1, 0, 2] (V0 (Proc.devRef .tc main_arg1)) transposes_S2400x6x128_S6x2400x128_1_0_2 := by
  unfold val1
  simp only [ops]
  after_results_simp
theorem val1_main_v9 (V0 : Valuation τ sig (Elt F)) : val1 V0 (Proc.devRef .tc main_v9)
    = transpose S6x2400x128 [1, 0, 2] (V0 (Proc.devRef .tc main_arg2)) transposes_S2400x6x128_S6x2400x128_1_0_2 := by
  unfold val1
  simp only [ops]
  after_results_simp
theorem val1_main_v10 (V0 : Valuation τ sig (Elt F)) : val1 V0 (Proc.devRef .tc main_v10)
    = transpose S6x2400 [1, 0] (V0 (Proc.devRef .tc main_arg3)) transposes_S2400x6_S6x2400_1_0 := by
  unfold val1
  simp only [ops]
  after_results_simp

/-- @main's operations after the call. -/
abbrev post : List (HloOp τ sig (Elt F)) :=
  [ unary main_v11_0 main_v12 ((transpose S6x625x128x20x8 [0, 2, 4, 1, 3] · transposes_S6x20x625x8x128_S6x625x128x20x8_0_2_4_1_3) : (⟨S6x20x625x8x128, .f32⟩ : BufTy).Contents (Elt F) → (⟨S6x625x128x20x8, .f32⟩ : BufTy).Contents (Elt F)),
    reshape main_v12 main_v13 (rfl : (.f32 : EltTy) = .f32) shapeCasts_S6x625x128x20x8_S6x80000x160,
    unary main_v11_1 main_v14 ((transpose S6x625x128x20x8 [0, 2, 4, 1, 3] · transposes_S6x20x625x8x128_S6x625x128x20x8_0_2_4_1_3) : (⟨S6x20x625x8x128, .i32⟩ : BufTy).Contents (Elt F) → (⟨S6x625x128x20x8, .i32⟩ : BufTy).Contents (Elt F)),
    reshape main_v14 main_v15 (rfl : (.i32 : EltTy) = .i32) shapeCasts_S6x625x128x20x8_S6x80000x160 ]

theorem post_sub : (post : List (HloOp τ sig (Elt F))).Forall fun op => op.bufs ⊆ tcRefs τ sig :=
  ⟨unary_bufs_sub .., reshape_bufs_sub .., unary_bufs_sub .., reshape_bufs_sub ..⟩
theorem post_fresh : ∀ op ∈ (post : List (HloOp τ sig (Elt F))), op.fresh = ∅ := by
  have h : (post : List (HloOp τ sig (Elt F))).Forall fun op => op.fresh = ∅ := ⟨rfl, rfl, rfl, rfl⟩
  exact List.forall_iff_forall_mem.mp h

/-- The buffers the operations after the call write. -/
abbrev post_W : List (Ref sig .tc) := [main_v12, main_v13, main_v14, main_v15]
theorem post_writes : (post : List (HloOp τ sig (Elt F))).Forall fun op => op.writes ⊆ (post_W.map (Proc.devRef (τ := τ) .tc)).toFinset := by
  simp only [List.Forall]
  refine ⟨?_, ?_, ?_, ?_⟩ <;> (simp only [unary_writes, reshape_writes, Finset.singleton_subset_iff, List.mem_toFinset]; exact List.mem_map_of_mem (by decide))
/-- A buffer the operations after the call do not write keeps its contents. -/
theorem post_keep (V : Valuation τ sig (Elt F)) (r : Ref sig .tc) (h : r ∉ post_W) :
    after post V (Proc.devRef .tc r) = V (Proc.devRef .tc r) :=
  after_of_writes_sub post _ post_writes h
theorem post_main_v13 (V : Valuation τ sig (Elt F)) : after post V (Proc.devRef .tc main_v13)
    = shapeCast S6x80000x160 (transpose S6x625x128x20x8 [0, 2, 4, 1, 3] (V (Proc.devRef .tc main_v11_0)) transposes_S6x20x625x8x128_S6x625x128x20x8_0_2_4_1_3) shapeCasts_S6x625x128x20x8_S6x80000x160 := by
  simp only [post]
  after_results_simp
  rfl
theorem post_main_v15 (V : Valuation τ sig (Elt F)) : after post V (Proc.devRef .tc main_v15)
    = shapeCast S6x80000x160 (transpose S6x625x128x20x8 [0, 2, 4, 1, 3] (V (Proc.devRef .tc main_v11_1)) transposes_S6x20x625x8x128_S6x625x128x20x8_0_2_4_1_3) shapeCasts_S6x625x128x20x8_S6x80000x160 := by
  simp only [post]
  after_results_simp
  rfl

set_option maxRecDepth 8192 in
set_option maxHeartbeats 4000000 in
/-- @main is the operations before the call, the call, and the operations after it. -/
theorem main_eq (d : Dev nD) : main (F := F) d = (seq ops >>= fun _ => sc.run d 0 >>= fun _ => seq post) := rfl

end Cert.Kernel.Host

end
-- ==== Proof.Launch.lean ====
/-
  The launch: how the arrays split among the tasks, each task from its part, and @main around the call — hence the program's run,
  with every array of the TensorCore at what the operations and the tasks leave in it.
-/
module

public import proofs.«01_k».proof.Proof.Task
public import proofs.«01_k».proof.Proof.HostOps
public import Idealize.ShloMosaic.Lib.ShareLeaves

@[expose] public section

set_option Elab.async false

noncomputable section

namespace Cert.Kernel.Pf

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after tcRefs launchContents)
open Idealize.ShloMosaic.ShareLeaves (leaf pointsTo_leaves)

variable {F : FTy → Type} [FloatOps F]

local notation "𝕄" => MT nD τ sig (HIx 1) (Elt F) ℕ UU ℕ

theorem sep_assoc_eq' {M : Type _} [RA M] (P Q R : sProp M) : iprop((P ∗ Q) ∗ R) = iprop(P ∗ Q ∗ R) := equiv_iff.mp ⟨BI.sep_assoc, BI.sep_assoc'⟩

/-! ## The arrays of the call -/

abbrev rG5 : DevRef τ sig := Proc.devRef .tc main_v7
abbrev rIds : DevRef τ sig := Proc.devRef .tc main_v8
abbrev rWts : DevRef τ sig := Proc.devRef .tc main_v9
abbrev rLen : DevRef τ sig := Proc.devRef .tc main_v10
abbrev rSc : DevRef τ sig := Proc.devRef .tc main_v5
abbrev rOG : DevRef τ sig := Proc.devRef .tc main_v11_0
abbrev rOF : DevRef τ sig := Proc.devRef .tc main_v11_1

/-- The coordinates of task `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
abbrev L2 (c : Fin 2) (i : Fin 16) : grid0.Coords := coordsV c i

/-- The elements of the results that SparseCore `c` computes: its three tables. -/
def coreSet (c : Fin 2) : Finset S6x20x625x8x128.Idx := Finset.univ.filter fun p => 3 * c.val ≤ (p 0).val ∧ (p 0).val < 3 * c.val + 3
theorem mem_coreSet {c : Fin 2} {p : S6x20x625x8x128.Idx} : p ∈ coreSet c ↔ 3 * c.val ≤ (p 0).val ∧ (p 0).val < 3 * c.val + 3 := by simp [coreSet]

theorem mem_done30 {c : Fin 2} {i : Fin 16} {p : S6x20x625x8x128.Idx} : p ∈ doneSet (L2 c i) 30 ↔
    (3 * c.val ≤ (p 0).val ∧ (p 0).val < 3 * c.val + 3) ∧ (10 * i.val ≤ 8 * (p 1).val + (p 3).val ∧ 8 * (p 1).val + (p 3).val < 10 * i.val + 10) := by
  rw [mem_doneSet]
  show (3 * c.val ≤ (p 0).val ∧ (p 0).val < 3 * c.val + 3 ∧ 10 * i.val ≤ 8 * (p 1).val + (p 3).val ∧ 8 * (p 1).val + (p 3).val < 10 * i.val + 10)
    ∧ 10 * ((p 0).val - 3 * c.val) + (8 * (p 1).val + (p 3).val - 10 * i.val) < 30 ↔ _
  omega

theorem cores_disj : ∀ c ∈ (Finset.univ : Finset (Fin 2)), ∀ c' ∈ (Finset.univ : Finset (Fin 2)), c ≠ c' → Disjoint (coreSet c) (coreSet c') := by
  intro c _ c' _ h
  rw [Finset.disjoint_left]
  intro p h1 h2
  rw [mem_coreSet] at h1 h2
  exact h (Fin.ext (by omega))
theorem cores_cover : (Finset.univ : Finset (Fin 2)).biUnion coreSet = Finset.univ := by
  ext p
  simp only [Finset.mem_biUnion, Finset.mem_univ, true_and, iff_true, mem_coreSet]
  have h : (p 0).val < 6 := (p 0).isLt
  refine ⟨⟨(p 0).val / 3, by omega⟩, ?_, ?_⟩
  · show 3 * ((p 0).val / 3) ≤ (p 0).val; omega
  · show (p 0).val < 3 * ((p 0).val / 3) + 3; omega
theorem tasks_disj (c : Fin 2) : ∀ i ∈ (Finset.univ : Finset (Fin 16)), ∀ j ∈ (Finset.univ : Finset (Fin 16)), i ≠ j →
    Disjoint (doneSet (L2 c i) 30) (doneSet (L2 c j) 30) := by
  intro i _ j _ h
  rw [Finset.disjoint_left]
  intro p h1 h2
  rw [mem_done30] at h1 h2
  exact h (Fin.ext (by omega))
theorem tasks_cover (c : Fin 2) : (Finset.univ : Finset (Fin 16)).biUnion (fun i => doneSet (L2 c i) 30) = coreSet c := by
  ext p
  simp only [Finset.mem_biUnion, Finset.mem_univ, true_and, mem_done30, mem_coreSet]
  have h1 : (p 1).val < 20 := (p 1).isLt
  have h3 : (p 3).val < 8 := (p 3).isLt
  constructor
  · rintro ⟨i, h, -⟩; exact h
  · intro h
    refine ⟨⟨(8 * (p 1).val + (p 3).val) / 10, by omega⟩, h, ?_, ?_⟩
    · show 10 * ((8 * (p 1).val + (p 3).val) / 10) ≤ _; omega
    · show _ < 10 * ((8 * (p 1).val + (p 3).val) / 10) + 10; omega

/-! ## The split -/

section Split

variable (d : Dev nD)
variable (g5 : S6x20x19x8x128.Idx → F .f32) (ids : S6x2400x128.Idx → BitVec 32) (wts : S6x2400x128.Idx → F .f32)
  (len : S6x2400.Idx → BitVec 32) (sc : S192.Idx → F .f32)

/-- The arrays the call reads, at a share. -/
def inP (q : PosShare TreeShare) : sProp 𝕄 :=
  iprop((((d, rIds) : Loc nD τ sig) ↦{q} ids) ∗ (((d, rWts) : Loc nD τ sig) ↦{q} wts) ∗ (((d, rG5) : Loc nD τ sig) ↦{q} g5)
    ∗ (((d, rLen) : Loc nD τ sig) ↦{q} len) ∗ (((d, rSc) : Loc nD τ sig) ↦{q} sc))
/-- A part of the results. -/
def outP (I : Finset S6x20x625x8x128.Idx) (f : S6x20x625x8x128.Idx → BitVec 32) (g : S6x20x625x8x128.Idx → F .f32) : sProp 𝕄 :=
  iprop((((d, rOF) : Loc nD τ sig) ↦[I]{fullShare} f) ∗ (((d, rOG) : Loc nD τ sig) ↦[I]{fullShare} g))

theorem inP_leaves (n : ℕ) (q : PosShare TreeShare) :
    (inP d g5 ids wts len sc q : sProp 𝕄) = bigSep Finset.univ fun i : Fin (2 ^ n) => inP d g5 ids wts len sc (leaf n q i) := by
  unfold inP
  rw [bigSep_sep', bigSep_sep', bigSep_sep', bigSep_sep', ← pointsTo_leaves, ← pointsTo_leaves, ← pointsTo_leaves, ← pointsTo_leaves, ← pointsTo_leaves]

/-- The share of SparseCore `c`, and of task `i` of it. -/
abbrev qc (c : Fin 2) : PosShare TreeShare := leaf 1 fullShare c
abbrev qi (c : Fin 2) (i : Fin 16) : PosShare TreeShare := leaf 4 (qc c) i

variable (f : S6x20x625x8x128.Idx → BitVec 32) (g : S6x20x625x8x128.Idx → F .f32)

def wholeP : sProp 𝕄 := iprop(inP d g5 ids wts len sc fullShare ∗ outP d Finset.univ f g)
def coreP (c : Fin 2) : sProp 𝕄 := iprop(inP d g5 ids wts len sc (qc c) ∗ outP d (coreSet c) f g)
def taskP (c : Fin 2) (i : Fin 16) : sProp 𝕄 := iprop(inP d g5 ids wts len sc (qi c i) ∗ outP d (doneSet (L2 c i) 30) f g)

theorem outP_cores : (outP d Finset.univ f g : sProp 𝕄) = bigSep Finset.univ fun c : Fin 2 => outP d (coreSet c) f g := by
  unfold outP
  rw [bigSep_sep', ← pointsTo_biUnion Finset.univ (ℓ := ((d, rOF) : Loc nD τ sig)) coreSet cores_disj,
    ← pointsTo_biUnion Finset.univ (ℓ := ((d, rOG) : Loc nD τ sig)) coreSet cores_disj, cores_cover]
theorem outP_tasks (c : Fin 2) : (outP d (coreSet c) f g : sProp 𝕄) = bigSep Finset.univ fun i : Fin 16 => outP d (doneSet (L2 c i) 30) f g := by
  unfold outP
  rw [bigSep_sep', ← pointsTo_biUnion Finset.univ (ℓ := ((d, rOF) : Loc nD τ sig)) (fun i => doneSet (L2 c i) 30) (tasks_disj c),
    ← pointsTo_biUnion Finset.univ (ℓ := ((d, rOG) : Loc nD τ sig)) (fun i => doneSet (L2 c i) 30) (tasks_disj c), tasks_cover]

theorem wholeP_cores : (wholeP d g5 ids wts len sc f g : sProp 𝕄) = bigSep Finset.univ fun c : Fin 2 => coreP d g5 ids wts len sc f g c := by
  unfold wholeP coreP
  rw [bigSep_sep', ← outP_cores]
  congr 1
  exact inP_leaves d g5 ids wts len sc 1 fullShare
theorem coreP_tasks (c : Fin 2) : (coreP d g5 ids wts len sc f g c : sProp 𝕄) = bigSep Finset.univ fun i : Fin 16 => taskP d g5 ids wts len sc f g c i := by
  unfold coreP taskP
  rw [bigSep_sep', ← outP_tasks]
  congr 1
  exact inP_leaves d g5 ids wts len sc 4 (qc c)

instance coreP_storable (c : Fin 2) : BI.Storable (upEmb : UEmb _ 𝕄) (coreP d g5 ids wts len sc f g c) := by
  unfold coreP inP outP; infer_instance
instance taskP_storable (c : Fin 2) (i : Fin 16) : BI.Storable (upEmb : UEmb _ 𝕄) (taskP d g5 ids wts len sc f g c i) := by
  unfold taskP inP outP; infer_instance

end Split

/-! ## The contents around the call -/

section Run

variable (m : (ℓ : Loc nD τ sig) → Buf (Elt F) ℓ) (ρ : Dev nD → PrngReg)

/-- The contents before the call. -/
def V1 (d : Dev nD) : Valuation τ sig (Elt F) := after Host.ops (launchContents m d)
abbrev vG5 (d : Dev nD) : S6x20x19x8x128.Idx → F .f32 := V1 m d rG5
abbrev vIds (d : Dev nD) : S6x2400x128.Idx → BitVec 32 := V1 m d rIds
abbrev vWts (d : Dev nD) : S6x2400x128.Idx → F .f32 := V1 m d rWts
abbrev vLen (d : Dev nD) : S6x2400.Idx → BitVec 32 := V1 m d rLen
abbrev vSc (d : Dev nD) : S192.Idx → F .f32 := V1 m d rSc
/-- What the tasks leave. -/
abbrev fixV (d : Dev nD) : S6x20x625x8x128.Idx → BitVec 32 := fixT (vG5 m d) (vIds m d) (vWts m d) (vLen m d) (vSc m d)
abbrev gradVV (d : Dev nD) : S6x20x625x8x128.Idx → F .f32 := gradT (vG5 m d) (vIds m d) (vWts m d) (vLen m d) (vSc m d)
/-- The contents after the call. -/
def V2 (d : Dev nD) : Valuation τ sig (Elt F) := Function.update (Function.update (V1 m d) rOG (gradVV m d)) rOF (fixV m d)
/-- The contents at the end. -/
def V3 (d : Dev nD) : Valuation τ sig (Elt F) := after Host.post (V2 m d)

/-- What the tasks need of the arrays they read. -/
structure OkIn (d : Dev nD) : Prop where
  len : ∀ i, (vLen m d i).toInt ≤ 128
  ids : ∀ i, (vIds m d i).toNat < 80000
  sc : ∀ t x : ℕ, t < 6 → x < 16 → vSc m d (i1 (32 * t + 16 + x)) = vSc m d (i1 (32 * t + 16))

theorem nCore_zero : (K (F := F)).nCore 0 = 2 := rfl
theorem nSub_zero : (K (F := F)).nSub 0 = 16 := rfl

abbrev st2 (d : Dev nD) (c : Fin 2) : sProp 𝕄 := coreP d (vG5 m d) (vIds m d) (vWts m d) (vLen m d) (vSc m d) (V1 m d rOF) (V1 m d rOG) c
abbrev dn2 (d : Dev nD) (c : Fin 2) : sProp 𝕄 := coreP d (vG5 m d) (vIds m d) (vWts m d) (vLen m d) (vSc m d) (fixV m d) (gradVV m d) c
abbrev go2 (d : Dev nD) (c : Fin 2) (i : Fin 16) : sProp 𝕄 := taskP d (vG5 m d) (vIds m d) (vWts m d) (vLen m d) (vSc m d) (V1 m d rOF) (V1 m d rOG) c i
abbrev td2 (d : Dev nD) (c : Fin 2) (i : Fin 16) : sProp 𝕄 := taskP d (vG5 m d) (vIds m d) (vWts m d) (vLen m d) (vSc m d) (fixV m d) (gradVV m d) c i

/-- The call hands each SparseCore its part of the arrays, each task its part of that, and brings them back with the results. -/
def P : (K (F := F)).Pay (nD := nD) (Val := Elt F) (Name := ℕ) (U := UU) where
  st := fun q d c => match q with | 0 => st2 m d (Fin.cast nCore_zero c)
  dn := fun q d c => match q with | 0 => dn2 m d (Fin.cast nCore_zero c)
  go := fun q d c i => match q with | 0 => go2 m d (Fin.cast nCore_zero c) (Fin.cast nSub_zero i)
  td := fun q d c i => match q with | 0 => td2 m d (Fin.cast nCore_zero c) (Fin.cast nSub_zero i)
  x := fun _ _ => iprop(emp)

instance P_storable : (P (F := F) m).IsStorable where
  st q d c := match q with | 0 => (inferInstance : BI.Storable (upEmb : UEmb _ 𝕄) (st2 m d (Fin.cast nCore_zero c)))
  dn q d c := match q with | 0 => (inferInstance : BI.Storable (upEmb : UEmb _ 𝕄) (dn2 m d (Fin.cast nCore_zero c)))
  go q d c i := match q with | 0 => (inferInstance : BI.Storable (upEmb : UEmb _ 𝕄) (go2 m d (Fin.cast nCore_zero c) (Fin.cast nSub_zero i)))
  td q d c i := match q with | 0 => (inferInstance : BI.Storable (upEmb : UEmb _ 𝕄) (td2 m d (Fin.cast nCore_zero c) (Fin.cast nSub_zero i)))

theorem defs₀_vector (c : Fin τ.nSC) (s : Fin τ.nSub) :
    defs₀ (F := F) (.scVector c s) 0 ()
      = SparseCore.onTile hcore0 hsub0 (fun c s => cc0_bag_scatter (coordsV c s) mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's part is what its body takes. -/
theorem taskP_eq (d : Dev nD) (c : Fin 2) (i : Fin 16) (g5 : S6x20x19x8x128.Idx → F .f32) (ids : S6x2400x128.Idx → BitVec 32) (wts : S6x2400x128.Idx → F .f32)
    (len : S6x2400.Idx → BitVec 32) (sc : S192.Idx → F .f32) (f : S6x20x625x8x128.Idx → BitVec 32) (g : S6x20x625x8x128.Idx → F .f32) :
    (taskP d g5 ids wts len sc f g c i : sProp 𝕄) = iprop(InT d (L2 c i) (qi c i) g5 ids wts len sc ∗ OutT d (L2 c i) f g) := rfl

set_option maxRecDepth 2048 in
theorem tileObl (hF : (K (F := F)).Facts) (hok : ∀ d, OkIn m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (qi (Fin.cast nCore_zero c) (Fin.cast nSub_zero i)) (vG5 m d) (vIds m d) (vWts m d) (vLen m d) (vSc m d)
    (V1 m d rOF) (V1 m d rOG) (hok d).len (hok d).ids (hok d).sc hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show st2 m d (Fin.cast nCore_zero c) ⊢ |={Set.univ}=> iprop(
      (bigSep Finset.univ fun i : Fin ((K (F := F)).nSub 0) => go2 m d (Fin.cast nCore_zero c) (Fin.cast nSub_zero i))
      ∗ ((bigSep Finset.univ fun i : Fin ((K (F := F)).nSub 0) => td2 m d (Fin.cast nCore_zero c) (Fin.cast nSub_zero i)) -∗ dn2 m d (Fin.cast nCore_zero c)))
  rw [bigSep_tasks (F := F) (fun i => go2 m d (Fin.cast nCore_zero c) i), bigSep_tasks (F := F) (fun i => td2 m d (Fin.cast nCore_zero c) i),
    ← coreP_tasks, ← coreP_tasks]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem unscoped_held (d : Dev nD) :
    (unscopedBufs d (fun b => m ((SparseCore.T d).loc b)) : sProp 𝕄) = held (T d) (tcRefs τ sig) (launchContents m d) := by
  unfold unscopedBufs held tcRefs
  rw [bigSep_map, show (Finset.univ.filter fun b : Ref sig .tc => ¬ b.isScoped) = Finset.univ from
    Finset.filter_true_of_mem fun b _ hb => by
      have h : b ∈ (Finset.univ.filter fun b : Ref sig .tc => b.isScoped) := Finset.mem_filter.mpr ⟨Finset.mem_univ _, hb⟩
      rw [Host.scopedRefs_eq] at h; exact absurd h (Finset.notMem_empty _)]
  rfl

/-- The arrays of the call among the TensorCore's. -/
def S7 : Finset (DevRef τ sig) := {rIds, rWts, rG5, rLen, rSc, rOF, rOG}
theorem S7_sub : S7 ⊆ tcRefs τ sig := by
  intro b hb
  simp only [S7, Finset.mem_insert, Finset.mem_singleton] at hb
  rcases hb with rfl | rfl | rfl | rfl | rfl | rfl | rfl <;> exact StableHlo.devRef_mem_tcRefs _

theorem held_S7 (d : Dev nD) (W : Valuation τ sig (Elt F)) :
    (held (T d) S7 W : sProp 𝕄) = wholeP d (W rG5) (W rIds) (W rWts) (W rLen) (W rSc) (W rOF) (W rOG) := by
  unfold held S7 wholeP inP outP
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rw [sep_assoc_eq', sep_assoc_eq', sep_assoc_eq', sep_assoc_eq']

theorem V2_of_ne (d : Dev nD) (b : DevRef τ sig) (h1 : b ≠ rOF) (h2 : b ≠ rOG) : V2 m d b = V1 m d b := by
  unfold V2; rw [Function.update_of_ne h1, Function.update_of_ne h2]
theorem V2_rOF (d : Dev nD) : V2 m d rOF = fixV m d := Function.update_self _ _ _
theorem V2_rOG (d : Dev nD) : V2 m d rOG = gradVV m d := (Function.update_of_ne (show rOG ≠ rOF by decide) _ _).trans (Function.update_self _ _ _)

theorem held_rest (d : Dev nD) : (held (T d) (tcRefs τ sig \ S7) (V2 m d) : sProp 𝕄) = held (T d) (tcRefs τ sig \ S7) (V1 m d) :=
  StableHlo.held_congr _ fun b hb => by
    have h := (Finset.mem_sdiff.mp hb).2
    exact V2_of_ne m d b (fun e => h (by rw [e]; decide)) (fun e => h (by rw [e]; decide))

theorem held_V2 (d : Dev nD) :
    (held (T d) S7 (V2 m d) : sProp 𝕄) = wholeP d (vG5 m d) (vIds m d) (vWts m d) (vLen m d) (vSc m d) (fixV m d) (gradVV m d) := by
  rw [held_S7, V2_rOF, V2_rOG, V2_of_ne m d rG5 (by decide) (by decide), V2_of_ne m d rIds (by decide) (by decide), V2_of_ne m d rWts (by decide) (by decide),
    V2_of_ne m d rLen (by decide) (by decide), V2_of_ne m d rSc (by decide) (by decide)]

theorem st0_eq (d : Dev nD) : (bigSep Finset.univ fun c : Fin ((K (F := F)).nCore 0) => (P m).st 0 d c) = (held (T d) S7 (V1 m d) : sProp 𝕄) := by
  rw [held_S7, wholeP_cores]; exact bigSep_cores (F := F) (fun c => st2 m d c)
theorem dn0_eq (d : Dev nD) : (bigSep Finset.univ fun c : Fin ((K (F := F)).nCore 0) => (P m).dn 0 d c) = (held (T d) S7 (V2 m d) : sProp 𝕄) := by
  rw [held_V2, wholeP_cores]; exact bigSep_cores (F := F) (fun c => dn2 m d c)

/-- What @main leaves: every array of the TensorCore at its last contents. -/
abbrev FIN (d : Dev nD) : sProp 𝕄 := held (T d) (tcRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, Host.main_eq]
  iintro ⟨#Hctx, Hst, ⟨Hb, Hheld, Hts, -⟩, -⟩
  iapply (StableHlo.wp_seq (defs := (K (F := F)).defs (D (F := F))) 𝒱 none Set.univ d (tcRefs τ sig) (fun _ => sc.run d 0 >>= fun _ => StableHlo.seq Host.post) Host.ops
    (List.forall_iff_forall_mem.1 Host.ops_sub) Host.ops_fresh (launchContents m d)) $$ [Hb Hheld]
  · isplitl [Hb] <;> iassumption
  iintro ⟨Hb, Hheld⟩
  ihave Hh := (Entails.of_eq (show (held (T d) (tcRefs τ sig) (after Host.ops (launchContents m d)) : sProp 𝕄) = _ from
    StableHlo.held_sub_split (T d) S7_sub (V1 m d))) $$ Hheld
  icases Hh with ⟨H7, Hrest⟩
  rw [wp_bind]
  iapply ((K (F := F)).wp_run (D (F := F)) 𝒱 (EH := EH) (P := P m) κ d 0) $$ [Hst H7 Hb Hrest Hts]
  isplitr; · iexact Hctx
  isplitl [Hst]; · iexact Hst
  isplitl [H7]
  · rw [st0_eq]; iexact H7
  iintro ⟨Hst, Hdn⟩
  ihave H7 := (Entails.of_eq (dn0_eq m d)) $$ Hdn
  ihave Hrest := (Entails.of_eq (held_rest m d).symm) $$ Hrest
  ihave Hheld := (Entails.of_eq (StableHlo.held_sub_split (T d) S7_sub (V2 m d)).symm) $$ [H7 Hrest]
  · isplitl [H7] <;> iassumption
  rw [← bind_pure (StableHlo.seq Host.post)]
  iapply (StableHlo.wp_seq (defs := (K (F := F)).defs (D (F := F))) 𝒱 none Set.univ d (tcRefs τ sig) (fun u => Pure.pure u) Host.post
    (List.forall_iff_forall_mem.1 Host.post_sub) Host.post_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b : Ref sig .tc, s'.mem.mem ((T d : Thread nD τ).loc b) = V3 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-! ## The run -/

def QC : PUnit × MemSt nD τ sig (Elt F) → Prop := fun r =>
  (∀ (d : Dev nD) (b : Ref sig .tc), r.2.mem ((T d : Thread nD τ).loc b) = V3 m d (Proc.devRef .tc b)) ∧ r.2.sem = fun _ => 0

/-- Every execution ends, with the TensorCore's arrays at `V3` and every semaphore at zero. -/
theorem run_main [∀ e, Nonempty (Elt F e)] (hok : ∀ d, OkIn m d) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Kernel.Pf

end
-- ==== Proof.Frame.lean ====
/-
  The kernel's frame: under the precondition every execution ends, with the arguments as they were and every semaphore at zero.
-/
module

public import proofs.«01_k».proof.Defs
public import proofs.«01_k».proof.Proof.Launch
public import proofs.«01_k».proof.Proof.Gen.Pre_in_range

@[expose] public section

set_option Elab.async false

noncomputable section

namespace Cert.Kernel.Pf

open Cert.Kernel Cert.Kernel.Gen
open Idealize.ShloMosaic
open Idealize.ShloMosaic.SparseCore (S V T)
open Idealize.SL.Sem Idealize.ShloMosaic.StableHlo

variable {F : FTy → Type} [FloatOps F]

/-- The precondition at one id: it names a row of its table, and its bag is no longer than its id list. -/
theorem pre_at (a0 : FVec F S6x160x2432 .f32) (a1 : IVec S2400x6x128 32) (a2 : FVec F S2400x6x128 .f32) (a3 : IVec S2400x6 32) (a4 a5 : FVec F S6 .f32)
    (h : Cert.Pre_in_range.fn (F := F) a0 a1 a2 a3 a4 a5 = fun _ => 1#1) (b : Fin 2400) (t : Fin 6) (l : Fin 128) :
    (a1 (ix3 b t l)).toNat < 80000 ∧ (a3 (ix2 b t)).toInt ≤ 128 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v w : BitVec 32, IntOp.andi (IntOp.andi (IntOp.cmpi .sge v 0#32) (IntOp.cmpi .slt v 80000#32)) (IntOp.cmpi .sle w 128#32) = 1#1 →
      v.toNat < 80000 ∧ w.toInt ≤ 128 := by
    intro v w e
    simp only [IntOp.cmpi, andi_ofBool, ofBool_eq_one, Bool.and_eq_true, BitVec.sle_eq_decide, BitVec.slt_eq_decide, decide_eq_true_eq] at e
    obtain ⟨⟨e1, e2⟩, e3⟩ := e
    refine ⟨?_, e3⟩
    simp only [BitVec.toInt_eq_toNat_cond, BitVec.toNat_ofNat, Nat.reducePow, Nat.reduceMod] at e1 e2
    omega
  have e := key (a1 (ix3 b t l)) (a3 _) (congrFun h (ix3 b t l))
  refine ⟨e.1, le_of_eq_of_le (congrArg (fun j => (a3 j).toInt) (funext fun a => Fin.ext ?_)) e.2⟩
  match a with
  | ⟨0, _⟩ => rfl
  | ⟨1, _⟩ => rfl

/-- A lane of the scales read off the table of scales. -/
theorem sc_lane {α : Type} (X : S6x2.Idx → α) (t : Fin 6) (s : Fin 2) (x : ℕ) (hx : x < 16) :
    shapeCast S192 (broadcastInDim S6x2x16 ![0, 1, 2] bcast_S6x2x1_S6x2x16_0_1_2 (broadcastInDim S6x2x1 ![0, 1] bcast_S6x2_S6x2x1_0_1 X)) shapeCasts_S6x2x16_S192
      (i1 (32 * t.val + 16 * s.val + x)) = X (ix2 t s) := by
  have ht := t.isLt
  have hs := s.isLt
  have e : Shape.reshapeEquiv (s := S6x2x16) (s' := S192) shapeCasts_S6x2x16_S192 (i1 (32 * t.val + 16 * s.val + x)) = ix3 t s ⟨x, hx⟩ := by
    refine Shape.reshapeEquiv_eq_of_vals _ _ _ _ _ (rowMajor_val3 _ 32 16 rfl rfl) (rowMajor_val1 _) ?_
    show t.val * 32 + s.val * 16 + x = (32 * t.val + 16 * s.val + x) % 192
    omega
  unfold shapeCast
  rw [e]
  refine congrArg X (funext fun a => Fin.ext ?_)
  match a with
  | ⟨0, _⟩ => rfl
  | ⟨1, _⟩ => rfl

variable (m : (ℓ : Loc nD τ sig) → Buf (Elt F) ℓ) (ρ : Dev nD → PrngReg)

/-- The arguments on one device. -/
abbrev aG (d : Dev nD) : S6x160x2432.Idx → F .f32 := launchContents m d (Proc.devRef .tc main_arg0)
abbrev aIds (d : Dev nD) : S2400x6x128.Idx → BitVec 32 := launchContents m d (Proc.devRef .tc main_arg1)
abbrev aWts (d : Dev nD) : S2400x6x128.Idx → F .f32 := launchContents m d (Proc.devRef .tc main_arg2)
abbrev aLen (d : Dev nD) : S2400x6.Idx → BitVec 32 := launchContents m d (Proc.devRef .tc main_arg3)

theorem vIds_eq (d : Dev nD) : vIds m d = transpose S6x2400x128 [1, 0, 2] (aIds m d) transposes_S2400x6x128_S6x2400x128_1_0_2 :=
  (congrFun (Host.after_ops _) _).trans (Host.val1_main_v8 _)
theorem vWts_eq (d : Dev nD) : vWts m d = transpose S6x2400x128 [1, 0, 2] (aWts m d) transposes_S2400x6x128_S6x2400x128_1_0_2 :=
  (congrFun (Host.after_ops _) _).trans (Host.val1_main_v9 _)
theorem vLen_eq (d : Dev nD) : vLen m d = transpose S6x2400 [1, 0] (aLen m d) transposes_S2400x6_S6x2400_1_0 :=
  (congrFun (Host.after_ops _) _).trans (Host.val1_main_v10 _)
theorem vG5_eq (d : Dev nD) : vG5 m d = transpose S6x20x19x8x128 [0, 1, 3, 2, 4] (shapeCast S6x20x8x19x128 (aG m d) shapeCasts_S6x160x2432_S6x20x8x19x128)
    transposes_S6x20x8x19x128_S6x20x19x8x128_0_1_3_2_4 :=
  (congrFun (Host.after_ops _) _).trans (Host.val1_main_v7 _)

/-- The scales the tasks read are the lanes of the table of scales. -/
theorem vSc_lane (d : Dev nD) (t : Fin 6) (s : Fin 2) (x : ℕ) (hx : x < 16) :
    vSc m d (i1 (32 * t.val + 16 * s.val + x)) = Host.scales (launchContents m d (Proc.devRef .tc main_arg4)) (launchContents m d (Proc.devRef .tc main_arg5)) (ix2 t s) :=
  (congrFun ((congrFun (Host.after_ops _) _).trans (Host.val1_main_v5 _)) _).trans (sc_lane _ t s x hx)

/-- The precondition on one device. -/
abbrev PreAt (d : Dev nD) : Prop := ∀ (b : Fin 2400) (t : Fin 6) (l : Fin 128), (aIds m d (ix3 b t l)).toNat < 80000 ∧ (aLen m d (ix2 b t)).toInt ≤ 128

theorem ok_of_pre (d : Dev nD) (h : PreAt m d) : OkIn m d where
  len i := by
    rw [vLen_eq]
    show (aLen m d _).toInt ≤ 128
    rw [eq_ix2 (transposes_S2400x6_S6x2400_1_0.src i)]
    exact (h _ _ 0).2
  ids i := by
    rw [vIds_eq]
    show (aIds m d _).toNat < 80000
    rw [eq_ix3 (transposes_S2400x6x128_S6x2400x128_1_0_2.src i)]
    exact (h _ _ _).1
  sc t x ht hx := by
    have h1 := vSc_lane m d ⟨t, ht⟩ 1 x hx
    have h0 := vSc_lane m d ⟨t, ht⟩ 1 0 (by decide)
    exact h1.trans h0.symm

/-- An argument is at the end as it was. -/
theorem V3_arg (d : Dev nD) (r : Ref sig .tc) (h : r ∉ Host.post_W) (h1 : Proc.devRef .tc r ≠ rOF) (h2 : Proc.devRef .tc r ≠ rOG) :
    V3 m d (Proc.devRef .tc r) = Host.val1 (launchContents m d) (Proc.devRef .tc r) :=
  (Host.post_keep _ r h).trans ((V2_of_ne m d _ h1 h2).trans (congrFun (Host.after_ops _) _))

/-- Every argument is at the end as it was. -/
theorem V3_main_arg (d : Dev nD) (r : Ref sig .tc) (h : r ∉ Host.post_W) (h0 : r ∉ Host.ops_W) (h1 : Proc.devRef .tc r ≠ rOF) (h2 : Proc.devRef .tc r ≠ rOG) :
    V3 m d (Proc.devRef .tc r) = m ((d.tc : Thread nD τ).loc r) :=
  (V3_arg m d r h h1 h2).trans (Host.val1_keep _ r h0)

/-- The arguments are at the end as they were, in a final memory that agrees with `V3`. -/
theorem args_unchanged (c : Dev nD) (m' : (ℓ : Loc nD τ sig) → Buf (Elt F) ℓ) (h : ∀ r : Ref sig .tc, m' ((c.tc : Thread nD τ).loc r) = V3 m c (Proc.devRef .tc r)) :
    m' ((c.tc : Thread nD τ).loc main_arg0) = m ((c.tc : Thread nD τ).loc main_arg0) ∧ m' ((c.tc : Thread nD τ).loc main_arg1) = m ((c.tc : Thread nD τ).loc main_arg1)
      ∧ m' ((c.tc : Thread nD τ).loc main_arg2) = m ((c.tc : Thread nD τ).loc main_arg2) ∧ m' ((c.tc : Thread nD τ).loc main_arg3) = m ((c.tc : Thread nD τ).loc main_arg3)
      ∧ m' ((c.tc : Thread nD τ).loc main_arg4) = m ((c.tc : Thread nD τ).loc main_arg4) ∧ m' ((c.tc : Thread nD τ).loc main_arg5) = m ((c.tc : Thread nD τ).loc main_arg5) := by
  have k := fun (r : Ref sig .tc) h1 h2 h3 h4 => (h r).trans (V3_main_arg m c r h1 h2 h3 h4)
  exact ⟨k main_arg0 (by decide) (by decide) (by decide) (by decide), k main_arg1 (by decide) (by decide) (by decide) (by decide),
    k main_arg2 (by decide) (by decide) (by decide) (by decide), k main_arg3 (by decide) (by decide) (by decide) (by decide),
    k main_arg4 (by decide) (by decide) (by decide) (by decide), k main_arg5 (by decide) (by decide) (by decide) (by decide)⟩

/-- The kernel's frame (Defs.lean). -/
theorem frame : Cert.quiescent_Kernel := fun m ρ hpre =>
  (θ_run Cert.Kernel.defs _ _).mono
    (fun r h => ⟨fun c => args_unchanged m c r.2.mem (fun b => h.1 c b), h.2⟩)
    (run_main (F := Bits) m ρ fun d => ok_of_pre m d (pre_at _ _ _ _ _ _ (hpre d)))

end Cert.Kernel.Pf

end
-- ==== Proof.Ideal.Words.lean ====
/-
  The offsets and the trip counts which the kernel computes by word arithmetic, in closed form.
-/
module

public import proofs.«01_k».proof.Proof.Gen.KernelIdeal
public import proofs.«01_k».proof.Proof.Gen.KernelIdeal.Skeleton
public import Idealize.ShloMosaic.Lib.Decide
public import Idealize.ShloMosaic.Lib.LoopRemainder

@[expose] public section

set_option Elab.async false

noncomputable section

namespace Cert.KernelIdeal.Pf

open Cert.KernelIdeal Cert.KernelIdeal.Gen
open Idealize.ShloMosaic

/-- The table a tile works on in its trip `t2`, its channel in trip `t3`. -/
def tabN (i : grid0.Coords) (t2 : ℕ) : ℕ := 3 * (i 0).val + t2
def chN (i : grid0.Coords) (t3 : ℕ) : ℕ := 10 * (i 1).val + t3

theorem trips1 : k0_t1_loop.trips = 5000 := by decide +kernel
theorem trips2 : k0_t2_loop.trips = 3 := by decide +kernel
theorem trips3 : k0_t3_loop.trips = 10 := by decide +kernel
theorem trips4 : k0_t4_loop.trips = 60 := by decide +kernel
theorem trips5 : k0_t5_loop.trips = 40 := by decide +kernel

theorem trips8 : k0_t8_loop.trips = 125 := by decide +kernel

theorem trips9 : k0_t9_loop.trips = 125 := by decide +kernel

theorem trips10 : k0_t10_loop.trips = 125 := by decide +kernel

theorem trips11 : k0_t11_loop.trips = 125 := by decide +kernel

theorem trips12 : k0_t12_loop.trips = 125 := by decide +kernel

theorem cf1 : ∀ (t1 : Fin k0_t1_loop.trips), k0_off1 t1 = ![t1.val / 8, 16 * (t1.val % 8)] := by
  have h : ∀ (t1 : Fin k0_t1_loop.trips), ∀ a, k0_off1 t1 a = (![t1.val / 8, 16 * (t1.val % 8)]) a := by decide +kernel
  intros; funext a; apply h

theorem cf2 : ∀ (i : grid0.Coords) (t2 : Fin k0_t2_loop.trips), k0_off2 i t2 = ![tabN i t2.val, 0] := by
  have h : ∀ (i : grid0.Coords) (t2 : Fin k0_t2_loop.trips), ∀ a, k0_off2 i t2 a = (![tabN i t2.val, 0]) a := by decide +kernel
  intros; funext a; apply h

theorem cf3 : ∀ (i : grid0.Coords) (t2 : Fin k0_t2_loop.trips), k0_off3 i t2 = ![32 * tabN i t2.val] := by
  have h : ∀ (i : grid0.Coords) (t2 : Fin k0_t2_loop.trips), ∀ a, k0_off3 i t2 a = (![32 * tabN i t2.val]) a := by decide +kernel
  intros; funext a; apply h

theorem cf4 : ∀ (i : grid0.Coords) (t2 : Fin k0_t2_loop.trips), k0_off4 i t2 = ![32 * tabN i t2.val + 16] := by
  have h : ∀ (i : grid0.Coords) (t2 : Fin k0_t2_loop.trips), ∀ a, k0_off4 i t2 a = (![32 * tabN i t2.val + 16]) a := by decide +kernel
  intros; funext a; apply h

theorem cf5 : ∀ (i : grid0.Coords) (t2 : Fin k0_t2_loop.trips), k0_off5 i t2 = ![tabN i t2.val, 0, 0] := by
  have h : ∀ (i : grid0.Coords) (t2 : Fin k0_t2_loop.trips), ∀ a, k0_off5 i t2 a = (![tabN i t2.val, 0, 0]) a := by decide +kernel
  intros; funext a; apply h

theorem cf6 : ∀ (i : grid0.Coords) (t2 : Fin k0_t2_loop.trips) (t3 : Fin k0_t3_loop.trips), k0_off6 i t2 t3 = ![tabN i t2.val, chN i t3.val / 8, 0, chN i t3.val % 8, 0] := by
  have h : ∀ (i : grid0.Coords) (t2 : Fin k0_t2_loop.trips) (t3 : Fin k0_t3_loop.trips), ∀ a, k0_off6 i t2 t3 a = (![tabN i t2.val, chN i t3.val / 8, 0, chN i t3.val % 8, 0]) a := by decide +kernel
  intros; funext a; apply h

theorem cf7 : ∀ (t4 : Fin k0_t4_loop.trips), k0_off7 t4 = ![t4.val % 2, 0, 0] := by
  have h : ∀ (t4 : Fin k0_t4_loop.trips), ∀ a, k0_off7 t4 a = (![t4.val % 2, 0, 0]) a := by decide +kernel
  intros; funext a; apply h

theorem cf8 : ∀ (i : grid0.Coords) (t2 : Fin k0_t2_loop.trips) (t4 : Fin k0_t4_loop.trips), k0_off8 i t2 t4 = ![tabN i t2.val, 40 * t4.val, 0] := by
  have h : ∀ (i : grid0.Coords) (t2 : Fin k0_t2_loop.trips) (t4 : Fin k0_t4_loop.trips), ∀ a, k0_off8 i t2 t4 a = (![tabN i t2.val, 40 * t4.val, 0]) a := by decide +kernel
  intros; funext a; apply h

theorem cf9 : ∀ (t4 : Fin k0_t4_loop.trips), k0_off9 t4 = ![t4.val % 2] := by
  have h : ∀ (t4 : Fin k0_t4_loop.trips), ∀ a, k0_off9 t4 a = (![t4.val % 2]) a := by decide +kernel
  intros; funext a; apply h

theorem cf10 : ∀ (t4 : Fin k0_t4_loop.trips), k0_off10 t4 = ![(t4.val + 1) % 2, 0, 0] := by
  have h : ∀ (t4 : Fin k0_t4_loop.trips), ∀ a, k0_off10 t4 a = (![(t4.val + 1) % 2, 0, 0]) a := by decide +kernel
  intros; funext a; apply h

theorem cf11 : ∀ (i : grid0.Coords) (t2 : Fin k0_t2_loop.trips) (t4 : Fin k0_t4_loop.trips), k0_off11 i t2 t4 = ![tabN i t2.val, 40 * (t4.val + 1), 0] := by
  have h : ∀ (i : grid0.Coords) (t2 : Fin k0_t2_loop.trips) (t4 : Fin k0_t4_loop.trips), ∀ a, k0_off11 i t2 t4 a = (![tabN i t2.val, 40 * (t4.val + 1), 0]) a := by decide +kernel
  intros; funext a; apply h

theorem cf12 : ∀ (t4 : Fin k0_t4_loop.trips), k0_off12 t4 = ![(t4.val + 1) % 2] := by
  have h : ∀ (t4 : Fin k0_t4_loop.trips), ∀ a, k0_off12 t4 a = (![(t4.val + 1) % 2]) a := by decide +kernel
  intros; funext a; apply h

theorem cf15 : ∀ (i : grid0.Coords) (t2 : Fin k0_t2_loop.trips) (t3 : Fin k0_t3_loop.trips), k0_off15 i t2 t3 = ![tabN i t2.val, chN i t3.val / 8, 0, chN i t3.val % 8, 0] := by
  have h : ∀ (i : grid0.Coords) (t2 : Fin k0_t2_loop.trips) (t3 : Fin k0_t3_loop.trips), ∀ a, k0_off15 i t2 t3 a = (![tabN i t2.val, chN i t3.val / 8, 0, chN i t3.val % 8, 0]) a := by decide +kernel
  intros; funext a; apply h

theorem cf16 : ∀ (i : grid0.Coords) (t2 : Fin k0_t2_loop.trips) (t3 : Fin k0_t3_loop.trips), k0_off16 i t2 t3 = ![tabN i t2.val, chN i t3.val / 8, 125, chN i t3.val % 8, 0] := by
  have h : ∀ (i : grid0.Coords) (t2 : Fin k0_t2_loop.trips) (t3 : Fin k0_t3_loop.trips), ∀ a, k0_off16 i t2 t3 a = (![tabN i t2.val, chN i t3.val / 8, 125, chN i t3.val % 8, 0]) a := by decide +kernel
  intros; funext a; apply h

theorem cf17 : ∀ (i : grid0.Coords) (t2 : Fin k0_t2_loop.trips) (t3 : Fin k0_t3_loop.trips), k0_off17 i t2 t3 = ![tabN i t2.val, chN i t3.val / 8, 250, chN i t3.val % 8, 0] := by
  have h : ∀ (i : grid0.Coords) (t2 : Fin k0_t2_loop.trips) (t3 : Fin k0_t3_loop.trips), ∀ a, k0_off17 i t2 t3 a = (![tabN i t2.val, chN i t3.val / 8, 250, chN i t3.val % 8, 0]) a := by decide +kernel
  intros; funext a; apply h

theorem cf18 : ∀ (i : grid0.Coords) (t2 : Fin k0_t2_loop.trips) (t3 : Fin k0_t3_loop.trips), k0_off18 i t2 t3 = ![tabN i t2.val, chN i t3.val / 8, 375, chN i t3.val % 8, 0] := by
  have h : ∀ (i : grid0.Coords) (t2 : Fin k0_t2_loop.trips) (t3 : Fin k0_t3_loop.trips), ∀ a, k0_off18 i t2 t3 a = (![tabN i t2.val, chN i t3.val / 8, 375, chN i t3.val % 8, 0]) a := by decide +kernel
  intros; funext a; apply h

theorem cf19 : ∀ (i : grid0.Coords) (t2 : Fin k0_t2_loop.trips) (t3 : Fin k0_t3_loop.trips), k0_off19 i t2 t3 = ![tabN i t2.val, chN i t3.val / 8, 500, chN i t3.val % 8, 0] := by
  have h : ∀ (i : grid0.Coords) (t2 : Fin k0_t2_loop.trips) (t3 : Fin k0_t3_loop.trips), ∀ a, k0_off19 i t2 t3 a = (![tabN i t2.val, chN i t3.val / 8, 500, chN i t3.val % 8, 0]) a := by decide +kernel
  intros; funext a; apply h

theorem cf20 : ∀ (t : Fin k0_t8_loop.trips), k0_off20 t = ![0 + t.val, 0] := by
  have h : ∀ (t : Fin k0_t8_loop.trips), ∀ a, k0_off20 t a = (![0 + t.val, 0]) a := by decide +kernel
  intros; funext a; apply h

theorem cf21 : ∀ (t : Fin k0_t8_loop.trips), k0_off21 t = ![t.val, 0] := by
  have h : ∀ (t : Fin k0_t8_loop.trips), ∀ a, k0_off21 t a = (![t.val, 0]) a := by decide +kernel
  intros; funext a; apply h

theorem cf22 : ∀ (t : Fin k0_t8_loop.trips), k0_off22 t = ![0 + t.val, 16] := by
  have h : ∀ (t : Fin k0_t8_loop.trips), ∀ a, k0_off22 t a = (![0 + t.val, 16]) a := by decide +kernel
  intros; funext a; apply h

theorem cf23 : ∀ (t : Fin k0_t8_loop.trips), k0_off23 t = ![t.val, 16] := by
  have h : ∀ (t : Fin k0_t8_loop.trips), ∀ a, k0_off23 t a = (![t.val, 16]) a := by decide +kernel
  intros; funext a; apply h

theorem cf24 : ∀ (t : Fin k0_t8_loop.trips), k0_off24 t = ![0 + t.val, 32] := by
  have h : ∀ (t : Fin k0_t8_loop.trips), ∀ a, k0_off24 t a = (![0 + t.val, 32]) a := by decide +kernel
  intros; funext a; apply h

theorem cf25 : ∀ (t : Fin k0_t8_loop.trips), k0_off25 t = ![t.val, 32] := by
  have h : ∀ (t : Fin k0_t8_loop.trips), ∀ a, k0_off25 t a = (![t.val, 32]) a := by decide +kernel
  intros; funext a; apply h

theorem cf26 : ∀ (t : Fin k0_t8_loop.trips), k0_off26 t = ![0 + t.val, 48] := by
  have h : ∀ (t : Fin k0_t8_loop.trips), ∀ a, k0_off26 t a = (![0 + t.val, 48]) a := by decide +kernel
  intros; funext a; apply h

theorem cf27 : ∀ (t : Fin k0_t8_loop.trips), k0_off27 t = ![t.val, 48] := by
  have h : ∀ (t : Fin k0_t8_loop.trips), ∀ a, k0_off27 t a = (![t.val, 48]) a := by decide +kernel
  intros; funext a; apply h

theorem cf28 : ∀ (t : Fin k0_t8_loop.trips), k0_off28 t = ![0 + t.val, 64] := by
  have h : ∀ (t : Fin k0_t8_loop.trips), ∀ a, k0_off28 t a = (![0 + t.val, 64]) a := by decide +kernel
  intros; funext a; apply h

theorem cf29 : ∀ (t : Fin k0_t8_loop.trips), k0_off29 t = ![t.val, 64] := by
  have h : ∀ (t : Fin k0_t8_loop.trips), ∀ a, k0_off29 t a = (![t.val, 64]) a := by decide +kernel
  intros; funext a; apply h

theorem cf30 : ∀ (t : Fin k0_t8_loop.trips), k0_off30 t = ![0 + t.val, 80] := by
  have h : ∀ (t : Fin k0_t8_loop.trips), ∀ a, k0_off30 t a = (![0 + t.val, 80]) a := by decide +kernel
  intros; funext a; apply h

theorem cf31 : ∀ (t : Fin k0_t8_loop.trips), k0_off31 t = ![t.val, 80] := by
  have h : ∀ (t : Fin k0_t8_loop.trips), ∀ a, k0_off31 t a = (![t.val, 80]) a := by decide +kernel
  intros; funext a; apply h

theorem cf32 : ∀ (t : Fin k0_t8_loop.trips), k0_off32 t = ![0 + t.val, 96] := by
  have h : ∀ (t : Fin k0_t8_loop.trips), ∀ a, k0_off32 t a = (![0 + t.val, 96]) a := by decide +kernel
  intros; funext a; apply h

theorem cf33 : ∀ (t : Fin k0_t8_loop.trips), k0_off33 t = ![t.val, 96] := by
  have h : ∀ (t : Fin k0_t8_loop.trips), ∀ a, k0_off33 t a = (![t.val, 96]) a := by decide +kernel
  intros; funext a; apply h

theorem cf34 : ∀ (t : Fin k0_t8_loop.trips), k0_off34 t = ![0 + t.val, 112] := by
  have h : ∀ (t : Fin k0_t8_loop.trips), ∀ a, k0_off34 t a = (![0 + t.val, 112]) a := by decide +kernel
  intros; funext a; apply h

theorem cf35 : ∀ (t : Fin k0_t8_loop.trips), k0_off35 t = ![t.val, 112] := by
  have h : ∀ (t : Fin k0_t8_loop.trips), ∀ a, k0_off35 t a = (![t.val, 112]) a := by decide +kernel
  intros; funext a; apply h

theorem cf36 : ∀ (t : Fin k0_t9_loop.trips), k0_off36 t = ![125 + t.val, 0] := by
  have h : ∀ (t : Fin k0_t9_loop.trips), ∀ a, k0_off36 t a = (![125 + t.val, 0]) a := by decide +kernel
  intros; funext a; apply h

theorem cf37 : ∀ (t : Fin k0_t9_loop.trips), k0_off37 t = ![t.val, 0] := by
  have h : ∀ (t : Fin k0_t9_loop.trips), ∀ a, k0_off37 t a = (![t.val, 0]) a := by decide +kernel
  intros; funext a; apply h

theorem cf38 : ∀ (t : Fin k0_t9_loop.trips), k0_off38 t = ![125 + t.val, 16] := by
  have h : ∀ (t : Fin k0_t9_loop.trips), ∀ a, k0_off38 t a = (![125 + t.val, 16]) a := by decide +kernel
  intros; funext a; apply h

theorem cf39 : ∀ (t : Fin k0_t9_loop.trips), k0_off39 t = ![t.val, 16] := by
  have h : ∀ (t : Fin k0_t9_loop.trips), ∀ a, k0_off39 t a = (![t.val, 16]) a := by decide +kernel
  intros; funext a; apply h

theorem cf40 : ∀ (t : Fin k0_t9_loop.trips), k0_off40 t = ![125 + t.val, 32] := by
  have h : ∀ (t : Fin k0_t9_loop.trips), ∀ a, k0_off40 t a = (![125 + t.val, 32]) a := by decide +kernel
  intros; funext a; apply h

theorem cf41 : ∀ (t : Fin k0_t9_loop.trips), k0_off41 t = ![t.val, 32] := by
  have h : ∀ (t : Fin k0_t9_loop.trips), ∀ a, k0_off41 t a = (![t.val, 32]) a := by decide +kernel
  intros; funext a; apply h

theorem cf42 : ∀ (t : Fin k0_t9_loop.trips), k0_off42 t = ![125 + t.val, 48] := by
  have h : ∀ (t : Fin k0_t9_loop.trips), ∀ a, k0_off42 t a = (![125 + t.val, 48]) a := by decide +kernel
  intros; funext a; apply h

theorem cf43 : ∀ (t : Fin k0_t9_loop.trips), k0_off43 t = ![t.val, 48] := by
  have h : ∀ (t : Fin k0_t9_loop.trips), ∀ a, k0_off43 t a = (![t.val, 48]) a := by decide +kernel
  intros; funext a; apply h

theorem cf44 : ∀ (t : Fin k0_t9_loop.trips), k0_off44 t = ![125 + t.val, 64] := by
  have h : ∀ (t : Fin k0_t9_loop.trips), ∀ a, k0_off44 t a = (![125 + t.val, 64]) a := by decide +kernel
  intros; funext a; apply h

theorem cf45 : ∀ (t : Fin k0_t9_loop.trips), k0_off45 t = ![t.val, 64] := by
  have h : ∀ (t : Fin k0_t9_loop.trips), ∀ a, k0_off45 t a = (![t.val, 64]) a := by decide +kernel
  intros; funext a; apply h

theorem cf46 : ∀ (t : Fin k0_t9_loop.trips), k0_off46 t = ![125 + t.val, 80] := by
  have h : ∀ (t : Fin k0_t9_loop.trips), ∀ a, k0_off46 t a = (![125 + t.val, 80]) a := by decide +kernel
  intros; funext a; apply h

theorem cf47 : ∀ (t : Fin k0_t9_loop.trips), k0_off47 t = ![t.val, 80] := by
  have h : ∀ (t : Fin k0_t9_loop.trips), ∀ a, k0_off47 t a = (![t.val, 80]) a := by decide +kernel
  intros; funext a; apply h

theorem cf48 : ∀ (t : Fin k0_t9_loop.trips), k0_off48 t = ![125 + t.val, 96] := by
  have h : ∀ (t : Fin k0_t9_loop.trips), ∀ a, k0_off48 t a = (![125 + t.val, 96]) a := by decide +kernel
  intros; funext a; apply h

theorem cf49 : ∀ (t : Fin k0_t9_loop.trips), k0_off49 t = ![t.val, 96] := by
  have h : ∀ (t : Fin k0_t9_loop.trips), ∀ a, k0_off49 t a = (![t.val, 96]) a := by decide +kernel
  intros; funext a; apply h

theorem cf50 : ∀ (t : Fin k0_t9_loop.trips), k0_off50 t = ![125 + t.val, 112] := by
  have h : ∀ (t : Fin k0_t9_loop.trips), ∀ a, k0_off50 t a = (![125 + t.val, 112]) a := by decide +kernel
  intros; funext a; apply h

theorem cf51 : ∀ (t : Fin k0_t9_loop.trips), k0_off51 t = ![t.val, 112] := by
  have h : ∀ (t : Fin k0_t9_loop.trips), ∀ a, k0_off51 t a = (![t.val, 112]) a := by decide +kernel
  intros; funext a; apply h

theorem cf52 : ∀ (t : Fin k0_t10_loop.trips), k0_off52 t = ![250 + t.val, 0] := by
  have h : ∀ (t : Fin k0_t10_loop.trips), ∀ a, k0_off52 t a = (![250 + t.val, 0]) a := by decide +kernel
  intros; funext a; apply h

theorem cf53 : ∀ (t : Fin k0_t10_loop.trips), k0_off53 t = ![t.val, 0] := by
  have h : ∀ (t : Fin k0_t10_loop.trips), ∀ a, k0_off53 t a = (![t.val, 0]) a := by decide +kernel
  intros; funext a; apply h

theorem cf54 : ∀ (t : Fin k0_t10_loop.trips), k0_off54 t = ![250 + t.val, 16] := by
  have h : ∀ (t : Fin k0_t10_loop.trips), ∀ a, k0_off54 t a = (![250 + t.val, 16]) a := by decide +kernel
  intros; funext a; apply h

theorem cf55 : ∀ (t : Fin k0_t10_loop.trips), k0_off55 t = ![t.val, 16] := by
  have h : ∀ (t : Fin k0_t10_loop.trips), ∀ a, k0_off55 t a = (![t.val, 16]) a := by decide +kernel
  intros; funext a; apply h

theorem cf56 : ∀ (t : Fin k0_t10_loop.trips), k0_off56 t = ![250 + t.val, 32] := by
  have h : ∀ (t : Fin k0_t10_loop.trips), ∀ a, k0_off56 t a = (![250 + t.val, 32]) a := by decide +kernel
  intros; funext a; apply h

theorem cf57 : ∀ (t : Fin k0_t10_loop.trips), k0_off57 t = ![t.val, 32] := by
  have h : ∀ (t : Fin k0_t10_loop.trips), ∀ a, k0_off57 t a = (![t.val, 32]) a := by decide +kernel
  intros; funext a; apply h

theorem cf58 : ∀ (t : Fin k0_t10_loop.trips), k0_off58 t = ![250 + t.val, 48] := by
  have h : ∀ (t : Fin k0_t10_loop.trips), ∀ a, k0_off58 t a = (![250 + t.val, 48]) a := by decide +kernel
  intros; funext a; apply h

theorem cf59 : ∀ (t : Fin k0_t10_loop.trips), k0_off59 t = ![t.val, 48] := by
  have h : ∀ (t : Fin k0_t10_loop.trips), ∀ a, k0_off59 t a = (![t.val, 48]) a := by decide +kernel
  intros; funext a; apply h

theorem cf60 : ∀ (t : Fin k0_t10_loop.trips), k0_off60 t = ![250 + t.val, 64] := by
  have h : ∀ (t : Fin k0_t10_loop.trips), ∀ a, k0_off60 t a = (![250 + t.val, 64]) a := by decide +kernel
  intros; funext a; apply h

theorem cf61 : ∀ (t : Fin k0_t10_loop.trips), k0_off61 t = ![t.val, 64] := by
  have h : ∀ (t : Fin k0_t10_loop.trips), ∀ a, k0_off61 t a = (![t.val, 64]) a := by decide +kernel
  intros; funext a; apply h

theorem cf62 : ∀ (t : Fin k0_t10_loop.trips), k0_off62 t = ![250 + t.val, 80] := by
  have h : ∀ (t : Fin k0_t10_loop.trips), ∀ a, k0_off62 t a = (![250 + t.val, 80]) a := by decide +kernel
  intros; funext a; apply h

theorem cf63 : ∀ (t : Fin k0_t10_loop.trips), k0_off63 t = ![t.val, 80] := by
  have h : ∀ (t : Fin k0_t10_loop.trips), ∀ a, k0_off63 t a = (![t.val, 80]) a := by decide +kernel
  intros; funext a; apply h

theorem cf64 : ∀ (t : Fin k0_t10_loop.trips), k0_off64 t = ![250 + t.val, 96] := by
  have h : ∀ (t : Fin k0_t10_loop.trips), ∀ a, k0_off64 t a = (![250 + t.val, 96]) a := by decide +kernel
  intros; funext a; apply h

theorem cf65 : ∀ (t : Fin k0_t10_loop.trips), k0_off65 t = ![t.val, 96] := by
  have h : ∀ (t : Fin k0_t10_loop.trips), ∀ a, k0_off65 t a = (![t.val, 96]) a := by decide +kernel
  intros; funext a; apply h

theorem cf66 : ∀ (t : Fin k0_t10_loop.trips), k0_off66 t = ![250 + t.val, 112] := by
  have h : ∀ (t : Fin k0_t10_loop.trips), ∀ a, k0_off66 t a = (![250 + t.val, 112]) a := by decide +kernel
  intros; funext a; apply h

theorem cf67 : ∀ (t : Fin k0_t10_loop.trips), k0_off67 t = ![t.val, 112] := by
  have h : ∀ (t : Fin k0_t10_loop.trips), ∀ a, k0_off67 t a = (![t.val, 112]) a := by decide +kernel
  intros; funext a; apply h

theorem cf68 : ∀ (t : Fin k0_t11_loop.trips), k0_off68 t = ![375 + t.val, 0] := by
  have h : ∀ (t : Fin k0_t11_loop.trips), ∀ a, k0_off68 t a = (![375 + t.val, 0]) a := by decide +kernel
  intros; funext a; apply h

theorem cf69 : ∀ (t : Fin k0_t11_loop.trips), k0_off69 t = ![t.val, 0] := by
  have h : ∀ (t : Fin k0_t11_loop.trips), ∀ a, k0_off69 t a = (![t.val, 0]) a := by decide +kernel
  intros; funext a; apply h

theorem cf70 : ∀ (t : Fin k0_t11_loop.trips), k0_off70 t = ![375 + t.val, 16] := by
  have h : ∀ (t : Fin k0_t11_loop.trips), ∀ a, k0_off70 t a = (![375 + t.val, 16]) a := by decide +kernel
  intros; funext a; apply h

theorem cf71 : ∀ (t : Fin k0_t11_loop.trips), k0_off71 t = ![t.val, 16] := by
  have h : ∀ (t : Fin k0_t11_loop.trips), ∀ a, k0_off71 t a = (![t.val, 16]) a := by decide +kernel
  intros; funext a; apply h

theorem cf72 : ∀ (t : Fin k0_t11_loop.trips), k0_off72 t = ![375 + t.val, 32] := by
  have h : ∀ (t : Fin k0_t11_loop.trips), ∀ a, k0_off72 t a = (![375 + t.val, 32]) a := by decide +kernel
  intros; funext a; apply h

theorem cf73 : ∀ (t : Fin k0_t11_loop.trips), k0_off73 t = ![t.val, 32] := by
  have h : ∀ (t : Fin k0_t11_loop.trips), ∀ a, k0_off73 t a = (![t.val, 32]) a := by decide +kernel
  intros; funext a; apply h

theorem cf74 : ∀ (t : Fin k0_t11_loop.trips), k0_off74 t = ![375 + t.val, 48] := by
  have h : ∀ (t : Fin k0_t11_loop.trips), ∀ a, k0_off74 t a = (![375 + t.val, 48]) a := by decide +kernel
  intros; funext a; apply h

theorem cf75 : ∀ (t : Fin k0_t11_loop.trips), k0_off75 t = ![t.val, 48] := by
  have h : ∀ (t : Fin k0_t11_loop.trips), ∀ a, k0_off75 t a = (![t.val, 48]) a := by decide +kernel
  intros; funext a; apply h

theorem cf76 : ∀ (t : Fin k0_t11_loop.trips), k0_off76 t = ![375 + t.val, 64] := by
  have h : ∀ (t : Fin k0_t11_loop.trips), ∀ a, k0_off76 t a = (![375 + t.val, 64]) a := by decide +kernel
  intros; funext a; apply h

theorem cf77 : ∀ (t : Fin k0_t11_loop.trips), k0_off77 t = ![t.val, 64] := by
  have h : ∀ (t : Fin k0_t11_loop.trips), ∀ a, k0_off77 t a = (![t.val, 64]) a := by decide +kernel
  intros; funext a; apply h

theorem cf78 : ∀ (t : Fin k0_t11_loop.trips), k0_off78 t = ![375 + t.val, 80] := by
  have h : ∀ (t : Fin k0_t11_loop.trips), ∀ a, k0_off78 t a = (![375 + t.val, 80]) a := by decide +kernel
  intros; funext a; apply h

theorem cf79 : ∀ (t : Fin k0_t11_loop.trips), k0_off79 t = ![t.val, 80] := by
  have h : ∀ (t : Fin k0_t11_loop.trips), ∀ a, k0_off79 t a = (![t.val, 80]) a := by decide +kernel
  intros; funext a; apply h

theorem cf80 : ∀ (t : Fin k0_t11_loop.trips), k0_off80 t = ![375 + t.val, 96] := by
  have h : ∀ (t : Fin k0_t11_loop.trips), ∀ a, k0_off80 t a = (![375 + t.val, 96]) a := by decide +kernel
  intros; funext a; apply h

theorem cf81 : ∀ (t : Fin k0_t11_loop.trips), k0_off81 t = ![t.val, 96] := by
  have h : ∀ (t : Fin k0_t11_loop.trips), ∀ a, k0_off81 t a = (![t.val, 96]) a := by decide +kernel
  intros; funext a; apply h

theorem cf82 : ∀ (t : Fin k0_t11_loop.trips), k0_off82 t = ![375 + t.val, 112] := by
  have h : ∀ (t : Fin k0_t11_loop.trips), ∀ a, k0_off82 t a = (![375 + t.val, 112]) a := by decide +kernel
  intros; funext a; apply h

theorem cf83 : ∀ (t : Fin k0_t11_loop.trips), k0_off83 t = ![t.val, 112] := by
  have h : ∀ (t : Fin k0_t11_loop.trips), ∀ a, k0_off83 t a = (![t.val, 112]) a := by decide +kernel
  intros; funext a; apply h

theorem cf84 : ∀ (t : Fin k0_t12_loop.trips), k0_off84 t = ![500 + t.val, 0] := by
  have h : ∀ (t : Fin k0_t12_loop.trips), ∀ a, k0_off84 t a = (![500 + t.val, 0]) a := by decide +kernel
  intros; funext a; apply h

theorem cf85 : ∀ (t : Fin k0_t12_loop.trips), k0_off85 t = ![t.val, 0] := by
  have h : ∀ (t : Fin k0_t12_loop.trips), ∀ a, k0_off85 t a = (![t.val, 0]) a := by decide +kernel
  intros; funext a; apply h

theorem cf86 : ∀ (t : Fin k0_t12_loop.trips), k0_off86 t = ![500 + t.val, 16] := by
  have h : ∀ (t : Fin k0_t12_loop.trips), ∀ a, k0_off86 t a = (![500 + t.val, 16]) a := by decide +kernel
  intros; funext a; apply h

theorem cf87 : ∀ (t : Fin k0_t12_loop.trips), k0_off87 t = ![t.val, 16] := by
  have h : ∀ (t : Fin k0_t12_loop.trips), ∀ a, k0_off87 t a = (![t.val, 16]) a := by decide +kernel
  intros; funext a; apply h

theorem cf88 : ∀ (t : Fin k0_t12_loop.trips), k0_off88 t = ![500 + t.val, 32] := by
  have h : ∀ (t : Fin k0_t12_loop.trips), ∀ a, k0_off88 t a = (![500 + t.val, 32]) a := by decide +kernel
  intros; funext a; apply h

theorem cf89 : ∀ (t : Fin k0_t12_loop.trips), k0_off89 t = ![t.val, 32] := by
  have h : ∀ (t : Fin k0_t12_loop.trips), ∀ a, k0_off89 t a = (![t.val, 32]) a := by decide +kernel
  intros; funext a; apply h

theorem cf90 : ∀ (t : Fin k0_t12_loop.trips), k0_off90 t = ![500 + t.val, 48] := by
  have h : ∀ (t : Fin k0_t12_loop.trips), ∀ a, k0_off90 t a = (![500 + t.val, 48]) a := by decide +kernel
  intros; funext a; apply h

theorem cf91 : ∀ (t : Fin k0_t12_loop.trips), k0_off91 t = ![t.val, 48] := by
  have h : ∀ (t : Fin k0_t12_loop.trips), ∀ a, k0_off91 t a = (![t.val, 48]) a := by decide +kernel
  intros; funext a; apply h

theorem cf92 : ∀ (t : Fin k0_t12_loop.trips), k0_off92 t = ![500 + t.val, 64] := by
  have h : ∀ (t : Fin k0_t12_loop.trips), ∀ a, k0_off92 t a = (![500 + t.val, 64]) a := by decide +kernel
  intros; funext a; apply h

theorem cf93 : ∀ (t : Fin k0_t12_loop.trips), k0_off93 t = ![t.val, 64] := by
  have h : ∀ (t : Fin k0_t12_loop.trips), ∀ a, k0_off93 t a = (![t.val, 64]) a := by decide +kernel
  intros; funext a; apply h

theorem cf94 : ∀ (t : Fin k0_t12_loop.trips), k0_off94 t = ![500 + t.val, 80] := by
  have h : ∀ (t : Fin k0_t12_loop.trips), ∀ a, k0_off94 t a = (![500 + t.val, 80]) a := by decide +kernel
  intros; funext a; apply h

theorem cf95 : ∀ (t : Fin k0_t12_loop.trips), k0_off95 t = ![t.val, 80] := by
  have h : ∀ (t : Fin k0_t12_loop.trips), ∀ a, k0_off95 t a = (![t.val, 80]) a := by decide +kernel
  intros; funext a; apply h

theorem cf96 : ∀ (t : Fin k0_t12_loop.trips), k0_off96 t = ![500 + t.val, 96] := by
  have h : ∀ (t : Fin k0_t12_loop.trips), ∀ a, k0_off96 t a = (![500 + t.val, 96]) a := by decide +kernel
  intros; funext a; apply h

theorem cf97 : ∀ (t : Fin k0_t12_loop.trips), k0_off97 t = ![t.val, 96] := by
  have h : ∀ (t : Fin k0_t12_loop.trips), ∀ a, k0_off97 t a = (![t.val, 96]) a := by decide +kernel
  intros; funext a; apply h

theorem cf98 : ∀ (t : Fin k0_t12_loop.trips), k0_off98 t = ![500 + t.val, 112] := by
  have h : ∀ (t : Fin k0_t12_loop.trips), ∀ a, k0_off98 t a = (![500 + t.val, 112]) a := by decide +kernel
  intros; funext a; apply h

theorem cf99 : ∀ (t : Fin k0_t12_loop.trips), k0_off99 t = ![t.val, 112] := by
  have h : ∀ (t : Fin k0_t12_loop.trips), ∀ a, k0_off99 t a = (![t.val, 112]) a := by decide +kernel
  intros; funext a; apply h

end Cert.KernelIdeal.Pf

end
-- ==== Proof.Ideal.Words2.lean ====
/-
  The inner loop's trip count — a bag's length, read as a signed word, divided by 16 and rounded up — and the offsets inside it.
-/
module

public import proofs.«01_k».proof.Proof.Ideal.Words

@[expose] public section

set_option Elab.async false

noncomputable section

namespace Cert.KernelIdeal.Pf

open Cert.KernelIdeal Cert.KernelIdeal.Gen
open Idealize.ShloMosaic

/-- The number of 16-lane steps over a bag of `v` (signed) ids. -/
def nvec (v : BitVec 32) : ℕ := if 0 < v.toInt then (v.toNat + 15) / 16 else 0

theorem nvec_ub_small : ∀ n : Fin 144, (k0_t6_loop (BitVec.ofInt 32 ((n.val : ℤ) - 15))).ub.toInt = ((n.val : ℤ) - 15 + 15) / 16 := by
  decide +kernel

theorem nvec_ub_neg (v : BitVec 32) (h : v.toInt < -14) : (k0_t6_loop v).ub.toInt ≤ 0 := by
  have hr := Affine.word_range v
  have h246 : (v + 16#32 - 1#32).toInt = v.toInt + 15 := by
    rw [show v + 16#32 - 1#32 = v + 15#32 by rw [BitVec.sub_eq_add_neg, BitVec.add_assoc]; rfl, BitVec.toInt_add, show (15#32 : BitVec 32).toInt = 15 by decide]
    exact Int.bmod_eq_of_le (by omega) (by omega)
  have hq' : (v.toInt + 15).tdiv 16 ≤ 0 ∧ -2 ^ 28 ≤ (v.toInt + 15).tdiv 16 := by
    obtain ⟨y, hy⟩ : ∃ y : ℤ, v.toInt + 15 = -y := ⟨-(v.toInt + 15), by omega⟩
    rw [hy, Int.neg_tdiv, Int.tdiv_eq_ediv_of_nonneg (by omega)]; omega
  have hq : ((v + 16#32 - 1#32).sdiv 16#32).toInt = (v.toInt + 15).tdiv 16 := by
    rw [BitVec.toInt_sdiv, h246, show (16#32 : BitVec 32).toInt = 16 by decide]
    apply Int.bmod_eq_of_le <;> omega
  have hc : ¬ IntOp.SDivCorner (v + 16#32 - 1#32) 16#32 := by
    rintro (h | ⟨-, h⟩) <;> exact absurd h (by decide)
  simp only [k0_t6_loop, Scalar.muli_divsi_one, Scalar.subi, IntOp.subi, Scalar.addi, IntOp.addi, BitVec.sub_zero, BitVec.zero_add, BitVec.add_zero, BitVec.sub_self]
  have h1 : ∀ x : BitVec 32, Scalar.divsi x 1#32 = x := fun x => by unfold Scalar.divsi; exact WordArith.divsi_one _ x
  rw [h1]
  have hd : Scalar.divsi (v + 16#32 - 1#32) 16#32 = (v + 16#32 - 1#32).sdiv 16#32 := by
    unfold Scalar.divsi IntOp.divsi; rw [if_neg hc]
  rw [hd]
  have hs : ∀ (c : BitVec 1) (a b : BitVec 32), a.toInt ≤ 0 → b.toInt ≤ 0 → (Scalar.select c a b).toInt ≤ 0 := by
    intro c a b ha hb; unfold Scalar.select; split <;> assumption
  apply hs
  · rw [BitVec.toInt_sub, hq, show (1#32 : BitVec 32).toInt = 1 by decide, Int.bmod_eq_of_le (by omega) (by omega)]; omega
  · rw [hq]; exact hq'.1

theorem nvec_ub (v : BitVec 32) (h : v.toInt ≤ 128) : ((k0_t6_loop v).ub.toInt).toNat = nvec v := by
  have hr := Affine.word_range v
  by_cases h0 : v.toInt < -14
  · have := nvec_ub_neg v h0
    unfold nvec; rw [if_neg (by omega)]; omega
  · have e := nvec_ub_small ⟨(v.toInt + 15).toNat, by omega⟩
    have e2 : BitVec.ofInt 32 ((((v.toInt + 15).toNat : ℕ) : ℤ) - 15) = v := by
      rw [show ((((v.toInt + 15).toNat : ℕ) : ℤ) - 15) = v.toInt by omega]; exact BitVec.ofInt_toInt
    simp only [] at e
    rw [e2] at e
    rw [e]
    unfold nvec
    split
    · have : (v.toNat : ℤ) = v.toInt := by
        have hc := BitVec.toInt_eq_toNat_cond v; have := v.isLt; split at hc <;> omega
      omega
    · omega

theorem nvec_le (v : BitVec 32) (h : v.toInt ≤ 128) : nvec v ≤ 8 := by
  have hc := BitVec.toInt_eq_toNat_cond v; have := v.isLt
  unfold nvec; split at hc <;> split <;> omega

theorem trips6 (v : BitVec 32) (h : v.toInt ≤ 128) : (k0_t6_loop v).trips = nvec v := by
  rw [← nvec_ub v h]
  show (((k0_t6_loop v).ub.toInt - (0#32 : BitVec 32).toInt + (1#32 : BitVec 32).toInt - 1) / (1#32 : BitVec 32).toInt).toNat = _
  rw [show (0#32 : BitVec 32).toInt = 0 by decide, show (1#32 : BitVec 32).toInt = 1 by decide]
  congr 1; omega

theorem trips7 (v : BitVec 32) : (k0_t7_loop v).trips = 0 := Scf.rem_trips _ _

theorem ok6 (v : BitVec 32) (h : v.toInt ≤ 128) : (k0_t6_loop v).OK := by
  refine ⟨by show 0 < (1#32 : BitVec 32).toInt; decide, ?_⟩
  rw [show Scf.trips (k0_t6_loop v).lb (k0_t6_loop v).ub (k0_t6_loop v).st = nvec v from trips6 v h]
  show (0#32 : BitVec 32).toInt + (nvec v : ℤ) * (1#32 : BitVec 32).toInt < _
  rw [show (0#32 : BitVec 32).toInt = 0 by decide, show (1#32 : BitVec 32).toInt = 1 by decide]
  have := nvec_le v h; show _ < (2 : Int) ^ 31; omega

theorem ok7 (v : BitVec 32) : (k0_t7_loop v).OK := Scf.rem_ok _ _

theorem iv16 : ∀ n : Fin 8, (Scalar.indexCast (Scalar.muli (Scalar.addi 0#32 (Scalar.muli (Scf.iv 0#32 1#32 n.val) 1#32)) 16#32)).toNat = 16 * n.val := by
  decide +kernel
theorem iv5 : ∀ n : Fin k0_t5_loop.trips, (Scalar.indexCast (Scalar.addi 0#32 (Scalar.muli (Scf.iv 0#32 1#32 n.val) 1#32))).toNat = n.val := by
  decide +kernel

/-- The ids and weights of step `t6` of bag `t5` of chunk `t4`. -/
theorem cf13 (t4 : Fin k0_t4_loop.trips) (t5 : Fin k0_t5_loop.trips) (v : BitVec 32) (h : v.toInt ≤ 128) (t6 : Fin (k0_t6_loop v).trips) :
    k0_off13 t4 t5 v t6 = ![t4.val % 2, t5.val, 16 * t6.val] := by
  have e7 : k0_off7 t4 0 = t4.val % 2 := congrFun (cf7 t4) 0
  have h6 : t6.val < 8 := lt_of_lt_of_le t6.isLt (by rw [trips6 v h]; exact nvec_le v h)
  have e16 := iv16 ⟨t6.val, h6⟩
  have e5 := iv5 t5
  unfold k0_off7 at e7
  unfold k0_off13
  funext a
  match a with
  | 0 => exact e7
  | 1 => exact e5
  | 2 => exact e16

theorem chk3 (t4 : Fin k0_t4_loop.trips) (t5 : Fin k0_t5_loop.trips) (v : BitVec 32) (h : v.toInt ≤ 128) : k0_chk3 t4 t5 v := by
  refine ⟨ok6 v h, ?_, ok7 v, fun t7 => absurd (lt_of_lt_of_eq t7.isLt (trips7 v)) (Nat.not_lt_zero _)⟩
  intro t6 a
  have h6 : t6.val < 8 := lt_of_lt_of_le t6.isLt (by rw [trips6 v h]; exact nvec_le v h)
  have h5 : t5.val < 40 := lt_of_lt_of_eq t5.isLt trips5
  rw [cf13 t4 t5 v h t6]
  match a with
  | 0 => show t4.val % 2 + 1 ≤ 2; omega
  | 1 => show t5.val + 1 ≤ 40; omega
  | 2 => show 16 * t6.val + 16 ≤ 128; omega

end Cert.KernelIdeal.Pf

end
-- ==== Proof.Ideal.Spec.lean ====
/-
  What the scatter computes, as plain functions of the arrays' contents: the code of one (bag, position, channel), the words
  one bag adds to one row, and the row's words after a number of bags — together with the masked scatter-add of one 16-lane
  step read as a sum.
-/
module

public import proofs.«01_k».proof.Proof.Ideal.Words2
public import Idealize.ShloMosaic.Lib.Pointwise.Index
public import Idealize.ShloMosaic.Lib.Pointwise.Reshape

@[expose] public section

set_option Elab.async false

noncomputable section

namespace Cert.KernelIdeal.Pf

open Cert.KernelIdeal Cert.KernelIdeal.Gen
open Idealize.ShloMosaic

variable {F : FTy → Type} [FloatOps F]

/-! ## Indices by numbers -/

/-- The multi-index with the given coordinates, each taken modulo its extent. -/
def ixm (s : Shape) (hs : ∀ a, 0 < s.size a) (v : Fin s.rank → ℕ) : s.Idx := fun a => ⟨v a % s.size a, Nat.mod_lt _ (hs a)⟩

theorem ixm_eq {s : Shape} {hs : ∀ a, 0 < s.size a} {v : Fin s.rank → ℕ} (i : s.Idx) (h : ∀ a, v a = (i a).val) : ixm s hs v = i := by
  funext a; apply Fin.ext; show v a % s.size a = _; rw [h a]; exact Nat.mod_eq_of_lt (i a).isLt

theorem ixm_val {s : Shape} {hs : ∀ a, 0 < s.size a} {v : Fin s.rank → ℕ} (a : Fin s.rank) (h : v a < s.size a) : (ixm s hs v a).val = v a :=
  Nat.mod_eq_of_lt h

abbrev i5 (a b c d e : ℕ) : S6x20x19x8x128.Idx := ixm S6x20x19x8x128 (by decide) ![a, b, c, d, e]
abbrev i3 (a b c : ℕ) : S6x2400x128.Idx := ixm S6x2400x128 (by decide) ![a, b, c]
abbrev i2 (a b : ℕ) : S6x2400.Idx := ixm S6x2400 (by decide) ![a, b]
abbrev i1 (a : ℕ) : S192.Idx := ixm S192 (by decide) ![a]

/-! ## The values -/

/-- The code of a gradient value `g` under a weight `w` and a scale `s`: the product scaled, rounded to an integer. -/
def codeV (g w s : F .f32) : BitVec 32 :=
  fptosi 32 (roundeven (mulf (mulf (fun _ : S16.Idx => g) (fun _ => w)) (fun _ => s))) (ix1 0)

/-- A sum of codes as a value: converted to a float and scaled back. -/
def gradV (x : BitVec 32) (s : F .f32) : F .f32 :=
  mulf (sitofp .f32 (fun _ : S16.Idx => x)) (fun _ => s) (ix1 0)

section Values

variable (g5 : S6x20x19x8x128.Idx → F .f32) (ids : S6x2400x128.Idx → BitVec 32) (wts : S6x2400x128.Idx → F .f32)
  (len : S6x2400.Idx → BitVec 32) (sc : S192.Idx → F .f32)

/-- What position `l` of bag `b` of table `t` adds to row `p` of channel `ch`. -/
def term (t ch b l p : ℕ) : BitVec 32 :=
  if (BitVec.ofNat 32 l).slt (len (i2 t b)) = true ∧ (ids (i3 t b l)).toNat = p then
    codeV (g5 (i5 t (ch / 8) (b / 128) (ch % 8) (b % 128))) (wts (i3 t b l)) (sc (i1 (32 * t + l % 16)))
  else 0

/-- What the first `j` 16-lane steps of bag `b` add. -/
def bagSteps (t ch b j p : ℕ) : BitVec 32 := ∑ j' ∈ Finset.range j, ∑ x ∈ Finset.range 16, term g5 ids wts len sc t ch b (16 * j' + x) p
/-- What bag `b` adds. -/
def bag (t ch b p : ℕ) : BitVec 32 := bagSteps g5 ids wts len sc t ch b (nvec (len (i2 t b))) p
/-- Row `p` of channel `ch` of table `t` after `n` bags. -/
def accN (t ch n p : ℕ) : BitVec 32 := ∑ b ∈ Finset.range n, bag g5 ids wts len sc t ch b p

theorem accN_zero (t ch p : ℕ) : accN g5 ids wts len sc t ch 0 p = 0 := rfl
theorem accN_succ (t ch n p : ℕ) : accN g5 ids wts len sc t ch (n + 1) p = accN g5 ids wts len sc t ch n p + bag g5 ids wts len sc t ch n p :=
  Finset.sum_range_succ _ _
theorem bagSteps_succ (t ch b j p : ℕ) : bagSteps g5 ids wts len sc t ch b (j + 1) p
    = bagSteps g5 ids wts len sc t ch b j p + ∑ x ∈ Finset.range 16, term g5 ids wts len sc t ch b (16 * j + x) p :=
  Finset.sum_range_succ _ _

/-- The accumulator's row number of an index. -/
abbrev rowOf (p : S625x128.Idx) : ℕ := 128 * (p 0).val + (p 1).val

/-- The accumulator after `n` whole bags. -/
def accF (t ch n : ℕ) : S625x128.Idx → BitVec 32 := fun p => accN g5 ids wts len sc t ch n (rowOf p)
/-- The accumulator after `n` whole bags and `j` steps of the next. -/
def accS (t ch n j : ℕ) : S625x128.Idx → BitVec 32 := fun p => accN g5 ids wts len sc t ch n (rowOf p) + bagSteps g5 ids wts len sc t ch n j (rowOf p)

theorem accS_zero (t ch n : ℕ) : accS g5 ids wts len sc t ch n 0 = accF g5 ids wts len sc t ch n := by
  funext p; show _ + (0 : BitVec 32) = _; exact BitVec.add_zero _
theorem accS_all (t ch n : ℕ) : accS g5 ids wts len sc t ch n (nvec (len (i2 t n))) = accF g5 ids wts len sc t ch (n + 1) := by
  funext p; exact (accN_succ ..).symm

end Values

/-! ## One step's scatter -/

/-- A masked scatter-add is, at each element, what was there and the sum of the set lanes that name it. -/
theorem storeIdx_sum' {s : Shape} {d : Fin 1 → Nat} (f : Vec F s .i32) (idxs : Fin s.rank → IVec ⟨1, d⟩ 32) (v : Vec F ⟨1, d⟩ .i32) (mask : IVec ⟨1, d⟩ 1)
    (h : ∀ a x, (idxs a x).toNat < s.size a) (p : s.Idx) :
    (storeIdx f idxs v mask true h p : BitVec 32)
      = f p + ∑ k : Fin (d 0), if mask (Shape.ofLane k) = 1 ∧ (∀ a, (p a).val = (idxs a (Shape.ofLane k)).toNat) then v (Shape.ofLane k) else (0 : BitVec 32) := by
  rw [Fin.sum_univ_def]
  unfold storeIdx
  generalize List.finRange (d 0) = l
  induction l generalizing f with
  | nil => exact (BitVec.add_zero _).symm
  | cons k l ih =>
    rw [List.foldl_cons, ih, List.map_cons, List.sum_cons, ← BitVec.add_assoc]
    congr 1
    by_cases hm : mask (Shape.ofLane k) = 1
    · simp only [hm, if_true, true_and]
      by_cases hp : ∀ a, (p a).val = (idxs a (Shape.ofLane k)).toNat
      · rw [if_pos hp]
        refine (if_pos hp).trans ?_
        have : idxAt idxs h (Shape.ofLane k) = p := by funext a; exact Fin.ext (hp a).symm
        rw [this]; rfl
      · rw [if_neg hp]; refine (if_neg hp).trans ?_; exact (BitVec.add_zero _).symm
    · rw [if_neg hm, if_neg (fun h => hm h.1)]; exact (BitVec.add_zero _).symm

theorem ofLane_ix1 (k : Fin 16) : (Shape.ofLane (d := ![16]) k : S16.Idx) = ix1 k := by funext a; match a with | 0 => rfl

theorem storeIdx_sum {s : Shape} (f : Vec F s .i32) (idxs : Fin s.rank → IVec S16 32) (v : Vec F S16 .i32) (mask : IVec S16 1)
    (h : ∀ a x, (idxs a x).toNat < s.size a) (p : s.Idx) :
    (storeIdx f idxs v mask true h p : BitVec 32)
      = f p + ∑ x : Fin 16, if mask (ix1 x) = 1 ∧ (∀ a, (p a).val = (idxs a (ix1 x)).toNat) then v (ix1 x) else (0 : BitVec 32) := by
  rw [storeIdx_sum']
  refine congrArg (fun z : BitVec 32 => f p + z) (Finset.sum_congr rfl fun (k : Fin 16) _ => ?_)
  rw [ofLane_ix1 k]

theorem cast_1_1_16 (x : Fin 16) : Shape.reshapeEquiv (s := S1x1x16) (s' := S16) shapeCasts_S1x1x16_S16 (ix1 x) = ix3 0 0 x := by
  refine Shape.reshapeEquiv_eq_of_vals _ _ _ _ _ (rowMajor_val3 _ 16 16 rfl rfl) (rowMajor_val1 _) ?_
  show 0 * 16 + 0 * 16 + x.val = x.val
  omega

theorem pay65_apply (ld : Vec F S1x1x16 .i32) (x : Fin 16) : k0_pay65 ld (ix1 x) = ld (ix3 0 0 x) := by
  show ld (Shape.reshapeEquiv (s := S1x1x16) (s' := S16) shapeCasts_S1x1x16_S16 (ix1 x)) = _
  rw [cast_1_1_16]

theorem row_toNat (v : BitVec 32) (h : v.toNat < 80000) : (IntOp.shrsi .vector v 7#32).toNat = v.toNat / 128 := by
  unfold IntOp.shrsi
  rw [if_pos (by decide)]
  have hm : v.msb = false := by rw [BitVec.msb_eq_false_iff_two_mul_lt]; omega
  show (v.sshiftRight (7#32 : BitVec 32).toNat).toNat = _
  rw [BitVec.toNat_sshiftRight_of_msb_false hm, Nat.shiftRight_eq_div_pow]; rfl

theorem lane_toNat (v : BitVec 32) : (IntOp.andi v 127#32).toNat = v.toNat % 128 := by
  unfold IntOp.andi
  rw [BitVec.toNat_and]
  exact Nat.and_two_pow_sub_one_eq_mod v.toNat 7

theorem pay67_toNat (ld : Vec F S1x1x16 .i32) (x : Fin 16) (h : (ld (ix3 0 0 x)).toNat < 80000) :
    (k0_pay67 ld (ix1 x)).toNat = (ld (ix3 0 0 x)).toNat / 128 := by
  show (IntOp.shrsi .vector (k0_pay65 ld (ix1 x)) 7#32).toNat = _
  rw [pay65_apply]; exact row_toNat _ h
theorem pay68_toNat (ld : Vec F S1x1x16 .i32) (x : Fin 16) :
    (k0_pay68 ld (ix1 x)).toNat = (ld (ix3 0 0 x)).toNat % 128 := by
  show (IntOp.andi (k0_pay65 ld (ix1 x)) 127#32).toNat = _
  rw [pay65_apply]; exact lane_toNat _

/-- Ids inside the table name an element of the accumulator. -/
theorem chk4 (ld : Vec F S1x1x16 .i32) (h : ∀ x, (ld (ix3 0 0 x)).toNat < 80000) : k0_chk4 (k0_pay67 ld) (k0_pay68 ld) := by
  intro a x
  obtain ⟨y, rfl⟩ : ∃ y : Fin 16, x = ix1 y := ⟨x 0, eq_ix1 x⟩
  match a with
  | 0 => show (k0_pay67 ld (ix1 y)).toNat < 625; rw [pay67_toNat _ _ (h _)]; have := h y; omega
  | 1 => show (k0_pay68 ld (ix1 y)).toNat < 128; rw [pay68_toNat]; exact Nat.mod_lt _ (by decide)

theorem pay66_apply (v10 v242 : Vec F S16 .f32) (wl : Vec F S1x1x16 .f32) (x : Fin 16) :
    k0_pay66 v10 v242 wl (ix1 x) = codeV (v242 (ix1 x)) (wl (ix3 0 0 x)) (v10 (ix1 x)) := by
  have e : shapeCast S16 wl shapeCasts_S1x1x16_S16 (ix1 x) = wl (ix3 0 0 x) := congrArg wl (cast_1_1_16 x)
  rw [← e]; rfl

/-- Lane `x` of step `j` is set exactly when its position is below the bag's length. -/
theorem pay69_apply (v0 : IVec S16 32) (hv0 : ∀ x : Fin 16, v0 (ix1 x) = BitVec.ofNat 32 x.val) (v237 : Vec F S16 .i32) (v244 : BitVec 32)
    (hv : v244.toInt ≤ 128) (j : Fin (k0_t6_loop v244).trips) (x : Fin 16) :
    k0_pay69 v0 v237 v244 1#32 0#32 j (ix1 x) = 1 ↔ (BitVec.ofNat 32 (16 * j.val + x.val)).slt (v237 (ix1 x)) = true := by
  have h6 : j.val < 8 := lt_of_lt_of_le j.isLt (by rw [trips6 v244 hv]; exact nvec_le v244 hv)
  have e16 := iv16 ⟨j.val, h6⟩
  have e : IntOp.addi (v0 (ix1 x)) (Scalar.muli (Scalar.addi 0#32 (Scalar.muli (Scf.iv 0#32 1#32 j.val) 1#32)) 16#32) = BitVec.ofNat 32 (16 * j.val + x.val) := by
    rw [hv0]
    have : (Scalar.muli (Scalar.addi 0#32 (Scalar.muli (Scf.iv 0#32 1#32 j.val) 1#32)) 16#32) = BitVec.ofNat 32 (16 * j.val) := by
      apply BitVec.eq_of_toNat_eq; rw [BitVec.toNat_ofNat, Nat.mod_eq_of_lt (by omega)]; exact e16
    rw [this]; show BitVec.ofNat 32 x.val + BitVec.ofNat 32 (16 * j.val) = _
    rw [← BitVec.ofNat_add]; congr 1; omega
  show IntOp.cmpi .slt (IntOp.addi (v0 (ix1 x)) (Scalar.muli (Scalar.addi 0#32 (Scalar.muli (Scf.iv 0#32 1#32 j.val) 1#32)) 16#32)) (v237 (ix1 x)) = 1 ↔ _
  rw [e]
  show BitVec.ofBool _ = 1 ↔ _
  show BitVec.ofBool ((BitVec.ofNat 32 (16 * j.val + x.val)).slt (v237 (ix1 x))) = 1 ↔ _
  generalize (BitVec.ofNat 32 (16 * j.val + x.val)).slt (v237 (ix1 x)) = b
  cases b <;> decide

/-- One step of a bag: over the ids, weights, scale and gradient lanes it reads, the scatter adds step `j`'s terms. -/
theorem step_eq (g5 : S6x20x19x8x128.Idx → F .f32) (ids : S6x2400x128.Idx → BitVec 32) (wts : S6x2400x128.Idx → F .f32)
    (len : S6x2400.Idx → BitVec 32) (sc : S192.Idx → F .f32) (t ch n : ℕ)
    (ld : Vec F S1x1x16 .i32) (wl : Vec F S1x1x16 .f32) (v0 : IVec S16 32) (v10 v242 : Vec F S16 .f32) (v237 : Vec F S16 .i32) (v244 : BitVec 32)
    (hlen : (len (i2 t n)).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t n)) (hv244 : v244 = len (i2 t n))
    (hv242 : ∀ x : Fin 16, v242 (ix1 x) = g5 (i5 t (ch / 8) (n / 128) (ch % 8) (n % 128)))
    (j : Fin (k0_t6_loop v244).trips)
    (hld : ∀ x : Fin 16, ld (ix3 0 0 x) = ids (i3 t n (16 * j.val + x.val)))
    (hwl : ∀ x : Fin 16, wl (ix3 0 0 x) = wts (i3 t n (16 * j.val + x.val)))
    (hids : ∀ i, (ids i).toNat < 80000)
    (h : ∀ a x, ((![k0_pay67 ld, k0_pay68 ld] : Fin 2 → IVec S16 32) a x).toNat < S625x128.size a) :
    storeIdx (F := F) (e := .i32) (accS g5 ids wts len sc t ch n j.val) ![k0_pay67 ld, k0_pay68 ld] (k0_pay66 v10 v242 wl)
        (k0_pay69 v0 v237 v244 1#32 0#32 j) true h
      = accS g5 ids wts len sc t ch n (j.val + 1) := by
  funext p
  rw [storeIdx_sum]
  unfold accS
  rw [bagSteps_succ, ← BitVec.add_assoc, Finset.sum_range]
  refine congrArg (fun z : BitVec 32 => accN g5 ids wts len sc t ch n (rowOf p) + bagSteps g5 ids wts len sc t ch n j.val (rowOf p) + z)
    (Finset.sum_congr rfl fun x _ => ?_)
  unfold term
  have hm := pay69_apply v0 hv0 v237 v244 (by rw [hv244]; exact hlen) j x
  rw [hv237] at hm
  have hidx : (∀ a, (p a).val = ((![k0_pay67 ld, k0_pay68 ld] : Fin 2 → IVec S16 32) a (ix1 x)).toNat)
      ↔ (ids (i3 t n (16 * j.val + x.val))).toNat = rowOf p := by
    have e0 := pay67_toNat ld x (by rw [hld]; exact hids _)
    have e1 := pay68_toNat ld x
    rw [hld] at e0 e1
    have hp1 : (p 1).val < 128 := (p 1).isLt
    constructor
    · intro ha
      have h0 : (p 0).val = (k0_pay67 ld (ix1 x)).toNat := ha 0
      have h1 : (p 1).val = (k0_pay68 ld (ix1 x)).toNat := ha 1
      unfold rowOf; omega
    · intro ha a
      unfold rowOf at ha
      match a with
      | 0 => show (p 0).val = (k0_pay67 ld (ix1 x)).toNat; omega
      | 1 => show (p 1).val = (k0_pay68 ld (ix1 x)).toNat; omega
  refine if_congr (and_congr hm hidx) ?_ rfl
  rw [pay66_apply, hv242, hwl, hv10, show (16 * j.val + x.val) % 16 = x.val by have := x.isLt; omega]

end Cert.KernelIdeal.Pf

end
-- ==== Proof.Ideal.Common.lean ====
/-
  The program as the launch theorem sees it, the resource algebra, and the memrefs of the scatter's tasks: where a slice of a
  whole buffer lies and which element it names.
-/
module

public import proofs.«01_k».proof.Proof.Ideal.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP [FloatOps F] : Labels := Pipeline.Sig Λ₀ (Fin 0) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes and the transfers' counters -/

abbrev UH : Type := URounds (GSem nD τ sig) ℕ
abbrev UU : Type := UH × Counters

abbrev MM (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL

/-! ## A task and its memrefs -/

abbrev thr (d : Dev nD) (L : grid0.Coords) : Thread nD τ := V d ((L 0).castLE hcore0) ((L 1).castLE hsub0)

abbrev mG5 : Memref sig .scVector .hbm S6x20x19x8x128 .f32 := Memref.whole main_v7_scv
abbrev mIds : Memref sig .scVector .hbm S6x2400x128 .i32 := Memref.whole main_v8_scv
abbrev mWts : Memref sig .scVector .hbm S6x2400x128 .f32 := Memref.whole main_v9_scv
abbrev mLen : Memref sig .scVector .hbm S6x2400 .i32 := Memref.whole main_v10_scv
abbrev mSc : Memref sig .scVector .hbm S192 .f32 := Memref.whole main_v5_scv
abbrev mOG : Memref sig .scVector .hbm S6x20x625x8x128 .f32 := Memref.whole main_v11_0_scv
abbrev mOF : Memref sig .scVector .hbm S6x20x625x8x128 .i32 := Memref.whole main_v11_1_scv
abbrev mAcc : Memref sig .scVector .vmem S625x128 .i32 := Memref.whole cc0_scratch0
abbrev mStage : Memref sig .scVector .vmem S125x128 .f32 := Memref.whole cc0_scratch1
abbrev mIdsV : Memref sig .scVector .vmem S2x40x128 .i32 := Memref.whole cc0_scratch2
abbrev mWV : Memref sig .scVector .vmem S2x40x128 .f32 := Memref.whole cc0_scratch3
abbrev mGV : Memref sig .scVector .vmem S19x128 .f32 := Memref.whole cc0_scratch4
abbrev mLenV : Memref sig .scVector .vmem S2400 .i32 := Memref.whole cc0_scratch5
abbrev mScV : Memref sig .scVector .vmem S192 .f32 := Memref.whole cc0_scratch6

/-- The memref's buffer as the task `thr d L` addresses it. -/
abbrev ml {sp : Space} {s : Shape} {e : EltTy} (d : Dev nD) (L : grid0.Coords) (m : Memref sig .scVector sp s e) : Loc nD τ sig := m.view.loc (thr d L)

/-! ## Slices of a whole buffer -/

variable [FloatOps F]

theorem mem_slice {κ : Kind} (b : Ref sig κ) {off size : Fin b.ty.shape.rank → ℕ} (inb : ∀ a, off a + size a ≤ b.ty.shape.size a) (i : b.ty.shape.Idx) :
    i ∈ ((View.whole b : View sig κ _ _ _).slice (Rect.unit off size inb)).set ↔ ∀ a, off a ≤ (i a).val ∧ (i a).val < off a + size a := by
  rw [View.set_slice_whole, Rect.mem_set_unit]

theorem emb_slice_val {κ : Kind} (b : Ref sig κ) {off size : Fin b.ty.shape.rank → ℕ} (inb : ∀ a, off a + size a ≤ b.ty.shape.size a)
    (x : (Rect.unit off size inb).shape.Idx) (a : Fin b.ty.shape.rank) :
    ((((View.whole b : View sig κ _ _ _).slice (Rect.unit off size inb)).emb x) a).val = off a + (x a).val := by
  show off a + 1 * (x a).val = _
  rw [Nat.one_mul]

/-- A counted loop by an invariant, the loop given by its bounds record. -/
theorem wp_loop (c : Thread nD τ) {σ : Type} (bd) (l : Scf.Loop 32) (hok : l.OK) (init : σ)
    (body : Fin l.trips → σ → Prog (TpuEff nD τ sig (Elt F) Λ₀ c.2) σ) (I : ℕ → σ → sProp 𝕄) (Q : σ → sProp 𝕄)
    (hbody : ∀ (k : Fin l.trips) (acc : σ), I k.val acc ⊢ wp frame (wpE (defs₀ (F := F)) 𝒱₀ c bd) Set.univ (body k acc) (I (k.val + 1)))
    (hQ : ∀ acc, I l.trips acc ⊢ Q acc) :
    I 0 init ⊢ wp frame (wpE (defs₀ (F := F)) 𝒱₀ c bd) Set.univ (Scf.Loop.for l hok init body) Q := by
  iintro H
  iapply (Scf.wp_for frame _ Set.univ l.lb l.ub l.st hok init body I hbody (Q := Q))
  isplitl [H]
  · iexact H
  · iintro %u H
    iapply (hQ u) $$ H

/-- A program's triple, its continuation a wand. -/
theorem wp_seq {c : Thread nD τ} {bd} {α β : Type} {p : Prog (TpuEff nD τ sig (Elt F) Λ₀ c.2) α} {k : α → Prog (TpuEff nD τ sig (Elt F) Λ₀ c.2) β}
    {P : sProp 𝕄} {Q : α → sProp 𝕄} {R : β → sProp 𝕄} (h : P ⊢ wp frame (wpE (defs₀ (F := F)) 𝒱₀ c bd) Set.univ p Q) :
    P ⊢ iprop((∀ a, Q a -∗ wp frame (wpE (defs₀ (F := F)) 𝒱₀ c bd) Set.univ (k a) R) -∗ wp frame (wpE (defs₀ (F := F)) 𝒱₀ c bd) Set.univ (p >>= k) R) := by
  rw [wp_bind]
  exact h.trans (wp_wand frame _ Set.univ)
theorem wp_cons {c : Thread nD τ} {bd} {α : Type} {p : Prog (TpuEff nD τ sig (Elt F) Λ₀ c.2) α}
    {P : sProp 𝕄} {Q R : α → sProp 𝕄} (h : P ⊢ wp frame (wpE (defs₀ (F := F)) 𝒱₀ c bd) Set.univ p Q) :
    P ⊢ iprop((∀ a, Q a -∗ R a) -∗ wp frame (wpE (defs₀ (F := F)) 𝒱₀ c bd) Set.univ p R) :=
  h.trans (wp_wand frame _ Set.univ)

/-- A counted loop of no trips, its continuation next. -/
theorem wp_loop0 {c : Thread nD τ} {bd} {β : Type} (l : Scf.Loop 32) (hok : l.OK)
    (body : Fin l.trips → Unit → Prog (TpuEff nD τ sig (Elt F) Λ₀ c.2) Unit) (h0 : l.trips = 0)
    (k : Unit → Prog (TpuEff nD τ sig (Elt F) Λ₀ c.2) β) (R : β → sProp 𝕄) :
    wp frame (wpE (defs₀ (F := F)) 𝒱₀ c bd) Set.univ (k ()) R ⊢ wp frame (wpE (defs₀ (F := F)) 𝒱₀ c bd) Set.univ (Scf.Loop.for l hok () body >>= k) R :=
  Scf.wp_for0_bind frame _ Set.univ l.lb l.ub l.st hok body h0 k R _ .rfl

/-- The elements of slot `s` of a two-slot staging buffer. -/
def slotSet (s : ℕ) : Finset S2x40x128.Idx := Finset.univ.filter fun i => (i 0).val = s

theorem mem_slotSet {s : ℕ} {i : S2x40x128.Idx} : i ∈ slotSet s ↔ (i 0).val = s := by simp [slotSet]

end Cert.KernelIdeal.Pf

end
-- ==== Proof.Ideal.Tile1.lean ====
/-
  One bag: the inner loop over its 16-lane steps, and the loads before it.
-/
module

public import proofs.«01_k».proof.Proof.Ideal.Common

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Bag

variable (d : Dev nD) (L : grid0.Coords)
variable (g5 : S6x20x19x8x128.Idx → F .f32) (ids : S6x2400x128.Idx → BitVec 32) (wts : S6x2400x128.Idx → F .f32)
  (len : S6x2400.Idx → BitVec 32) (sc : S192.Idx → F .f32)

/-- The staged ids and weights of slot `s` are chunk `k` of table `t`. -/
def ChunkI (ids : S6x2400x128.Idx → BitVec 32) (t k s : ℕ) (fi : S2x40x128.Idx → BitVec 32) : Prop :=
  ∀ i : S2x40x128.Idx, (i 0).val = s → fi i = ids (i3 t (40 * k + (i 1).val) (i 2).val)
def ChunkW (wts : S6x2400x128.Idx → F .f32) (t k s : ℕ) (fw : S2x40x128.Idx → F .f32) : Prop :=
  ∀ i : S2x40x128.Idx, (i 0).val = s → fw i = wts (i3 t (40 * k + (i 1).val) (i 2).val)

/-- The staged gradient lanes are channel `ch` of table `t`. -/
def RowG (t ch : ℕ) (fg : S19x128.Idx → F .f32) : Prop :=
  ∀ i : S19x128.Idx, fg i = g5 (i5 t (ch / 8) (i 0).val (ch % 8) (i 1).val)
/-- The staged lengths are table `t`'s. -/
def RowL (t : ℕ) (fl : S2400.Idx → BitVec 32) : Prop := ∀ i : S2400.Idx, fl i = len (i2 t (i 0).val)

abbrev idsRect (t4 : Fin k0_t4_loop.trips) (t5 : Fin k0_t5_loop.trips) (v : BitVec 32) (h : k0_chk3 t4 t5 v) (t6 : Fin (k0_t6_loop v).trips) : Rect S2x40x128 :=
  Rect.unit (s := S2x40x128) (k0_off13 t4 t5 v t6) S1x1x16.size (k0_off13_inb t4 t5 v h t6)

theorem idsRect_sub (t4 : Fin k0_t4_loop.trips) (t5 : Fin k0_t5_loop.trips) (v : BitVec 32) (h : k0_chk3 t4 t5 v) (hv : v.toInt ≤ 128)
    (t6 : Fin (k0_t6_loop v).trips) (b : Ref sig .scVector) (hb : b.ty.shape = S2x40x128) :
    ∀ i : S2x40x128.Idx, i ∈ (idsRect t4 t5 v h t6).set → i ∈ slotSet (t4.val % 2) := by
  intro i hi
  rw [Rect.mem_set_unit] at hi
  have := hi 0
  rw [cf13 t4 t5 v hv t6] at this
  rw [mem_slotSet]
  have h0 : t4.val % 2 ≤ (i 0).val ∧ (i 0).val < t4.val % 2 + 1 := this
  omega

theorem acc_access (f : Buf (Elt F) (ml d L mAcc)) :
    (((mAcc.access (.whole S625x128)).loc (thr d L) ↦[(mAcc.access (.whole S625x128)).set]{fullShare} f : sProp 𝕄)) = (ml d L mAcc ↦{fullShare} f) := by
  rw [show (mAcc.access (.whole S625x128)).set = Finset.univ from Memref.set_access_whole cc0_scratch0]

theorem acc_write (f w : S625x128.Idx → BitVec 32) :
    View.write (Elt F) (mAcc.access (.whole S625x128)) f w Finset.univ = w := Memref.write_access_whole_univ (Elt F) cc0_scratch0 f w

theorem acc_read (f : S625x128.Idx → BitVec 32) :
    View.read (Elt F) (mAcc.access (.whole S625x128)) f = f := Memref.read_access_whole (Elt F) cc0_scratch0 f

theorem t6_step (t2 : Fin k0_t2_loop.trips) (t3 : Fin k0_t3_loop.trips) (t4 : Fin k0_t4_loop.trips) (t5 : Fin k0_t5_loop.trips) (t ch : ℕ)
    (v0 : IVec S16 32) (v10 v242 : Vec F S16 .f32) (v237 : Vec F S16 .i32) (v244 : BitVec 32) (hw3 : k0_chk3 t4 t5 v244)
    (hlen : (len (i2 t (40 * t4.val + t5.val))).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t (40 * t4.val + t5.val))) (hv244 : v244 = len (i2 t (40 * t4.val + t5.val)))
    (hv242 : ∀ x : Fin 16, v242 (ix1 x) = g5 (i5 t (ch / 8) ((40 * t4.val + t5.val) / 128) (ch % 8) ((40 * t4.val + t5.val) % 128)))
    (hids : ∀ i, (ids i).toNat < 80000)
    (fi : S2x40x128.Idx → BitVec 32) (fw : S2x40x128.Idx → F .f32) (hfi : ChunkI ids t t4.val (t4.val % 2) fi) (hfw : ChunkW wts t t4.val (t4.val % 2) fw)
    (j : Fin (k0_t6_loop v244).trips) (u : Unit) :
    (iprop((ml d L mAcc ↦{fullShare} (accS g5 ids wts len sc t ch (40 * t4.val + t5.val) j.val : S625x128.Idx → BitVec 32))
        ∗ (ml d L mIdsV ↦[slotSet (t4.val % 2)]{fullShare} fi) ∗ (ml d L mWV ↦[slotSet (t4.val % 2)]{fullShare} fw)) : sProp 𝕄)
      ⊢ wp frame (wpE (defs₀ (F := F)) 𝒱₀ (thr d L) none) Set.univ
          (k0_t6_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 t5 v237 v242 v244 hw3 1#32 0#32 j u)
          (fun _ => iprop((ml d L mAcc ↦{fullShare} (accS g5 ids wts len sc t ch (40 * t4.val + t5.val) (j.val + 1) : S625x128.Idx → BitVec 32))
            ∗ (ml d L mIdsV ↦[slotSet (t4.val % 2)]{fullShare} fi) ∗ (ml d L mWV ↦[slotSet (t4.val % 2)]{fullShare} fw))) := by
  have hv : v244.toInt ≤ 128 := by rw [hv244]; exact hlen
  unfold k0_t6_body
  simp only [Prog.lift, Prog.bind_op, Prog.bind_ret, Prog.pure_eq_ret]
  iintro ⟨Ha, Hi, Hw⟩
  iapply (wp_load_rect 𝒱₀ (thr d L) none Set.univ (m := mIdsV) (r := idsRect t4 t5 v244 hw3 j) (S := slotSet (t4.val % 2)) (f := fi) ?hsI) $$ Hi
  case hsI =>
    show ((View.whole cc0_scratch2 : View sig .scVector _ _ _).slice _).set ⊆ _
    intro i hi; rw [View.set_slice_whole] at hi; exact idsRect_sub t4 t5 v244 hw3 hv j cc0_scratch2 rfl i hi
  iintro Hi
  iapply (wp_load_rect 𝒱₀ (thr d L) none Set.univ (m := mWV) (r := idsRect t4 t5 v244 hw3 j) (S := slotSet (t4.val % 2)) (f := fw) ?hsW) $$ Hw
  case hsW =>
    show ((View.whole cc0_scratch3 : View sig .scVector _ _ _).slice _).set ⊆ _
    intro i hi; rw [View.set_slice_whole] at hi; exact idsRect_sub t4 t5 v244 hw3 hv j cc0_scratch3 rfl i hi
  iintro Hw
  have e0 : ∀ x : Fin 16, ((idsRect t4 t5 v244 hw3 j).emb (ix3 0 0 x) 0).val = t4.val % 2 := fun x => by
    rw [Rect.emb_apply, Rect.off_unit, cf13 t4 t5 v244 hv j]; rfl
  have e1 : ∀ x : Fin 16, ((idsRect t4 t5 v244 hw3 j).emb (ix3 0 0 x) 1).val = t5.val := fun x => by
    rw [Rect.emb_apply, Rect.off_unit, cf13 t4 t5 v244 hv j]; rfl
  have e2 : ∀ x : Fin 16, ((idsRect t4 t5 v244 hw3 j).emb (ix3 0 0 x) 2).val = 16 * j.val + x.val := fun x => by
    rw [Rect.emb_apply, Rect.off_unit, cf13 t4 t5 v244 hv j]; show 16 * j.val + 1 * x.val = _; omega
  have hld : ∀ x : Fin 16, ((mIdsV.access (idsRect t4 t5 v244 hw3 j)).read (Elt F) fi) (ix3 0 0 x) = ids (i3 t (40 * t4.val + t5.val) (16 * j.val + x.val)) := fun x => by
    refine (hfi ((idsRect t4 t5 v244 hw3 j).emb (ix3 0 0 x)) (e0 x)).trans ?_
    rw [e1, e2]
  have hwl : ∀ x : Fin 16, ((mWV.access (idsRect t4 t5 v244 hw3 j)).read (Elt F) fw) (ix3 0 0 x) = wts (i3 t (40 * t4.val + t5.val) (16 * j.val + x.val)) := fun x => by
    refine (hfw ((idsRect t4 t5 v244 hw3 j).emb (ix3 0 0 x)) (e0 x)).trans ?_
    rw [e1, e2]
  have hj : j.val < nvec v244 := lt_of_lt_of_eq j.isLt (trips6 v244 hv)
  rw [wp_assume_of _ _ _ _ (chk4 _ fun x => by rw [hld x]; exact hids _)]
  ihave Ha := (Entails.of_eq (acc_access d L _).symm) $$ Ha
  iapply (SparseCore.wp_vectorStoreIdx 𝒱₀ (thr d L) none Set.univ (base := mAcc)) $$ Ha
  iintro Ha
  ihave Ha := (Entails.of_eq (acc_access d L _)) $$ Ha
  sl_step
  rw [acc_write]
  simp only [acc_read]
  rw [step_eq g5 ids wts len sc t ch (40 * t4.val + t5.val) _ _ v0 v10 v242 v237 v244 hlen hv0 hv10 hv237 hv244 hv242 j hld hwl hids]
  iframe

theorem t6_loop (t2 : Fin k0_t2_loop.trips) (t3 : Fin k0_t3_loop.trips) (t4 : Fin k0_t4_loop.trips) (t5 : Fin k0_t5_loop.trips) (t ch : ℕ)
    (v0 : IVec S16 32) (v10 v242 : Vec F S16 .f32) (v237 : Vec F S16 .i32) (v244 : BitVec 32) (hw3 : k0_chk3 t4 t5 v244)
    (hlen : (len (i2 t (40 * t4.val + t5.val))).toInt ≤ 128)
    (hv0 : ∀ x : Fin 16, v0 (ix1 x) = BitVec.ofNat 32 x.val)
    (hv10 : ∀ x : Fin 16, v10 (ix1 x) = sc (i1 (32 * t + x.val)))
    (hv237 : ∀ x : Fin 16, v237 (ix1 x) = len (i2 t (40 * t4.val + t5.val))) (hv244 : v244 = len (i2 t (40 * t4.val + t5.val)))
    (hv242 : ∀ x : Fin 16, v242 (ix1 x) = g5 (i5 t (ch / 8) ((40 * t4.val + t5.val) / 128) (ch % 8) ((40 * t4.val + t5.val) % 128)))
    (hids : ∀ i, (ids i).toNat < 80000)
    (fi : S2x40x128.Idx → BitVec 32) (fw : S2x40x128.Idx → F .f32) (hfi : ChunkI ids t t4.val (t4.val % 2) fi) (hfw : ChunkW wts t t4.val (t4.val % 2) fw) :
    (iprop((ml d L mAcc ↦{fullShare} (accF g5 ids wts len sc t ch (40 * t4.val + t5.val) : S625x128.Idx → BitVec 32))
        ∗ (ml d L mIdsV ↦[slotSet (t4.val % 2)]{fullShare} fi) ∗ (ml d L mWV ↦[slotSet (t4.val % 2)]{fullShare} fw)) : sProp 𝕄)
      ⊢ wp frame (wpE (defs₀ (F := F)) 𝒱₀ (thr d L) none) Set.univ
          (Scf.Loop.for (k0_t6_loop v244) (k0_t6_ok t4 t5 v244 hw3) ⟨⟩ (k0_t6_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 t5 v237 v242 v244 hw3 1#32 0#32))
          (fun _ => iprop((ml d L mAcc ↦{fullShare} (accF g5 ids wts len sc t ch (40 * t4.val + t5.val + 1) : S625x128.Idx → BitVec 32))
            ∗ (ml d L mIdsV ↦[slotSet (t4.val % 2)]{fullShare} fi) ∗ (ml d L mWV ↦[slotSet (t4.val % 2)]{fullShare} fw))) := by
  have hv : v244.toInt ≤ 128 := by rw [hv244]; exact hlen
  have hstep := t6_step d L g5 ids wts len sc t2 t3 t4 t5 t ch v0 v10 v242 v237 v244 hw3 hlen hv0 hv10 hv237 hv244 hv242 hids fi fw hfi hfw
  have hend : accS g5 ids wts len sc t ch (40 * t4.val + t5.val) (k0_t6_loop v244).trips = accF g5 ids wts len sc t ch (40 * t4.val + t5.val + 1) := by
    rw [trips6 v244 hv, hv244, accS_all]
  rw [← accS_zero]
  exact wp_loop (thr d L) none (k0_t6_loop v244) (k0_t6_ok t4 t5 v244 hw3) ⟨⟩ _ (fun j _ => iprop((ml d L mAcc ↦{fullShare} (accS g5 ids wts len sc t ch (40 * t4.val + t5.val) j : S625x128.Idx → BitVec 32))
        ∗ (ml d L mIdsV ↦[slotSet (t4.val % 2)]{fullShare} fi) ∗ (ml d L mWV ↦[slotSet (t4.val % 2)]{fullShare} fw))) _ hstep
    (fun _ => Entails.of_eq (by rw [hend]))

/-! ## The loads before the loop -/

theorem v235_toNat (n : Fin k0_t5_loop.trips) (k : ℕ) (hk : k < 60) (v195 : BitVec 32) (h : v195.toNat = k) :
    (Scalar.addi (Scalar.muli v195 40#32) (Scalar.addi 0#32 (Scalar.muli (Scf.iv 0#32 1#32 n.val) 1#32))).toNat = 40 * k + n.val := by
  have h5 : (Scalar.addi 0#32 (Scalar.muli (Scf.iv 0#32 1#32 n.val) 1#32)).toNat = n.val := iv5 n
  have hn : n.val < 40 := lt_of_lt_of_eq n.isLt trips5
  show (v195 * 40#32 + Scalar.addi 0#32 (Scalar.muli (Scf.iv 0#32 1#32 n.val) 1#32)).toNat = _
  rw [BitVec.toNat_add, h5, BitVec.toNat_mul, h]
  show (k * 40 % 4294967296 + n.val) % 4294967296 = _
  omega

theorem chk1 (v : BitVec 32) (h : v.toNat < 2400) : k0_chk1 (broadcast S16 v) := by
  intro a x
  match a with
  | 0 => exact h

theorem chk2 (v : BitVec 32) (h : v.toNat < 2400) : k0_chk2 (k0_pay2 (broadcast S16 v)) (k0_pay3 (broadcast S16 v)) := by
  intro a x
  match a with
  | 0 =>
    show (IntOp.shrsi .vector v 7#32).toNat < 19
    rw [row_toNat _ (by omega)]; omega
  | 1 =>
    show (IntOp.andi v 127#32).toNat < 128
    rw [lane_toNat]; omega

theorem lenV_read (f : S2400.Idx → BitVec 32) :
    View.read (Elt F) (mLenV.access (.whole S2400)) f = f := Memref.read_access_whole (Elt F) cc0_scratch5 f
theorem gV_read (f : S19x128.Idx → F .f32) :
    View.read (Elt F) (mGV.access (.whole S19x128)) f = f := Memref.read_access_whole (Elt F) cc0_scratch4 f

theorem load_len (v : BitVec 32) (h : v.toNat < 2400) (fl : S2400.Idx → BitVec 32) (t : ℕ) (hfl : RowL len t fl) (hc) (x : S16.Idx) :
    loadIdx (F := F) (s := S2400) (e := .i32) (View.read (Elt F) (mLenV.access (.whole S2400)) fl) ![broadcast S16 v] hc x = len (i2 t v.toNat) := by
  rw [lenV_read]
  show fl _ = _
  rw [hfl]; rfl

theorem load_g (v : BitVec 32) (h : v.toNat < 2400) (fg : S19x128.Idx → F .f32) (t ch : ℕ) (hfg : RowG g5 t ch fg) (hc) (x : S16.Idx) :
    loadIdx (F := F) (s := S19x128) (e := .f32) (View.read (Elt F) (mGV.access (.whole S19x128)) fg) ![k0_pay2 (broadcast S16 v), k0_pay3 (broadcast S16 v)] hc x
      = g5 (i5 t (ch / 8) (v.toNat / 128) (ch % 8) (v.toNat % 128)) := by
  rw [gV_read]
  show fg _ = _
  rw [hfg]
  show g5 (i5 t (ch / 8) (IntOp.shrsi .vector v 7#32).toNat (ch % 8) (IntOp.andi v 127#32).toNat) = _
  rw [row_toNat _ (by omega), lane_toNat]

theorem lenV_access (f : Buf (Elt F) (ml d L mLenV)) :
    (((mLenV.access (.whole S2400)).loc (thr d L) ↦[Finset.univ]{fullShare} f : sProp 𝕄)) = (ml d L mLenV ↦{fullShare} f) := rfl
theorem gV_access (f : Buf (Elt F) (ml d L mGV)) :
    (((mGV.access (.whole S19x128)).loc (thr d L) ↦[Finset.univ]{fullShare} f : sProp 𝕄)) = (ml d L mGV ↦{fullShare} f) := rfl

/-- What the loads before the loop hand to it. -/
structure Part1 (t ch n : ℕ) (v237 : Vec F S16 .i32) (v242 : Vec F S16 .f32) (v244 : BitVec 32) : Prop where
  hv237 : ∀ x : Fin 16, v237 (ix1 x) = len (i2 t n)
  hv242 : ∀ x : Fin 16, v242 (ix1 x) = g5 (i5 t (ch / 8) (n / 128) (ch % 8) (n % 128))
  hv244 : v244 = len (i2 t n)

set_option maxHeartbeats 2000000 in
theorem part1 (t4 : Fin k0_t4_loop.trips) (t5 : Fin k0_t5_loop.trips) (t ch : ℕ) (v195 : BitVec 32) (hv195 : v195.toNat = t4.val)
    (hlen : ∀ i, (len i).toInt ≤ 128)
    (fg : S19x128.Idx → F .f32) (hfg : RowG g5 t ch fg) (fl : S2400.Idx → BitVec 32) (hfl : RowL len t fl)
    (Q : _ → sProp 𝕄) :
    iprop((ml d L mGV ↦{fullShare} fg) ∗ (ml d L mLenV ↦{fullShare} fl)
        ∗ (∀ r, ⌜Part1 g5 len t ch (40 * t4.val + t5.val) r.2.1 r.2.2.1 r.2.2.2.1 ∧ r.2.2.2.2.2.2.1 = 1#32 ∧ r.2.2.2.2.2.2.2 = 0#32⌝
            -∗ (ml d L mGV ↦{fullShare} fg) -∗ (ml d L mLenV ↦{fullShare} fl) -∗ Q r))
      ⊢ wp frame (wpE (defs₀ (F := F)) 𝒱₀ (thr d L) none) Set.univ
          (k0_part1 L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t4 v195 0#32 1#32 t5) Q := by
  have hk : t4.val < 60 := lt_of_lt_of_eq t4.isLt trips4
  have hn : t5.val < 40 := lt_of_lt_of_eq t5.isLt trips5
  have hv := v235_toNat t5 t4.val hk v195 hv195
  have hvl := (show 40 * t4.val + t5.val < 2400 by omega)
  rw [← hv] at hvl
  rw [k0_part1_eq_skeleton]
  unfold k0_part1_skel
  simp only [Prog.lift, Prog.bind_op, Prog.bind_ret, Prog.pure_eq_ret]
  generalize Scalar.addi (Scalar.muli v195 40#32) (Scalar.addi 0#32 (Scalar.muli (Scf.iv 0#32 1#32 t5.val) 1#32)) = v235 at hv hvl ⊢
  iintro ⟨Hg, Hl, HQ⟩
  rw [wp_assume_of _ _ _ _ (chk1 _ hvl)]
  ihave Hl := (Entails.of_eq (lenV_access d L _).symm) $$ Hl
  iapply (SparseCore.wp_vectorLoadIdx 𝒱₀ (thr d L) none Set.univ (base := mLenV) (S := Finset.univ) (q := fullShare) (Finset.subset_univ _)) $$ Hl
  iintro Hl
  ihave Hl := (Entails.of_eq (lenV_access d L _)) $$ Hl
  rw [wp_assume_of _ _ _ _ (chk2 _ hvl)]
  have h237 := load_len (F := F) len v235 hvl fl t hfl (k0_idx1_inb (broadcast S16 v235) (chk1 _ hvl))
  rw [hv] at h237
  generalize loadIdx (F := F) (s := S2400) (e := .i32) (View.read (Elt F) (mLenV.access (.whole S2400)) fl) ![broadcast S16 v235] _ = v237 at h237 ⊢
  have h244 : extractAt ![0] (k0_pay4 (F := F) v237) inpos_S1_p0 = len (i2 t (40 * t4.val + t5.val)) := h237 _
  ihave Hg := (Entails.of_eq (gV_access d L _).symm) $$ Hg
  iapply (SparseCore.wp_vectorLoadIdx 𝒱₀ (thr d L) none Set.univ (base := mGV) (S := Finset.univ) (q := fullShare) (Finset.subset_univ _)) $$ Hg
  iintro Hg
  ihave Hg := (Entails.of_eq (gV_access d L _)) $$ Hg
  have h242 := load_g g5 v235 hvl fg t ch hfg (k0_idx2_inb _ _ (chk2 _ hvl))
  rw [hv] at h242
  generalize loadIdx (F := F) (s := S19x128) (e := .f32) (View.read (Elt F) (mGV.access (.whole S19x128)) fg) ![k0_pay2 (broadcast S16 v235), k0_pay3 (broadcast S16 v235)] _ = v242 at h242 ⊢
  rw [wp_assume_of _ _ _ _ (chk3 t4 t5 _ (by rw [h244]; exact hlen _))]
  sl_step
  iapply HQ $$ %_ %⟨⟨fun x => h237 _, fun x => h242 _, h244⟩, rfl, rfl⟩ Hg Hl

theorem t5_step (t2 : Fin k0_t2_loop.trips) (t3 : Fin k0_t3_loop.trips) (t4 : Fin k0_t4_loop.trips) (t5 : Fin k0_t5_loop.trips) (t ch : ℕ)
    (v0 : IVec S16 32) (v10 : Vec F S16 .f32) (v195 : BitVec 32) (hv195 : v195.toNat = t4.val)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * t + x.val)))
    (fi : S2x40x128.Idx → BitVec 32) (fw : S2x40x128.Idx → F .f32) (hfi : ChunkI ids t t4.val (t4.val % 2) fi) (hfw : ChunkW wts t t4.val (t4.val % 2) fw)
    (fg : S19x128.Idx → F .f32) (hfg : RowG g5 t ch fg) (fl : S2400.Idx → BitVec 32) (hfl : RowL len t fl) (u : Unit) :
    (iprop((ml d L mAcc ↦{fullShare} (accF g5 ids wts len sc t ch (40 * t4.val + t5.val) : S625x128.Idx → BitVec 32))
        ∗ (ml d L mIdsV ↦[slotSet (t4.val % 2)]{fullShare} fi) ∗ (ml d L mWV ↦[slotSet (t4.val % 2)]{fullShare} fw)
        ∗ (ml d L mGV ↦{fullShare} fg) ∗ (ml d L mLenV ↦{fullShare} fl)) : sProp 𝕄)
      ⊢ wp frame (wpE (defs₀ (F := F)) 𝒱₀ (thr d L) none) Set.univ
          (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195 t5 u)
          (fun _ => iprop((ml d L mAcc ↦{fullShare} (accF g5 ids wts len sc t ch (40 * t4.val + (t5.val + 1)) : S625x128.Idx → BitVec 32))
            ∗ (ml d L mIdsV ↦[slotSet (t4.val % 2)]{fullShare} fi) ∗ (ml d L mWV ↦[slotSet (t4.val % 2)]{fullShare} fw)
            ∗ (ml d L mGV ↦{fullShare} fg) ∗ (ml d L mLenV ↦{fullShare} fl))) := by
  have hk : t4.val < 60 := lt_of_lt_of_eq t4.isLt trips4
  have hn : t5.val < 40 := lt_of_lt_of_eq t5.isLt trips5
  have hv := v235_toNat t5 t4.val hk v195 hv195
  have hvl := (show 40 * t4.val + t5.val < 2400 by omega)
  rw [← hv] at hvl
  unfold k0_t5_body
  beta_reduce
  iintro ⟨Ha, Hi, Hw, Hg, Hl⟩
  rw [wp_bind]
  iapply (part1 d L g5 len t4 t5 t ch v195 hv195 hlen fg hfg fl hfl)
  isplitl [Hg]; · iexact Hg
  isplitl [Hl]; · iexact Hl
  iintro %r %hr Hg Hl
  obtain ⟨v233, v237, v242, v244, hw3, v267, c1, c0⟩ := r
  obtain ⟨⟨h237, h242, h244⟩, h1, h0⟩ := hr
  dsimp only at h237 h242 h244 h1 h0
  subst h1 h0
  dsimp only
  iapply (wp_seq (t6_loop d L g5 ids wts len sc t2 t3 t4 t5 t ch v0 v10 v242 v237 v244 hw3 (hlen _) hv0 hv10 h237 h244 h242 hids fi fw hfi hfw)) $$ [Ha Hi Hw]
  · iframe
  iintro %_ ⟨Ha, Hi, Hw⟩
  iapply (wp_loop0 (k0_t7_loop v244) (k0_t7_ok t4 t5 v244 hw3) _ (trips7 v244))
  sl_step
  iframe

end Bag

end Cert.KernelIdeal.Pf

end
-- ==== Proof.Ideal.Tile2.lean ====
/-
  A chunk of forty bags: fetching its ids and weights into a slot, and waiting for them.
-/
module

public import proofs.«01_k».proof.Proof.Ideal.Tile1

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EC : UEmb Counters (MT nD τ sig (HIx 1) (Elt F) ℕ UU ℕ) := countersEmb (U := UU)

theorem carve {ℓ : Loc nD τ sig} {I S : Finset (Idx ℓ)} {q : PosShare TreeShare} {f : Buf (Elt F) ℓ} (h : I ⊆ S) :
    (ℓ ↦[S]{q} f : sProp 𝕄) ⊢ iprop((ℓ ↦[I]{q} f) ∗ ℓ ↦[S \ I]{q} f) := (pointsTo_split_subset h).1
theorem uncarve {ℓ : Loc nD τ sig} {I S : Finset (Idx ℓ)} {q : PosShare TreeShare} {f : Buf (Elt F) ℓ} (h : I ⊆ S) :
    iprop((ℓ ↦[I]{q} f) ∗ ℓ ↦[S \ I]{q} f) ⊢ (ℓ ↦[S]{q} f : sProp 𝕄) := (pointsTo_split_subset h).2

/-! ## Slices and squeezes -/

theorem sq_set (b : Ref sig .scVector) (off size : Fin b.ty.shape.rank → ℕ) (inb : ∀ a, off a + size a ≤ b.ty.shape.size a)
    (s' : Shape) (h : (Rect.unit off size inb).shape.Squeezes s') (hn) :
    (((Memref.whole b).slice (Rect.unit off size inb) hn).squeeze s' h).view.set = (Rect.unit off size inb).set := by
  show ((View.whole b : View sig .scVector _ _ _).slice (Rect.unit off size inb) |>.reshape s' h.numel_eq).set = _
  rw [View.set_reshape, View.set_slice_whole]

theorem sq_emb (b : Ref sig .scVector) (off size : Fin b.ty.shape.rank → ℕ) (inb : ∀ a, off a + size a ≤ b.ty.shape.size a)
    (s' : Shape) (h : (Rect.unit off size inb).shape.Squeezes s') (hn) (x : s'.Idx) (a : Fin b.ty.shape.rank) :
    ((((Memref.whole b).slice (Rect.unit off size inb) hn).squeeze s' h).view.emb x a).val
      = off a + (Shape.reshapeEquiv h.numel_eq x a).val := by
  show off a + 1 * (Shape.reshapeEquiv h.numel_eq x a).val = _
  rw [Nat.one_mul]

abbrev cIds (off : Fin 3 → ℕ) (inb : ∀ a, off a + S1x40x128.size a ≤ S6x2400x128.size a) : Memref sig .scVector .hbm S40x128 .i32 :=
  (mIds.slice (Rect.unit (s := S6x2400x128) off S1x40x128.size inb) (fun _ => rfl)).squeeze S40x128 squeezes_S1x40x128_S40x128
abbrev cWts (off : Fin 3 → ℕ) (inb : ∀ a, off a + S1x40x128.size a ≤ S6x2400x128.size a) : Memref sig .scVector .hbm S40x128 .f32 :=
  (mWts.slice (Rect.unit (s := S6x2400x128) off S1x40x128.size inb) (fun _ => rfl)).squeeze S40x128 squeezes_S1x40x128_S40x128
abbrev sIds (off : Fin 3 → ℕ) (inb : ∀ a, off a + S1x40x128.size a ≤ S2x40x128.size a) : Memref sig .scVector .vmem S40x128 .i32 :=
  (mIdsV.slice (Rect.unit (s := S2x40x128) off S1x40x128.size inb) (fun _ => rfl)).squeeze S40x128 squeezes_S1x40x128_S40x128
abbrev sWts (off : Fin 3 → ℕ) (inb : ∀ a, off a + S1x40x128.size a ≤ S2x40x128.size a) : Memref sig .scVector .vmem S40x128 .f32 :=
  (mWV.slice (Rect.unit (s := S2x40x128) off S1x40x128.size inb) (fun _ => rfl)).squeeze S40x128 squeezes_S1x40x128_S40x128
abbrev inS (off : Fin 1 → ℕ) (inb : ∀ a, off a + S1.size a ≤ S2.size a) : DmaSem sig :=
  ((cc0_scratch7.slice (Rect.unit (s := S2) off S1.size inb)).squeeze S_ squeezes_S1_S_).sem

/-- The semaphore of slot `s`. -/
def inC (s : ℕ) : DmaSem sig := ⟨s % 2, show s % 2 < 11 by omega⟩

theorem inS_eq (off : Fin 1 → ℕ) (inb) (s : ℕ) (hs : s < 2) (h : off = ![s]) : inS off inb = inC s := by
  subst h
  apply Fin.ext
  show 0 + (S2.rowMajor _).val = s % 2
  rw [show (S2.rowMajor ((Rect.unit (s := S2) ![s] S1.size inb).emb (Shape.reshapeEquiv squeezes_S1_S_.numel_eq fun i => i.elim0))).val
      = ((Rect.unit (s := S2) ![s] S1.size inb).emb (Shape.reshapeEquiv squeezes_S1_S_.numel_eq fun i => i.elim0) 0).val from rowMajor_val1 _]
  have h1 : (Shape.reshapeEquiv (s := S1) (s' := S_) squeezes_S1_S_.numel_eq (fun i => i.elim0) 0).val < 1 := (Shape.reshapeEquiv (s := S1) (s' := S_) squeezes_S1_S_.numel_eq (fun i => i.elim0) 0).isLt
  show 0 + (s + 1 * (Shape.reshapeEquiv (s := S1) (s' := S_) squeezes_S1_S_.numel_eq (fun i => i.elim0) 0).val) = _
  omega

/-- The elements of chunk `k` of table `t`. -/
def chunkSet (t k : ℕ) : Finset S6x2400x128.Idx := Finset.univ.filter fun i => (i 0).val = t ∧ 40 * k ≤ (i 1).val ∧ (i 1).val < 40 * k + 40

theorem chunk_set (off : Fin 3 → ℕ) (inb : ∀ a, off a + S1x40x128.size a ≤ S6x2400x128.size a) (t k : ℕ) (h : off = ![t, 40 * k, 0]) :
    (Rect.unit (s := S6x2400x128) off S1x40x128.size inb).set = chunkSet t k := by
  subst h
  ext i
  rw [Rect.mem_set_unit]
  unfold chunkSet
  rw [Finset.mem_filter]
  constructor
  · intro h
    have h0 : t ≤ (i 0).val ∧ (i 0).val < t + 1 := h 0
    have h1 : 40 * k ≤ (i 1).val ∧ (i 1).val < 40 * k + 40 := h 1
    exact ⟨Finset.mem_univ _, by omega, h1⟩
  · rintro ⟨-, h0, h1⟩ a
    match a with
    | 0 => show t ≤ (i 0).val ∧ (i 0).val < t + 1; omega
    | 1 => exact h1
    | 2 => exact ⟨Nat.zero_le _, show (i 2).val < 0 + 128 by have := (i 2).isLt; exact (Nat.zero_add 128).symm ▸ this⟩

theorem slot_set (off : Fin 3 → ℕ) (inb : ∀ a, off a + S1x40x128.size a ≤ S2x40x128.size a) (s : ℕ) (h : off = ![s, 0, 0]) :
    (Rect.unit (s := S2x40x128) off S1x40x128.size inb).set = slotSet s := by
  subst h
  ext i
  rw [Rect.mem_set_unit, mem_slotSet]
  constructor
  · intro h
    have h0 : s ≤ (i 0).val ∧ (i 0).val < s + 1 := h 0
    omega
  · rintro h0 a
    match a with
    | 0 => show s ≤ (i 0).val ∧ (i 0).val < s + 1; omega
    | 1 => exact ⟨Nat.zero_le _, show (i 1).val < 0 + 40 by have := (i 1).isLt; exact (Nat.zero_add 40).symm ▸ this⟩
    | 2 => exact ⟨Nat.zero_le _, show (i 2).val < 0 + 128 by have := (i 2).isLt; exact (Nat.zero_add 128).symm ▸ this⟩

theorem re40 (x : Fin 40) (y : Fin 128) : Shape.reshapeEquiv (s := S1x40x128) (s' := S40x128) squeezes_S1x40x128_S40x128.numel_eq (ix2 x y) = ix3 0 x y := by
  refine Shape.reshapeEquiv_eq_of_vals _ _ _ _ _ (rowMajor_val3 _ (40 * 128) 128 rfl rfl) (rowMajor_val2 _ 128 rfl) ?_
  show 0 * (40 * 128) + x.val * 128 + y.val = x.val * 128 + y.val
  omega

theorem sIds_at (o inb) (s : ℕ) (hs : s < 2) (h : o = ![s, 0, 0]) (x : Fin 40) (y : Fin 128) : (sIds o inb).view.emb (ix2 x y) = ix3 ⟨s, hs⟩ x y := by
  subst h
  funext a
  apply Fin.ext
  match a with
  | 0 => show s + 1 * (Shape.reshapeEquiv (s := S1x40x128) (s' := S40x128) squeezes_S1x40x128_S40x128.numel_eq (ix2 x y) 0).val = s; rw [re40]; rfl
  | 1 => show 0 + 1 * (Shape.reshapeEquiv (s := S1x40x128) (s' := S40x128) squeezes_S1x40x128_S40x128.numel_eq (ix2 x y) 1).val = x.val; rw [re40]; show 0 + 1 * x.val = _; omega
  | 2 => show 0 + 1 * (Shape.reshapeEquiv (s := S1x40x128) (s' := S40x128) squeezes_S1x40x128_S40x128.numel_eq (ix2 x y) 2).val = y.val; rw [re40]; show 0 + 1 * y.val = _; omega
theorem sWts_at (o inb) (s : ℕ) (hs : s < 2) (h : o = ![s, 0, 0]) (x : Fin 40) (y : Fin 128) : (sWts o inb).view.emb (ix2 x y) = ix3 ⟨s, hs⟩ x y :=
  sIds_at o inb s hs h x y
theorem cIds_at (o inb) (t k : ℕ) (ht : t < 6) (hk : k < 60) (h : o = ![t, 40 * k, 0]) (x : Fin 40) (y : Fin 128) :
    (cIds o inb).view.emb (ix2 x y) = i3 t (40 * k + x.val) y.val := by
  subst h
  refine (ixm_eq _ fun a => ?_).symm
  match a with
  | 0 => show t = t + 1 * (Shape.reshapeEquiv (s := S1x40x128) (s' := S40x128) squeezes_S1x40x128_S40x128.numel_eq (ix2 x y) 0).val; rw [re40]; rfl
  | 1 => show _ = 40 * k + 1 * (Shape.reshapeEquiv (s := S1x40x128) (s' := S40x128) squeezes_S1x40x128_S40x128.numel_eq (ix2 x y) 1).val; rw [re40]; show 40 * k + x.val = 40 * k + 1 * x.val; omega
  | 2 => show _ = 0 + 1 * (Shape.reshapeEquiv (s := S1x40x128) (s' := S40x128) squeezes_S1x40x128_S40x128.numel_eq (ix2 x y) 2).val; rw [re40]; show y.val = 0 + 1 * y.val; omega
theorem cWts_at (o inb) (t k : ℕ) (ht : t < 6) (hk : k < 60) (h : o = ![t, 40 * k, 0]) (x : Fin 40) (y : Fin 128) :
    (cWts o inb).view.emb (ix2 x y) = i3 t (40 * k + x.val) y.val := cIds_at o inb t k ht hk h x y

abbrev NI : ℕ := cc0_scratch2.dmaCredit S40x128 .i32
theorem NW_eq : cc0_scratch3.dmaCredit S40x128 .f32 = NI := rfl
theorem NI_pos : 0 < NI := by decide
theorem NI_first : 0 + NI < NI * 2 := by decide
theorem NI_last : (0 + NI) + NI = NI * 2 := by decide

theorem ids_land (t k s : ℕ) (ids : S6x2400x128.Idx → BitVec 32) (fd : S2x40x128.Idx → BitVec 32) (o1 o2) (i1 i2)
    (h1 : o1 = ![s, 0, 0]) (h2 : o2 = ![t, 40 * k, 0]) (hk : k < 60) (ht : t < 6) (hs : s < 2) :
    ChunkI ids t k s ((sIds o1 i1).view.write (Elt F) fd ((cIds o2 i2).view.read (Elt F) ids) Finset.univ) := by
  intro i hi
  obtain ⟨a, x, y, rfl⟩ : ∃ a x y, i = ix3 a x y := ⟨i 0, i 1, i 2, eq_ix3 i⟩
  obtain rfl : a = ⟨s, hs⟩ := Fin.ext hi
  have e := View.write_emb_of_mem (v := (sIds o1 i1).view) (Val := Elt F) fd ((cIds o2 i2).view.read (Elt F) ids) (Finset.mem_univ (ix2 x y))
  rw [sIds_at o1 i1 s hs h1] at e
  refine e.trans ?_
  show ids ((cIds o2 i2).view.emb (ix2 x y)) = _
  rw [cIds_at o2 i2 t k ht hk h2]
  rfl
theorem wts_land (t k s : ℕ) (wts : S6x2400x128.Idx → F .f32) (fd : S2x40x128.Idx → F .f32) (o1 o2) (i1 i2)
    (h1 : o1 = ![s, 0, 0]) (h2 : o2 = ![t, 40 * k, 0]) (hk : k < 60) (ht : t < 6) (hs : s < 2) :
    ChunkW wts t k s ((sWts o1 i1).view.write (Elt F) fd ((cWts o2 i2).view.read (Elt F) wts) Finset.univ) := by
  intro i hi
  obtain ⟨a, x, y, rfl⟩ : ∃ a x y, i = ix3 a x y := ⟨i 0, i 1, i 2, eq_ix3 i⟩
  obtain rfl : a = ⟨s, hs⟩ := Fin.ext hi
  have e := View.write_emb_of_mem (v := (sWts o1 i1).view) (Val := Elt F) fd ((cWts o2 i2).view.read (Elt F) wts) (Finset.mem_univ (ix2 x y))
  rw [sWts_at o1 i1 s hs h1] at e
  refine e.trans ?_
  show wts ((cWts o2 i2).view.emb (ix2 x y)) = _
  rw [cWts_at o2 i2 t k ht hk h2]
  rfl

/-! ## A chunk in flight -/

section Chunk

variable (d : Dev nD) (L : grid0.Coords) (q : PosShare TreeShare)
variable (ids : S6x2400x128.Idx → BitVec 32) (wts : S6x2400x128.Idx → F .f32)

/-- What the two transfers of chunk `k` of table `t` into slot `s` deliver. -/
def ChD (t k s : ℕ) : Fin 2 → sProp 𝕄
  | 0 => iprop((∃ fi : S2x40x128.Idx → BitVec 32, ⌜ChunkI ids t k s fi⌝ ∗ (ml d L mIdsV ↦[slotSet s]{fullShare} fi)) ∗ (ml d L mIds ↦[chunkSet t k]{q} ids))
  | 1 => iprop((∃ fw : S2x40x128.Idx → F .f32, ⌜ChunkW wts t k s fw⌝ ∗ (ml d L mWV ↦[slotSet s]{fullShare} fw)) ∗ (ml d L mWts ↦[chunkSet t k]{q} wts))

instance (t k s : ℕ) (i : Fin 2) : Storable (upEmb : UEmb _ 𝕄) (ChD d L q ids wts t k s i) := by
  match i with
  | 0 => unfold ChD; infer_instance
  | 1 => unfold ChD; infer_instance

/-- Chunk `k` of table `t` on its way into slot `s`. -/
def InFl (t k s : ℕ) : sProp 𝕄 :=
  iprop(Transfers.Batch EC (thr d L) (.dma (inC s)) none NI (ChD d L q ids wts t k s) 2 0
    ∗ (ml d L mIds ↦[Finset.univ \ chunkSet t k]{q} ids) ∗ (ml d L mWts ↦[Finset.univ \ chunkSet t k]{q} wts))
/-- Slot `s` idle. -/
def Free (s : ℕ) : sProp 𝕄 :=
  iprop((∃ fi : S2x40x128.Idx → BitVec 32, (ml d L mIdsV ↦[slotSet s]{fullShare} fi)) ∗ (∃ fw : S2x40x128.Idx → F .f32, (ml d L mWV ↦[slotSet s]{fullShare} fw))
    ∗ semVal (thr d L, .dma (inC s)) 0)

theorem issue (t k s : ℕ) (hk : k < 60) (ht : t < 6) (hs : s < 2) (o1 o2 o3) (i1 i2 i3)
    (h1 : o1 = ![s, 0, 0]) (h2 : o2 = ![t, 40 * k, 0]) (h3 : o3 = ![s]) {α : Type} {Q : α → sProp 𝕄}
    {hs1 hd1 hm1 hs2 hd2 hm2} {kk : PUnit → Prog (TpuEff nD τ sig (Elt F) Λ₀ (thr d L).2) α} :
    iprop((ml d L mIds ↦{q} ids) ∗ (ml d L mWts ↦{q} wts) ∗ Free (F := F) d L s)
      ⊢ iprop((InFl d L q ids wts t k s -∗ wp frame (wpE (defs₀ (F := F)) 𝒱₀ (thr d L) none) Set.univ (kk ⟨⟩) Q)
        -∗ wp frame (wpE (defs₀ (F := F)) 𝒱₀ (thr d L) none) Set.univ
          (.op (.enqueueDma (cIds o2 i2) (.here (sIds o1 i1)) (.dma (inS o3 i3)) hs1 hd1 hm1) fun _ =>
           .op (.enqueueDma (cWts o2 i2) (.here (sWts o1 i1)) (.dma (inS o3 i3)) hs2 hd2 hm2) kk) Q) := by
  unfold Free
  rw [← inS_eq o3 i3 s hs h3]
  iintro ⟨Hi, Hw, ⟨%fi, Hfi⟩, ⟨%fw, Hfw⟩, Hs⟩ Hk
  imod (Transfers.batch_alloc' EC (thr d L) none NI (ChD d L q ids wts t k s)) $$ Hs with HB
  ihave Hi := (carve (ℓ := ml d L mIds) (q := q) (f := ids) (Finset.subset_univ (chunkSet t k))) $$ Hi
  ihave Hw := (carve (ℓ := ml d L mWts) (q := q) (f := wts) (Finset.subset_univ (chunkSet t k))) $$ Hw
  icases Hi with ⟨Hi, Hir⟩
  icases Hw with ⟨Hw, Hwr⟩
  have eI : (cIds o2 i2).view.set = chunkSet t k := (sq_set _ _ _ _ _ _ _).trans (chunk_set o2 i2 t k h2)
  have eW : (cWts o2 i2).view.set = chunkSet t k := (sq_set _ _ _ _ _ _ _).trans (chunk_set o2 i2 t k h2)
  have fI : (sIds o1 i1).view.set = slotSet s := (sq_set _ _ _ _ _ _ _).trans (slot_set o1 i1 s h1)
  have fW : (sWts o1 i1).view.set = slotSet s := (sq_set _ _ _ _ _ _ _).trans (slot_set o1 i1 s h1)
  iapply (Transfers.wp_dmaBatch EC 𝒱₀ (thr d L) none (src := cIds o2 i2) (dst := sIds o1 i1) (q := q) (fs := ids) (Sd := slotSet s) (fd := fi)
    (D := ChD d L q ids wts t k s) none NI rfl (subset_of_eq fI) (by decide : 0 < 2) (Nat.zero_le _) ?hD1) $$ [Hi Hfi HB]
  case hD1 =>
    rw [eI]
    show _ ⊢ iprop((∃ f, ⌜_⌝ ∗ _) ∗ _)
    iintro ⟨Ha, Hb⟩
    isplitl [Ha]
    · iexists _; isplitr
      · ipureintro; exact ids_land (F := F) t k s ids fi o1 o2 i1 i2 h1 h2 hk ht hs
      · iexact Ha
    · iexact Hb
  · rw [eI]; iframe
  iintro HB
  iapply (Transfers.wp_dmaBatch EC 𝒱₀ (thr d L) none (src := cWts o2 i2) (dst := sWts o1 i1) (q := q) (fs := wts) (Sd := slotSet s) (fd := fw)
    (D := ChD d L q ids wts t k s) none NI rfl (subset_of_eq fW) (by decide : 1 < 2) (Nat.zero_le _) ?hD2) $$ [Hw Hfw HB]
  case hD2 =>
    rw [eW]
    show _ ⊢ iprop((∃ f, ⌜_⌝ ∗ _) ∗ _)
    iintro ⟨Ha, Hb⟩
    isplitl [Ha]
    · iexists _; isplitr
      · ipureintro; exact wts_land (F := F) t k s wts fw o1 o2 i1 i2 h1 h2 hk ht hs
      · iexact Ha
    · iexact Hb
  · rw [eW]; iframe
  iintro HB
  iapply Hk
  unfold InFl
  rw [← inS_eq o3 i3 s hs h3]
  iframe

variable (O : CellTallies nD τ sig (HIx 1)) (W : Waits sig (HIx 1))

/-- The task's owed tallies, every wait it added being of the transfers' index. -/
def OW : sProp 𝕄 := iprop(∃ W', ⌜∀ p ∈ W', p ∈ W ∨ p.2 = none⌝ ∗ owes (thr d L) O W')

theorem ow_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact Or.inr rfl
  · exact h p hp

theorem ow_put {W' : Waits sig (HIx 1)} (sm : SemLoc sig) (h : ∀ p ∈ W', p ∈ W ∨ p.2 = none) :
    (owes (thr d L) O (insert (sm, (none : HIx 1)) W') : sProp 𝕄) ⊢ OW (F := F) d L O W := by
  unfold OW
  iintro HO
  iexists _
  isplitr
  · ipureintro; exact ow_insert h sm
  · iexact HO

abbrev Lv : sProp 𝕄 := levAts (K (F := F)).L (K (F := F)).lev

theorem land (t k s : ℕ) (hk : k < 60) (ht : t < 6) (hs : s < 2) (hO : ∀ g, O g none = 0) (o1 o2 o3) (i1 i2 i3)
    (h1 : o1 = ![s, 0, 0]) (h2 : o2 = ![t, 40 * k, 0]) (h3 : o3 = ![s]) {α : Type} {Q : α → sProp 𝕄}
    {hs1 hd1 hs2 hd2} {kk : PUnit → Prog (TpuEff nD τ sig (Elt F) Λ₀ (thr d L).2) α} :
    iprop(Lv (F := F) ∗ InFl d L q ids wts t k s ∗ OW (F := F) d L O W)
      ⊢ iprop((∀ fi fw, ⌜ChunkI ids t k s fi⌝ -∗ ⌜ChunkW wts t k s fw⌝ -∗ (ml d L mIdsV ↦[slotSet s]{fullShare} fi) -∗ (ml d L mWV ↦[slotSet s]{fullShare} fw)
            -∗ semVal (thr d L, .dma (inC s)) 0 -∗ (ml d L mIds ↦{q} ids) -∗ (ml d L mWts ↦{q} wts) -∗ OW (F := F) d L O W
            -∗ wp frame (wpE (defs₀ (F := F)) 𝒱₀ (thr d L) none) Set.univ (kk ⟨⟩) Q)
        -∗ wp frame (wpE (defs₀ (F := F)) 𝒱₀ (thr d L) none) Set.univ
          (.op (.waitDma2 (inS o3 i3) (cIds o2 i2) (sIds o1 i1) hs1 hd1) fun _ =>
           .op (.waitDma2 (inS o3 i3) (cWts o2 i2) (sWts o1 i1) hs2 hd2) kk) Q) := by
  unfold InFl OW
  rw [← inS_eq o3 i3 s hs h3]
  iintro ⟨#Hlv, ⟨HB, Hir, Hwr⟩, ⟨%W', %hW, HO⟩⟩ Hk
  iapply (Transfers.wp_waitBatchO EC 𝒱₀ (thr d L) none (srcw := cIds o2 i2) (dstw := sIds o1 i1) none (N := NI) rfl (u := 0) NI_first) $$ [HB HO]
  · isplitl [HB]; · iexact HB
    isplitl [HO]; · iexact HO
    iapply ((K (F := F)).mayWait_none _ hO); iexact Hlv
  iintro ⟨HB, HO⟩
  iapply (Transfers.wp_waitBatchLastO EC 𝒱₀ (thr d L) none (srcw := cWts o2 i2) (dstw := sWts o1 i1) none (N := NI) rfl NI_pos (u := 0 + NI) NI_last) $$ [HB HO]
  · isplitl [HB]; · iexact HB
    isplitl [HO]; · iexact HO
    iapply ((K (F := F)).mayWait_none _ hO); iexact Hlv
  iintro ⟨HD, Hs, HO⟩
  ihave HD := (Entails.of_eq (show bigSep Finset.univ (ChD d L q ids wts t k s) = iprop(ChD d L q ids wts t k s 0 ∗ ChD d L q ids wts t k s 1) from BI.bigSep_fin_two _)) $$ HD
  icases HD with ⟨HD0, HD1⟩
  unfold ChD
  icases HD0 with ⟨⟨%fi, %hfi, Hfi⟩, Hi⟩
  icases HD1 with ⟨⟨%fw, %hfw, Hfw⟩, Hw⟩
  ihave Hi := (uncarve (ℓ := ml d L mIds) (q := q) (f := ids) (Finset.subset_univ (chunkSet t k))) $$ [Hi Hir]
  · iframe
  ihave Hw := (uncarve (ℓ := ml d L mWts) (q := q) (f := wts) (Finset.subset_univ (chunkSet t k))) $$ [Hw Hwr]
  · iframe
  ihave HO := (ow_put (F := F) d L O W (.dma (inS o3 i3)) (ow_insert hW (.dma (inS o3 i3)))) $$ HO
  iapply Hk $$ %fi %fw %hfi %hfw Hfi Hfw Hs Hi Hw
  unfold OW
  iexact HO

end Chunk

end Cert.KernelIdeal.Pf

end
-- ==== Proof.Ideal.Tile3.lean ====
/-
  The loop over the sixty chunks of a channel.
-/
module

public import proofs.«01_k».proof.Proof.Ideal.Tile2

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem cond1 (t4 : Fin k0_t4_loop.trips) : k0_cond1 t4 = 1#1 ↔ t4.val + 1 < 60 := by
  revert t4; decide +kernel

theorem v195_toNat (t4 : Fin k0_t4_loop.trips) : (Scalar.addi 0#32 (Scalar.muli (Scf.iv 0#32 1#32 t4) 1#32) : BitVec 32).toNat = t4.val := by
  revert t4; decide +kernel

theorem tabN_lt (L : grid0.Coords) {t2 : ℕ} (h : t2 < 3) : tabN L t2 < 6 := by
  have : (L 0).val < 2 := (L 0).isLt
  unfold tabN; omega

section Chunks

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (O : CellTallies nD τ sig (HIx 1)) (W : Waits sig (HIx 1))

/-- Chunk `k` on its way, or, past the last, its slot idle and the arrays whole. -/
def Pend (t k s : ℕ) : sProp 𝕄 :=
  if k < 60 then InFl d L q ids wts t k s else iprop(Free (F := F) d L s ∗ (ml d L mIds ↦{q} ids) ∗ (ml d L mWts ↦{q} wts))

variable (t2 : Fin k0_t2_loop.trips) (t3 : Fin k0_t3_loop.trips) (ch : ℕ)
variable (fg : S19x128.Idx → F .f32) (fl : S2400.Idx → BitVec 32)

/-- Before chunk `k`. -/
def T4I (k : ℕ) (_ : Unit) : sProp 𝕄 :=
  iprop(Lv (F := F) ∗ (ml d L mAcc ↦{fullShare} (accF g5 ids wts len sc (tabN L t2.val) ch (40 * k) : S625x128.Idx → BitVec 32))
    ∗ (ml d L mGV ↦{fullShare} fg) ∗ (ml d L mLenV ↦{fullShare} fl)
    ∗ Pend d L q ids wts (tabN L t2.val) k (k % 2) ∗ Free (F := F) d L ((k + 1) % 2) ∗ OW (F := F) d L O W)

/-- Before bag `n` of chunk `k`. -/
def T5I (k s : ℕ) (fi : S2x40x128.Idx → BitVec 32) (fw : S2x40x128.Idx → F .f32) (n : ℕ) (_ : Unit) : sProp 𝕄 :=
  iprop((ml d L mAcc ↦{fullShare} (accF g5 ids wts len sc (tabN L t2.val) ch (40 * k + n) : S625x128.Idx → BitVec 32))
        ∗ (ml d L mIdsV ↦[slotSet s]{fullShare} fi) ∗ (ml d L mWV ↦[slotSet s]{fullShare} fw)
        ∗ (ml d L mGV ↦{fullShare} fg) ∗ (ml d L mLenV ↦{fullShare} fl))

theorem t5_loop (t4 : Fin k0_t4_loop.trips) (v0 : IVec S16 32) (v10 : Vec F S16 .f32) (v195 : BitVec 32) (hv195 : v195.toNat = t4.val)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (fi : S2x40x128.Idx → BitVec 32) (fw : S2x40x128.Idx → F .f32) (hfi : ChunkI ids (tabN L t2.val) t4.val (t4.val % 2) fi)
    (hfw : ChunkW wts (tabN L t2.val) t4.val (t4.val % 2) fw) (hfg : RowG g5 (tabN L t2.val) ch fg) (hfl : RowL len (tabN L t2.val) fl) :
    T5I d L g5 ids wts len sc t2 ch fg fl t4.val (t4.val % 2) fi fw 0 ()
      ⊢ wp frame (wpE (defs₀ (F := F)) 𝒱₀ (thr d L) none) Set.univ
          (Scf.Loop.for k0_t5_loop k0_t5_ok ⟨⟩ (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195))
          (T5I d L g5 ids wts len sc t2 ch fg fl t4.val (t4.val % 2) fi fw 40) :=
  wp_loop (thr d L) none k0_t5_loop k0_t5_ok () _ (T5I d L g5 ids wts len sc t2 ch fg fl t4.val (t4.val % 2) fi fw) _
    (fun t5 u => t5_step d L g5 ids wts len sc t2 t3 t4 t5 (tabN L t2.val) ch v0 v10 v195 hv195 hlen hids hv0 hv10 fi fw hfi hfw fg hfg fl hfl u)
    (fun _ => Entails.of_eq (by rw [trips5]))

theorem t4_step (t4 : Fin k0_t4_loop.trips) (v0 : IVec S16 32) (v10 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hfg : RowG g5 (tabN L t2.val) ch fg) (hfl : RowL len (tabN L t2.val) fl) (hO : ∀ g, O g none = 0) (u : Unit) :
    T4I d L q g5 ids wts len sc O W t2 ch fg fl t4.val u
      ⊢ wp frame (wpE (defs₀ (F := F)) 𝒱₀ (thr d L) none) Set.univ
          (k0_t4_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 u)
          (T4I d L q g5 ids wts len sc O W t2 ch fg fl (t4.val + 1)) := by
  have hk : t4.val < 60 := lt_of_lt_of_eq t4.isLt trips4
  have ht : tabN L t2.val < 6 := tabN_lt L (lt_of_lt_of_eq t2.isLt trips2)
  have hv := v195_toNat t4
  unfold k0_t4_body
  beta_reduce
  rw [k0_part2_eq_skeleton]
  unfold k0_part2_skel
  dsimp only
  generalize (Scalar.addi 0#32 (Scalar.muli (Scf.iv 0#32 1#32 t4) 1#32) : BitVec 32) = v195 at hv ⊢
  simp only [Prog.lift, Prog.bind_op, Prog.bind_ret, Prog.pure_eq_ret]
  generalize hQ : T4I d L q g5 ids wts len sc O W t2 ch fg fl (t4.val + 1) = Q
  unfold T4I Pend
  rw [if_pos hk]
  iintro ⟨#Hlv, Ha, Hg, Hl, HF, Hfr, HO⟩
  iapply (land d L q ids wts O W (tabN L t2.val) t4.val (t4.val % 2) hk ht (Nat.mod_lt _ (by decide)) hO _ _ _ _ _ _ (cf7 t4) (cf8 L t2 t4) (cf9 t4)) $$ [HF HO]
  · iframe
    iexact Hlv
  iintro %fi %fw %hfi %hfw Hfi Hfw Hs Hi Hw HO
  have fin : ∀ (R : sProp 𝕄) (Q : Unit → sProp 𝕄), (iprop(R ∗ T5I d L g5 ids wts len sc t2 ch fg fl t4.val (t4.val % 2) fi fw 40 ()) ⊢ Q ()) →
      iprop(R ∗ T5I d L g5 ids wts len sc t2 ch fg fl t4.val (t4.val % 2) fi fw 0 ())
      ⊢ wp frame (wpE (defs₀ (F := F)) 𝒱₀ (thr d L) none) Set.univ
          (Scf.Loop.for k0_t5_loop k0_t5_ok ⟨⟩ (k0_t5_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3 t4 v195) >>= fun _ => Prog.ret ()) Q := by
    intro R Q hRQ
    iintro ⟨HR, HT⟩
    iapply (wp_seq (t5_loop d L g5 ids wts len sc t2 t3 ch fg fl t4 v0 v10 v195 hv hlen hids hv0 hv10 fi fw hfi hfw hfg hfl)) $$ HT
    iintro %_ HT
    sl_step
    iapply hRQ
    iframe
  by_cases hc : k0_cond1 t4 = 1#1
  · have hk1 : t4.val + 1 < 60 := (cond1 t4).mp hc
    rw [dif_pos hc]
    simp only [Prog.lift, Prog.bind_op, Prog.bind_ret, Prog.pure_eq_ret]
    iapply (issue d L q ids wts (tabN L t2.val) (t4.val + 1) ((t4.val + 1) % 2) hk1 ht (Nat.mod_lt _ (by decide)) _ _ _ _ _ _ (cf10 t4) (cf11 L t2 t4) (cf12 t4)) $$ [Hi Hw Hfr]
    · iframe
    iintro HN
    iapply (fin iprop(Lv (F := F) ∗ InFl d L q ids wts (tabN L t2.val) (t4.val + 1) ((t4.val + 1) % 2) ∗ semVal (thr d L, .dma (inC (t4.val % 2))) 0 ∗ OW (F := F) d L O W) Q ?hR)
    case hR =>
      rw [← hQ]
      unfold T4I T5I Pend Free
      rw [if_pos hk1, show (t4.val + 1 + 1) % 2 = t4.val % 2 by omega]
      iintro ⟨⟨#Hlv, HN, Hs, HO⟩, Ha, Hfi, Hfw, Hg, Hl⟩
      isplitr; · iexact Hlv
      isplitl [Ha]; · iexact Ha
      isplitl [Hg]; · iexact Hg
      isplitl [Hl]; · iexact Hl
      isplitl [HN]; · iexact HN
      isplitr [HO]
      · isplitl [Hfi]; · iexists _; iexact Hfi
        isplitl [Hfw]; · iexists _; iexact Hfw
        iexact Hs
      · iexact HO
    unfold T5I
    iframe
    iexact Hlv
  · have hk1 : ¬ t4.val + 1 < 60 := fun h => hc ((cond1 t4).mpr h)
    rw [dif_neg hc]
    simp only [Prog.lift, Prog.bind_op, Prog.bind_ret, Prog.pure_eq_ret]
    iapply (fin iprop(Lv (F := F) ∗ Free (F := F) d L ((t4.val + 1) % 2) ∗ (ml d L mIds ↦{q} ids) ∗ (ml d L mWts ↦{q} wts) ∗ semVal (thr d L, .dma (inC (t4.val % 2))) 0 ∗ OW (F := F) d L O W) Q ?hR)
    case hR =>
      rw [← hQ]
      unfold T4I T5I Pend
      rw [if_neg hk1, show (t4.val + 1 + 1) % 2 = t4.val % 2 by omega]
      iintro ⟨⟨#Hlv, HN, Hi, Hw, Hs, HO⟩, Ha, Hfi, Hfw, Hg, Hl⟩
      isplitr; · iexact Hlv
      isplitl [Ha]; · iexact Ha
      isplitl [Hg]; · iexact Hg
      isplitl [Hl]; · iexact Hl
      isplitl [HN Hi Hw]; · iframe
      isplitr [HO]
      · unfold Free
        isplitl [Hfi]; · iexists _; iexact Hfi
        isplitl [Hfw]; · iexists _; iexact Hfw
        iexact Hs
      · iexact HO
    unfold T5I
    iframe
    iexact Hlv

theorem t4_loop (v0 : IVec S16 32) (v10 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hfg : RowG g5 (tabN L t2.val) ch fg) (hfl : RowL len (tabN L t2.val) fl) (hO : ∀ g, O g none = 0) :
    T4I d L q g5 ids wts len sc O W t2 ch fg fl 0 ()
      ⊢ wp frame (wpE (defs₀ (F := F)) 𝒱₀ (thr d L) none) Set.univ
          (Scf.Loop.for k0_t4_loop k0_t4_ok ⟨⟩ (k0_t4_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 v0 t2 v10 t3))
          (T4I d L q g5 ids wts len sc O W t2 ch fg fl 60) :=
  wp_loop (thr d L) none k0_t4_loop k0_t4_ok () _ (T4I d L q g5 ids wts len sc O W t2 ch fg fl) _
    (fun t4 u => t4_step d L q g5 ids wts len sc O W t2 t3 ch fg fl t4 v0 v10 hlen hids hv0 hv10 hfg hfl hO u)
    (fun _ => Entails.of_eq (by rw [trips4]))

end Chunks

end Cert.KernelIdeal.Pf

end
-- ==== Proof.Ideal.Tile4.lean ====
/-
  The staging loops: sixteen sums at a time converted into the stage and zeroed in the accumulator.
-/
module

public import proofs.«01_k».proof.Proof.Ideal.Tile3

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The elements of row slice `s` of the accumulator. -/
def accSet (s : ℕ) : Finset S625x128.Idx := Finset.univ.filter fun p => (p 0).val / 125 = s
theorem mem_accSet {s : ℕ} {p : S625x128.Idx} : p ∈ accSet s ↔ (p 0).val / 125 = s := by simp [accSet]

/-! ## Sixteen elements of a row -/

section Row

variable {Val : EltTy → Type}

theorem acc_write16 (o : Fin 2 → ℕ) (inb : ∀ a, o a + S1x16.size a ≤ S625x128.size a) (a j : ℕ) (ho : o = ![a, 16 * j])
    (f : S625x128.Idx → Val .i32) (w : S1x16.Idx → Val .i32) (p : S625x128.Idx) :
    View.write Val (mAcc.access (Rect.unit (s := S625x128) o S1x16.size inb)) f w Finset.univ p
      = if (p 0).val = a ∧ (p 1).val / 16 = j then w (ix2 0 ⟨(p 1).val % 16, Nat.mod_lt _ (by decide)⟩) else f p := by
  subst ho
  split
  · next h =>
    have hp : p = (mAcc.access (Rect.unit (s := S625x128) ![a, 16 * j] S1x16.size inb)).emb (ix2 0 ⟨(p 1).val % 16, Nat.mod_lt _ (by decide)⟩) := by
      funext x
      apply Fin.ext
      match x with
      | 0 => show (p 0).val = a + 1 * 0; omega
      | 1 => show (p 1).val = 16 * j + 1 * ((p 1).val % 16); omega
    conv_lhs => rw [hp]
    exact View.write_emb_of_mem (v := mAcc.access (Rect.unit (s := S625x128) ![a, 16 * j] S1x16.size inb)) (Val := Val) f w (Finset.mem_univ _)
  · next h =>
    refine View.write_of_not_mem (v := mAcc.access (Rect.unit (s := S625x128) ![a, 16 * j] S1x16.size inb)) (Val := Val) f w Finset.univ fun hm => h ?_
    obtain ⟨x, -, rfl⟩ := Finset.mem_map.mp hm
    have h0 := (x 0).isLt
    have h1 := (x 1).isLt
    have h0' : (x 0).val < 1 := h0
    have h1' : (x 1).val < 16 := h1
    refine ⟨?_, ?_⟩
    · show a + 1 * (x 0).val = a; omega
    · show (16 * j + 1 * (x 1).val) / 16 = j; omega

theorem stage_write16 (o : Fin 2 → ℕ) (inb : ∀ a, o a + S1x16.size a ≤ S125x128.size a) (a j : ℕ) (ho : o = ![a, 16 * j])
    (f : S125x128.Idx → Val .f32) (w : S1x16.Idx → Val .f32) (p : S125x128.Idx) :
    View.write Val (mStage.access (Rect.unit (s := S125x128) o S1x16.size inb)) f w Finset.univ p
      = if (p 0).val = a ∧ (p 1).val / 16 = j then w (ix2 0 ⟨(p 1).val % 16, Nat.mod_lt _ (by decide)⟩) else f p := by
  subst ho
  split
  · next h =>
    have hp : p = (mStage.access (Rect.unit (s := S125x128) ![a, 16 * j] S1x16.size inb)).emb (ix2 0 ⟨(p 1).val % 16, Nat.mod_lt _ (by decide)⟩) := by
      funext x
      apply Fin.ext
      match x with
      | 0 => show (p 0).val = a + 1 * 0; omega
      | 1 => show (p 1).val = 16 * j + 1 * ((p 1).val % 16); omega
    conv_lhs => rw [hp]
    exact View.write_emb_of_mem (v := mStage.access (Rect.unit (s := S125x128) ![a, 16 * j] S1x16.size inb)) (Val := Val) f w (Finset.mem_univ _)
  · next h =>
    refine View.write_of_not_mem (v := mStage.access (Rect.unit (s := S125x128) ![a, 16 * j] S1x16.size inb)) (Val := Val) f w Finset.univ fun hm => h ?_
    obtain ⟨x, -, rfl⟩ := Finset.mem_map.mp hm
    have h0 := (x 0).isLt
    have h1 := (x 1).isLt
    have h0' : (x 0).val < 1 := h0
    have h1' : (x 1).val < 16 := h1
    refine ⟨?_, ?_⟩
    · show a + 1 * (x 0).val = a; omega
    · show (16 * j + 1 * (x 1).val) / 16 = j; omega

theorem acc_read16 (o : Fin 2 → ℕ) (inb : ∀ a, o a + S1x16.size a ≤ S625x128.size a) (f : S625x128.Idx → Val .i32) (x : S1x16.Idx) :
    View.read Val (mAcc.access (Rect.unit (s := S625x128) o S1x16.size inb)) f x
      = f ((mAcc.access (Rect.unit (s := S625x128) o S1x16.size inb)).emb x) := rfl

theorem acc_set16 (o : Fin 2 → ℕ) (inb : ∀ a, o a + S1x16.size a ≤ S625x128.size a) (a j s : ℕ) (ho : o = ![a, 16 * j]) (hs : a / 125 = s) :
    (mAcc.access (Rect.unit (s := S625x128) o S1x16.size inb)).set ⊆ accSet s := by
  subst ho
  intro p hm
  obtain ⟨x, -, rfl⟩ := Finset.mem_map.mp hm
  have h0 : (x 0).val < 1 := (x 0).isLt
  rw [mem_accSet]
  show (a + 1 * (x 0).val) / 125 = s
  rw [show a + 1 * (x 0).val = a by omega, hs]

end Row

theorem cast_1_16 (x : Fin 16) : Shape.reshapeEquiv (s := S1x16) (s' := S16) shapeCasts_S1x16_S16 (ix1 x) = ix2 0 x := by
  refine Shape.reshapeEquiv_eq_of_vals _ _ _ _ _ (rowMajor_val2 _ 16 rfl) (rowMajor_val1 _) ?_
  show 0 * 16 + x.val = x.val
  omega
theorem cast_16_1 (x : Fin 16) : Shape.reshapeEquiv (s := S16) (s' := S1x16) shapeCasts_S16_S1x16 (ix2 0 x) = ix1 x := by
  refine Shape.reshapeEquiv_eq_of_vals _ _ _ _ _ (rowMajor_val1 _) (rowMajor_val2 _ 16 rfl) ?_
  show x.val = 0 * 16 + x.val
  omega

theorem grad_apply (u : Vec F S16 .i32) (w : Vec F S16 .f32) (x : S16.Idx) : mulf (sitofp .f32 u) w x = gradV (u x) (w x) := rfl

/-! ## The stage loop's state -/

/-- Slice `s` of the accumulator `A`, its first `m` sixteens zeroed. -/
def fZ (A : S625x128.Idx → BitVec 32) (s m : ℕ) : S625x128.Idx → BitVec 32 := fun p =>
  if 8 * ((p 0).val - 125 * s) + (p 1).val / 16 < m then 0 else A p
/-- The stage, its first `m` sixteens slice `s` of `A` converted and scaled by `v`. -/
def fS (A : S625x128.Idx → BitVec 32) (v : F .f32) (B : S125x128.Idx → F .f32) (s m : ℕ) : S125x128.Idx → F .f32 := fun p =>
  if 8 * (p 0).val + (p 1).val / 16 < m then gradV (A (ixm S625x128 (by decide) ![125 * s + (p 0).val, (p 1).val])) v else B p

section Stage

variable (d : Dev nD) (L : grid0.Coords)

theorem stage_step (A : S625x128.Idx → BitVec 32) (v : F .f32) (B : S125x128.Idx → F .f32) (v15 : Vec F S16 .f32) (hv15 : ∀ x, v15 x = v)
    (s t j a b c : ℕ) (hs : s < 5) (ht : t < 125) (hj : j < 8) (ha : a = 125 * s + t) (hb : b = 16 * j) (hc : c = t) (o1 o2 : Fin 2 → ℕ) (i1 i2)
    (h1 : o1 = ![a, b]) (h2 : o2 = ![c, b])
    (P : Vec F S1x16 .i32 → FVec F S16 .f32) (hP : ∀ ld, P ld = mulf (sitofp .f32 (shapeCast S16 ld shapeCasts_S1x16_S16)) v15)
    (Z : IVec S16 32) (hZ : Z = broadcast S16 0#32)
    {α : Type} {Q : α → sProp 𝕄} {l1 l2 x2 m2 l3 x1 m1} {kk : PUnit → Prog (TpuEff nD τ sig (Elt F) Λ₀ (thr d L).2) α} :
    iprop((ml d L mAcc ↦[accSet s]{fullShare} (fZ A s (8 * t + j) : S625x128.Idx → BitVec 32))
        ∗ (ml d L mStage ↦{fullShare} (fS A v B s (8 * t + j) : S125x128.Idx → F .f32)))
      ⊢ iprop(((iprop((ml d L mAcc ↦[accSet s]{fullShare} (fZ A s (8 * t + j + 1) : S625x128.Idx → BitVec 32))
        ∗ (ml d L mStage ↦{fullShare} (fS A v B s (8 * t + j + 1) : S125x128.Idx → F .f32)))) -∗ wp frame (wpE (defs₀ (F := F)) 𝒱₀ (thr d L) none) Set.univ (kk ⟨⟩) Q)
        -∗ wp frame (wpE (defs₀ (F := F)) 𝒱₀ (thr d L) none) Set.univ
          (.op (.load mAcc (Rect.unit (s := S625x128) o1 S1x16.size i1).toLoadRect l1) fun ld =>
           .op (.load mStage (Rect.unit (s := S125x128) o2 S1x16.size i2).toLoadRect l2) fun _ =>
           .op (.store mStage (Rect.unit (s := S125x128) o2 S1x16.size i2) (shapeCast S1x16 (P ld) shapeCasts_S16_S1x16) Finset.univ x2 m2) fun _ =>
           .op (.load mAcc (Rect.unit (s := S625x128) o1 S1x16.size i1).toLoadRect l3) fun _ =>
           .op (.store mAcc (Rect.unit (s := S625x128) o1 S1x16.size i1) (shapeCast S1x16 Z shapeCasts_S16_S1x16) Finset.univ x1 m1) kk) Q) := by
  subst hb
  subst hc
  have hsub := acc_set16 o1 i1 a j s h1 (by omega)
  iintro ⟨Ha, Hs⟩
  iintro Hk
  iapply (wp_load_rect 𝒱₀ (thr d L) none Set.univ (m := mAcc) (r := Rect.unit (s := S625x128) o1 S1x16.size i1) (S := accSet s) (f := fZ A s (8 * c + j)) hsub) $$ Ha
  iintro Ha
  iapply (wp_load_rect 𝒱₀ (thr d L) none Set.univ (m := mStage) (r := Rect.unit (s := S125x128) o2 S1x16.size i2) (S := Finset.univ) (f := fS A v B s (8 * c + j)) (Finset.subset_univ _)) $$ Hs
  iintro Hs
  have hst : ∀ p, View.write (Elt F) (mStage.access (Rect.unit (s := S125x128) o2 S1x16.size i2)) (fS A v B s (8 * c + j))
      (shapeCast S1x16 (P (View.read (Elt F) (mAcc.access (Rect.unit (s := S625x128) o1 S1x16.size i1)) (fZ A s (8 * c + j)))) shapeCasts_S16_S1x16) Finset.univ p
      = fS A v B s (8 * c + j + 1) p := by
    intro p
    rw [stage_write16 (Val := Elt F) o2 i2 c j h2]
    have hp1 : (p 1).val < 128 := (p 1).isLt
    split
    · next h =>
      show P _ (Shape.reshapeEquiv (s := S16) (s' := S1x16) shapeCasts_S16_S1x16 (ix2 0 _)) = _
      rw [cast_16_1, hP]
      unfold fS
      rw [if_pos (by omega)]
      refine (grad_apply _ _ _).trans ?_
      rw [hv15]
      refine congrArg (fun z => gradV z v) ?_
      show View.read (Elt F) _ _ (Shape.reshapeEquiv (s := S1x16) (s' := S16) shapeCasts_S1x16_S16 (ix1 _)) = _
      rw [cast_1_16, acc_read16]
      subst h1
      have e : (mAcc.access (Rect.unit (s := S625x128) ![a, 16 * j] S1x16.size i1)).emb (ix2 0 ⟨(p 1).val % 16, Nat.mod_lt _ (by decide)⟩)
          = ixm S625x128 (by decide) ![125 * s + (p 0).val, (p 1).val] := by
        refine (ixm_eq _ ?_).symm
        intro x
        match x with
        | 0 => show 125 * s + (p 0).val = a + 1 * 0; omega
        | 1 => show (p 1).val = 16 * j + 1 * ((p 1).val % 16); omega
      rw [e]
      unfold fZ
      rw [if_neg]
      rw [ixm_val 0 (show 125 * s + (p 0).val < 625 by omega), ixm_val 1 (show (p 1).val < 128 by omega)]
      show ¬ 8 * (125 * s + (p 0).val - 125 * s) + (p 1).val / 16 < _
      omega
    · next h =>
      unfold fS
      have : (8 * (p 0).val + (p 1).val / 16 < 8 * c + j) = (8 * (p 0).val + (p 1).val / 16 < 8 * c + j + 1) := by
        apply propext; omega
      simp only [this]
  have hz : ∀ p ∈ accSet s, View.write (Elt F) (mAcc.access (Rect.unit (s := S625x128) o1 S1x16.size i1)) (fZ A s (8 * c + j))
      (shapeCast S1x16 Z shapeCasts_S16_S1x16) Finset.univ p = fZ A s (8 * c + j + 1) p := by
    intro p hp
    rw [mem_accSet] at hp
    rw [acc_write16 (Val := Elt F) o1 i1 a j h1]
    have hp1 : (p 1).val < 128 := (p 1).isLt
    unfold fZ
    split
    · next h => rw [if_pos (by omega), hZ]; rfl
    · next h =>
      have : (8 * ((p 0).val - 125 * s) + (p 1).val / 16 < 8 * c + j) = (8 * ((p 0).val - 125 * s) + (p 1).val / 16 < 8 * c + j + 1) := by
        apply propext; omega
      simp only [this]
  iapply (wp_store 𝒱₀ (thr d L) none Set.univ (m := mStage) (r := Rect.unit (s := S125x128) o2 S1x16.size i2) (S := Finset.univ) (Finset.subset_univ _)) $$ Hs
  iintro Hs
  ihave Hs := (Entails.of_eq (pointsTo_congr (fun p _ => hst p))) $$ Hs
  iapply (wp_load_rect 𝒱₀ (thr d L) none Set.univ (m := mAcc) (r := Rect.unit (s := S625x128) o1 S1x16.size i1) (S := accSet s) (f := fZ A s (8 * c + j)) hsub) $$ Ha
  iintro Ha
  iapply (wp_store 𝒱₀ (thr d L) none Set.univ (m := mAcc) (r := Rect.unit (s := S625x128) o1 S1x16.size i1) (S := accSet s) (by rw [View.setOn_univ]; exact hsub)) $$ Ha
  iintro Ha
  ihave Ha := (Entails.of_eq (pointsTo_congr hz)) $$ Ha
  iapply Hk
  iframe

end Stage

end Cert.KernelIdeal.Pf

end
-- ==== Proof.Ideal.Tile5.lean ====
/-
  The five staging loops, one to a row slice of the accumulator.
-/
module

public import proofs.«01_k».proof.Proof.Ideal.Tile4

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Slice `s` of `A` converted and scaled by `v`. -/
def stageF (A : S625x128.Idx → BitVec 32) (v : F .f32) (s : ℕ) : S125x128.Idx → F .f32 := fun p =>
  gradV (A (ixm S625x128 (by decide) ![125 * s + (p 0).val, (p 1).val])) v

section Stage

variable (d : Dev nD) (L : grid0.Coords)
variable (A : S625x128.Idx → BitVec 32) (v : F .f32) (B : S125x128.Idx → F .f32) (v15 : Vec F S16 .f32)
variable (t2 : Fin k0_t2_loop.trips) (t3 : Fin k0_t3_loop.trips)

/-- Before row `k` of slice `s`. -/
def StI (s k : ℕ) (_ : Unit) : sProp 𝕄 :=
  iprop((ml d L mAcc ↦[accSet s]{fullShare} (fZ A s (8 * k) : S625x128.Idx → BitVec 32))
        ∗ (ml d L mStage ↦{fullShare} (fS A v B s (8 * k) : S125x128.Idx → F .f32)))

theorem st_first (s : ℕ) : iprop((ml d L mAcc ↦[accSet s]{fullShare} A) ∗ (ml d L mStage ↦{fullShare} B)) ⊢ StI d L A v B s 0 () := by
  unfold StI
  rw [show fZ A s (8 * 0) = A from funext fun p => if_neg (Nat.not_lt_zero _), show fS A v B s (8 * 0) = B from funext fun p => if_neg (Nat.not_lt_zero _)]

theorem st_last (s : ℕ) (u : Unit) : StI d L A v B s 125 u ⊢ iprop((ml d L mAcc ↦[accSet s]{fullShare} (fun _ => 0#32)) ∗ (ml d L mStage ↦{fullShare} stageF A v s)) := by
  unfold StI
  have h1 : ∀ p ∈ accSet s, fZ A s (8 * 125) p = (fun _ => 0#32 : S625x128.Idx → BitVec 32) p := by
    intro p hp
    rw [mem_accSet] at hp
    have h1 : (p 1).val < 128 := (p 1).isLt
    have h0 : (p 0).val < 625 := (p 0).isLt
    exact if_pos (by omega)
  have h2 : fS A v B s (8 * 125) = stageF A v s := by
    funext p
    have h1 : (p 1).val < 128 := (p 1).isLt
    have h0 : (p 0).val < 125 := (p 0).isLt
    exact if_pos (by omega)
  rw [h2]
  rw [pointsTo_congr h1]

theorem t8_step (hv15 : ∀ x : S16.Idx, v15 x = v) (k : Fin k0_t8_loop.trips) (u : Unit) :
    StI d L A v B 0 k.val u ⊢ wp frame (wpE (defs₀ (F := F)) 𝒱₀ (thr d L) none) Set.univ
          (k0_t8_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 0 (k.val + 1)) := by
  have hk : k.val < 125 := lt_of_lt_of_eq k.isLt trips8
  unfold k0_t8_body
  beta_reduce
  rw [k0_part3_eq_skeleton, k0_part4_eq_skeleton]
  unfold k0_part3_skel k0_part4_skel
  simp only [Prog.lift, Prog.bind_op, Prog.bind_ret, Prog.pure_eq_ret]
  unfold StI
  iintro H
  iapply (stage_step d L A v B v15 hv15 0 k.val 0 (0 + k.val) 0 k.val (by decide) hk (by decide) (by omega) rfl rfl _ _ _ _ (cf20 k) (cf21 k) _ (fun _ => rfl) _ rfl) $$ H
  iintro H
  iapply (stage_step d L A v B v15 hv15 0 k.val 1 (0 + k.val) 16 k.val (by decide) hk (by decide) (by omega) rfl rfl _ _ _ _ (cf22 k) (cf23 k) _ (fun _ => rfl) _ rfl) $$ H
  iintro H
  iapply (stage_step d L A v B v15 hv15 0 k.val 2 (0 + k.val) 32 k.val (by decide) hk (by decide) (by omega) rfl rfl _ _ _ _ (cf24 k) (cf25 k) _ (fun _ => rfl) _ rfl) $$ H
  iintro H
  iapply (stage_step d L A v B v15 hv15 0 k.val 3 (0 + k.val) 48 k.val (by decide) hk (by decide) (by omega) rfl rfl _ _ _ _ (cf26 k) (cf27 k) _ (fun _ => rfl) _ rfl) $$ H
  iintro H
  iapply (stage_step d L A v B v15 hv15 0 k.val 4 (0 + k.val) 64 k.val (by decide) hk (by decide) (by omega) rfl rfl _ _ _ _ (cf28 k) (cf29 k) _ (fun _ => rfl) _ rfl) $$ H
  iintro H
  iapply (stage_step d L A v B v15 hv15 0 k.val 5 (0 + k.val) 80 k.val (by decide) hk (by decide) (by omega) rfl rfl _ _ _ _ (cf30 k) (cf31 k) _ (fun _ => rfl) _ rfl) $$ H
  iintro H
  iapply (stage_step d L A v B v15 hv15 0 k.val 6 (0 + k.val) 96 k.val (by decide) hk (by decide) (by omega) rfl rfl _ _ _ _ (cf32 k) (cf33 k) _ (fun _ => rfl) _ rfl) $$ H
  iintro H
  iapply (stage_step d L A v B v15 hv15 0 k.val 7 (0 + k.val) 112 k.val (by decide) hk (by decide) (by omega) rfl rfl _ _ _ _ (cf34 k) (cf35 k) _ (fun _ => rfl) _ rfl) $$ H
  iintro H
  sl_step
  iexact H

theorem t8_loop (hv15 : ∀ x : S16.Idx, v15 x = v) :
    (iprop((ml d L mAcc ↦[accSet 0]{fullShare} A) ∗ (ml d L mStage ↦{fullShare} B)) : sProp 𝕄) ⊢ wp frame (wpE (defs₀ (F := F)) 𝒱₀ (thr d L) none) Set.univ
          (Scf.Loop.for k0_t8_loop k0_t8_ok ⟨⟩ (k0_t8_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 0]{fullShare} (fun _ => 0#32)) ∗ (ml d L mStage ↦{fullShare} stageF A v 0))) :=
  (st_first d L A v B 0).trans (wp_loop (thr d L) none k0_t8_loop k0_t8_ok () _ (StI d L A v B 0) _
    (fun k u => t8_step d L A v B v15 t2 t3 hv15 k u)
    (fun u => by
      rw [trips8]
      exact st_last d L A v B 0 u))

theorem t9_step (hv15 : ∀ x : S16.Idx, v15 x = v) (k : Fin k0_t9_loop.trips) (u : Unit) :
    StI d L A v B 1 k.val u ⊢ wp frame (wpE (defs₀ (F := F)) 𝒱₀ (thr d L) none) Set.univ
          (k0_t9_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 1 (k.val + 1)) := by
  have hk : k.val < 125 := lt_of_lt_of_eq k.isLt trips9
  unfold k0_t9_body
  beta_reduce
  rw [k0_part5_eq_skeleton, k0_part6_eq_skeleton]
  unfold k0_part5_skel k0_part6_skel
  simp only [Prog.lift, Prog.bind_op, Prog.bind_ret, Prog.pure_eq_ret]
  unfold StI
  iintro H
  iapply (stage_step d L A v B v15 hv15 1 k.val 0 (125 + k.val) 0 k.val (by decide) hk (by decide) rfl rfl rfl _ _ _ _ (cf36 k) (cf37 k) _ (fun _ => rfl) _ rfl) $$ H
  iintro H
  iapply (stage_step d L A v B v15 hv15 1 k.val 1 (125 + k.val) 16 k.val (by decide) hk (by decide) rfl rfl rfl _ _ _ _ (cf38 k) (cf39 k) _ (fun _ => rfl) _ rfl) $$ H
  iintro H
  iapply (stage_step d L A v B v15 hv15 1 k.val 2 (125 + k.val) 32 k.val (by decide) hk (by decide) rfl rfl rfl _ _ _ _ (cf40 k) (cf41 k) _ (fun _ => rfl) _ rfl) $$ H
  iintro H
  iapply (stage_step d L A v B v15 hv15 1 k.val 3 (125 + k.val) 48 k.val (by decide) hk (by decide) rfl rfl rfl _ _ _ _ (cf42 k) (cf43 k) _ (fun _ => rfl) _ rfl) $$ H
  iintro H
  iapply (stage_step d L A v B v15 hv15 1 k.val 4 (125 + k.val) 64 k.val (by decide) hk (by decide) rfl rfl rfl _ _ _ _ (cf44 k) (cf45 k) _ (fun _ => rfl) _ rfl) $$ H
  iintro H
  iapply (stage_step d L A v B v15 hv15 1 k.val 5 (125 + k.val) 80 k.val (by decide) hk (by decide) rfl rfl rfl _ _ _ _ (cf46 k) (cf47 k) _ (fun _ => rfl) _ rfl) $$ H
  iintro H
  iapply (stage_step d L A v B v15 hv15 1 k.val 6 (125 + k.val) 96 k.val (by decide) hk (by decide) rfl rfl rfl _ _ _ _ (cf48 k) (cf49 k) _ (fun _ => rfl) _ rfl) $$ H
  iintro H
  iapply (stage_step d L A v B v15 hv15 1 k.val 7 (125 + k.val) 112 k.val (by decide) hk (by decide) rfl rfl rfl _ _ _ _ (cf50 k) (cf51 k) _ (fun _ => rfl) _ rfl) $$ H
  iintro H
  sl_step
  iexact H

theorem t9_loop (hv15 : ∀ x : S16.Idx, v15 x = v) :
    (iprop((ml d L mAcc ↦[accSet 1]{fullShare} A) ∗ (ml d L mStage ↦{fullShare} B)) : sProp 𝕄) ⊢ wp frame (wpE (defs₀ (F := F)) 𝒱₀ (thr d L) none) Set.univ
          (Scf.Loop.for k0_t9_loop k0_t9_ok ⟨⟩ (k0_t9_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 1]{fullShare} (fun _ => 0#32)) ∗ (ml d L mStage ↦{fullShare} stageF A v 1))) :=
  (st_first d L A v B 1).trans (wp_loop (thr d L) none k0_t9_loop k0_t9_ok () _ (StI d L A v B 1) _
    (fun k u => t9_step d L A v B v15 t2 t3 hv15 k u)
    (fun u => by
      rw [trips9]
      exact st_last d L A v B 1 u))

theorem t10_step (hv15 : ∀ x : S16.Idx, v15 x = v) (k : Fin k0_t10_loop.trips) (u : Unit) :
    StI d L A v B 2 k.val u ⊢ wp frame (wpE (defs₀ (F := F)) 𝒱₀ (thr d L) none) Set.univ
          (k0_t10_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 2 (k.val + 1)) := by
  have hk : k.val < 125 := lt_of_lt_of_eq k.isLt trips10
  unfold k0_t10_body
  beta_reduce
  rw [k0_part7_eq_skeleton, k0_part8_eq_skeleton]
  unfold k0_part7_skel k0_part8_skel
  simp only [Prog.lift, Prog.bind_op, Prog.bind_ret, Prog.pure_eq_ret]
  unfold StI
  iintro H
  iapply (stage_step d L A v B v15 hv15 2 k.val 0 (250 + k.val) 0 k.val (by decide) hk (by decide) rfl rfl rfl _ _ _ _ (cf52 k) (cf53 k) _ (fun _ => rfl) _ rfl) $$ H
  iintro H
  iapply (stage_step d L A v B v15 hv15 2 k.val 1 (250 + k.val) 16 k.val (by decide) hk (by decide) rfl rfl rfl _ _ _ _ (cf54 k) (cf55 k) _ (fun _ => rfl) _ rfl) $$ H
  iintro H
  iapply (stage_step d L A v B v15 hv15 2 k.val 2 (250 + k.val) 32 k.val (by decide) hk (by decide) rfl rfl rfl _ _ _ _ (cf56 k) (cf57 k) _ (fun _ => rfl) _ rfl) $$ H
  iintro H
  iapply (stage_step d L A v B v15 hv15 2 k.val 3 (250 + k.val) 48 k.val (by decide) hk (by decide) rfl rfl rfl _ _ _ _ (cf58 k) (cf59 k) _ (fun _ => rfl) _ rfl) $$ H
  iintro H
  iapply (stage_step d L A v B v15 hv15 2 k.val 4 (250 + k.val) 64 k.val (by decide) hk (by decide) rfl rfl rfl _ _ _ _ (cf60 k) (cf61 k) _ (fun _ => rfl) _ rfl) $$ H
  iintro H
  iapply (stage_step d L A v B v15 hv15 2 k.val 5 (250 + k.val) 80 k.val (by decide) hk (by decide) rfl rfl rfl _ _ _ _ (cf62 k) (cf63 k) _ (fun _ => rfl) _ rfl) $$ H
  iintro H
  iapply (stage_step d L A v B v15 hv15 2 k.val 6 (250 + k.val) 96 k.val (by decide) hk (by decide) rfl rfl rfl _ _ _ _ (cf64 k) (cf65 k) _ (fun _ => rfl) _ rfl) $$ H
  iintro H
  iapply (stage_step d L A v B v15 hv15 2 k.val 7 (250 + k.val) 112 k.val (by decide) hk (by decide) rfl rfl rfl _ _ _ _ (cf66 k) (cf67 k) _ (fun _ => rfl) _ rfl) $$ H
  iintro H
  sl_step
  iexact H

theorem t10_loop (hv15 : ∀ x : S16.Idx, v15 x = v) :
    (iprop((ml d L mAcc ↦[accSet 2]{fullShare} A) ∗ (ml d L mStage ↦{fullShare} B)) : sProp 𝕄) ⊢ wp frame (wpE (defs₀ (F := F)) 𝒱₀ (thr d L) none) Set.univ
          (Scf.Loop.for k0_t10_loop k0_t10_ok ⟨⟩ (k0_t10_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 2]{fullShare} (fun _ => 0#32)) ∗ (ml d L mStage ↦{fullShare} stageF A v 2))) :=
  (st_first d L A v B 2).trans (wp_loop (thr d L) none k0_t10_loop k0_t10_ok () _ (StI d L A v B 2) _
    (fun k u => t10_step d L A v B v15 t2 t3 hv15 k u)
    (fun u => by
      rw [trips10]
      exact st_last d L A v B 2 u))

theorem t11_step (hv15 : ∀ x : S16.Idx, v15 x = v) (k : Fin k0_t11_loop.trips) (u : Unit) :
    StI d L A v B 3 k.val u ⊢ wp frame (wpE (defs₀ (F := F)) 𝒱₀ (thr d L) none) Set.univ
          (k0_t11_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3 k u)
          (StI d L A v B 3 (k.val + 1)) := by
  have hk : k.val < 125 := lt_of_lt_of_eq k.isLt trips11
  unfold k0_t11_body
  beta_reduce
  rw [k0_part9_eq_skeleton, k0_part10_eq_skeleton]
  unfold k0_part9_skel k0_part10_skel
  simp only [Prog.lift, Prog.bind_op, Prog.bind_ret, Prog.pure_eq_ret]
  unfold StI
  iintro H
  iapply (stage_step d L A v B v15 hv15 3 k.val 0 (375 + k.val) 0 k.val (by decide) hk (by decide) rfl rfl rfl _ _ _ _ (cf68 k) (cf69 k) _ (fun _ => rfl) _ rfl) $$ H
  iintro H
  iapply (stage_step d L A v B v15 hv15 3 k.val 1 (375 + k.val) 16 k.val (by decide) hk (by decide) rfl rfl rfl _ _ _ _ (cf70 k) (cf71 k) _ (fun _ => rfl) _ rfl) $$ H
  iintro H
  iapply (stage_step d L A v B v15 hv15 3 k.val 2 (375 + k.val) 32 k.val (by decide) hk (by decide) rfl rfl rfl _ _ _ _ (cf72 k) (cf73 k) _ (fun _ => rfl) _ rfl) $$ H
  iintro H
  iapply (stage_step d L A v B v15 hv15 3 k.val 3 (375 + k.val) 48 k.val (by decide) hk (by decide) rfl rfl rfl _ _ _ _ (cf74 k) (cf75 k) _ (fun _ => rfl) _ rfl) $$ H
  iintro H
  iapply (stage_step d L A v B v15 hv15 3 k.val 4 (375 + k.val) 64 k.val (by decide) hk (by decide) rfl rfl rfl _ _ _ _ (cf76 k) (cf77 k) _ (fun _ => rfl) _ rfl) $$ H
  iintro H
  iapply (stage_step d L A v B v15 hv15 3 k.val 5 (375 + k.val) 80 k.val (by decide) hk (by decide) rfl rfl rfl _ _ _ _ (cf78 k) (cf79 k) _ (fun _ => rfl) _ rfl) $$ H
  iintro H
  iapply (stage_step d L A v B v15 hv15 3 k.val 6 (375 + k.val) 96 k.val (by decide) hk (by decide) rfl rfl rfl _ _ _ _ (cf80 k) (cf81 k) _ (fun _ => rfl) _ rfl) $$ H
  iintro H
  iapply (stage_step d L A v B v15 hv15 3 k.val 7 (375 + k.val) 112 k.val (by decide) hk (by decide) rfl rfl rfl _ _ _ _ (cf82 k) (cf83 k) _ (fun _ => rfl) _ rfl) $$ H
  iintro H
  sl_step
  iexact H

theorem t11_loop (hv15 : ∀ x : S16.Idx, v15 x = v) :
    (iprop((ml d L mAcc ↦[accSet 3]{fullShare} A) ∗ (ml d L mStage ↦{fullShare} B)) : sProp 𝕄) ⊢ wp frame (wpE (defs₀ (F := F)) 𝒱₀ (thr d L) none) Set.univ
          (Scf.Loop.for k0_t11_loop k0_t11_ok ⟨⟩ (k0_t11_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 t2 v15 t3))
          (fun _ => iprop((ml d L mAcc ↦[accSet 3]{fullShare} (fun _ => 0#32)) ∗ (ml d L mStage ↦{fullShare} stageF A v 3))) :=
  (st_first d L A v B 3).trans (wp_loop (thr d L) none k0_t11_loop k0_t11_ok () _ (StI d L A v B 3) _
    (fun k u => t11_step d L A v B v15 t2 t3 hv15 k u)
    (fun u => by
      rw [trips11]
      exact st_last d L A v B 3 u))

theorem t12_step (arg1 : BitVec 32) (v0 : IVec S16 32) (v10 : Vec F S16 .f32) (c0 c1 : BitVec 32) (hv15 : ∀ x : S16.Idx, v15 x = v) (k : Fin k0_t12_loop.trips) (u : Unit) :
    StI d L A v B 4 k.val u ⊢ wp frame (wpE (defs₀ (F := F)) 𝒱₀ (thr d L) none) Set.univ
          (k0_t12_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 c0 c1 t3 k u)
          (StI d L A v B 4 (k.val + 1)) := by
  have hk : k.val < 125 := lt_of_lt_of_eq k.isLt trips12
  unfold k0_t12_body
  beta_reduce
  rw [k0_part11_eq_skeleton, k0_part12_eq_skeleton]
  unfold k0_part11_skel k0_part12_skel
  simp only [Prog.lift, Prog.bind_op, Prog.bind_ret, Prog.pure_eq_ret]
  unfold StI
  iintro H
  iapply (stage_step d L A v B v15 hv15 4 k.val 0 (500 + k.val) 0 k.val (by decide) hk (by decide) rfl rfl rfl _ _ _ _ (cf84 k) (cf85 k) _ (fun _ => rfl) _ rfl) $$ H
  iintro H
  iapply (stage_step d L A v B v15 hv15 4 k.val 1 (500 + k.val) 16 k.val (by decide) hk (by decide) rfl rfl rfl _ _ _ _ (cf86 k) (cf87 k) _ (fun _ => rfl) _ rfl) $$ H
  iintro H
  iapply (stage_step d L A v B v15 hv15 4 k.val 2 (500 + k.val) 32 k.val (by decide) hk (by decide) rfl rfl rfl _ _ _ _ (cf88 k) (cf89 k) _ (fun _ => rfl) _ rfl) $$ H
  iintro H
  iapply (stage_step d L A v B v15 hv15 4 k.val 3 (500 + k.val) 48 k.val (by decide) hk (by decide) rfl rfl rfl _ _ _ _ (cf90 k) (cf91 k) _ (fun _ => rfl) _ rfl) $$ H
  iintro H
  iapply (stage_step d L A v B v15 hv15 4 k.val 4 (500 + k.val) 64 k.val (by decide) hk (by decide) rfl rfl rfl _ _ _ _ (cf92 k) (cf93 k) _ (fun _ => rfl) _ rfl) $$ H
  iintro H
  iapply (stage_step d L A v B v15 hv15 4 k.val 5 (500 + k.val) 80 k.val (by decide) hk (by decide) rfl rfl rfl _ _ _ _ (cf94 k) (cf95 k) _ (fun _ => rfl) _ rfl) $$ H
  iintro H
  iapply (stage_step d L A v B v15 hv15 4 k.val 6 (500 + k.val) 96 k.val (by decide) hk (by decide) rfl rfl rfl _ _ _ _ (cf96 k) (cf97 k) _ (fun _ => rfl) _ rfl) $$ H
  iintro H
  iapply (stage_step d L A v B v15 hv15 4 k.val 7 (500 + k.val) 112 k.val (by decide) hk (by decide) rfl rfl rfl _ _ _ _ (cf98 k) (cf99 k) _ (fun _ => rfl) _ rfl) $$ H
  iintro H
  sl_step
  iexact H

theorem t12_loop (arg1 : BitVec 32) (v0 : IVec S16 32) (v10 : Vec F S16 .f32) (c0 c1 : BitVec 32) (hv15 : ∀ x : S16.Idx, v15 x = v) :
    (iprop((ml d L mAcc ↦[accSet 4]{fullShare} A) ∗ (ml d L mStage ↦{fullShare} B)) : sProp 𝕄) ⊢ wp frame (wpE (defs₀ (F := F)) 𝒱₀ (thr d L) none) Set.univ
          (Scf.Loop.for k0_t12_loop k0_t12_ok ⟨⟩ (k0_t12_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 c0 c1 t3))
          (fun _ => iprop((ml d L mAcc ↦[accSet 4]{fullShare} (fun _ => 0#32)) ∗ (ml d L mStage ↦{fullShare} stageF A v 4))) :=
  (st_first d L A v B 4).trans (wp_loop (thr d L) none k0_t12_loop k0_t12_ok () _ (StI d L A v B 4) _
    (fun k u => t12_step d L A v B v15 t2 t3 arg1 v0 v10 c0 c1 hv15 k u)
    (fun u => by
      rw [trips12]
      exact st_last d L A v B 4 u))

end Stage

end Cert.KernelIdeal.Pf

end
-- ==== Proof.Ideal.Tile6.lean ====
/-
  The copies of the task: an array row into a buffer, a slice of the accumulator and the stage out to the results.
-/
module

public import proofs.«01_k».proof.Proof.Ideal.Tile5

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copy

variable (d : Dev nD) (L : grid0.Coords)
variable (O : CellTallies nD τ sig (HIx 1)) (W : Waits sig (HIx 1))

/-- A local copy issued, what it will deliver named. -/
theorem copy_issue {sp sp' : Space} {s₀ : Shape} {e₀ : EltTy} {src : Memref sig (thr d L).2.kind sp s₀ e₀} {dst : Memref sig (thr d L).2.kind sp' s₀ e₀} {sm : DmaSem sig} (sm' : DmaSem sig)
    {h1 : src.view.WordExact} {h2 : dst.view.WordExact} {h3 : DmaTarget.Typed (nD := nD) sp (.dma sm) (.here dst)} {q : PosShare TreeShare}
    {fs : Buf (Elt F) (src.view.loc (thr d L))} {fd : Buf (Elt F) (dst.view.loc (thr d L))}
    (Ss : Finset (Idx (src.view.loc (thr d L)))) (Sd : Finset (Idx (dst.view.loc (thr d L)))) (gd : Buf (Elt F) (dst.view.loc (thr d L)))
    (hsm : sm = sm') (hS : src.view.set = Ss) (hD : dst.view.set = Sd) (hl : ∀ p ∈ Sd, dst.view.write (Elt F) fd (src.view.read (Elt F) fs) Finset.univ p = gd p)
    (N : ℕ) (hN : dst.view.amount (.dma sm') = N) (hN0 : 0 < N)
    {α : Type} {Q : α → sProp 𝕄} {kk : PUnit → Prog (TpuEff nD τ sig (Elt F) Λ₀ (thr d L).2) α} :
    iprop((src.view.loc (thr d L) ↦[Ss]{q} fs) ∗ (dst.view.loc (thr d L) ↦[Sd]{fullShare} fd) ∗ semVal (thr d L, .dma sm') 0)
      ⊢ iprop((Transfers.Flight EC (thr d L) (.dma sm') none N iprop((dst.view.loc (thr d L) ↦[Sd]{fullShare} gd) ∗ (src.view.loc (thr d L) ↦[Ss]{q} fs))
          -∗ wp frame (wpE (defs₀ (F := F)) 𝒱₀ (thr d L) none) Set.univ (kk ⟨⟩) Q)
        -∗ wp frame (wpE (defs₀ (F := F)) 𝒱₀ (thr d L) none) Set.univ (.op (.enqueueDma src (.here dst) (.dma sm) h1 h2 h3) kk) Q) := by
  subst hsm hS hD
  have e := Transfers.wp_dmaLocal (defs := defs₀ (F := F)) EC 𝒱₀ (thr d L) none (via := .same) (hsrc := h1) (hdst := h2) (hsem := h3) (src := src) (dst := dst) (q := q) (fs := fs) (fd := fd) (k := kk) (Q := Q) none N hN hN0 (Finset.Subset.refl _)
  have e2 : (dst.view.loc (thr d L) ↦[dst.view.set]{fullShare} dst.view.write (Elt F) fd (src.view.read (Elt F) fs) Finset.univ : sProp 𝕄)
      = (dst.view.loc (thr d L) ↦[dst.view.set]{fullShare} gd) := pointsTo_congr hl
  rw [← e2]
  exact e

/-- A copy waited for. -/
theorem copy_wait {sp sp' : Space} {s₀ s' : Shape} {e₀ e' : EltTy} {src : Memref sig (thr d L).2.kind sp s' e'} {dst : Memref sig (thr d L).2.kind sp' s₀ e₀} {sm : DmaSem sig} (sm' : DmaSem sig)
    {h1 : src.view.WordExact} {h2 : dst.view.WordExact} (hsm : sm = sm') (hO : ∀ g, O g none = 0) (N : ℕ) (hN : dst.view.dmaCredit = N) {P : sProp 𝕄}
    {α : Type} {Q : α → sProp 𝕄} {kk : PUnit → Prog (TpuEff nD τ sig (Elt F) Λ₀ (thr d L).2) α} :
    iprop(Lv (F := F) ∗ Transfers.Flight EC (thr d L) (.dma sm') none N P ∗ OW (F := F) d L O W)
      ⊢ iprop((P -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm src dst h1 h2) kk) Q) := by
  subst hsm
  unfold OW
  iintro ⟨#Hlv, HF, ⟨%W', %hW, HO⟩⟩ Hk
  iapply (Transfers.wp_waitLocalO EC 𝒱₀ (thr d L) none (srcw := src) (dstw := dst) none (N := N) hN (D := P)) $$ [HF HO]
  · isplitl [HF]; · iexact HF
    isplitl [HO]; · iexact HO
    iapply ((K (F := F)).mayWait_none _ hO); iexact Hlv
  iintro ⟨HP, Hs, HO⟩
  ihave HO := (ow_put (F := F) d L O W (.dma sm) hW) $$ HO
  iapply Hk $$ HP Hs
  unfold OW
  iexact HO

end Copy

/-! ## The accumulator in its five slices -/

abbrev aS (off : Fin 2 → ℕ) (inb : ∀ a, off a + S125x128.size a ≤ S625x128.size a) : Memref sig .scVector .vmem S125x128 .i32 :=
  mAcc.slice (Rect.unit (s := S625x128) off S125x128.size inb) (fun _ => rfl)

theorem aS_set (off inb) (s : ℕ) (h : off = ![125 * s, 0]) : (aS off inb).view.set = accSet s := by
  subst h
  ext p
  rw [mem_accSet, show p ∈ (aS ![125 * s, 0] inb).view.set ↔ _ from mem_slice cc0_scratch0 inb p]
  constructor
  · intro h
    have h0 := h 0
    have h0 : 125 * s ≤ (p 0).val ∧ (p 0).val < 125 * s + 125 := h0
    omega
  · intro h a
    match a with
    | 0 => show 125 * s ≤ (p 0).val ∧ (p 0).val < 125 * s + 125; omega
    | 1 => have : (p 1).val < 128 := (p 1).isLt
           show 0 ≤ (p 1).val ∧ (p 1).val < 0 + 128; omega

/-! ## A channel of a result in its five slices -/

abbrev dF (off : Fin 5 → ℕ) (inb : ∀ a, off a + S1x1x125x1x128.size a ≤ S6x20x625x8x128.size a) : Memref sig .scVector .hbm S125x128 .i32 :=
  (mOF.slice (Rect.unit (s := S6x20x625x8x128) off S1x1x125x1x128.size inb) (fun _ => rfl)).squeeze S125x128 squeezes_S1x1x125x1x128_S125x128
abbrev dG (off : Fin 5 → ℕ) (inb : ∀ a, off a + S1x1x125x1x128.size a ≤ S6x20x625x8x128.size a) : Memref sig .scVector .hbm S125x128 .f32 :=
  (mOG.slice (Rect.unit (s := S6x20x625x8x128) off S1x1x125x1x128.size inb) (fun _ => rfl)).squeeze S125x128 squeezes_S1x1x125x1x128_S125x128

/-- Slice `s` of channel `ch` of table `t` of a result. -/
def outSet (t ch s : ℕ) : Finset S6x20x625x8x128.Idx :=
  Finset.univ.filter fun p => (p 0).val = t ∧ 8 * (p 1).val + (p 3).val = ch ∧ (p 2).val / 125 = s
theorem mem_outSet {t ch s : ℕ} {p : S6x20x625x8x128.Idx} : p ∈ outSet t ch s ↔ (p 0).val = t ∧ 8 * (p 1).val + (p 3).val = ch ∧ (p 2).val / 125 = s := by simp [outSet]

theorem out_rect (off inb) (t ch s : ℕ) (h : off = ![t, ch / 8, 125 * s, ch % 8, 0]) :
    (Rect.unit (s := S6x20x625x8x128) off S1x1x125x1x128.size inb).set = outSet t ch s := by
  subst h
  ext p
  rw [mem_outSet, Rect.mem_set_unit]
  have p0 : (p 0).val < 6 := (p 0).isLt
  have p1 : (p 1).val < 20 := (p 1).isLt
  have p3 : (p 3).val < 8 := (p 3).isLt
  have p4 : (p 4).val < 128 := (p 4).isLt
  constructor
  · intro h
    have h0 : t ≤ (p 0).val ∧ (p 0).val < t + 1 := h 0
    have h1 : ch / 8 ≤ (p 1).val ∧ (p 1).val < ch / 8 + 1 := h 1
    have h2 : 125 * s ≤ (p 2).val ∧ (p 2).val < 125 * s + 125 := h 2
    have h3 : ch % 8 ≤ (p 3).val ∧ (p 3).val < ch % 8 + 1 := h 3
    omega
  · intro h a
    match a with
    | 0 => show t ≤ (p 0).val ∧ (p 0).val < t + 1; omega
    | 1 => show ch / 8 ≤ (p 1).val ∧ (p 1).val < ch / 8 + 1; omega
    | 2 => show 125 * s ≤ (p 2).val ∧ (p 2).val < 125 * s + 125; omega
    | 3 => show ch % 8 ≤ (p 3).val ∧ (p 3).val < ch % 8 + 1; omega
    | 4 => show 0 ≤ (p 4).val ∧ (p 4).val < 0 + 128; omega

theorem dF_set (off inb) (t ch s : ℕ) (h : off = ![t, ch / 8, 125 * s, ch % 8, 0]) : (dF off inb).view.set = outSet t ch s :=
  (sq_set _ _ _ _ _ _ _).trans (out_rect off inb t ch s h)
theorem dG_set (off inb) (t ch s : ℕ) (h : off = ![t, ch / 8, 125 * s, ch % 8, 0]) : (dG off inb).view.set = outSet t ch s :=
  (sq_set _ _ _ _ _ _ _).trans (out_rect off inb t ch s h)

theorem re125 (x : Fin 125) (y : Fin 128) :
    Shape.reshapeEquiv (s := S1x1x125x1x128) (s' := S125x128) squeezes_S1x1x125x1x128_S125x128.numel_eq (ix2 x y) = ix5 0 0 x 0 y := by
  refine Shape.reshapeEquiv_eq_of_vals _ _ _ _ _ (rowMajor_val5 _ (125 * 128) (125 * 128) 128 128 rfl rfl rfl rfl) (rowMajor_val2 _ 128 rfl) ?_
  show 0 * (125 * 128) + 0 * (125 * 128) + x.val * 128 + 0 * 128 + y.val = x.val * 128 + y.val
  omega

/-- An accumulator laid out as the result's. -/
def outF (A : S625x128.Idx → BitVec 32) : S6x20x625x8x128.Idx → BitVec 32 := fun p => A (ix2 (p 2) (p 4))
/-- The same converted and scaled. -/
def outG (A : S625x128.Idx → BitVec 32) (v : F .f32) : S6x20x625x8x128.Idx → F .f32 := fun p => gradV (A (ix2 (p 2) (p 4))) v

theorem dF_at (off inb) (t ch s : ℕ) (h : off = ![t, ch / 8, 125 * s, ch % 8, 0]) (p : S6x20x625x8x128.Idx) (hp : p ∈ outSet t ch s) (hb : (p 2).val - 125 * s < 125) :
    (dF off inb).view.emb (ix2 ⟨(p 2).val - 125 * s, hb⟩ (p 4)) = p := by
  subst h
  rw [mem_outSet] at hp
  have p3 : (p 3).val < 8 := (p 3).isLt
  funext a
  apply Fin.ext
  refine (sq_emb main_v11_1_scv _ _ inb S125x128 squeezes_S1x1x125x1x128_S125x128 (fun _ => rfl) _ a).trans ?_
  rw [show Shape.reshapeEquiv (s := (Rect.unit (s := S6x20x625x8x128) ![t, ch / 8, 125 * s, ch % 8, 0] S1x1x125x1x128.size inb).shape) (s' := S125x128) squeezes_S1x1x125x1x128_S125x128.numel_eq
    (ix2 ⟨(p 2).val - 125 * s, hb⟩ (p 4)) = ix5 0 0 ⟨(p 2).val - 125 * s, hb⟩ 0 (p 4) from re125 _ _]
  match a with
  | 0 => show t + 0 = (p 0).val; omega
  | 1 => show ch / 8 + 0 = (p 1).val; omega
  | 2 => show 125 * s + ((p 2).val - 125 * s) = (p 2).val; omega
  | 3 => show ch % 8 + 0 = (p 3).val; omega
  | 4 => show 0 + (p 4).val = (p 4).val; omega
theorem dG_at (off inb) (t ch s : ℕ) (h : off = ![t, ch / 8, 125 * s, ch % 8, 0]) (p : S6x20x625x8x128.Idx) (hp : p ∈ outSet t ch s) (hb : (p 2).val - 125 * s < 125) :
    (dG off inb).view.emb (ix2 ⟨(p 2).val - 125 * s, hb⟩ (p 4)) = p := dF_at off inb t ch s h p hp hb

theorem dF_land (A : S625x128.Idx → BitVec 32) (fd : S6x20x625x8x128.Idx → BitVec 32) (o1 i1 o2 i2) (t ch s : ℕ) (h1 : o1 = ![125 * s, 0]) (h2 : o2 = ![t, ch / 8, 125 * s, ch % 8, 0]) :
    ∀ p ∈ outSet t ch s, (dF o2 i2).view.write (Elt F) fd ((aS o1 i1).view.read (Elt F) A) Finset.univ p = outF A p := by
  intro p hp
  have hp' := mem_outSet.mp hp
  have hb : (p 2).val - 125 * s < 125 := by omega
  conv_lhs => rw [← dF_at o2 i2 t ch s h2 p hp hb]
  refine (View.write_emb_of_mem (v := (dF o2 i2).view) (Val := Elt F) fd _ (Finset.mem_univ _)).trans ?_
  show A ((aS o1 i1).view.emb (ix2 ⟨(p 2).val - 125 * s, hb⟩ (p 4))) = A (ix2 (p 2) (p 4))
  congr 1
  subst h1
  funext a
  apply Fin.ext
  refine (emb_slice_val cc0_scratch0 i1 _ a).trans ?_
  match a with
  | 0 => show 125 * s + ((p 2).val - 125 * s) = (p 2).val; omega
  | 1 => show 0 + (p 4).val = (p 4).val; omega

theorem dG_land (A : S625x128.Idx → BitVec 32) (v : F .f32) (fd : S6x20x625x8x128.Idx → F .f32) (o2 i2) (t ch s : ℕ) (h2 : o2 = ![t, ch / 8, 125 * s, ch % 8, 0]) :
    ∀ p ∈ outSet t ch s, (dG o2 i2).view.write (Elt F) fd (mStage.view.read (Elt F) (stageF A v s)) Finset.univ p = outG A v p := by
  intro p hp
  have hp' := mem_outSet.mp hp
  have hb : (p 2).val - 125 * s < 125 := by omega
  conv_lhs => rw [← dG_at o2 i2 t ch s h2 p hp hb]
  refine (View.write_emb_of_mem (v := (dG o2 i2).view) (Val := Elt F) fd _ (Finset.mem_univ _)).trans ?_
  show gradV (A (ixm S625x128 _ ![125 * s + ((p 2).val - 125 * s), (p 4).val])) v = gradV (A (ix2 (p 2) (p 4))) v
  congr 2
  refine ixm_eq _ fun a => ?_
  match a with
  | 0 => show 125 * s + ((p 2).val - 125 * s) = (p 2).val; omega
  | 1 => rfl

abbrev NF : ℕ := main_v11_1_scv.dmaCredit S125x128 .i32
theorem NF_pos : 0 < NF := by decide

section Pieces

variable (d : Dev nD) (L : grid0.Coords)
variable (O : CellTallies nD τ sig (HIx 1)) (W : Waits sig (HIx 1))

/-- Slice `s` of the accumulator on its way out. -/
def FlF (A : S625x128.Idx → BitVec 32) (t ch s : ℕ) (sm : DmaSem sig) : sProp 𝕄 :=
  Transfers.Flight EC (thr d L) (.dma sm) none NF iprop((ml d L mOF ↦[outSet t ch s]{fullShare} outF A) ∗ (ml d L mAcc ↦[accSet s]{fullShare} A))
/-- The stage on its way out as slice `s`. -/
def FlG (A : S625x128.Idx → BitVec 32) (v : F .f32) (t ch s : ℕ) (sm : DmaSem sig) : sProp 𝕄 :=
  Transfers.Flight EC (thr d L) (.dma sm) none NF iprop((ml d L mOG ↦[outSet t ch s]{fullShare} outG A v) ∗ (ml d L mStage ↦{fullShare} stageF A v s))

theorem fixed_issue (A : S625x128.Idx → BitVec 32) (fd : S6x20x625x8x128.Idx → BitVec 32) (t ch s : ℕ) (sm' : DmaSem sig) {sm : DmaSem sig} (hsm : sm = sm') (o1 i1 o2 i2) (h1 : o1 = ![125 * s, 0])
    (h2 : o2 = ![t, ch / 8, 125 * s, ch % 8, 0]) {w1 w2 w3}
    {α : Type} {Q : α → sProp 𝕄} {kk : PUnit → Prog (TpuEff nD τ sig (Elt F) Λ₀ (thr d L).2) α} :
    iprop((ml d L mAcc ↦[accSet s]{fullShare} A) ∗ (ml d L mOF ↦[outSet t ch s]{fullShare} fd) ∗ semVal (thr d L, .dma sm') 0)
      ⊢ iprop((FlF d L A t ch s sm' -∗ wp frame (wpE (defs₀ (F := F)) 𝒱₀ (thr d L) none) Set.univ (kk ⟨⟩) Q)
        -∗ wp frame (wpE (defs₀ (F := F)) 𝒱₀ (thr d L) none) Set.univ (.op (.enqueueDma (aS o1 i1) (.here (dF o2 i2)) (.dma sm) w1 w2 w3) kk) Q) :=
  copy_issue d L (src := aS o1 i1) (dst := dF o2 i2) (fs := A) (fd := fd) sm' (accSet s) (outSet t ch s) (outF A) hsm (aS_set o1 i1 s h1) (dF_set o2 i2 t ch s h2)
    (dF_land A fd o1 i1 o2 i2 t ch s h1 h2) NF rfl NF_pos

theorem grad_issue (A : S625x128.Idx → BitVec 32) (v : F .f32) (fd : S6x20x625x8x128.Idx → F .f32) (t ch s : ℕ) (sm' : DmaSem sig) {sm : DmaSem sig} (hsm : sm = sm') (o2 i2)
    (h2 : o2 = ![t, ch / 8, 125 * s, ch % 8, 0]) {w1 w2 w3}
    {α : Type} {Q : α → sProp 𝕄} {kk : PUnit → Prog (TpuEff nD τ sig (Elt F) Λ₀ (thr d L).2) α} :
    iprop((ml d L mStage ↦{fullShare} stageF A v s) ∗ (ml d L mOG ↦[outSet t ch s]{fullShare} fd) ∗ semVal (thr d L, .dma sm') 0)
      ⊢ iprop((FlG d L A v t ch s sm' -∗ wp frame (wpE (defs₀ (F := F)) 𝒱₀ (thr d L) none) Set.univ (kk ⟨⟩) Q)
        -∗ wp frame (wpE (defs₀ (F := F)) 𝒱₀ (thr d L) none) Set.univ (.op (.enqueueDma mStage (.here (dG o2 i2)) (.dma sm) w1 w2 w3) kk) Q) :=
  copy_issue d L (src := mStage) (dst := dG o2 i2) (fs := stageF A v s) (fd := fd) sm' Finset.univ (outSet t ch s) (outG A v) hsm (View.set_whole _) (dG_set o2 i2 t ch s h2)
    (dG_land A v fd o2 i2 t ch s h2) NF rfl NF_pos

theorem fixed_wait (A : S625x128.Idx → BitVec 32) (t ch s : ℕ) (sm' : DmaSem sig) {sm : DmaSem sig} (hsm : sm = sm') (hO : ∀ g, O g none = 0) (o1 i1 o2 i2) {w1 w2}
    {α : Type} {Q : α → sProp 𝕄} {kk : PUnit → Prog (TpuEff nD τ sig (Elt F) Λ₀ (thr d L).2) α} :
    iprop(Lv (F := F) ∗ FlF d L A t ch s sm' ∗ OW (F := F) d L O W)
      ⊢ iprop((iprop((ml d L mOF ↦[outSet t ch s]{fullShare} outF A) ∗ (ml d L mAcc ↦[accSet s]{fullShare} A)) -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm (aS o1 i1) (dF o2 i2) w1 w2) kk) Q) :=
  copy_wait d L O W (src := aS o1 i1) (dst := dF o2 i2) sm' hsm hO NF rfl

theorem grad_wait (A : S625x128.Idx → BitVec 32) (v : F .f32) (t ch s : ℕ) (sm' : DmaSem sig) {sm : DmaSem sig} (hsm : sm = sm') (hO : ∀ g, O g none = 0) (o2 i2) {w1 w2}
    {α : Type} {Q : α → sProp 𝕄} {kk : PUnit → Prog (TpuEff nD τ sig (Elt F) Λ₀ (thr d L).2) α} :
    iprop(Lv (F := F) ∗ FlG d L A v t ch s sm' ∗ OW (F := F) d L O W)
      ⊢ iprop((iprop((ml d L mOG ↦[outSet t ch s]{fullShare} outG A v) ∗ (ml d L mStage ↦{fullShare} stageF A v s)) -∗ semVal (thr d L, .dma sm') 0 -∗ OW (F := F) d L O W
          -∗ wp frame (wpE (defs₀ (F := F)) 𝒱₀ (thr d L) none) Set.univ (kk ⟨⟩) Q)
        -∗ wp frame (wpE (defs₀ (F := F)) 𝒱₀ (thr d L) none) Set.univ (.op (.waitDma2 sm mStage (dG o2 i2) w1 w2) kk) Q) :=
  copy_wait d L O W (src := mStage) (dst := dG o2 i2) sm' hsm hO NF rfl

end Pieces

end Cert.KernelIdeal.Pf

end
-- ==== Proof.Ideal.Tile7.lean ====
/-
  The fetches of a task and the splitting of its buffers.
-/
module

public import proofs.«01_k».proof.Proof.Ideal.Tile6

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Splitting -/

theorem split5 {ℓ : Loc nD τ sig} {S : Finset (Idx ℓ)} {q : PosShare TreeShare} (f : Buf (Elt F) ℓ) (T : ℕ → Finset (Idx ℓ))
    (hU : S = T 0 ∪ (T 1 ∪ (T 2 ∪ (T 3 ∪ T 4)))) (hd : ∀ a b, a ≠ b → Disjoint (T a) (T b)) :
    (ℓ ↦[S]{q} f : sProp 𝕄) = iprop((ℓ ↦[T 0]{q} f) ∗ (ℓ ↦[T 1]{q} f) ∗ (ℓ ↦[T 2]{q} f) ∗ (ℓ ↦[T 3]{q} f) ∗ ℓ ↦[T 4]{q} f) := by
  have hu : ∀ {A B : Finset (Idx ℓ)}, Disjoint A B → (ℓ ↦[A ∪ B]{q} f : sProp 𝕄) = iprop((ℓ ↦[A]{q} f) ∗ ℓ ↦[B]{q} f) := fun h =>
    BI.equiv_iff.mp ⟨(pointsTo_union h).1, (pointsTo_union h).2⟩
  rw [hU, hu, hu, hu, hu (hd 3 4 (by decide))]
  · simp only [Finset.disjoint_union_right]; exact ⟨hd 2 3 (by decide), hd 2 4 (by decide)⟩
  · simp only [Finset.disjoint_union_right]; exact ⟨hd 1 2 (by decide), hd 1 3 (by decide), hd 1 4 (by decide)⟩
  · simp only [Finset.disjoint_union_right]; exact ⟨hd 0 1 (by decide), hd 0 2 (by decide), hd 0 3 (by decide), hd 0 4 (by decide)⟩

theorem five {n : ℕ} (h : n < 5) : n = 0 ∨ n = 1 ∨ n = 2 ∨ n = 3 ∨ n = 4 := by omega

theorem acc_univ : (Finset.univ : Finset S625x128.Idx) = accSet 0 ∪ (accSet 1 ∪ (accSet 2 ∪ (accSet 3 ∪ accSet 4))) := by
  ext p
  simp only [Finset.mem_union, mem_accSet, Finset.mem_univ, true_iff]
  have : (p 0).val < 625 := (p 0).isLt
  exact five (by omega)
theorem acc_disj (a b : ℕ) (h : a ≠ b) : Disjoint (accSet a) (accSet b) := by
  rw [Finset.disjoint_left]
  intro p h1 h2
  rw [mem_accSet] at h1 h2
  exact h (h1.symm.trans h2)

/-- Channel `ch` of table `t` of a result. -/
def chanSet (t ch : ℕ) : Finset S6x20x625x8x128.Idx := Finset.univ.filter fun p => (p 0).val = t ∧ 8 * (p 1).val + (p 3).val = ch
theorem mem_chanSet {t ch : ℕ} {p : S6x20x625x8x128.Idx} : p ∈ chanSet t ch ↔ (p 0).val = t ∧ 8 * (p 1).val + (p 3).val = ch := by simp [chanSet]
theorem chan_eq (t ch : ℕ) : chanSet t ch = outSet t ch 0 ∪ (outSet t ch 1 ∪ (outSet t ch 2 ∪ (outSet t ch 3 ∪ outSet t ch 4))) := by
  ext p
  simp only [Finset.mem_union, mem_outSet, mem_chanSet]
  have : (p 2).val < 625 := (p 2).isLt
  have := five (n := (p 2).val / 125) (by omega)
  constructor
  · rintro ⟨h1, h2⟩
    simp only [h1, h2, true_and]
    exact this
  · rintro (h | h | h | h | h) <;> exact ⟨h.1, h.2.1⟩
theorem out_disj (t ch a b : ℕ) (h : a ≠ b) : Disjoint (outSet t ch a) (outSet t ch b) := by
  rw [Finset.disjoint_left]
  intro p h1 h2
  rw [mem_outSet] at h1 h2
  exact h (h1.2.2.symm.trans h2.2.2)

/-- The channels of a task before channel number `n` of its thirty, and the rest. -/
def doneSet (L : grid0.Coords) (n : ℕ) : Finset S6x20x625x8x128.Idx := Finset.univ.filter fun p =>
  (3 * (L 0).val ≤ (p 0).val ∧ (p 0).val < 3 * (L 0).val + 3 ∧ 10 * (L 1).val ≤ 8 * (p 1).val + (p 3).val ∧ 8 * (p 1).val + (p 3).val < 10 * (L 1).val + 10)
    ∧ 10 * ((p 0).val - 3 * (L 0).val) + (8 * (p 1).val + (p 3).val - 10 * (L 1).val) < n
def todoSet (L : grid0.Coords) (n : ℕ) : Finset S6x20x625x8x128.Idx := Finset.univ.filter fun p =>
  (3 * (L 0).val ≤ (p 0).val ∧ (p 0).val < 3 * (L 0).val + 3 ∧ 10 * (L 1).val ≤ 8 * (p 1).val + (p 3).val ∧ 8 * (p 1).val + (p 3).val < 10 * (L 1).val + 10)
    ∧ n ≤ 10 * ((p 0).val - 3 * (L 0).val) + (8 * (p 1).val + (p 3).val - 10 * (L 1).val)

theorem mem_doneSet {L : grid0.Coords} {n : ℕ} {p : S6x20x625x8x128.Idx} : p ∈ doneSet L n ↔
  (3 * (L 0).val ≤ (p 0).val ∧ (p 0).val < 3 * (L 0).val + 3 ∧ 10 * (L 1).val ≤ 8 * (p 1).val + (p 3).val ∧ 8 * (p 1).val + (p 3).val < 10 * (L 1).val + 10)
    ∧ 10 * ((p 0).val - 3 * (L 0).val) + (8 * (p 1).val + (p 3).val - 10 * (L 1).val) < n := by simp [doneSet]
theorem mem_todoSet {L : grid0.Coords} {n : ℕ} {p : S6x20x625x8x128.Idx} : p ∈ todoSet L n ↔
  (3 * (L 0).val ≤ (p 0).val ∧ (p 0).val < 3 * (L 0).val + 3 ∧ 10 * (L 1).val ≤ 8 * (p 1).val + (p 3).val ∧ 8 * (p 1).val + (p 3).val < 10 * (L 1).val + 10)
    ∧ n ≤ 10 * ((p 0).val - 3 * (L 0).val) + (8 * (p 1).val + (p 3).val - 10 * (L 1).val) := by simp [todoSet]

theorem chan_todo (L : grid0.Coords) {t2 t3 : ℕ} (h2 : t2 < 3) (h3 : t3 < 10) : chanSet (tabN L t2) (chN L t3) ⊆ todoSet L (10 * t2 + t3) := by
  intro p hp
  rw [mem_chanSet] at hp
  rw [mem_todoSet]
  unfold tabN chN at hp
  omega
theorem todo_succ (L : grid0.Coords) {t2 t3 : ℕ} (h2 : t2 < 3) (h3 : t3 < 10) :
    todoSet L (10 * t2 + t3) \ chanSet (tabN L t2) (chN L t3) = todoSet L (10 * t2 + t3 + 1) := by
  ext p
  rw [Finset.mem_sdiff, mem_chanSet, mem_todoSet, mem_todoSet]
  unfold tabN chN
  omega
theorem chan_done (L : grid0.Coords) {t2 t3 : ℕ} (h2 : t2 < 3) (h3 : t3 < 10) : chanSet (tabN L t2) (chN L t3) ⊆ doneSet L (10 * t2 + t3 + 1) := by
  intro p hp
  rw [mem_chanSet] at hp
  rw [mem_doneSet]
  unfold tabN chN at hp
  omega
theorem done_succ (L : grid0.Coords) {t2 t3 : ℕ} (h2 : t2 < 3) (h3 : t3 < 10) :
    doneSet L (10 * t2 + t3 + 1) \ chanSet (tabN L t2) (chN L t3) = doneSet L (10 * t2 + t3) := by
  ext p
  rw [Finset.mem_sdiff, mem_chanSet, mem_doneSet, mem_doneSet]
  unfold tabN chN
  omega

/-! ## The results -/

section Targets

variable (g5 : S6x20x19x8x128.Idx → F .f32) (ids : S6x2400x128.Idx → BitVec 32) (wts : S6x2400x128.Idx → F .f32)
  (len : S6x2400.Idx → BitVec 32) (sc : S192.Idx → F .f32)

def fixT : S6x20x625x8x128.Idx → BitVec 32 := fun p =>
  accN g5 ids wts len sc (p 0).val (8 * (p 1).val + (p 3).val) 2400 (128 * (p 2).val + (p 4).val)
def gradT : S6x20x625x8x128.Idx → F .f32 := fun p => gradV (fixT g5 ids wts len sc p) (sc (i1 (32 * (p 0).val + 16)))

theorem outF_eq (t ch : ℕ) : ∀ p ∈ chanSet t ch, outF (accF g5 ids wts len sc t ch 2400) p = fixT g5 ids wts len sc p := by
  intro p hp
  obtain ⟨rfl, rfl⟩ := mem_chanSet.mp hp
  rfl
theorem outG_eq (t ch : ℕ) : ∀ p ∈ chanSet t ch, outG (accF g5 ids wts len sc t ch 2400) (sc (i1 (32 * t + 16))) p = gradT g5 ids wts len sc p := by
  intro p hp
  obtain ⟨rfl, rfl⟩ := mem_chanSet.mp hp
  rfl

end Targets

/-! ## The fetches -/

abbrev gSrc (off : Fin 5 → ℕ) (inb : ∀ a, off a + S1x1x19x1x128.size a ≤ S6x20x19x8x128.size a) : Memref sig .scVector .hbm S19x128 .f32 :=
  (mG5.slice (Rect.unit (s := S6x20x19x8x128) off S1x1x19x1x128.size inb) (fun _ => rfl)).squeeze S19x128 squeezes_S1x1x19x1x128_S19x128
abbrev lSrc (off : Fin 2 → ℕ) (inb : ∀ a, off a + S1x2400.size a ≤ S6x2400.size a) : Memref sig .scVector .hbm S2400 .i32 :=
  (mLen.slice (Rect.unit (s := S6x2400) off S1x2400.size inb) (fun _ => rfl)).squeeze S2400 squeezes_S1x2400_S2400

theorem re19 (x : Fin 19) (y : Fin 128) :
    Shape.reshapeEquiv (s := S1x1x19x1x128) (s' := S19x128) squeezes_S1x1x19x1x128_S19x128.numel_eq (ix2 x y) = ix5 0 0 x 0 y := by
  refine Shape.reshapeEquiv_eq_of_vals _ _ _ _ _ (rowMajor_val5 _ (19 * 128) (19 * 128) 128 128 rfl rfl rfl rfl) (rowMajor_val2 _ 128 rfl) ?_
  show 0 * (19 * 128) + 0 * (19 * 128) + x.val * 128 + 0 * 128 + y.val = x.val * 128 + y.val
  omega
theorem re2400 (x : Fin 2400) : Shape.reshapeEquiv (s := S1x2400) (s' := S2400) squeezes_S1x2400_S2400.numel_eq (ix1 x) = ix2 0 x := by
  refine Shape.reshapeEquiv_eq_of_vals _ _ _ _ _ (rowMajor_val2 _ 2400 rfl) (rowMajor_val1 _) ?_
  show 0 * 2400 + x.val = x.val
  omega

def gRow (g5 : S6x20x19x8x128.Idx → F .f32) (t ch : ℕ) : S19x128.Idx → F .f32 := fun i => g5 (i5 t (ch / 8) (i 0).val (ch % 8) (i 1).val)
def lRow (len : S6x2400.Idx → BitVec 32) (t : ℕ) : S2400.Idx → BitVec 32 := fun i => len (i2 t (i 0).val)
theorem gRow_row (g5 : S6x20x19x8x128.Idx → F .f32) (t ch : ℕ) : RowG g5 t ch (gRow g5 t ch) := fun _ => rfl
theorem lRow_row (len : S6x2400.Idx → BitVec 32) (t : ℕ) : RowL len t (lRow len t) := fun _ => rfl

theorem g_land (g5 : S6x20x19x8x128.Idx → F .f32) (fd : S19x128.Idx → F .f32) (o i) (t ch : ℕ) (h : o = ![t, ch / 8, 0, ch % 8, 0]) :
    ∀ p ∈ (Finset.univ : Finset S19x128.Idx), mGV.view.write (Elt F) fd ((gSrc o i).view.read (Elt F) g5) Finset.univ p = gRow g5 t ch p := by
  intro p _
  refine (View.write_emb_of_mem (v := mGV.view) (Val := Elt F) fd _ (Finset.mem_univ p)).trans ?_
  show g5 ((gSrc o i).view.emb p) = _
  unfold gRow
  congr 1
  subst h
  refine (ixm_eq _ fun a => ?_).symm
  refine Eq.trans ?_ (sq_emb main_v7_scv _ _ i S19x128 squeezes_S1x1x19x1x128_S19x128 (fun _ => rfl) p a).symm
  rw [eq_ix2 p, show Shape.reshapeEquiv (s := (Rect.unit (s := S6x20x19x8x128) ![t, ch / 8, 0, ch % 8, 0] S1x1x19x1x128.size i).shape) (s' := S19x128) squeezes_S1x1x19x1x128_S19x128.numel_eq
    (ix2 (p 0) (p 1)) = ix5 0 0 (p 0) 0 (p 1) from re19 _ _]
  match a with
  | 0 => rfl
  | 1 => rfl
  | 2 => show (p 0).val = 0 + (p 0).val; omega
  | 3 => rfl
  | 4 => show (p 1).val = 0 + (p 1).val; omega

theorem l_land (len : S6x2400.Idx → BitVec 32) (fd : S2400.Idx → BitVec 32) (o i) (t : ℕ) (h : o = ![t, 0]) :
    ∀ p ∈ (Finset.univ : Finset S2400.Idx), mLenV.view.write (Elt F) fd ((lSrc o i).view.read (Elt F) len) Finset.univ p = lRow len t p := by
  intro p _
  refine (View.write_emb_of_mem (v := mLenV.view) (Val := Elt F) fd _ (Finset.mem_univ p)).trans ?_
  show len ((lSrc o i).view.emb p) = _
  unfold lRow
  congr 1
  subst h
  refine (ixm_eq _ fun a => ?_).symm
  refine Eq.trans ?_ (sq_emb main_v10_scv _ _ i S2400 squeezes_S1x2400_S2400 (fun _ => rfl) p a).symm
  rw [eq_ix1 p, show Shape.reshapeEquiv (s := (Rect.unit (s := S6x2400) ![t, 0] S1x2400.size i).shape) (s' := S2400) squeezes_S1x2400_S2400.numel_eq
    (ix1 (p 0)) = ix2 0 (p 0) from re2400 _]
  match a with
  | 0 => rfl
  | 1 => show (p 0).val = 0 + (p 0).val; omega

end Cert.KernelIdeal.Pf

end
-- ==== Proof.Ideal.Tile8.lean ====
/-
  One channel of a task.
-/
module

public import proofs.«01_k».proof.Proof.Ideal.Tile7

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task's copy semaphores. -/
abbrev dC (n : ℕ) (h : n < 11 := by decide) : DmaSem sig := ⟨n, h⟩

abbrev NG : ℕ := cc0_scratch4.dmaCredit S19x128 .f32
theorem NG_pos : 0 < NG := by decide
abbrev NL : ℕ := cc0_scratch5.dmaCredit S2400 .i32
theorem NL_pos : 0 < NL := by decide

section Channel

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)
variable (O : CellTallies nD τ sig (HIx 1)) (W : Waits sig (HIx 1))

/-- The semaphores of the copies out, at rest. -/
def OutSems : sProp 𝕄 :=
  iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0)

theorem out_open : OutSems (F := F) d L ⊢ iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0) := by
  unfold OutSems
  exact .rfl
theorem out_close : (iprop(semVal (thr d L, .dma (dC 2)) 0 ∗ semVal (thr d L, .dma (dC 3)) 0 ∗ semVal (thr d L, .dma (dC 4)) 0 ∗ semVal (thr d L, .dma (dC 5)) 0
    ∗ semVal (thr d L, .dma (dC 6)) 0 ∗ semVal (thr d L, .dma (dC 7)) 0) : sProp 𝕄) ⊢ OutSems (F := F) d L := by
  unfold OutSems
  exact .rfl

theorem acc_open (f : S625x128.Idx → BitVec 32) : (iprop(ml d L mAcc ↦{fullShare} f) : sProp 𝕄) ⊢ iprop((ml d L mAcc ↦[accSet 0]{fullShare} f) ∗ (ml d L mAcc ↦[accSet 1]{fullShare} f) ∗ (ml d L mAcc ↦[accSet 2]{fullShare} f) ∗ (ml d L mAcc ↦[accSet 3]{fullShare} f) ∗ (ml d L mAcc ↦[accSet 4]{fullShare} f)) := by
  rw [split5 (ℓ := ml d L mAcc) (q := fullShare) f accSet acc_univ acc_disj]
theorem acc_close (f : S625x128.Idx → BitVec 32) : (iprop((ml d L mAcc ↦[accSet 0]{fullShare} f) ∗ (ml d L mAcc ↦[accSet 1]{fullShare} f) ∗ (ml d L mAcc ↦[accSet 2]{fullShare} f) ∗ (ml d L mAcc ↦[accSet 3]{fullShare} f) ∗ (ml d L mAcc ↦[accSet 4]{fullShare} f)) : sProp 𝕄) ⊢ iprop(ml d L mAcc ↦{fullShare} f) := by
  rw [split5 (ℓ := ml d L mAcc) (q := fullShare) f accSet acc_univ acc_disj]
theorem fix_open (f : S6x20x625x8x128.Idx → BitVec 32) {t2 t3 : ℕ} (h2 : t2 < 3) (h3 : t3 < 10) :
    (iprop(ml d L mOF ↦[todoSet L (10 * t2 + t3)]{fullShare} f) : sProp 𝕄) ⊢ iprop(((ml d L mOF ↦[outSet (tabN L t2) (chN L t3) 0]{fullShare} f) ∗ (ml d L mOF ↦[outSet (tabN L t2) (chN L t3) 1]{fullShare} f) ∗ (ml d L mOF ↦[outSet (tabN L t2) (chN L t3) 2]{fullShare} f) ∗ (ml d L mOF ↦[outSet (tabN L t2) (chN L t3) 3]{fullShare} f) ∗ (ml d L mOF ↦[outSet (tabN L t2) (chN L t3) 4]{fullShare} f)) ∗ (ml d L mOF ↦[todoSet L (10 * t2 + t3 + 1)]{fullShare} f)) := by
  refine (carve (ℓ := ml d L mOF) (q := fullShare) (f := f) (chan_todo L h2 h3)).trans ?_
  rw [todo_succ L h2 h3, split5 (ℓ := ml d L mOF) (q := fullShare) f (outSet (tabN L t2) (chN L t3)) (chan_eq _ _) (out_disj _ _)]
theorem fix_close (f f' : S6x20x625x8x128.Idx → BitVec 32) {t2 t3 : ℕ} (h2 : t2 < 3) (h3 : t3 < 10) (h : ∀ p ∈ chanSet (tabN L t2) (chN L t3), f p = f' p) :
    (iprop(((ml d L mOF ↦[outSet (tabN L t2) (chN L t3) 0]{fullShare} f) ∗ (ml d L mOF ↦[outSet (tabN L t2) (chN L t3) 1]{fullShare} f) ∗ (ml d L mOF ↦[outSet (tabN L t2) (chN L t3) 2]{fullShare} f) ∗ (ml d L mOF ↦[outSet (tabN L t2) (chN L t3) 3]{fullShare} f) ∗ (ml d L mOF ↦[outSet (tabN L t2) (chN L t3) 4]{fullShare} f)) ∗ (ml d L mOF ↦[doneSet L (10 * t2 + t3)]{fullShare} f')) : sProp 𝕄) ⊢ iprop(ml d L mOF ↦[doneSet L (10 * t2 + t3 + 1)]{fullShare} f') := by
  have u := uncarve (F := F) (ℓ := ml d L mOF) (q := fullShare) (f := f') (chan_done L h2 h3)
  rw [done_succ L h2 h3, ← (pointsTo_congr h : (iprop(ml d L mOF ↦[chanSet (tabN L t2) (chN L t3)]{fullShare} f) : sProp 𝕄) = iprop(ml d L mOF ↦[chanSet (tabN L t2) (chN L t3)]{fullShare} f')),
    split5 (ℓ := ml d L mOF) (q := fullShare) f (outSet (tabN L t2) (chN L t3)) (chan_eq _ _) (out_disj _ _)] at u
  exact u
theorem grad_open (f : S6x20x625x8x128.Idx → F .f32) {t2 t3 : ℕ} (h2 : t2 < 3) (h3 : t3 < 10) :
    (iprop(ml d L mOG ↦[todoSet L (10 * t2 + t3)]{fullShare} f) : sProp 𝕄) ⊢ iprop(((ml d L mOG ↦[outSet (tabN L t2) (chN L t3) 0]{fullShare} f) ∗ (ml d L mOG ↦[outSet (tabN L t2) (chN L t3) 1]{fullShare} f) ∗ (ml d L mOG ↦[outSet (tabN L t2) (chN L t3) 2]{fullShare} f) ∗ (ml d L mOG ↦[outSet (tabN L t2) (chN L t3) 3]{fullShare} f) ∗ (ml d L mOG ↦[outSet (tabN L t2) (chN L t3) 4]{fullShare} f)) ∗ (ml d L mOG ↦[todoSet L (10 * t2 + t3 + 1)]{fullShare} f)) := by
  refine (carve (ℓ := ml d L mOG) (q := fullShare) (f := f) (chan_todo L h2 h3)).trans ?_
  rw [todo_succ L h2 h3, split5 (ℓ := ml d L mOG) (q := fullShare) f (outSet (tabN L t2) (chN L t3)) (chan_eq _ _) (out_disj _ _)]
theorem grad_close (f f' : S6x20x625x8x128.Idx → F .f32) {t2 t3 : ℕ} (h2 : t2 < 3) (h3 : t3 < 10) (h : ∀ p ∈ chanSet (tabN L t2) (chN L t3), f p = f' p) :
    (iprop(((ml d L mOG ↦[outSet (tabN L t2) (chN L t3) 0]{fullShare} f) ∗ (ml d L mOG ↦[outSet (tabN L t2) (chN L t3) 1]{fullShare} f) ∗ (ml d L mOG ↦[outSet (tabN L t2) (chN L t3) 2]{fullShare} f) ∗ (ml d L mOG ↦[outSet (tabN L t2) (chN L t3) 3]{fullShare} f) ∗ (ml d L mOG ↦[outSet (tabN L t2) (chN L t3) 4]{fullShare} f)) ∗ (ml d L mOG ↦[doneSet L (10 * t2 + t3)]{fullShare} f')) : sProp 𝕄) ⊢ iprop(ml d L mOG ↦[doneSet L (10 * t2 + t3 + 1)]{fullShare} f') := by
  have u := uncarve (F := F) (ℓ := ml d L mOG) (q := fullShare) (f := f') (chan_done L h2 h3)
  rw [done_succ L h2 h3, ← (pointsTo_congr h : (iprop(ml d L mOG ↦[chanSet (tabN L t2) (chN L t3)]{fullShare} f) : sProp 𝕄) = iprop(ml d L mOG ↦[chanSet (tabN L t2) (chN L t3)]{fullShare} f')),
    split5 (ℓ := ml d L mOG) (q := fullShare) f (outSet (tabN L t2) (chN L t3)) (chan_eq _ _) (out_disj _ _)] at u
  exact u

/-- Between channels: `n` of the thirty are done. -/
def ChI (fl : S2400.Idx → BitVec 32) (n : ℕ) : sProp 𝕄 :=
  iprop(Lv (F := F) ∗ (ml d L mAcc ↦{fullShare} (fun _ => 0#32 : S625x128.Idx → BitVec 32))
    ∗ (∃ B : S125x128.Idx → F .f32, ml d L mStage ↦{fullShare} B) ∗ (∃ fg : S19x128.Idx → F .f32, ml d L mGV ↦{fullShare} fg) ∗ (ml d L mLenV ↦{fullShare} fl)
    ∗ Free (F := F) d L 0 ∗ Free (F := F) d L 1
    ∗ (ml d L mOF ↦[doneSet L n]{fullShare} fixT g5 ids wts len sc) ∗ (ml d L mOF ↦[todoSet L n]{fullShare} f0)
    ∗ (ml d L mOG ↦[doneSet L n]{fullShare} gradT g5 ids wts len sc) ∗ (ml d L mOG ↦[todoSet L n]{fullShare} g0)
    ∗ (ml d L mIds ↦{q} ids) ∗ (ml d L mWts ↦{q} wts) ∗ (ml d L mG5 ↦{q} g5)
    ∗ OutSems (F := F) d L ∗ semVal (thr d L, .dma (dC 10)) 0 ∗ OW (F := F) d L O W)

set_option maxHeartbeats 4000000 in
theorem t3_step (t2 : Fin k0_t2_loop.trips) (t3 : Fin k0_t3_loop.trips) (arg1 : BitVec 32) (v0 : IVec S16 32) (v10 v15 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hv15 : ∀ x : S16.Idx, v15 x = sc (i1 (32 * (tabN L t2.val) + 16)))
    (fl : S2400.Idx → BitVec 32) (hfl : RowL len (tabN L t2.val) fl) (hO : ∀ g, O g none = 0) (u : Unit) :
    ChI d L q g5 ids wts len sc f0 g0 O W fl (10 * t2.val + t3.val)
      ⊢ wp frame (wpE (defs₀ (F := F)) 𝒱₀ (thr d L) none) Set.univ
          (k0_t3_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15 t3 u)
          (fun _ => ChI d L q g5 ids wts len sc f0 g0 O W fl (10 * t2.val + (t3.val + 1))) := by
  have h2 : t2.val < 3 := lt_of_lt_of_eq t2.isLt trips2
  have h3 : t3.val < 10 := lt_of_lt_of_eq t3.isLt trips3
  have ht : tabN L t2.val < 6 := tabN_lt L h2
  unfold k0_t3_body
  beta_reduce
  rw [k0_part19_eq_skeleton]
  unfold k0_part19_skel
  rw [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  dsimp only
  generalize hQ : ChI d L q g5 ids wts len sc f0 g0 O W fl (10 * t2.val + (t3.val + 1)) = Qn
  unfold ChI
  simp only [Prog.lift, Prog.bind_op, Prog.bind_ret, Prog.pure_eq_ret, Prog.bind_assoc]
  iintro ⟨#Hlv, Ha, ⟨%B, Hst⟩, ⟨%fg, Hg⟩, Hl, HF0, HF1, HFd, HFt, HGd, HGt, Hi, Hw, Hg5, HS, Hs15, HO⟩
  iapply (issue d L q ids wts (tabN L t2.val) 0 0 (by decide) ht (by decide) _ _ _ _ _ _ rfl (cf5 L t2) rfl) $$ [Hi Hw HF0]
  · iframe
  iintro HN
  ihave Hg5 := (carve (ℓ := ml d L mG5) (q := q) (f := g5) (Finset.subset_univ (gSrc _ (k0_off6_inb L t2 t3)).view.set)) $$ Hg5
  icases Hg5 with ⟨Hg5, Hg5r⟩
  iapply (copy_issue d L (src := gSrc _ (k0_off6_inb L t2 t3)) (dst := mGV) (q := q) (fs := g5) (fd := fg) (dC 10) _ Finset.univ (gRow g5 (tabN L t2.val) (chN L t3.val)) (by decide) rfl (View.set_whole _)
    (g_land g5 fg _ _ _ _ (cf6 L t2 t3)) NG rfl NG_pos) $$ [Hg5 Hg Hs15]
  · iframe
  iintro HFl
  iapply (copy_wait d L O W (src := gSrc _ (k0_off6_inb L t2 t3)) (dst := mGV) (dC 10) (by decide) hO NG rfl) $$ [HFl HO]
  · iframe
    iexact Hlv
  iintro ⟨Hg, Hg5⟩ Hs15 HO
  ihave Hg5 := (uncarve (ℓ := ml d L mG5) (q := q) (f := g5) (Finset.subset_univ (gSrc _ (k0_off6_inb L t2 t3)).view.set)) $$ [Hg5 Hg5r]
  · iframe
  iapply (wp_seq (t4_loop d L q g5 ids wts len sc O W t2 t3 (chN L t3.val) (gRow g5 (tabN L t2.val) (chN L t3.val)) fl v0 v10 hlen hids hv0 hv10 (gRow_row g5 _ _) hfl hO)) $$ [Ha Hg Hl HN HF1 HO]
  · unfold T4I Pend
    rw [if_pos (by decide)]
    isplitr; · iexact Hlv
    isplitl [Ha]; · iexact Ha
    iframe
  iintro %_ HT
  unfold T4I Pend
  rw [if_neg (by decide)]
  simp only [Nat.reduceMod, Nat.reduceMul, Nat.reduceAdd]
  have hfix := outF_eq g5 ids wts len sc (tabN L t2.val) (chN L t3.val)
  have hgrad := outG_eq g5 ids wts len sc (tabN L t2.val) (chN L t3.val)
  revert hfix hgrad hv15
  generalize accF g5 ids wts len sc (tabN L t2.val) (chN L t3.val) 2400 = A
  generalize sc (i1 (32 * tabN L t2.val + 16)) = v
  intro hv15 hfix hgrad
  icases HT with ⟨-, Ha, Hg, Hl, ⟨HF0, Hi, Hw⟩, HF1, HO⟩
  ihave Ha := (acc_open d L A) $$ Ha
  icases Ha with ⟨Ha0, Ha1, Ha2, Ha3, Ha4⟩
  ihave HFt := (fix_open d L f0 h2 h3) $$ HFt
  icases HFt with ⟨⟨Hf0, Hf1, Hf2, Hf3, Hf4⟩, HFt⟩
  ihave HGt := (grad_open d L g0 h2 h3) $$ HGt
  icases HGt with ⟨⟨Hg0, Hg1, Hg2, Hg3, Hg4⟩, HGt⟩
  ihave HS := (out_open d L) $$ HS
  icases HS with ⟨Hs0, Hs1, Hs2, Hs3, Hs4, Hs5⟩
  iapply (fixed_issue d L A f0 (tabN L t2.val) (chN L t3.val) 0 (dC 2) (by decide) ![0, 0] _ _ _ rfl (cf15 L t2 t3)) $$ [Ha0 Hf0 Hs0]
  · iframe
  iintro HP0
  iapply (fixed_issue d L A f0 (tabN L t2.val) (chN L t3.val) 1 (dC 3) (by decide) ![125, 0] _ _ _ rfl (cf16 L t2 t3)) $$ [Ha1 Hf1 Hs1]
  · iframe
  iintro HP1
  iapply (fixed_issue d L A f0 (tabN L t2.val) (chN L t3.val) 2 (dC 4) (by decide) ![250, 0] _ _ _ rfl (cf17 L t2 t3)) $$ [Ha2 Hf2 Hs2]
  · iframe
  iintro HP2
  iapply (fixed_issue d L A f0 (tabN L t2.val) (chN L t3.val) 3 (dC 5) (by decide) ![375, 0] _ _ _ rfl (cf18 L t2 t3)) $$ [Ha3 Hf3 Hs3]
  · iframe
  iintro HP3
  iapply (fixed_issue d L A f0 (tabN L t2.val) (chN L t3.val) 4 (dC 6) (by decide) ![500, 0] _ _ _ rfl (cf19 L t2 t3)) $$ [Ha4 Hf4 Hs4]
  · iframe
  iintro HP4
  iapply (fixed_wait d L O W A (tabN L t2.val) (chN L t3.val) 0 (dC 2) (by decide) hO _ _ _ _) $$ [HP0 HO]
  · iframe
    iexact Hlv
  iintro ⟨Hf0, Ha0⟩ Hs0 HO
  iapply (wp_seq (t8_loop d L A v B v15 t2 t3 hv15)) $$ [Ha0 Hst]
  · iframe
  iintro %_ ⟨Ha0, Hst⟩
  iapply (grad_issue d L A v g0 (tabN L t2.val) (chN L t3.val) 0 (dC 7) (by decide) _ _ (cf15 L t2 t3)) $$ [Hst Hg0 Hs5]
  · iframe
  iintro HP5
  iapply (fixed_wait d L O W A (tabN L t2.val) (chN L t3.val) 1 (dC 3) (by decide) hO _ _ _ _) $$ [HP1 HO]
  · iframe
    iexact Hlv
  iintro ⟨Hf1, Ha1⟩ Hs1 HO
  iapply (grad_wait d L O W A v (tabN L t2.val) (chN L t3.val) 0 (dC 7) (by decide) hO _ _) $$ [HP5 HO]
  · iframe
    iexact Hlv
  iintro ⟨Hg0, Hst⟩ Hs5 HO
  iapply (wp_seq (t9_loop d L A v _ v15 t2 t3 hv15)) $$ [Ha1 Hst]
  · iframe
  iintro %_ ⟨Ha1, Hst⟩
  iapply (grad_issue d L A v g0 (tabN L t2.val) (chN L t3.val) 1 (dC 7) (by decide) _ _ (cf16 L t2 t3)) $$ [Hst Hg1 Hs5]
  · iframe
  iintro HP5
  iapply (fixed_wait d L O W A (tabN L t2.val) (chN L t3.val) 2 (dC 4) (by decide) hO _ _ _ _) $$ [HP2 HO]
  · iframe
    iexact Hlv
  iintro ⟨Hf2, Ha2⟩ Hs2 HO
  iapply (grad_wait d L O W A v (tabN L t2.val) (chN L t3.val) 1 (dC 7) (by decide) hO _ _) $$ [HP5 HO]
  · iframe
    iexact Hlv
  iintro ⟨Hg1, Hst⟩ Hs5 HO
  iapply (wp_seq (t10_loop d L A v _ v15 t2 t3 hv15)) $$ [Ha2 Hst]
  · iframe
  iintro %_ ⟨Ha2, Hst⟩
  iapply (grad_issue d L A v g0 (tabN L t2.val) (chN L t3.val) 2 (dC 7) (by decide) _ _ (cf17 L t2 t3)) $$ [Hst Hg2 Hs5]
  · iframe
  iintro HP5
  iapply (fixed_wait d L O W A (tabN L t2.val) (chN L t3.val) 3 (dC 5) (by decide) hO _ _ _ _) $$ [HP3 HO]
  · iframe
    iexact Hlv
  iintro ⟨Hf3, Ha3⟩ Hs3 HO
  iapply (grad_wait d L O W A v (tabN L t2.val) (chN L t3.val) 2 (dC 7) (by decide) hO _ _) $$ [HP5 HO]
  · iframe
    iexact Hlv
  iintro ⟨Hg2, Hst⟩ Hs5 HO
  iapply (wp_seq (t11_loop d L A v _ v15 t2 t3 hv15)) $$ [Ha3 Hst]
  · iframe
  iintro %_ ⟨Ha3, Hst⟩
  iapply (grad_issue d L A v g0 (tabN L t2.val) (chN L t3.val) 3 (dC 7) (by decide) _ _ (cf18 L t2 t3)) $$ [Hst Hg3 Hs5]
  · iframe
  iintro HP5
  iapply (fixed_wait d L O W A (tabN L t2.val) (chN L t3.val) 4 (dC 6) (by decide) hO _ _ _ _) $$ [HP4 HO]
  · iframe
    iexact Hlv
  iintro ⟨Hf4, Ha4⟩ Hs4 HO
  iapply (grad_wait d L O W A v (tabN L t2.val) (chN L t3.val) 3 (dC 7) (by decide) hO _ _) $$ [HP5 HO]
  · iframe
    iexact Hlv
  iintro ⟨Hg3, Hst⟩ Hs5 HO
  iapply (wp_seq (t12_loop d L A v _ v15 t2 t3 arg1 v0 v10 _ _ hv15)) $$ [Ha4 Hst]
  · iframe
  iintro %_ ⟨Ha4, Hst⟩
  iapply (grad_issue d L A v g0 (tabN L t2.val) (chN L t3.val) 4 (dC 7) (by decide) _ _ (cf19 L t2 t3)) $$ [Hst Hg4 Hs5]
  · iframe
  iintro HP5
  iapply (grad_wait d L O W A v (tabN L t2.val) (chN L t3.val) 4 (dC 7) (by decide) hO _ _) $$ [HP5 HO]
  · iframe
    iexact Hlv
  iintro ⟨Hg4, Hst⟩ Hs5 HO
  ihave Ha := (acc_close d L (fun _ => 0#32)) $$ [Ha0 Ha1 Ha2 Ha3 Ha4]
  · iframe
  ihave HFd := (fix_close d L (outF A) (fixT g5 ids wts len sc) h2 h3 hfix) $$ [Hf0 Hf1 Hf2 Hf3 Hf4 HFd]
  · iframe
  ihave HGd := (grad_close d L (outG A v) (gradT g5 ids wts len sc) h2 h3 hgrad) $$ [Hg0 Hg1 Hg2 Hg3 Hg4 HGd]
  · iframe
  ihave HS := (out_close d L) $$ [Hs0 Hs1 Hs2 Hs3 Hs4 Hs5]
  · iframe
  sl_step
  rw [← hQ]
  unfold ChI
  simp only [← Nat.add_assoc]
  isplitr; · iexact Hlv
  isplitl [Ha]; · iexact Ha
  isplitl [Hst]; · iexists _; iexact Hst
  isplitl [Hg]; · iexists _; iexact Hg
  iframe

theorem t3_loop (t2 : Fin k0_t2_loop.trips) (arg1 : BitVec 32) (v0 : IVec S16 32) (v10 v15 : Vec F S16 .f32)
    (hlen : ∀ i, (len i).toInt ≤ 128) (hids : ∀ i, (ids i).toNat < 80000)
    (hv0 : ∀ x : Fin 16, v0 (ix1 x) = BitVec.ofNat 32 x.val)
    (hv10 : ∀ x : Fin 16, v10 (ix1 x) = sc (i1 (32 * (tabN L t2.val) + x.val)))
    (hv15 : ∀ x : S16.Idx, v15 x = sc (i1 (32 * (tabN L t2.val) + 16)))
    (fl : S2400.Idx → BitVec 32) (hfl : RowL len (tabN L t2.val) fl) (hO : ∀ g, O g none = 0) :
    ChI d L q g5 ids wts len sc f0 g0 O W fl (10 * t2.val)
      ⊢ wp frame (wpE (defs₀ (F := F)) 𝒱₀ (thr d L) none) Set.univ
          (Scf.Loop.for k0_t3_loop k0_t3_ok ⟨⟩ (k0_t3_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 v10 v15))
          (fun _ => ChI d L q g5 ids wts len sc f0 g0 O W fl (10 * (t2.val + 1))) :=
  wp_loop (thr d L) none k0_t3_loop k0_t3_ok () _ (fun k _ => ChI d L q g5 ids wts len sc f0 g0 O W fl (10 * t2.val + k)) _
    (fun k u => t3_step d L q g5 ids wts len sc f0 g0 O W t2 k arg1 v0 v10 v15 hlen hids hv0 hv10 hv15 fl hfl hO u)
    (fun u => by
      rw [trips3]
      exact .rfl)

end Channel

end Cert.KernelIdeal.Pf

end
-- ==== Proof.Ideal.Tile9.lean ====
/-
  A whole task.
-/
module

public import proofs.«01_k».proof.Proof.Ideal.Tile8

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Task

variable (d : Dev nD) (L : grid0.Coords) (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)
variable (O : CellTallies nD τ sig (HIx 1)) (W : Waits sig (HIx 1))

/-- The accumulator when its first `n` groups of sixteen are cleared. -/
def zF (a0 : S625x128.Idx → BitVec 32) (n : ℕ) : S625x128.Idx → BitVec 32 := fun p =>
  if 8 * (p 0).val + (p 1).val / 16 < n then 0#32 else a0 p

def ZI (a0 : S625x128.Idx → BitVec 32) (n : ℕ) (_ : Unit) : sProp 𝕄 := iprop(ml d L mAcc ↦{fullShare} (zF a0 n : S625x128.Idx → BitVec 32))

theorem z_land (a0 : S625x128.Idx → BitVec 32) (k : Fin k0_t1_loop.trips) (p : S625x128.Idx) :
    View.write (Elt F) (mAcc.access (Rect.unit (s := S625x128) (k0_off1 k) S1x16.size (k0_off1_inb k))) (zF a0 k.val) (shapeCast S1x16 (k0_pay1 : IVec S16 32) shapeCasts_S16_S1x16) Finset.univ p
      = zF a0 (k.val + 1) p := by
  rw [acc_write16 (Val := Elt F) _ _ _ _ (cf1 k)]
  have hp : (p 1).val < 128 := (p 1).isLt
  split
  · next h =>
    show 0#32 = _
    unfold zF
    rw [if_pos (by omega)]
  · next h =>
    unfold zF
    by_cases h1 : 8 * (p 0).val + (p 1).val / 16 < k.val
    · rw [if_pos h1, if_pos (by omega)]
    · rw [if_neg h1, if_neg (by omega)]

theorem t1_step (a0 : S625x128.Idx → BitVec 32) (k : Fin k0_t1_loop.trips) (u : Unit) :
    ZI (F := F) d L a0 k.val u ⊢ wp frame (wpE (defs₀ (F := F)) 𝒱₀ (thr d L) none) Set.univ
          (k0_t1_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 k u)
          (ZI (F := F) d L a0 (k.val + 1)) := by
  unfold k0_t1_body
  beta_reduce
  simp only [Prog.lift, Prog.bind_op, Prog.bind_ret, Prog.pure_eq_ret]
  unfold ZI
  iintro Ha
  iapply (wp_load_rect 𝒱₀ (thr d L) none Set.univ (m := mAcc) (r := Rect.unit (s := S625x128) (k0_off1 k) S1x16.size (k0_off1_inb k)) (S := Finset.univ) (f := zF a0 k.val) (Finset.subset_univ _)) $$ Ha
  iintro Ha
  iapply (wp_store 𝒱₀ (thr d L) none Set.univ (m := mAcc) (r := Rect.unit (s := S625x128) (k0_off1 k) S1x16.size (k0_off1_inb k)) (S := Finset.univ) (Finset.subset_univ _)) $$ Ha
  iintro Ha
  ihave Ha := (Entails.of_eq (pointsTo_congr (fun p _ => z_land (F := F) a0 k p))) $$ Ha
  sl_step
  iexact Ha

theorem zF_all (a0 : S625x128.Idx → BitVec 32) : zF a0 5000 = fun _ => 0#32 := by
  funext p
  have h0 : (p 0).val < 625 := (p 0).isLt
  have h1 : (p 1).val < 128 := (p 1).isLt
  unfold zF
  exact if_pos (by omega)

theorem zF_none (a0 : S625x128.Idx → BitVec 32) : zF a0 0 = a0 := by
  funext p
  unfold zF
  exact if_neg (by omega)

theorem t1_loop (a0 : S625x128.Idx → BitVec 32) :
    (iprop(ml d L mAcc ↦{fullShare} a0) : sProp 𝕄) ⊢ wp frame (wpE (defs₀ (F := F)) 𝒱₀ (thr d L) none) Set.univ
          (Scf.Loop.for k0_t1_loop k0_t1_ok ⟨⟩ (k0_t1_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2))
          (fun _ => iprop(ml d L mAcc ↦{fullShare} (fun _ => 0#32 : S625x128.Idx → BitVec 32))) := by
  have h0 : (iprop(ml d L mAcc ↦{fullShare} a0) : sProp 𝕄) ⊢ ZI (F := F) d L a0 0 () := by
    unfold ZI
    rw [zF_none]
  refine h0.trans (wp_loop (thr d L) none k0_t1_loop k0_t1_ok () _ (ZI (F := F) d L a0) _ (fun k u => t1_step d L a0 k u) (fun u => ?_))
  rw [trips1]
  unfold ZI
  rw [zF_all]

/-- Between tables. -/
def TabI (n : ℕ) : sProp 𝕄 :=
  iprop(∃ fl : S2400.Idx → BitVec 32, ChI d L q g5 ids wts len sc f0 g0 O W fl n ∗ (ml d L mScV ↦{fullShare} sc) ∗ (ml d L mLen ↦{q} len) ∗ semVal (thr d L, .dma (dC 9)) 0)

theorem read_sc (o inb) (n : ℕ) (h : o = ![n]) (hn : n + 16 ≤ 192) (x : Fin 16) :
    View.read (Elt F) (mScV.access (Rect.unit (s := S192) o S16.size inb)) sc (ix1 x) = sc (i1 (n + x.val)) := by
  subst h
  show sc ((mScV.access (Rect.unit (s := S192) ![n] S16.size inb)).emb (ix1 x)) = _
  refine congrArg sc ?_
  funext a
  apply Fin.ext
  match a with
  | 0 =>
    show n + 1 * x.val = (n + x.val) % 192
    have := x.isLt
    rw [Nat.mod_eq_of_lt (by omega)]
    omega

set_option maxHeartbeats 4000000 in
theorem t2_step (t2 : Fin k0_t2_loop.trips) (arg1 : BitVec 32) (v0 : IVec S16 32)
    (hlen : ∀ i, (len i).toInt ≤ 128) (hids : ∀ i, (ids i).toNat < 80000)
    (hsc : ∀ t x : ℕ, t < 6 → x < 16 → sc (i1 (32 * t + 16 + x)) = sc (i1 (32 * t + 16)))
    (hv0 : ∀ x : Fin 16, v0 (ix1 x) = BitVec.ofNat 32 x.val) (hO : ∀ g, O g none = 0) (u : Unit) :
    TabI d L q g5 ids wts len sc f0 g0 O W (10 * t2.val)
      ⊢ wp frame (wpE (defs₀ (F := F)) 𝒱₀ (thr d L) none) Set.univ
          (k0_t2_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0 t2 u)
          (fun _ => TabI d L q g5 ids wts len sc f0 g0 O W (10 * (t2.val + 1))) := by
  have h2 : t2.val < 3 := lt_of_lt_of_eq t2.isLt trips2
  have ht : tabN L t2.val < 6 := tabN_lt L h2
  unfold k0_t2_body
  beta_reduce
  dsimp only
  generalize hQ : TabI d L q g5 ids wts len sc f0 g0 O W (10 * (t2.val + 1)) = Qn
  unfold TabI
  simp only [Prog.lift, Prog.bind_op, Prog.bind_ret, Prog.pure_eq_ret]
  iintro ⟨%fl, HC, Hscv, Hlen, Hs14⟩
  unfold ChI
  icases HC with ⟨#Hlv, Ha, Hst, Hg, Hl, HF0, HF1, HFd, HFt, HGd, HGt, Hi, Hw, Hg5, HS, Hs15, HO⟩
  ihave Hlen := (carve (ℓ := ml d L mLen) (q := q) (f := len) (Finset.subset_univ (lSrc _ (k0_off2_inb L t2)).view.set)) $$ Hlen
  icases Hlen with ⟨Hlen, Hlenr⟩
  iapply (copy_issue d L (src := lSrc _ (k0_off2_inb L t2)) (dst := mLenV) (q := q) (fs := len) (fd := fl) (dC 9) _ Finset.univ (lRow len (tabN L t2.val)) (by decide) rfl (View.set_whole _)
    (l_land len fl _ _ _ (cf2 L t2)) NL rfl NL_pos) $$ [Hlen Hl Hs14]
  · iframe
  iintro HFl
  iapply (copy_wait d L O W (src := lSrc _ (k0_off2_inb L t2)) (dst := mLenV) (dC 9) (by decide) hO NL rfl) $$ [HFl HO]
  · iframe
    iexact Hlv
  iintro ⟨Hl, Hlen⟩ Hs14 HO
  ihave Hlen := (uncarve (ℓ := ml d L mLen) (q := q) (f := len) (Finset.subset_univ (lSrc _ (k0_off2_inb L t2)).view.set)) $$ [Hlen Hlenr]
  · iframe
  iapply (wp_load_rect 𝒱₀ (thr d L) none Set.univ (m := mScV) (r := Rect.unit (s := S192) (k0_off3 L t2) S16.size (k0_off3_inb L t2)) (S := Finset.univ) (f := sc) (Finset.subset_univ _)) $$ Hscv
  iintro Hscv
  iapply (wp_load_rect 𝒱₀ (thr d L) none Set.univ (m := mScV) (r := Rect.unit (s := S192) (k0_off4 L t2) S16.size (k0_off4_inb L t2)) (S := Finset.univ) (f := sc) (Finset.subset_univ _)) $$ Hscv
  iintro Hscv
  iapply (wp_seq (t3_loop d L q g5 ids wts len sc f0 g0 O W t2 arg1 v0 _ _ hlen hids hv0 (read_sc sc _ _ _ (cf3 L t2) (by omega))
    (fun x => by
      rw [show x = ix1 (x 0) from funext fun a => match a with | 0 => rfl]
      exact (read_sc sc _ _ _ (cf4 L t2) (by omega) (x 0)).trans (hsc _ _ ht (x 0).isLt)) _ (lRow_row len (tabN L t2.val)) hO))
    $$ [Ha Hst Hg Hl HF0 HF1 HFd HFt HGd HGt Hi Hw Hg5 HS Hs15 HO]
  · unfold ChI
    isplitr; · iexact Hlv
    iframe
  iintro %_ HC
  sl_step
  rw [← hQ]
  unfold TabI
  iexists _
  iframe

theorem t2_loop (arg1 : BitVec 32) (v0 : IVec S16 32)
    (hlen : ∀ i, (len i).toInt ≤ 128) (hids : ∀ i, (ids i).toNat < 80000)
    (hsc : ∀ t x : ℕ, t < 6 → x < 16 → sc (i1 (32 * t + 16 + x)) = sc (i1 (32 * t + 16)))
    (hv0 : ∀ x : Fin 16, v0 (ix1 x) = BitVec.ofNat 32 x.val) (hO : ∀ g, O g none = 0) :
    TabI d L q g5 ids wts len sc f0 g0 O W 0
      ⊢ wp frame (wpE (defs₀ (F := F)) 𝒱₀ (thr d L) none) Set.univ
          (Scf.Loop.for k0_t2_loop k0_t2_ok ⟨⟩ (k0_t2_body L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2 arg1 v0))
          (fun _ => TabI d L q g5 ids wts len sc f0 g0 O W 30) :=
  wp_loop (thr d L) none k0_t2_loop k0_t2_ok () _ (fun k _ => TabI d L q g5 ids wts len sc f0 g0 O W (10 * k)) _
    (fun k u => t2_step d L q g5 ids wts len sc f0 g0 O W k arg1 v0 hlen hids hsc hv0 hO u)
    (fun u => by
      rw [trips2])

theorem iota_eq (x : Fin 16) : iota .scVector S16 32 [0] iota_S16_d0_w32_scVector (ix1 x) = BitVec.ofNat 32 x.val := by
  revert x
  decide +kernel

abbrev NSc : ℕ := cc0_scratch6.dmaCredit S192 .f32
theorem NSc_pos : 0 < NSc := by decide

theorem sc_land (fd : S192.Idx → F .f32) :
    ∀ p ∈ (Finset.univ : Finset S192.Idx), mScV.view.write (Elt F) fd (mSc.view.read (Elt F) sc) Finset.univ p = sc p := fun p _ =>
  (View.write_emb_of_mem (v := mScV.view) (Val := Elt F) fd _ (Finset.mem_univ p)).trans rfl

set_option maxHeartbeats 4000000 in
theorem task_wp (hlen : ∀ i, (len i).toInt ≤ 128) (hids : ∀ i, (ids i).toNat < 80000)
    (hsc : ∀ t x : ℕ, t < 6 → x < 16 → sc (i1 (32 * t + 16 + x)) = sc (i1 (32 * t + 16))) (hO : ∀ g, O g none = 0) :
    (iprop(Lv (F := F) ∗ (∃ A : S625x128.Idx → BitVec 32, ml d L mAcc ↦{fullShare} A)
    ∗ (∃ B : S125x128.Idx → F .f32, ml d L mStage ↦{fullShare} B) ∗ (∃ fg : S19x128.Idx → F .f32, ml d L mGV ↦{fullShare} fg)
    ∗ (∃ fl : S2400.Idx → BitVec 32, ml d L mLenV ↦{fullShare} fl) ∗ (∃ fc : S192.Idx → F .f32, ml d L mScV ↦{fullShare} fc)
    ∗ Free (F := F) d L 0 ∗ Free (F := F) d L 1
    ∗ (ml d L mOF ↦[doneSet L 0]{fullShare} fixT g5 ids wts len sc) ∗ (ml d L mOF ↦[todoSet L 0]{fullShare} f0)
    ∗ (ml d L mOG ↦[doneSet L 0]{fullShare} gradT g5 ids wts len sc) ∗ (ml d L mOG ↦[todoSet L 0]{fullShare} g0)
    ∗ (ml d L mIds ↦{q} ids) ∗ (ml d L mWts ↦{q} wts) ∗ (ml d L mG5 ↦{q} g5) ∗ (ml d L mLen ↦{q} len) ∗ (ml d L mSc ↦{q} sc)
    ∗ OutSems (F := F) d L ∗ semVal (thr d L, .dma (dC 8)) 0 ∗ semVal (thr d L, .dma (dC 9)) 0 ∗ semVal (thr d L, .dma (dC 10)) 0 ∗ OW (F := F) d L O W) : sProp 𝕄)
      ⊢ wp frame (wpE (defs₀ (F := F)) 𝒱₀ (thr d L) none) Set.univ
          (cc0_bag_scatter L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2)
          (fun _ => iprop(TabI d L q g5 ids wts len sc f0 g0 O W 30 ∗ (ml d L mSc ↦{q} sc) ∗ semVal (thr d L, .dma (dC 8)) 0)) := by
  rw [cc0_bag_scatter_eq_skeleton]
  unfold cc0_bag_scatter_skel
  beta_reduce
  dsimp only
  simp only [Prog.lift, Prog.bind_op, Prog.bind_ret, Prog.pure_eq_ret]
  generalize hQ : TabI d L q g5 ids wts len sc f0 g0 O W 30 = Qn
  iintro ⟨#Hlv, ⟨%A, Ha⟩, Hst, Hg, ⟨%fl, Hl⟩, ⟨%fc, Hscv⟩, HF0, HF1, HFd, HFt, HGd, HGt, Hi, Hw, Hg5, Hlen, Hsc, HS, Hs13, Hs14, Hs15, HO⟩
  iapply (copy_issue d L (src := mSc) (dst := mScV) (q := q) (fs := sc) (fd := fc) (dC 8) Finset.univ Finset.univ sc (by decide) (View.set_whole _) (View.set_whole _)
    (sc_land sc fc) NSc rfl NSc_pos) $$ [Hsc Hscv Hs13]
  · iframe
  iintro HFl
  iapply (copy_wait d L O W (src := mSc) (dst := mScV) (dC 8) (by decide) hO NSc rfl) $$ [HFl HO]
  · iframe
    iexact Hlv
  iintro ⟨Hscv, Hsc⟩ Hs13 HO
  iapply (wp_seq (t1_loop d L A)) $$ Ha
  iintro %_ Ha
  iapply (wp_seq (t2_loop d L q g5 ids wts len sc f0 g0 O W _ _ hlen hids hsc iota_eq hO)) $$ [Ha Hst Hg Hl Hscv HF0 HF1 HFd HFt HGd HGt Hi Hw Hg5 HS Hs15 HO Hlen Hs14]
  · unfold TabI ChI
    iexists fl
    isplitr [Hscv Hlen Hs14]
    · isplitr; · iexact Hlv
      iframe
    · iframe
  iintro %_ HC
  sl_step
  rw [← hQ]
  iframe

end Task

end Cert.KernelIdeal.Pf

end
-- ==== Proof.Ideal.Task.lean ====
/-
  A task from the storage of its subcore, and the launch of the tasks.
-/
module

public import proofs.«01_k».proof.Proof.Ideal.Tile9

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem sep7 {M : Type} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
theorem sep11 {M : Type} [URA M] (Φ : Fin 11 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The task's scratch buffers. -/
def scr : Fin 7 → Ref sig .scVector := fun
  | 0 => cc0_scratch0 | 1 => cc0_scratch1 | 2 => cc0_scratch2 | 3 => cc0_scratch3 | 4 => cc0_scratch4 | 5 => cc0_scratch5 | 6 => cc0_scratch6
theorem scr_inj : Function.Injective scr := by decide

section Store

variable (d : Dev nD) (L : grid0.Coords)

def cellE : Fin 11 ↪ GSem nD τ sig := ⟨fun n => (thr d L, .dma n), fun _ _ e => SemLoc.dma.inj (Prod.mk.inj e).2⟩
def bufE : Fin 7 ↪ DevRef τ sig := ⟨fun n => (thr d L).2.devRef (scr n), fun _ _ e => scr_inj (Proc.devRef_injective _ e)⟩

theorem cell_scoped : ∀ n : Fin 11, (SemLoc.dma n : SemLoc sig).isScoped .scVector = true := by decide

theorem cells_sub : Finset.univ.map (cellE d L) ⊆ ownCells (thr d L) := by
  intro g hg
  obtain ⟨n, -, rfl⟩ := Finset.mem_map.mp hg
  exact mem_ownCells.mpr ⟨rfl, cell_scoped n⟩
theorem bufs_sub : Finset.univ.map (bufE d L) ⊆ ownRefs (τ := τ) (sig := sig) (thr d L).2 := by
  intro g hg
  obtain ⟨n, -, rfl⟩ := Finset.mem_map.mp hg
  refine SparseCore.Cfg.mem_ownRefs_of_owner ?_
  match n with
  | 0 => rfl | 1 => rfl | 2 => rfl | 3 => rfl | 4 => rfl | 5 => rfl | 6 => rfl

theorem ownSems0_V : (ownSems0 (thr d L) : sProp 𝕄)
    = iprop((semVal (thr d L, .dma (dC 0)) 0 ∗ semVal (thr d L, .dma (dC 1)) 0 ∗ semVal (thr d L, .dma (dC 2)) 0 ∗ semVal (thr d L, .dma (dC 3)) 0
      ∗ semVal (thr d L, .dma (dC 4)) 0 ∗ semVal (thr d L, .dma (dC 5)) 0 ∗ semVal (thr d L, .dma (dC 6)) 0 ∗ semVal (thr d L, .dma (dC 7)) 0
      ∗ semVal (thr d L, .dma (dC 8)) 0 ∗ semVal (thr d L, .dma (dC 9)) 0 ∗ semVal (thr d L, .dma (dC 10)) 0)
      ∗ bigSep (ownCells (thr d L) \ Finset.univ.map (cellE d L)) fun g => semVal g 0) := by
  unfold SparseCore.Cfg.ownSems0
  rw [BI.bigSep_sdiff_split (cells_sub d L), BI.bigSep_map, sep11]
  rfl

theorem ownBufs_V : (ownBufs (thr d L) : sProp 𝕄)
    = iprop(((∃ f : S625x128.Idx → BitVec 32, ml d L mAcc ↦{fullShare} f) ∗ (∃ f : S125x128.Idx → F .f32, ml d L mStage ↦{fullShare} f)
      ∗ (∃ f : S2x40x128.Idx → BitVec 32, ml d L mIdsV ↦{fullShare} f) ∗ (∃ f : S2x40x128.Idx → F .f32, ml d L mWV ↦{fullShare} f)
      ∗ (∃ f : S19x128.Idx → F .f32, ml d L mGV ↦{fullShare} f) ∗ (∃ f : S2400.Idx → BitVec 32, ml d L mLenV ↦{fullShare} f) ∗ (∃ f : S192.Idx → F .f32, ml d L mScV ↦{fullShare} f))
      ∗ bigSep (ownRefs (τ := τ) (sig := sig) (thr d L).2 \ Finset.univ.map (bufE d L)) fun b => iprop(∃ f, ((d, b) : Loc nD τ sig) ↦{fullShare} f)) := by
  unfold SparseCore.Cfg.ownBufs
  rw [BI.bigSep_sdiff_split (bufs_sub d L), BI.bigSep_map, sep7]
  rfl

theorem slot_split {ℓ : Loc nD τ sig} (S T : Finset (Idx ℓ)) (f : Buf (Elt F) ℓ) (h : S ∪ T = Finset.univ) (hd : Disjoint S T) :
    (iprop(ℓ ↦{fullShare} f) : sProp 𝕄) ⊢ iprop((∃ f, ℓ ↦[S]{fullShare} f) ∗ (∃ f, ℓ ↦[T]{fullShare} f)) := by
  rw [← h]
  iintro H
  ihave H := (pointsTo_union hd).1 $$ H
  icases H with ⟨H1, H2⟩
  isplitl [H1]
  · iexists _; iexact H1
  · iexists _; iexact H2

theorem slot_join {ℓ : Loc nD τ sig} (S T : Finset (Idx ℓ)) (h : S ∪ T = Finset.univ) (hd : Disjoint S T) :
    (iprop((∃ f : Buf (Elt F) ℓ, ℓ ↦[S]{fullShare} f) ∗ (∃ f : Buf (Elt F) ℓ, ℓ ↦[T]{fullShare} f)) : sProp 𝕄) ⊢ iprop(∃ f, ℓ ↦{fullShare} f) := by
  iintro ⟨⟨%f, H1⟩, ⟨%g, H2⟩⟩
  ihave H := (pointsTo_join hd) $$ [H1 H2]
  · iframe
  iexists _
  rw [h]
  iexact H

theorem slots_union : slotSet 0 ∪ slotSet 1 = Finset.univ := by
  ext i
  simp only [Finset.mem_union, mem_slotSet, Finset.mem_univ, iff_true]
  have : (i 0).val < 2 := (i 0).isLt
  omega
theorem slots_disj : Disjoint (slotSet 0) (slotSet 1) := by
  rw [Finset.disjoint_left]
  intro i h1 h2
  rw [mem_slotSet] at h1 h2
  omega

theorem done_zero : doneSet L 0 = ∅ := by
  ext p
  simp only [mem_doneSet, Finset.notMem_empty, iff_false]
  omega
theorem todo_zero : todoSet L 0 = doneSet L 30 := by
  ext p
  rw [mem_doneSet, mem_todoSet]
  omega

variable (q : PosShare TreeShare)
variable (g5 : S6x20x19x8x128.Idx → F .f32) (ids : S6x2400x128.Idx → BitVec 32) (wts : S6x2400x128.Idx → F .f32)
  (len : S6x2400.Idx → BitVec 32) (sc : S192.Idx → F .f32)
variable (f0 : S6x20x625x8x128.Idx → BitVec 32) (g0 : S6x20x625x8x128.Idx → F .f32)

/-- A task's share of the arrays read. -/
def InT : sProp 𝕄 := iprop((ml d L mIds ↦{q} ids) ∗ (ml d L mWts ↦{q} wts) ∗ (ml d L mG5 ↦{q} g5) ∗ (ml d L mLen ↦{q} len) ∗ (ml d L mSc ↦{q} sc))
/-- A task's part of the results. -/
def OutT (f : S6x20x625x8x128.Idx → BitVec 32) (g : S6x20x625x8x128.Idx → F .f32) : sProp 𝕄 :=
  iprop((ml d L mOF ↦[doneSet L 30]{fullShare} f) ∗ (ml d L mOG ↦[doneSet L 30]{fullShare} g))

set_option maxHeartbeats 4000000 in
theorem tile_body (hlen : ∀ i, (len i).toInt ≤ 128) (hids : ∀ i, (ids i).toNat < 80000)
    (hsc : ∀ t x : ℕ, t < 6 → x < 16 → sc (i1 (32 * t + 16 + x)) = sc (i1 (32 * t + 16)))
    (hF : (K (F := F)).Facts) (O : CellTallies nD τ sig (HIx 1)) (W : Waits sig (HIx 1)) (hO : ∀ g, O g none = 0) :
    iprop(levAts (K (F := F)).L (K (F := F)).lev ∗ emp
        ∗ (InT d L q g5 ids wts len sc ∗ OutT d L f0 g0)
        ∗ scopedBufs (thr d L) ∗ scopedSems0 (thr d L) ∗ owes (thr d L) O W)
      ⊢ wp frame (wpE (defs₀ (F := F)) 𝒱₀ (thr d L) none) Set.univ
          (cc0_bag_scatter L mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2)
          fun _ => iprop((InT d L q g5 ids wts len sc ∗ OutT d L (fixT g5 ids wts len sc) (gradT g5 ids wts len sc)) ∗ scopedBufs (thr d L) ∗ scopedSems0 (thr d L)
            ∗ ∃ W', ⌜∀ p ∈ W', p ∈ W ∨ p.2 = none⌝ ∗ owes (thr d L) O W') := by
  rw [(K (F := F)).scopedBufs_V hF d ((L 0).castLE hcore0) ((L 1).castLE hsub0), SparseCore.Cfg.scopedSems0_V (Val := Elt F) d ((L 0).castLE hcore0) ((L 1).castLE hsub0), ownSems0_V, ownBufs_V]
  unfold InT OutT
  iintro ⟨#Hlv, -, ⟨⟨Hi, Hw, Hg5, Hlen, Hsc⟩, ⟨HF, HG⟩⟩, ⟨⟨Ha, Hst, ⟨%fi, Hiv⟩, ⟨%fw, Hwv⟩, Hg, Hl, Hscv⟩, Hbufs⟩, ⟨⟨Hs0, Hs1, Hs2, Hs3, Hs4, Hs5, Hs6, Hs7, Hs8, Hs9, Hs10⟩, Hsems⟩, HO⟩
  ihave Hiv := (slot_split (ℓ := ml d L mIdsV) (slotSet 0) (slotSet 1) fi slots_union slots_disj) $$ Hiv
  icases Hiv with ⟨Hi0, Hi1⟩
  ihave Hwv := (slot_split (ℓ := ml d L mWV) (slotSet 0) (slotSet 1) fw slots_union slots_disj) $$ Hwv
  icases Hwv with ⟨Hw0, Hw1⟩
  iapply (wp_wand frame _ Set.univ) $$ [Hi Hw Hg5 Hlen Hsc HF HG Ha Hst Hi0 Hi1 Hw0 Hw1 Hg Hl Hscv Hs0 Hs1 Hs2 Hs3 Hs4 Hs5 Hs6 Hs7 Hs8 Hs9 Hs10 HO]
  · iapply (task_wp d L q g5 ids wts len sc f0 g0 O W hlen hids hsc hO)
    rw [done_zero, todo_zero, pointsTo_empty, pointsTo_empty]
    unfold Free OutSems OW
    isplitr; · iexact Hlv
    isplitl [Ha]; · iexact Ha
    isplitl [Hst]; · iexact Hst
    isplitl [Hg]; · iexact Hg
    isplitl [Hl]; · iexact Hl
    isplitl [Hscv]; · iexact Hscv
    isplitl [Hi0 Hw0 Hs0]
    · isplitl [Hi0]; · iexact Hi0
      isplitl [Hw0]; · iexact Hw0
      iexact Hs0
    isplitl [Hi1 Hw1 Hs1]
    · isplitl [Hi1]; · iexact Hi1
      isplitl [Hw1]; · iexact Hw1
      iexact Hs1
    isplitr; · iempintro
    isplitl [HF]; · iexact HF
    isplitr; · iempintro
    isplitl [HG]; · iexact HG
    isplitl [Hi]; · iexact Hi
    isplitl [Hw]; · iexact Hw
    isplitl [Hg5]; · iexact Hg5
    isplitl [Hlen]; · iexact Hlen
    isplitl [Hsc]; · iexact Hsc
    isplitl [Hs2 Hs3 Hs4 Hs5 Hs6 Hs7]
    · iframe
    isplitl [Hs8]; · iexact Hs8
    isplitl [Hs9]; · iexact Hs9
    isplitl [Hs10]; · iexact Hs10
    iexists W
    isplitr
    · ipureintro; exact fun p hp => Or.inl hp
    · iexact HO
  iintro %_ ⟨HT, Hsc, Hs8⟩
  unfold TabI ChI Free OutSems OW
  icases HT with ⟨%fl, ⟨-, Ha, Hst, Hg, Hl, ⟨Hi0, Hw0, Hs0⟩, ⟨Hi1, Hw1, Hs1⟩, HF, -, HG, -, Hi, Hw, Hg5, ⟨Hs2, Hs3, Hs4, Hs5, Hs6, Hs7⟩, Hs10, HO⟩, Hscv, Hlen, Hs9⟩
  isplitl [Hi Hw Hg5 Hlen Hsc HF HG]
  · isplitl [Hi Hw Hg5 Hlen Hsc]
    · iframe
    · iframe
  isplitl [Ha Hst Hi0 Hi1 Hw0 Hw1 Hg Hl Hscv Hbufs]
  · isplitr [Hbufs]
    · isplitl [Ha]; · iexists _; iexact Ha
      isplitl [Hst]; · iexact Hst
      isplitl [Hi0 Hi1]
      · iapply (slot_join (ℓ := ml d L mIdsV) (slotSet 0) (slotSet 1) slots_union slots_disj)
        iframe
      isplitl [Hw0 Hw1]
      · iapply (slot_join (ℓ := ml d L mWV) (slotSet 0) (slotSet 1) slots_union slots_disj)
        iframe
      isplitl [Hg]; · iexact Hg
      isplitl [Hl]; · iexists _; iexact Hl
      iexists _; iexact Hscv
    · iexact Hbufs
  isplitr [HO]
  · isplitr [Hsems]
    · isplitl [Hs0]; · iexact Hs0
      isplitl [Hs1]; · iexact Hs1
      iframe
    · iexact Hsems
  · iexact HO

end Store

end Cert.KernelIdeal.Pf

end
-- ==== Proof.Ideal.HostOps.lean ====
/-
  The host operations of the kernel's program: @main as the list of its operations before the call, the call, and the list of
  its operations after it, with what each array the proof reads holds after either list.
-/
module

public import proofs.«01_k».proof.Proof.Gen.KernelIdeal
public import Idealize.ShloMosaic.Lib.StableHlo.Run
public import Idealize.ShloMosaic.Lib.Pipeline.Frame

@[expose] public section

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The table of scales: for each table the step's inverse and the step. -/
def scales (a b : (⟨S6, .f32⟩ : BufTy).Contents (Elt F)) : (⟨S6x2, .f32⟩ : BufTy).Contents (Elt F) :=
  concatenate S6x2 1 [⟨S6x1, broadcastInDim S6x1 ![0] bcast_S6_S6x1_0 a⟩, ⟨S6x1, broadcastInDim S6x1 ![0] bcast_S6_S6x1_0 b⟩] concatenates_S6x1_S6x1_S6x2_d1

/-- The concatenation by name, so that its operands are plain arguments. -/
def fn_main_v2 : (⟨S6x1, .f32⟩ : BufTy).Contents (Elt F) → (⟨S6x1, .f32⟩ : BufTy).Contents (Elt F) → (⟨S6x2, .f32⟩ : BufTy).Contents (Elt F) :=
  (fun a b => concatenate S6x2 1 [⟨S6x1, a⟩, ⟨S6x1, b⟩] concatenates_S6x1_S6x1_S6x2_d1)

/-- @main's operations before the call. -/
abbrev ops : List (HloOp τ sig (Elt F)) :=
  [ unary main_arg4 main_v0 (broadcastInDim S6x1 ![0] bcast_S6_S6x1_0 : (⟨S6, .f32⟩ : BufTy).Contents (Elt F) → (⟨S6x1, .f32⟩ : BufTy).Contents (Elt F)),
    unary main_arg5 main_v1 (broadcastInDim S6x1 ![0] bcast_S6_S6x1_0 : (⟨S6, .f32⟩ : BufTy).Contents (Elt F) → (⟨S6x1, .f32⟩ : BufTy).Contents (Elt F)),
    binary main_v0 main_v1 main_v2 fn_main_v2,
    unary main_v2 main_v3 (broadcastInDim S6x2x1 ![0, 1] bcast_S6x2_S6x2x1_0_1 : (⟨S6x2, .f32⟩ : BufTy).Contents (Elt F) → (⟨S6x2x1, .f32⟩ : BufTy).Contents (Elt F)),
    unary main_v3 main_v4 (broadcastInDim S6x2x16 ![0, 1, 2] bcast_S6x2x1_S6x2x16_0_1_2 : (⟨S6x2x1, .f32⟩ : BufTy).Contents (Elt F) → (⟨S6x2x16, .f32⟩ : BufTy).Contents (Elt F)),
    reshape main_v4 main_v5 (rfl : (.f32 : EltTy) = .f32) shapeCasts_S6x2x16_S192,
    reshape main_arg0 main_v6 (rfl : (.f32 : EltTy) = .f32) shapeCasts_S6x160x2432_S6x20x8x19x128,
    unary main_v6 main_v7 ((transpose S6x20x19x8x128 [0, 1, 3, 2, 4] · transposes_S6x20x8x19x128_S6x20x19x8x128_0_1_3_2_4) : (⟨S6x20x8x19x128, .f32⟩ : BufTy).Contents (Elt F) → (⟨S6x20x19x8x128, .f32⟩ : BufTy).Contents (Elt F)),
    unary main_arg1 main_v8 ((transpose S6x2400x128 [1, 0, 2] · transposes_S2400x6x128_S6x2400x128_1_0_2) : (⟨S2400x6x128, .i32⟩ : BufTy).Contents (Elt F) → (⟨S6x2400x128, .i32⟩ : BufTy).Contents (Elt F)),
    unary main_arg2 main_v9 ((transpose S6x2400x128 [1, 0, 2] · transposes_S2400x6x128_S6x2400x128_1_0_2) : (⟨S2400x6x128, .f32⟩ : BufTy).Contents (Elt F) → (⟨S6x2400x128, .f32⟩ : BufTy).Contents (Elt F)),
    unary main_arg3 main_v10 ((transpose S6x2400 [1, 0] · transposes_S2400x6_S6x2400_1_0) : (⟨S2400x6, .i32⟩ : BufTy).Contents (Elt F) → (⟨S6x2400, .i32⟩ : BufTy).Contents (Elt F)) ]

theorem scopedRefs_eq : (Finset.univ.filter fun b : Ref sig .tc => b.isScoped) = ∅ := by decide
theorem ops_sub : (ops : List (HloOp τ sig (Elt F))).Forall fun op => op.bufs ⊆ tcRefs τ sig :=
  ⟨unary_bufs_sub .., unary_bufs_sub .., binary_bufs_sub .., unary_bufs_sub .., unary_bufs_sub .., reshape_bufs_sub .., reshape_bufs_sub .., unary_bufs_sub .., unary_bufs_sub .., unary_bufs_sub .., unary_bufs_sub ..⟩
theorem ops_fresh : ∀ op ∈ (ops : List (HloOp τ sig (Elt F))), op.fresh = ∅ := by
  have h : (ops : List (HloOp τ sig (Elt F))).Forall fun op => op.fresh = ∅ := ⟨rfl, rfl, rfl, rfl, rfl, rfl, rfl, rfl, rfl, rfl, rfl⟩
  exact List.forall_iff_forall_mem.mp h

/-- The buffers the operations before the call write. -/
abbrev ops_W : List (Ref sig .tc) := [main_v0, main_v1, main_v2, main_v3, main_v4, main_v5, main_v6, main_v7, main_v8, main_v9, main_v10]
theorem ops_writes : (ops : List (HloOp τ sig (Elt F))).Forall fun op => op.writes ⊆ (ops_W.map (Proc.devRef (τ := τ) .tc)).toFinset := by
  simp only [List.Forall]
  refine ⟨?_, ?_, ?_, ?_, ?_, ?_, ?_, ?_, ?_, ?_, ?_⟩ <;>
    (simp only [unary_writes, binary_writes, reshape_writes, Finset.singleton_subset_iff, List.mem_toFinset]; exact List.mem_map_of_mem (by decide))

/-- The device's buffer contents before the call. -/
def val1 (V0 : Valuation τ sig (Elt F)) : Valuation τ sig (Elt F) := after ops V0
theorem after_ops (V0 : Valuation τ sig (Elt F)) : after ops V0 = val1 V0 := rfl

/-- A buffer the operations before the call do not write keeps its contents. -/
theorem val1_keep (V0 : Valuation τ sig (Elt F)) (r : Ref sig .tc) (h : r ∉ ops_W) :
    val1 V0 (Proc.devRef .tc r) = V0 (Proc.devRef .tc r) :=
  after_of_writes_sub ops _ ops_writes h

theorem val1_main_v5 (V0 : Valuation τ sig (Elt F)) : val1 V0 (Proc.devRef .tc main_v5)
    = shapeCast S192 (broadcastInDim S6x2x16 ![0, 1, 2] bcast_S6x2x1_S6x2x16_0_1_2 (broadcastInDim S6x2x1 ![0, 1] bcast_S6x2_S6x2x1_0_1
        (scales (V0 (Proc.devRef .tc main_arg4)) (V0 (Proc.devRef .tc main_arg5))))) shapeCasts_S6x2x16_S192 := by
  unfold val1
  simp only [ops]
  after_results_simp
  rfl
theorem val1_main_v7 (V0 : Valuation τ sig (Elt F)) : val1 V0 (Proc.devRef .tc main_v7)
    = transpose S6x20x19x8x128 [0, 1, 3, 2, 4] (shapeCast _ (V0 (Proc.devRef .tc main_arg0)) shapeCasts_S6x160x2432_S6x20x8x19x128) transposes_S6x20x8x19x128_S6x20x19x8x128_0_1_3_2_4 := by
  unfold val1
  simp only [ops]
  after_results_simp
  rfl
theorem val1_main_v8 (V0 : Valuation τ sig (Elt F)) : val1 V0 (Proc.devRef .tc main_v8)
    = transpose S6x2400x128 [1, 0, 2] (V0 (Proc.devRef .tc main_arg1)) transposes_S2400x6x128_S6x2400x128_1_0_2 := by
  unfold val1
  simp only [ops]
  after_results_simp
theorem val1_main_v9 (V0 : Valuation τ sig (Elt F)) : val1 V0 (Proc.devRef .tc main_v9)
    = transpose S6x2400x128 [1, 0, 2] (V0 (Proc.devRef .tc main_arg2)) transposes_S2400x6x128_S6x2400x128_1_0_2 := by
  unfold val1
  simp only [ops]
  after_results_simp
theorem val1_main_v10 (V0 : Valuation τ sig (Elt F)) : val1 V0 (Proc.devRef .tc main_v10)
    = transpose S6x2400 [1, 0] (V0 (Proc.devRef .tc main_arg3)) transposes_S2400x6_S6x2400_1_0 := by
  unfold val1
  simp only [ops]
  after_results_simp

/-- @main's operations after the call. -/
abbrev post : List (HloOp τ sig (Elt F)) :=
  [ unary main_v11_0 main_v12 ((transpose S6x625x128x20x8 [0, 2, 4, 1, 3] · transposes_S6x20x625x8x128_S6x625x128x20x8_0_2_4_1_3) : (⟨S6x20x625x8x128, .f32⟩ : BufTy).Contents (Elt F) → (⟨S6x625x128x20x8, .f32⟩ : BufTy).Contents (Elt F)),
    reshape main_v12 main_v13 (rfl : (.f32 : EltTy) = .f32) shapeCasts_S6x625x128x20x8_S6x80000x160,
    unary main_v11_1 main_v14 ((transpose S6x625x128x20x8 [0, 2, 4, 1, 3] · transposes_S6x20x625x8x128_S6x625x128x20x8_0_2_4_1_3) : (⟨S6x20x625x8x128, .i32⟩ : BufTy).Contents (Elt F) → (⟨S6x625x128x20x8, .i32⟩ : BufTy).Contents (Elt F)),
    reshape main_v14 main_v15 (rfl : (.i32 : EltTy) = .i32) shapeCasts_S6x625x128x20x8_S6x80000x160 ]

theorem post_sub : (post : List (HloOp τ sig (Elt F))).Forall fun op => op.bufs ⊆ tcRefs τ sig :=
  ⟨unary_bufs_sub .., reshape_bufs_sub .., unary_bufs_sub .., reshape_bufs_sub ..⟩
theorem post_fresh : ∀ op ∈ (post : List (HloOp τ sig (Elt F))), op.fresh = ∅ := by
  have h : (post : List (HloOp τ sig (Elt F))).Forall fun op => op.fresh = ∅ := ⟨rfl, rfl, rfl, rfl⟩
  exact List.forall_iff_forall_mem.mp h

/-- The buffers the operations after the call write. -/
abbrev post_W : List (Ref sig .tc) := [main_v12, main_v13, main_v14, main_v15]
theorem post_writes : (post : List (HloOp τ sig (Elt F))).Forall fun op => op.writes ⊆ (post_W.map (Proc.devRef (τ := τ) .tc)).toFinset := by
  simp only [List.Forall]
  refine ⟨?_, ?_, ?_, ?_⟩ <;> (simp only [unary_writes, reshape_writes, Finset.singleton_subset_iff, List.mem_toFinset]; exact List.mem_map_of_mem (by decide))
/-- A buffer the operations after the call do not write keeps its contents. -/
theorem post_keep (V : Valuation τ sig (Elt F)) (r : Ref sig .tc) (h : r ∉ post_W) :
    after post V (Proc.devRef .tc r) = V (Proc.devRef .tc r) :=
  after_of_writes_sub post _ post_writes h
theorem post_main_v13 (V : Valuation τ sig (Elt F)) : after post V (Proc.devRef .tc main_v13)
    = shapeCast S6x80000x160 (transpose S6x625x128x20x8 [0, 2, 4, 1, 3] (V (Proc.devRef .tc main_v11_0)) transposes_S6x20x625x8x128_S6x625x128x20x8_0_2_4_1_3) shapeCasts_S6x625x128x20x8_S6x80000x160 := by
  simp only [post]
  after_results_simp
  rfl
theorem post_main_v15 (V : Valuation τ sig (Elt F)) : after post V (Proc.devRef .tc main_v15)
    = shapeCast S6x80000x160 (transpose S6x625x128x20x8 [0, 2, 4, 1, 3] (V (Proc.devRef .tc main_v11_1)) transposes_S6x20x625x8x128_S6x625x128x20x8_0_2_4_1_3) shapeCasts_S6x625x128x20x8_S6x80000x160 := by
  simp only [post]
  after_results_simp
  rfl

set_option maxRecDepth 8192 in
set_option maxHeartbeats 4000000 in
/-- @main is the operations before the call, the call, and the operations after it. -/
theorem main_eq (d : Dev nD) : main (F := F) d = (seq ops >>= fun _ => sc.run d 0 >>= fun _ => seq post) := rfl

end Cert.KernelIdeal.Host

end
-- ==== Proof.Ideal.Launch.lean ====
/-
  The launch: how the arrays split among the tasks, each task from its part, and @main around the call — hence the program's run,
  with every array of the TensorCore at what the operations and the tasks leave in it.
-/
module

public import proofs.«01_k».proof.Proof.Ideal.Task
public import proofs.«01_k».proof.Proof.Ideal.HostOps
public import Idealize.ShloMosaic.Lib.ShareLeaves

@[expose] public section

set_option Elab.async false

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after tcRefs launchContents)
open Idealize.ShloMosaic.ShareLeaves (leaf pointsTo_leaves)

variable {F : FTy → Type} [FloatOps F]

local notation "𝕄" => MT nD τ sig (HIx 1) (Elt F) ℕ UU ℕ

theorem sep_assoc_eq' {M : Type _} [RA M] (P Q R : sProp M) : iprop((P ∗ Q) ∗ R) = iprop(P ∗ Q ∗ R) := equiv_iff.mp ⟨BI.sep_assoc, BI.sep_assoc'⟩

/-! ## The arrays of the call -/

abbrev rG5 : DevRef τ sig := Proc.devRef .tc main_v7
abbrev rIds : DevRef τ sig := Proc.devRef .tc main_v8
abbrev rWts : DevRef τ sig := Proc.devRef .tc main_v9
abbrev rLen : DevRef τ sig := Proc.devRef .tc main_v10
abbrev rSc : DevRef τ sig := Proc.devRef .tc main_v5
abbrev rOG : DevRef τ sig := Proc.devRef .tc main_v11_0
abbrev rOF : DevRef τ sig := Proc.devRef .tc main_v11_1

/-- The coordinates of task `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))
abbrev L2 (c : Fin 2) (i : Fin 16) : grid0.Coords := coordsV c i

/-- The elements of the results that SparseCore `c` computes: its three tables. -/
def coreSet (c : Fin 2) : Finset S6x20x625x8x128.Idx := Finset.univ.filter fun p => 3 * c.val ≤ (p 0).val ∧ (p 0).val < 3 * c.val + 3
theorem mem_coreSet {c : Fin 2} {p : S6x20x625x8x128.Idx} : p ∈ coreSet c ↔ 3 * c.val ≤ (p 0).val ∧ (p 0).val < 3 * c.val + 3 := by simp [coreSet]

theorem mem_done30 {c : Fin 2} {i : Fin 16} {p : S6x20x625x8x128.Idx} : p ∈ doneSet (L2 c i) 30 ↔
    (3 * c.val ≤ (p 0).val ∧ (p 0).val < 3 * c.val + 3) ∧ (10 * i.val ≤ 8 * (p 1).val + (p 3).val ∧ 8 * (p 1).val + (p 3).val < 10 * i.val + 10) := by
  rw [mem_doneSet]
  show (3 * c.val ≤ (p 0).val ∧ (p 0).val < 3 * c.val + 3 ∧ 10 * i.val ≤ 8 * (p 1).val + (p 3).val ∧ 8 * (p 1).val + (p 3).val < 10 * i.val + 10)
    ∧ 10 * ((p 0).val - 3 * c.val) + (8 * (p 1).val + (p 3).val - 10 * i.val) < 30 ↔ _
  omega

theorem cores_disj : ∀ c ∈ (Finset.univ : Finset (Fin 2)), ∀ c' ∈ (Finset.univ : Finset (Fin 2)), c ≠ c' → Disjoint (coreSet c) (coreSet c') := by
  intro c _ c' _ h
  rw [Finset.disjoint_left]
  intro p h1 h2
  rw [mem_coreSet] at h1 h2
  exact h (Fin.ext (by omega))
theorem cores_cover : (Finset.univ : Finset (Fin 2)).biUnion coreSet = Finset.univ := by
  ext p
  simp only [Finset.mem_biUnion, Finset.mem_univ, true_and, iff_true, mem_coreSet]
  have h : (p 0).val < 6 := (p 0).isLt
  refine ⟨⟨(p 0).val / 3, by omega⟩, ?_, ?_⟩
  · show 3 * ((p 0).val / 3) ≤ (p 0).val; omega
  · show (p 0).val < 3 * ((p 0).val / 3) + 3; omega
theorem tasks_disj (c : Fin 2) : ∀ i ∈ (Finset.univ : Finset (Fin 16)), ∀ j ∈ (Finset.univ : Finset (Fin 16)), i ≠ j →
    Disjoint (doneSet (L2 c i) 30) (doneSet (L2 c j) 30) := by
  intro i _ j _ h
  rw [Finset.disjoint_left]
  intro p h1 h2
  rw [mem_done30] at h1 h2
  exact h (Fin.ext (by omega))
theorem tasks_cover (c : Fin 2) : (Finset.univ : Finset (Fin 16)).biUnion (fun i => doneSet (L2 c i) 30) = coreSet c := by
  ext p
  simp only [Finset.mem_biUnion, Finset.mem_univ, true_and, mem_done30, mem_coreSet]
  have h1 : (p 1).val < 20 := (p 1).isLt
  have h3 : (p 3).val < 8 := (p 3).isLt
  constructor
  · rintro ⟨i, h, -⟩; exact h
  · intro h
    refine ⟨⟨(8 * (p 1).val + (p 3).val) / 10, by omega⟩, h, ?_, ?_⟩
    · show 10 * ((8 * (p 1).val + (p 3).val) / 10) ≤ _; omega
    · show _ < 10 * ((8 * (p 1).val + (p 3).val) / 10) + 10; omega

/-! ## The split -/

section Split

variable (d : Dev nD)
variable (g5 : S6x20x19x8x128.Idx → F .f32) (ids : S6x2400x128.Idx → BitVec 32) (wts : S6x2400x128.Idx → F .f32)
  (len : S6x2400.Idx → BitVec 32) (sc : S192.Idx → F .f32)

/-- The arrays the call reads, at a share. -/
def inP (q : PosShare TreeShare) : sProp 𝕄 :=
  iprop((((d, rIds) : Loc nD τ sig) ↦{q} ids) ∗ (((d, rWts) : Loc nD τ sig) ↦{q} wts) ∗ (((d, rG5) : Loc nD τ sig) ↦{q} g5)
    ∗ (((d, rLen) : Loc nD τ sig) ↦{q} len) ∗ (((d, rSc) : Loc nD τ sig) ↦{q} sc))
/-- A part of the results. -/
def outP (I : Finset S6x20x625x8x128.Idx) (f : S6x20x625x8x128.Idx → BitVec 32) (g : S6x20x625x8x128.Idx → F .f32) : sProp 𝕄 :=
  iprop((((d, rOF) : Loc nD τ sig) ↦[I]{fullShare} f) ∗ (((d, rOG) : Loc nD τ sig) ↦[I]{fullShare} g))

theorem inP_leaves (n : ℕ) (q : PosShare TreeShare) :
    (inP d g5 ids wts len sc q : sProp 𝕄) = bigSep Finset.univ fun i : Fin (2 ^ n) => inP d g5 ids wts len sc (leaf n q i) := by
  unfold inP
  rw [bigSep_sep', bigSep_sep', bigSep_sep', bigSep_sep', ← pointsTo_leaves, ← pointsTo_leaves, ← pointsTo_leaves, ← pointsTo_leaves, ← pointsTo_leaves]

/-- The share of SparseCore `c`, and of task `i` of it. -/
abbrev qc (c : Fin 2) : PosShare TreeShare := leaf 1 fullShare c
abbrev qi (c : Fin 2) (i : Fin 16) : PosShare TreeShare := leaf 4 (qc c) i

variable (f : S6x20x625x8x128.Idx → BitVec 32) (g : S6x20x625x8x128.Idx → F .f32)

def wholeP : sProp 𝕄 := iprop(inP d g5 ids wts len sc fullShare ∗ outP d Finset.univ f g)
def coreP (c : Fin 2) : sProp 𝕄 := iprop(inP d g5 ids wts len sc (qc c) ∗ outP d (coreSet c) f g)
def taskP (c : Fin 2) (i : Fin 16) : sProp 𝕄 := iprop(inP d g5 ids wts len sc (qi c i) ∗ outP d (doneSet (L2 c i) 30) f g)

theorem outP_cores : (outP d Finset.univ f g : sProp 𝕄) = bigSep Finset.univ fun c : Fin 2 => outP d (coreSet c) f g := by
  unfold outP
  rw [bigSep_sep', ← pointsTo_biUnion Finset.univ (ℓ := ((d, rOF) : Loc nD τ sig)) coreSet cores_disj,
    ← pointsTo_biUnion Finset.univ (ℓ := ((d, rOG) : Loc nD τ sig)) coreSet cores_disj, cores_cover]
theorem outP_tasks (c : Fin 2) : (outP d (coreSet c) f g : sProp 𝕄) = bigSep Finset.univ fun i : Fin 16 => outP d (doneSet (L2 c i) 30) f g := by
  unfold outP
  rw [bigSep_sep', ← pointsTo_biUnion Finset.univ (ℓ := ((d, rOF) : Loc nD τ sig)) (fun i => doneSet (L2 c i) 30) (tasks_disj c),
    ← pointsTo_biUnion Finset.univ (ℓ := ((d, rOG) : Loc nD τ sig)) (fun i => doneSet (L2 c i) 30) (tasks_disj c), tasks_cover]

theorem wholeP_cores : (wholeP d g5 ids wts len sc f g : sProp 𝕄) = bigSep Finset.univ fun c : Fin 2 => coreP d g5 ids wts len sc f g c := by
  unfold wholeP coreP
  rw [bigSep_sep', ← outP_cores]
  congr 1
  exact inP_leaves d g5 ids wts len sc 1 fullShare
theorem coreP_tasks (c : Fin 2) : (coreP d g5 ids wts len sc f g c : sProp 𝕄) = bigSep Finset.univ fun i : Fin 16 => taskP d g5 ids wts len sc f g c i := by
  unfold coreP taskP
  rw [bigSep_sep', ← outP_tasks]
  congr 1
  exact inP_leaves d g5 ids wts len sc 4 (qc c)

instance coreP_storable (c : Fin 2) : BI.Storable (upEmb : UEmb _ 𝕄) (coreP d g5 ids wts len sc f g c) := by
  unfold coreP inP outP; infer_instance
instance taskP_storable (c : Fin 2) (i : Fin 16) : BI.Storable (upEmb : UEmb _ 𝕄) (taskP d g5 ids wts len sc f g c i) := by
  unfold taskP inP outP; infer_instance

end Split

/-! ## The contents around the call -/

section Run

variable (m : (ℓ : Loc nD τ sig) → Buf (Elt F) ℓ) (ρ : Dev nD → PrngReg)

/-- The contents before the call. -/
def V1 (d : Dev nD) : Valuation τ sig (Elt F) := after Host.ops (launchContents m d)
abbrev vG5 (d : Dev nD) : S6x20x19x8x128.Idx → F .f32 := V1 m d rG5
abbrev vIds (d : Dev nD) : S6x2400x128.Idx → BitVec 32 := V1 m d rIds
abbrev vWts (d : Dev nD) : S6x2400x128.Idx → F .f32 := V1 m d rWts
abbrev vLen (d : Dev nD) : S6x2400.Idx → BitVec 32 := V1 m d rLen
abbrev vSc (d : Dev nD) : S192.Idx → F .f32 := V1 m d rSc
/-- What the tasks leave. -/
abbrev fixV (d : Dev nD) : S6x20x625x8x128.Idx → BitVec 32 := fixT (vG5 m d) (vIds m d) (vWts m d) (vLen m d) (vSc m d)
abbrev gradVV (d : Dev nD) : S6x20x625x8x128.Idx → F .f32 := gradT (vG5 m d) (vIds m d) (vWts m d) (vLen m d) (vSc m d)
/-- The contents after the call. -/
def V2 (d : Dev nD) : Valuation τ sig (Elt F) := Function.update (Function.update (V1 m d) rOG (gradVV m d)) rOF (fixV m d)
/-- The contents at the end. -/
def V3 (d : Dev nD) : Valuation τ sig (Elt F) := after Host.post (V2 m d)

/-- What the tasks need of the arrays they read. -/
structure OkIn (d : Dev nD) : Prop where
  len : ∀ i, (vLen m d i).toInt ≤ 128
  ids : ∀ i, (vIds m d i).toNat < 80000
  sc : ∀ t x : ℕ, t < 6 → x < 16 → vSc m d (i1 (32 * t + 16 + x)) = vSc m d (i1 (32 * t + 16))

theorem nCore_zero : (K (F := F)).nCore 0 = 2 := rfl
theorem nSub_zero : (K (F := F)).nSub 0 = 16 := rfl

abbrev st2 (d : Dev nD) (c : Fin 2) : sProp 𝕄 := coreP d (vG5 m d) (vIds m d) (vWts m d) (vLen m d) (vSc m d) (V1 m d rOF) (V1 m d rOG) c
abbrev dn2 (d : Dev nD) (c : Fin 2) : sProp 𝕄 := coreP d (vG5 m d) (vIds m d) (vWts m d) (vLen m d) (vSc m d) (fixV m d) (gradVV m d) c
abbrev go2 (d : Dev nD) (c : Fin 2) (i : Fin 16) : sProp 𝕄 := taskP d (vG5 m d) (vIds m d) (vWts m d) (vLen m d) (vSc m d) (V1 m d rOF) (V1 m d rOG) c i
abbrev td2 (d : Dev nD) (c : Fin 2) (i : Fin 16) : sProp 𝕄 := taskP d (vG5 m d) (vIds m d) (vWts m d) (vLen m d) (vSc m d) (fixV m d) (gradVV m d) c i

/-- The call hands each SparseCore its part of the arrays, each task its part of that, and brings them back with the results. -/
def P : (K (F := F)).Pay (nD := nD) (Val := Elt F) (Name := ℕ) (U := UU) where
  st := fun q d c => match q with | 0 => st2 m d (Fin.cast nCore_zero c)
  dn := fun q d c => match q with | 0 => dn2 m d (Fin.cast nCore_zero c)
  go := fun q d c i => match q with | 0 => go2 m d (Fin.cast nCore_zero c) (Fin.cast nSub_zero i)
  td := fun q d c i => match q with | 0 => td2 m d (Fin.cast nCore_zero c) (Fin.cast nSub_zero i)
  x := fun _ _ => iprop(emp)

instance P_storable : (P (F := F) m).IsStorable where
  st q d c := match q with | 0 => (inferInstance : BI.Storable (upEmb : UEmb _ 𝕄) (st2 m d (Fin.cast nCore_zero c)))
  dn q d c := match q with | 0 => (inferInstance : BI.Storable (upEmb : UEmb _ 𝕄) (dn2 m d (Fin.cast nCore_zero c)))
  go q d c i := match q with | 0 => (inferInstance : BI.Storable (upEmb : UEmb _ 𝕄) (go2 m d (Fin.cast nCore_zero c) (Fin.cast nSub_zero i)))
  td q d c i := match q with | 0 => (inferInstance : BI.Storable (upEmb : UEmb _ 𝕄) (td2 m d (Fin.cast nCore_zero c) (Fin.cast nSub_zero i)))

theorem defs₀_vector (c : Fin τ.nSC) (s : Fin τ.nSub) :
    defs₀ (F := F) (.scVector c s) 0 ()
      = SparseCore.onTile hcore0 hsub0 (fun c s => cc0_bag_scatter (coordsV c s) mG5 (Memref.isWhole_whole _) mIds (Memref.isWhole_whole _) mWts (Memref.isWhole_whole _) mLen (Memref.isWhole_whole _) mSc (Memref.isWhole_whole _) mOG (Memref.isWhole_whole _) mOF (Memref.isWhole_whole _) mAcc (Memref.isWhole_whole _) mStage (Memref.isWhole_whole _) mIdsV (Memref.isWhole_whole _) mWV (Memref.isWhole_whole _) mGV (Memref.isWhole_whole _) mLenV (Memref.isWhole_whole _) mScV (Memref.isWhole_whole _)
            cc0_scratch7 cc0_scratch8 cc0_scratch9 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A task's part is what its body takes. -/
theorem taskP_eq (d : Dev nD) (c : Fin 2) (i : Fin 16) (g5 : S6x20x19x8x128.Idx → F .f32) (ids : S6x2400x128.Idx → BitVec 32) (wts : S6x2400x128.Idx → F .f32)
    (len : S6x2400.Idx → BitVec 32) (sc : S192.Idx → F .f32) (f : S6x20x625x8x128.Idx → BitVec 32) (g : S6x20x625x8x128.Idx → F .f32) :
    (taskP d g5 ids wts len sc f g c i : sProp 𝕄) = iprop(InT d (L2 c i) (qi c i) g5 ids wts len sc ∗ OutT d (L2 c i) f g) := rfl

set_option maxRecDepth 2048 in
theorem tileObl (hF : (K (F := F)).Facts) (hok : ∀ d, OkIn m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (qi (Fin.cast nCore_zero c) (Fin.cast nSub_zero i)) (vG5 m d) (vIds m d) (vWts m d) (vLen m d) (vSc m d)
    (V1 m d rOF) (V1 m d rOG) (hok d).len (hok d).ids (hok d).sc hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show st2 m d (Fin.cast nCore_zero c) ⊢ |={Set.univ}=> iprop(
      (bigSep Finset.univ fun i : Fin ((K (F := F)).nSub 0) => go2 m d (Fin.cast nCore_zero c) (Fin.cast nSub_zero i))
      ∗ ((bigSep Finset.univ fun i : Fin ((K (F := F)).nSub 0) => td2 m d (Fin.cast nCore_zero c) (Fin.cast nSub_zero i)) -∗ dn2 m d (Fin.cast nCore_zero c)))
  rw [bigSep_tasks (F := F) (fun i => go2 m d (Fin.cast nCore_zero c) i), bigSep_tasks (F := F) (fun i => td2 m d (Fin.cast nCore_zero c) i),
    ← coreP_tasks, ← coreP_tasks]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem unscoped_held (d : Dev nD) :
    (unscopedBufs d (fun b => m ((SparseCore.T d).loc b)) : sProp 𝕄) = held (T d) (tcRefs τ sig) (launchContents m d) := by
  unfold unscopedBufs held tcRefs
  rw [bigSep_map, show (Finset.univ.filter fun b : Ref sig .tc => ¬ b.isScoped) = Finset.univ from
    Finset.filter_true_of_mem fun b _ hb => by
      have h : b ∈ (Finset.univ.filter fun b : Ref sig .tc => b.isScoped) := Finset.mem_filter.mpr ⟨Finset.mem_univ _, hb⟩
      rw [Host.scopedRefs_eq] at h; exact absurd h (Finset.notMem_empty _)]
  rfl

/-- The arrays of the call among the TensorCore's. -/
def S7 : Finset (DevRef τ sig) := {rIds, rWts, rG5, rLen, rSc, rOF, rOG}
theorem S7_sub : S7 ⊆ tcRefs τ sig := by
  intro b hb
  simp only [S7, Finset.mem_insert, Finset.mem_singleton] at hb
  rcases hb with rfl | rfl | rfl | rfl | rfl | rfl | rfl <;> exact StableHlo.devRef_mem_tcRefs _

theorem held_S7 (d : Dev nD) (W : Valuation τ sig (Elt F)) :
    (held (T d) S7 W : sProp 𝕄) = wholeP d (W rG5) (W rIds) (W rWts) (W rLen) (W rSc) (W rOF) (W rOG) := by
  unfold held S7 wholeP inP outP
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rw [sep_assoc_eq', sep_assoc_eq', sep_assoc_eq', sep_assoc_eq']

theorem V2_of_ne (d : Dev nD) (b : DevRef τ sig) (h1 : b ≠ rOF) (h2 : b ≠ rOG) : V2 m d b = V1 m d b := by
  unfold V2; rw [Function.update_of_ne h1, Function.update_of_ne h2]
theorem V2_rOF (d : Dev nD) : V2 m d rOF = fixV m d := Function.update_self _ _ _
theorem V2_rOG (d : Dev nD) : V2 m d rOG = gradVV m d := (Function.update_of_ne (show rOG ≠ rOF by decide) _ _).trans (Function.update_self _ _ _)

theorem held_rest (d : Dev nD) : (held (T d) (tcRefs τ sig \ S7) (V2 m d) : sProp 𝕄) = held (T d) (tcRefs τ sig \ S7) (V1 m d) :=
  StableHlo.held_congr _ fun b hb => by
    have h := (Finset.mem_sdiff.mp hb).2
    exact V2_of_ne m d b (fun e => h (by rw [e]; decide)) (fun e => h (by rw [e]; decide))

theorem held_V2 (d : Dev nD) :
    (held (T d) S7 (V2 m d) : sProp 𝕄) = wholeP d (vG5 m d) (vIds m d) (vWts m d) (vLen m d) (vSc m d) (fixV m d) (gradVV m d) := by
  rw [held_S7, V2_rOF, V2_rOG, V2_of_ne m d rG5 (by decide) (by decide), V2_of_ne m d rIds (by decide) (by decide), V2_of_ne m d rWts (by decide) (by decide),
    V2_of_ne m d rLen (by decide) (by decide), V2_of_ne m d rSc (by decide) (by decide)]

theorem st0_eq (d : Dev nD) : (bigSep Finset.univ fun c : Fin ((K (F := F)).nCore 0) => (P m).st 0 d c) = (held (T d) S7 (V1 m d) : sProp 𝕄) := by
  rw [held_S7, wholeP_cores]; exact bigSep_cores (F := F) (fun c => st2 m d c)
theorem dn0_eq (d : Dev nD) : (bigSep Finset.univ fun c : Fin ((K (F := F)).nCore 0) => (P m).dn 0 d c) = (held (T d) S7 (V2 m d) : sProp 𝕄) := by
  rw [held_V2, wholeP_cores]; exact bigSep_cores (F := F) (fun c => dn2 m d c)

/-- What @main leaves: every array of the TensorCore at its last contents. -/
abbrev FIN (d : Dev nD) : sProp 𝕄 := held (T d) (tcRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, Host.main_eq]
  iintro ⟨#Hctx, Hst, ⟨Hb, Hheld, Hts, -⟩, -⟩
  iapply (StableHlo.wp_seq (defs := (K (F := F)).defs (D (F := F))) 𝒱 none Set.univ d (tcRefs τ sig) (fun _ => sc.run d 0 >>= fun _ => StableHlo.seq Host.post) Host.ops
    (List.forall_iff_forall_mem.1 Host.ops_sub) Host.ops_fresh (launchContents m d)) $$ [Hb Hheld]
  · isplitl [Hb] <;> iassumption
  iintro ⟨Hb, Hheld⟩
  ihave Hh := (Entails.of_eq (show (held (T d) (tcRefs τ sig) (after Host.ops (launchContents m d)) : sProp 𝕄) = _ from
    StableHlo.held_sub_split (T d) S7_sub (V1 m d))) $$ Hheld
  icases Hh with ⟨H7, Hrest⟩
  rw [wp_bind]
  iapply ((K (F := F)).wp_run (D (F := F)) 𝒱 (EH := EH) (P := P m) κ d 0) $$ [Hst H7 Hb Hrest Hts]
  isplitr; · iexact Hctx
  isplitl [Hst]; · iexact Hst
  isplitl [H7]
  · rw [st0_eq]; iexact H7
  iintro ⟨Hst, Hdn⟩
  ihave H7 := (Entails.of_eq (dn0_eq m d)) $$ Hdn
  ihave Hrest := (Entails.of_eq (held_rest m d).symm) $$ Hrest
  ihave Hheld := (Entails.of_eq (StableHlo.held_sub_split (T d) S7_sub (V2 m d)).symm) $$ [H7 Hrest]
  · isplitl [H7] <;> iassumption
  rw [← bind_pure (StableHlo.seq Host.post)]
  iapply (StableHlo.wp_seq (defs := (K (F := F)).defs (D (F := F))) 𝒱 none Set.univ d (tcRefs τ sig) (fun u => Pure.pure u) Host.post
    (List.forall_iff_forall_mem.1 Host.post_sub) Host.post_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b : Ref sig .tc, s'.mem.mem ((T d : Thread nD τ).loc b) = V3 m d (Proc.devRef .tc b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-! ## The run -/

def QC : PUnit × MemSt nD τ sig (Elt F) → Prop := fun r =>
  (∀ (d : Dev nD) (b : Ref sig .tc), r.2.mem ((T d : Thread nD τ).loc b) = V3 m d (Proc.devRef .tc b)) ∧ r.2.sem = fun _ => 0

/-- Every execution ends, with the TensorCore's arrays at `V3` and every semaphore at zero. -/
theorem run_main [∀ e, Nonempty (Elt F e)] (hok : ∀ d, OkIn m d) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.KernelIdeal.Pf

end
-- ==== Proof.Ideal.Frame.lean ====
/-
  The idealized kernel's frame: under the precondition every execution ends, with the arguments as they were and every semaphore at zero.
-/
module

public import proofs.«01_k».proof.Defs
public import proofs.«01_k».proof.Proof.Ideal.Launch
public import proofs.«01_k».proof.Proof.Gen.Pre_in_range

@[expose] public section

set_option Elab.async false

noncomputable section

namespace Cert.KernelIdeal.Pf

open Cert.KernelIdeal Cert.KernelIdeal.Gen
open Idealize.ShloMosaic
open Idealize.ShloMosaic.SparseCore (S V T)
open Idealize.SL.Sem Idealize.ShloMosaic.StableHlo

variable {F : FTy → Type} [FloatOps F]

/-- The precondition at one id: it names a row of its table, and its bag is no longer than its id list. -/
theorem pre_at (a0 : FVec F S6x160x2432 .f32) (a1 : IVec S2400x6x128 32) (a2 : FVec F S2400x6x128 .f32) (a3 : IVec S2400x6 32) (a4 a5 : FVec F S6 .f32)
    (h : Cert.Pre_in_range.fn (F := F) a0 a1 a2 a3 a4 a5 = fun _ => 1#1) (b : Fin 2400) (t : Fin 6) (l : Fin 128) :
    (a1 (ix3 b t l)).toNat < 80000 ∧ (a3 (ix2 b t)).toInt ≤ 128 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v w : BitVec 32, IntOp.andi (IntOp.andi (IntOp.cmpi .sge v 0#32) (IntOp.cmpi .slt v 80000#32)) (IntOp.cmpi .sle w 128#32) = 1#1 →
      v.toNat < 80000 ∧ w.toInt ≤ 128 := by
    intro v w e
    simp only [IntOp.cmpi, andi_ofBool, ofBool_eq_one, Bool.and_eq_true, BitVec.sle_eq_decide, BitVec.slt_eq_decide, decide_eq_true_eq] at e
    obtain ⟨⟨e1, e2⟩, e3⟩ := e
    refine ⟨?_, e3⟩
    simp only [BitVec.toInt_eq_toNat_cond, BitVec.toNat_ofNat, Nat.reducePow, Nat.reduceMod] at e1 e2
    omega
  have e := key (a1 (ix3 b t l)) (a3 _) (congrFun h (ix3 b t l))
  refine ⟨e.1, le_of_eq_of_le (congrArg (fun j => (a3 j).toInt) (funext fun a => Fin.ext ?_)) e.2⟩
  match a with
  | ⟨0, _⟩ => rfl
  | ⟨1, _⟩ => rfl

/-- A lane of the scales read off the table of scales. -/
theorem sc_lane {α : Type} (X : S6x2.Idx → α) (t : Fin 6) (s : Fin 2) (x : ℕ) (hx : x < 16) :
    shapeCast S192 (broadcastInDim S6x2x16 ![0, 1, 2] bcast_S6x2x1_S6x2x16_0_1_2 (broadcastInDim S6x2x1 ![0, 1] bcast_S6x2_S6x2x1_0_1 X)) shapeCasts_S6x2x16_S192
      (i1 (32 * t.val + 16 * s.val + x)) = X (ix2 t s) := by
  have ht := t.isLt
  have hs := s.isLt
  have e : Shape.reshapeEquiv (s := S6x2x16) (s' := S192) shapeCasts_S6x2x16_S192 (i1 (32 * t.val + 16 * s.val + x)) = ix3 t s ⟨x, hx⟩ := by
    refine Shape.reshapeEquiv_eq_of_vals _ _ _ _ _ (rowMajor_val3 _ 32 16 rfl rfl) (rowMajor_val1 _) ?_
    show t.val * 32 + s.val * 16 + x = (32 * t.val + 16 * s.val + x) % 192
    omega
  unfold shapeCast
  rw [e]
  refine congrArg X (funext fun a => Fin.ext ?_)
  match a with
  | ⟨0, _⟩ => rfl
  | ⟨1, _⟩ => rfl

variable (m : (ℓ : Loc nD τ sig) → Buf (Elt F) ℓ) (ρ : Dev nD → PrngReg)

/-- The arguments on one device. -/
abbrev aG (d : Dev nD) : S6x160x2432.Idx → F .f32 := launchContents m d (Proc.devRef .tc main_arg0)
abbrev aIds (d : Dev nD) : S2400x6x128.Idx → BitVec 32 := launchContents m d (Proc.devRef .tc main_arg1)
abbrev aWts (d : Dev nD) : S2400x6x128.Idx → F .f32 := launchContents m d (Proc.devRef .tc main_arg2)
abbrev aLen (d : Dev nD) : S2400x6.Idx → BitVec 32 := launchContents m d (Proc.devRef .tc main_arg3)

theorem vIds_eq (d : Dev nD) : vIds m d = transpose S6x2400x128 [1, 0, 2] (aIds m d) transposes_S2400x6x128_S6x2400x128_1_0_2 :=
  (congrFun (Host.after_ops _) _).trans (Host.val1_main_v8 _)
theorem vWts_eq (d : Dev nD) : vWts m d = transpose S6x2400x128 [1, 0, 2] (aWts m d) transposes_S2400x6x128_S6x2400x128_1_0_2 :=
  (congrFun (Host.after_ops _) _).trans (Host.val1_main_v9 _)
theorem vLen_eq (d : Dev nD) : vLen m d = transpose S6x2400 [1, 0] (aLen m d) transposes_S2400x6_S6x2400_1_0 :=
  (congrFun (Host.after_ops _) _).trans (Host.val1_main_v10 _)
theorem vG5_eq (d : Dev nD) : vG5 m d = transpose S6x20x19x8x128 [0, 1, 3, 2, 4] (shapeCast S6x20x8x19x128 (aG m d) shapeCasts_S6x160x2432_S6x20x8x19x128)
    transposes_S6x20x8x19x128_S6x20x19x8x128_0_1_3_2_4 :=
  (congrFun (Host.after_ops _) _).trans (Host.val1_main_v7 _)

/-- The scales the tasks read are the lanes of the table of scales. -/
theorem vSc_lane (d : Dev nD) (t : Fin 6) (s : Fin 2) (x : ℕ) (hx : x < 16) :
    vSc m d (i1 (32 * t.val + 16 * s.val + x)) = Host.scales (launchContents m d (Proc.devRef .tc main_arg4)) (launchContents m d (Proc.devRef .tc main_arg5)) (ix2 t s) :=
  (congrFun ((congrFun (Host.after_ops _) _).trans (Host.val1_main_v5 _)) _).trans (sc_lane _ t s x hx)

/-- The precondition on one device. -/
abbrev PreAt (d : Dev nD) : Prop := ∀ (b : Fin 2400) (t : Fin 6) (l : Fin 128), (aIds m d (ix3 b t l)).toNat < 80000 ∧ (aLen m d (ix2 b t)).toInt ≤ 128

theorem ok_of_pre (d : Dev nD) (h : PreAt m d) : OkIn m d where
  len i := by
    rw [vLen_eq]
    show (aLen m d _).toInt ≤ 128
    rw [eq_ix2 (transposes_S2400x6_S6x2400_1_0.src i)]
    exact (h _ _ 0).2
  ids i := by
    rw [vIds_eq]
    show (aIds m d _).toNat < 80000
    rw [eq_ix3 (transposes_S2400x6x128_S6x2400x128_1_0_2.src i)]
    exact (h _ _ _).1
  sc t x ht hx := by
    have h1 := vSc_lane m d ⟨t, ht⟩ 1 x hx
    have h0 := vSc_lane m d ⟨t, ht⟩ 1 0 (by decide)
    exact h1.trans h0.symm

/-- An argument is at the end as it was. -/
theorem V3_arg (d : Dev nD) (r : Ref sig .tc) (h : r ∉ Host.post_W) (h1 : Proc.devRef .tc r ≠ rOF) (h2 : Proc.devRef .tc r ≠ rOG) :
    V3 m d (Proc.devRef .tc r) = Host.val1 (launchContents m d) (Proc.devRef .tc r) :=
  (Host.post_keep _ r h).trans ((V2_of_ne m d _ h1 h2).trans (congrFun (Host.after_ops _) _))

/-- Every argument is at the end as it was. -/
theorem V3_main_arg (d : Dev nD) (r : Ref sig .tc) (h : r ∉ Host.post_W) (h0 : r ∉ Host.ops_W) (h1 : Proc.devRef .tc r ≠ rOF) (h2 : Proc.devRef .tc r ≠ rOG) :
    V3 m d (Proc.devRef .tc r) = m ((d.tc : Thread nD τ).loc r) :=
  (V3_arg m d r h h1 h2).trans (Host.val1_keep _ r h0)

/-- The arguments are at the end as they were, in a final memory that agrees with `V3`. -/
theorem args_unchanged (c : Dev nD) (m' : (ℓ : Loc nD τ sig) → Buf (Elt F) ℓ) (h : ∀ r : Ref sig .tc, m' ((c.tc : Thread nD τ).loc r) = V3 m c (Proc.devRef .tc r)) :
    m' ((c.tc : Thread nD τ).loc main_arg0) = m ((c.tc : Thread nD τ).loc main_arg0) ∧ m' ((c.tc : Thread nD τ).loc main_arg1) = m ((c.tc : Thread nD τ).loc main_arg1)
      ∧ m' ((c.tc : Thread nD τ).loc main_arg2) = m ((c.tc : Thread nD τ).loc main_arg2) ∧ m' ((c.tc : Thread nD τ).loc main_arg3) = m ((c.tc : Thread nD τ).loc main_arg3)
      ∧ m' ((c.tc : Thread nD τ).loc main_arg4) = m ((c.tc : Thread nD τ).loc main_arg4) ∧ m' ((c.tc : Thread nD τ).loc main_arg5) = m ((c.tc : Thread nD τ).loc main_arg5) := by
  have k := fun (r : Ref sig .tc) h1 h2 h3 h4 => (h r).trans (V3_main_arg m c r h1 h2 h3 h4)
  exact ⟨k main_arg0 (by decide) (by decide) (by decide) (by decide), k main_arg1 (by decide) (by decide) (by decide) (by decide),
    k main_arg2 (by decide) (by decide) (by decide) (by decide), k main_arg3 (by decide) (by decide) (by decide) (by decide),
    k main_arg4 (by decide) (by decide) (by decide) (by decide), k main_arg5 (by decide) (by decide) (by decide) (by decide)⟩

/-- The idealized kernel's frame (Defs.lean). -/
theorem frame : Cert.quiescent_KernelIdeal := fun m ρ hpre =>
  (θ_run Cert.KernelIdeal.defs _ _).mono
    (fun r h => ⟨fun c => args_unchanged m c r.2.mem (fun b => h.1 c b), h.2⟩)
    (run_main (F := Ideal) m ρ fun d => ok_of_pre m d (pre_at _ _ _ _ _ _ (hpre d)))

end Cert.KernelIdeal.Pf

end
-- ==== Proof.Ref.lean ====
/-
  The reference's scatter read as a sum: row `p` of table `t` receives, over all bags and positions, the codes whose id is `p`.
-/
module

public import proofs.«01_k».proof.Proof.Gen.ReferenceIdeal
public import Idealize.ShloMosaic.Lib.Routing.OpsPair
public import Mathlib.Data.BitVec
public import Idealize.ShloMosaic.Lib.Pointwise.Index
public import Idealize.ShloMosaic.Lib.Pointwise.Reshape

@[expose] public section

set_option Elab.async false

noncomputable section

namespace Cert.ReferenceIdeal.Pf

open Cert.ReferenceIdeal Cert.ReferenceIdeal.Gen
open Idealize.ShloMosaic Idealize.ShloMosaic.Routing

/-- Update `(n, c)` of a scatter of rows into a matrix, one index word a row, lands at `(r, c')` exactly when its index word,
    read signed, is `r`, and `c` is `c'`. -/
theorem row_lands {R C N : ℕ} (d : ScatterDims ⟨2, ![R, C]⟩ ⟨2, ![N, 1]⟩ ⟨2, ![N, C]⟩) (huw : d.updateWindowDims = [1]) (hiw : d.insertedWindowDims = [0])
    (hsd : d.scatterDimsToOperandDims = [0]) (hivd : d.indexVectorDim = 1) (idx : IVec ⟨2, ![N, 1]⟩ 32) (n : Fin N) (c : Fin C) (r : Fin R) (c' : Fin C) :
    d.resultIdx? (ix2 n c) idx = some (ix2 r c') ↔ (idx (ix2 n (0 : Fin 1))).toInt = (r.val : ℤ) ∧ c = c' := by
  obtain ⟨uw, iw, sd, iv, wf⟩ := d
  dsimp only at huw hiw hsd hivd
  subst huw hiw hsd hivd
  rw [resultIdx?_eq_some]
  have hs0 : ScatterDims.start ⟨[1], [0], [0], 1, wf⟩ (ix2 n c) idx (0 : Fin 2) = (idx (ix2 n (0 : Fin 1))).toInt := by
    unfold ScatterDims.start
    rw [dif_pos (List.mem_singleton.2 rfl)]
    refine congrArg (fun i => (idx i).toInt) ?_
    funext b
    apply Fin.ext
    match b with
    | ⟨0, _⟩ => rfl
    | ⟨1, _⟩ => rfl
  have hs1 : ScatterDims.start ⟨[1], [0], [0], 1, wf⟩ (ix2 n c) idx (1 : Fin 2) = 0 := by
    unfold ScatterDims.start
    rw [dif_neg (show (1 : Fin 2) ∉ ([0] : List (Fin 2)) by decide)]
  have hw0 : ScatterDims.window ⟨[1], [0], [0], 1, wf⟩ (ix2 n c) (0 : Fin 2) = 0 := rfl
  have hw1 : ScatterDims.window ⟨[1], [0], [0], 1, wf⟩ (ix2 n c) (1 : Fin 2) = c.val := rfl
  have hr : (ix2 r c' (0 : Fin 2)).val = r.val := rfl
  have hc : (ix2 r c' (1 : Fin 2)).val = c'.val := rfl
  have h2 : ∀ q : Fin 2 → Prop, (∀ a, q a) ↔ q 0 ∧ q 1 := fun q => ⟨fun h => ⟨h 0, h 1⟩, fun h a => match a with | ⟨0, _⟩ => h.1 | ⟨1, _⟩ => h.2⟩
  refine (h2 _).trans ?_
  rw [hs0, hs1, hw0, hw1, hr, hc, Fin.ext_iff]
  omega

/-- A fold that adds the chosen values is what was there and their sum. -/
theorem foldl_add {ι : Type} (l : List ι) (p : ι → Prop) [DecidablePred p] (v : ι → BitVec 32) (a : BitVec 32) :
    l.foldl (fun a n => if p n then IntOp.addi a (v n) else a) a = a + (l.map fun n => if p n then v n else 0).sum := by
  induction l generalizing a with
  | nil => exact (BitVec.add_zero _).symm
  | cons n l ih =>
    rw [List.foldl_cons, ih, List.map_cons, List.sum_cons, ← BitVec.add_assoc]
    congr 1
    split
    · rfl
    · exact (BitVec.add_zero _).symm

/-- A scatter-add of rows at one element: what was there and the sum of the update rows whose index word is its row. -/
theorem scatter_rows {R C N : ℕ} (d : ScatterDims ⟨2, ![R, C]⟩ ⟨2, ![N, 1]⟩ ⟨2, ![N, C]⟩) (huw : d.updateWindowDims = [1]) (hiw : d.insertedWindowDims = [0])
    (hsd : d.scatterDimsToOperandDims = [0]) (hivd : d.indexVectorDim = 1) (x : IVec ⟨2, ![R, C]⟩ 32) (idx : IVec ⟨2, ![N, 1]⟩ 32) (upd : IVec ⟨2, ![N, C]⟩ 32)
    (r : Fin R) (c : Fin C) :
    Host.scatter d IntOp.addi x idx upd (ix2 r c)
      = x (ix2 r c) + ∑ n : Fin N, if (idx (ix2 n (0 : Fin 1))).toInt = (r.val : ℤ) then upd (ix2 n c) else (0 : BitVec 32) := by
  rw [scatter_at, foldl_add, ← Fin.sum_univ_def,
    Equiv.sum_comp (Shape.rowMajor ⟨2, ![N, C]⟩).symm (fun j => if d.resultIdx? j idx = some (ix2 r c) then upd j else (0 : BitVec 32)), sum_idx2]
  refine congrArg (fun z : BitVec 32 => x (ix2 r c) + z) (Finset.sum_congr rfl fun n _ => ?_)
  simp only [row_lands d huw hiw hsd hivd, ite_and]
  by_cases h : (idx (ix2 n (0 : Fin 1))).toInt = (r.val : ℤ)
  · simp only [if_pos h, Finset.sum_ite_eq', Finset.mem_univ, if_true]
  · simp only [if_neg h, Finset.sum_const_zero]

theorem cast4 (n : Fin 1843200) (c : Fin 160) :
    Shape.reshapeEquiv (s := S2400x6x128x160) (s' := S1843200x160) shapeCasts_S2400x6x128x160_S1843200x160 (ix2 n c)
      = ix4 (Shape.reshapeEquiv (s := S2400x6x128) (s' := S1843200) shapeCasts_S2400x6x128_S1843200 (ix1 n) 0)
          (Shape.reshapeEquiv (s := S2400x6x128) (s' := S1843200) shapeCasts_S2400x6x128_S1843200 (ix1 n) 1)
          (Shape.reshapeEquiv (s := S2400x6x128) (s' := S1843200) shapeCasts_S2400x6x128_S1843200 (ix1 n) 2) c := by
  have h : ((Shape.rowMajor S2400x6x128) (Shape.reshapeEquiv (s := S2400x6x128) (s' := S1843200) shapeCasts_S2400x6x128_S1843200 (ix1 n))).val
      = ((Shape.rowMajor S1843200) (ix1 n)).val := Shape.rowMajor_reshapeEquiv _ _
  generalize Shape.reshapeEquiv (s := S2400x6x128) (s' := S1843200) shapeCasts_S2400x6x128_S1843200 (ix1 n) = j at h ⊢
  refine Shape.reshapeEquiv_eq_of_vals _ _ _ _ _ (rowMajor_val4 _ 122880 20480 160 rfl rfl rfl) (rowMajor_val2 _ 160 rfl) ?_
  rw [rowMajor_val3 _ 768 128 rfl rfl, rowMajor_val1] at h
  change (j 0).val * 768 + (j 1).val * 128 + (j 2).val = n.val at h
  show (j 0).val * 122880 + (j 1).val * 20480 + (j 2).val * 160 + c.val = n.val * 160 + c.val
  omega

/-- A word `t' · 80000 + id` with a valid id, read signed, is row `p` of table `t` exactly when `t'` is `t` and the id is `p`. -/
theorem seg_iff (t' t : Fin 6) (id : BitVec 32) (hid : id.toNat < 80000) (p : Fin 80000) :
    (IntOp.addi (IntOp.muli (BitVec.ofNat 32 t'.val) 80000#32) id).toInt = ((80000 * t.val + p.val : ℕ) : ℤ) ↔ t' = t ∧ id.toNat = p.val := by
  have ht := t'.isLt
  have htt := t.isLt
  have hp := p.isLt
  have e : (IntOp.addi (IntOp.muli (BitVec.ofNat 32 t'.val) 80000#32) id).toNat = t'.val * 80000 + id.toNat := by
    show (BitVec.ofNat 32 t'.val * 80000#32 + id).toNat = _
    rw [BitVec.toNat_add, BitVec.toNat_mul, BitVec.toNat_ofNat, BitVec.toNat_ofNat, Nat.mod_eq_of_lt (show t'.val < 2 ^ 32 by omega),
      Nat.mod_eq_of_lt (show 80000 < 2 ^ 32 by decide), Nat.mod_eq_of_lt (show t'.val * 80000 < 2 ^ 32 by omega), Nat.mod_eq_of_lt (by omega)]
  rw [BitVec.toInt_eq_toNat_of_lt (by omega), e, Fin.ext_iff]
  omega

/-- The reference's segment sum over valid ids. -/
theorem seg_sum (ids : IVec S2400x6x128 32) (hids : ∀ i, (ids i).toNat < 80000) (codes : IVec S2400x6x128x160 32) (t : Fin 6) (p : Fin 80000) (c : Fin 160) :
    shapeCast S6x80000x160 (Host.scatter scatter_S480000x160_S1843200x1_S1843200x160_1_0_0_1 IntOp.addi
        (broadcastInDim S480000x160 ![] bcast_S_S480000x160 (constantI S_ 32 0#32))
        (broadcastInDim S1843200x1 ![0] bcast_S1843200_S1843200x1_0
          (shapeCast S1843200 (addi (broadcastInDim S2400x6x128 ![0, 1, 2] bcast_S1x6x1_S2400x6x128_0_1_2
            (muli (broadcastInDim S1x6x1 ![1] bcast_S6_S1x6x1_1 (iotaInDim S6 32 0)) (broadcastInDim S1x6x1 ![] bcast_S_S1x6x1 (constantI S_ 32 80000#32)))) ids)
            shapeCasts_S2400x6x128_S1843200))
        (shapeCast S1843200x160 codes shapeCasts_S2400x6x128x160_S1843200x160)) shapeCasts_S480000x160_S6x80000x160 (ix3 t p c)
      = ∑ b : Fin 2400, ∑ l : Fin 128, if (ids (ix3 b t l)).toNat = p.val then codes (ix4 b t l c) else (0 : BitVec 32) := by
  have htt := t.isLt
  have hp := p.isLt
  have hr : 80000 * t.val + p.val < 480000 := by omega
  have er : Shape.reshapeEquiv (s := S480000x160) (s' := S6x80000x160) shapeCasts_S480000x160_S6x80000x160 (ix3 t p c)
      = ix2 (⟨80000 * t.val + p.val, hr⟩ : Fin 480000) c := by
    refine Shape.reshapeEquiv_eq_of_vals _ _ _ _ _ (rowMajor_val2 _ 160 rfl) (rowMajor_val3 _ 12800000 160 rfl rfl) ?_
    show (80000 * t.val + p.val) * 160 + c.val = t.val * 12800000 + p.val * 160 + c.val
    omega
  unfold shapeCast
  rw [er]
  refine (scatter_rows _ rfl rfl rfl rfl _ _ _ _ _).trans ?_
  refine (BitVec.zero_add _).trans ?_
  let e := Shape.reshapeEquiv (s := S2400x6x128) (s' := S1843200) shapeCasts_S2400x6x128_S1843200
  let g : S2400x6x128.Idx → BitVec 32 := fun j =>
    if (IntOp.addi (IntOp.muli (BitVec.ofNat 32 (j 1).val) 80000#32) (ids j)).toInt = ((80000 * t.val + p.val : ℕ) : ℤ) then codes (ix4 (j 0) (j 1) (j 2) c) else 0
  trans ∑ n : Fin 1843200, g (e (ix1 n))
  · refine Finset.sum_congr rfl fun n _ => ?_
    rw [cast4 n c]
    rfl
  rw [← sum_idx1 (n0 := 1843200) (fun i => g (e i)), Equiv.sum_comp e g, sum_idx3]
  refine Finset.sum_congr rfl fun b _ => ?_
  rw [Finset.sum_comm]
  refine Finset.sum_congr rfl fun l _ => ?_
  rw [Finset.sum_eq_single t]
  · exact if_congr ((seg_iff t t _ (hids _) p).trans (and_iff_right rfl)) rfl rfl
  · intro t' _ hne
    exact if_neg fun h => hne ((seg_iff t' t _ (hids _) p).1 h).1
  · intro h; exact absurd (Finset.mem_univ t) h

end Cert.ReferenceIdeal.Pf

end
-- ==== Proof.Value.lean ====
/-
  The two sums compared: the kernel's steps of sixteen positions over a bag, and the reference's segment sum over all bags and positions.
-/
module

public import proofs.«01_k».proof.Proof.Ideal.Spec
public import proofs.«01_k».proof.Proof.Ideal.HostOps
public import proofs.«01_k».proof.Proof.Ref
public import Idealize.ShloMosaic.Lib.Pipeline.Value
public import Idealize.ShloMosaic.PureOps.Ideal

@[expose] public section

set_option Elab.async false

noncomputable section

namespace Cert.KernelIdeal.Pf

open Cert.KernelIdeal Cert.KernelIdeal.Gen
open Idealize.ShloMosaic

variable {F : FTy → Type} [FloatOps F]

/-! ## A bag's steps are its positions -/

/-- A sum in steps of sixteen. -/
theorem steps_range (T : ℕ → BitVec 32) (j : ℕ) : ∑ j' ∈ Finset.range j, ∑ x ∈ Finset.range 16, T (16 * j' + x) = ∑ l ∈ Finset.range (16 * j), T l := by
  induction j with
  | zero => simp only [Nat.mul_zero, Finset.range_zero, Finset.sum_empty]
  | succ j ih => rw [Finset.sum_range_succ, ih, Nat.mul_succ, Finset.sum_range_add]

section Sums

variable (g5 : S6x20x19x8x128.Idx → F .f32) (ids : S6x2400x128.Idx → BitVec 32) (wts : S6x2400x128.Idx → F .f32)
  (len : S6x2400.Idx → BitVec 32) (sc : S192.Idx → F .f32)

/-- The first `j` steps of sixteen positions are the first `16 · j` positions. -/
theorem bagSteps_range (t ch b j p : ℕ) : bagSteps g5 ids wts len sc t ch b j p = ∑ l ∈ Finset.range (16 * j), term g5 ids wts len sc t ch b l p :=
  steps_range (fun l => term g5 ids wts len sc t ch b l p) j

/-- A position at or past the bag's steps is past its length. -/
theorem past (v : BitVec 32) (hv : v.toInt ≤ 128) (l : ℕ) (h1 : 16 * nvec v ≤ l) (h2 : l < 128) : ¬ (BitVec.ofNat 32 l).slt v = true := by
  rw [BitVec.slt_eq_decide, decide_eq_true_eq]
  have e : (BitVec.ofNat 32 l).toInt = l := by
    rw [BitVec.toInt_eq_toNat_of_lt (by rw [BitVec.toNat_ofNat]; omega), BitVec.toNat_ofNat, Nat.mod_eq_of_lt (by omega)]
  rw [e]
  have hc := BitVec.toInt_eq_toNat_cond v
  have := v.isLt
  unfold nvec at h1
  split at hc <;> split at h1 <;> omega

/-- A bag no longer than its id list adds the terms of all its positions. -/
theorem bag_eq (t ch b p : ℕ) (hl : (len (i2 t b)).toInt ≤ 128) :
    bag g5 ids wts len sc t ch b p = ∑ l : Fin 128, term g5 ids wts len sc t ch b l.val p := by
  unfold bag
  rw [bagSteps_range, ← Finset.sum_range (fun l => term g5 ids wts len sc t ch b l p)]
  have h8 := nvec_le _ hl
  refine Finset.sum_subset (fun l h => Finset.mem_range.2 (lt_of_lt_of_le (Finset.mem_range.1 h) (by omega))) fun l h1 h2 => ?_
  exact if_neg fun h => past _ hl l (Nat.le_of_not_lt fun h' => h2 (Finset.mem_range.2 h')) (Finset.mem_range.1 h1) h.1

/-- All bags. -/
theorem accN_eq (t ch p : ℕ) (hl : ∀ i, (len i).toInt ≤ 128) :
    accN g5 ids wts len sc t ch 2400 p = ∑ b : Fin 2400, ∑ l : Fin 128, term g5 ids wts len sc t ch b.val l.val p := by
  unfold accN
  rw [Finset.sum_range]
  exact Finset.sum_congr rfl fun b _ => bag_eq g5 ids wts len sc t ch b.val p (hl _)

end Sums

/-! ## The arrays the call reads, in the arguments -/

theorem len_at {α : Type} (x : S2400x6.Idx → α) (t : Fin 6) (b : Fin 2400) :
    transpose S6x2400 [1, 0] x transposes_S2400x6_S6x2400_1_0 (i2 t.val b.val) = x (ix2 b t) := by
  rw [show i2 t.val b.val = ix2 t b from ixm_eq (ix2 t b) fun a => match a with | ⟨0, _⟩ => rfl | ⟨1, _⟩ => rfl]
  exact congrArg x (funext fun a => Fin.ext (match a with | ⟨0, _⟩ => rfl | ⟨1, _⟩ => rfl))

theorem pos_at {α : Type} (x : S2400x6x128.Idx → α) (t : Fin 6) (b : Fin 2400) (l : Fin 128) :
    transpose S6x2400x128 [1, 0, 2] x transposes_S2400x6x128_S6x2400x128_1_0_2 (i3 t.val b.val l.val) = x (ix3 b t l) := by
  rw [show i3 t.val b.val l.val = ix3 t b l from ixm_eq (ix3 t b l) fun a => match a with | ⟨0, _⟩ => rfl | ⟨1, _⟩ => rfl | ⟨2, _⟩ => rfl]
  exact congrArg x (funext fun a => Fin.ext (match a with | ⟨0, _⟩ => rfl | ⟨1, _⟩ => rfl | ⟨2, _⟩ => rfl))

theorem grad_at {α : Type} (x : S6x160x2432.Idx → α) (t : Fin 6) (ch : Fin 160) (b : Fin 2432) :
    transpose S6x20x19x8x128 [0, 1, 3, 2, 4] (shapeCast S6x20x8x19x128 x shapeCasts_S6x160x2432_S6x20x8x19x128)
        transposes_S6x20x8x19x128_S6x20x19x8x128_0_1_3_2_4 (i5 t.val (ch.val / 8) (b.val / 128) (ch.val % 8) (b.val % 128)) = x (ix3 t ch b) := by
  have hc := ch.isLt
  have hb := b.isLt
  let c1 : Fin 20 := ⟨ch.val / 8, by omega⟩
  let c2 : Fin 8 := ⟨ch.val % 8, by omega⟩
  let b1 : Fin 19 := ⟨b.val / 128, by omega⟩
  let b2 : Fin 128 := ⟨b.val % 128, by omega⟩
  rw [show i5 t.val (ch.val / 8) (b.val / 128) (ch.val % 8) (b.val % 128) = ix5 t c1 b1 c2 b2 from
    ixm_eq (ix5 t c1 b1 c2 b2) fun a => match a with | ⟨0, _⟩ => rfl | ⟨1, _⟩ => rfl | ⟨2, _⟩ => rfl | ⟨3, _⟩ => rfl | ⟨4, _⟩ => rfl]
  trans shapeCast S6x20x8x19x128 x shapeCasts_S6x160x2432_S6x20x8x19x128 (ix5 t c1 c2 b1 b2)
  · exact congrArg (shapeCast S6x20x8x19x128 x shapeCasts_S6x160x2432_S6x20x8x19x128)
      (funext fun a => Fin.ext (match a with | ⟨0, _⟩ => rfl | ⟨1, _⟩ => rfl | ⟨2, _⟩ => rfl | ⟨3, _⟩ => rfl | ⟨4, _⟩ => rfl))
  · unfold shapeCast
    refine congrArg x (Shape.reshapeEquiv_eq_of_vals _ _ _ _ _ (rowMajor_val3 _ 389120 2432 rfl rfl) (rowMajor_val5 _ 389120 19456 2432 128 rfl rfl rfl rfl) ?_)
    show t.val * 389120 + ch.val * 2432 + b.val = t.val * 389120 + ch.val / 8 * 19456 + ch.val % 8 * 2432 + b.val / 128 * 128 + b.val % 128
    omega

/-- The results untiled: row `p`, channel `c` of table `t`. -/
theorem untile_at {α : Type} (y : S6x20x625x8x128.Idx → α) (t : Fin 6) (p : Fin 80000) (c : Fin 160) :
    shapeCast S6x80000x160 (transpose S6x625x128x20x8 [0, 2, 4, 1, 3] y transposes_S6x20x625x8x128_S6x625x128x20x8_0_2_4_1_3)
        shapeCasts_S6x625x128x20x8_S6x80000x160 (ix3 t p c)
      = y (ix5 t ⟨c.val / 8, by have := c.isLt; omega⟩ ⟨p.val / 128, by have := p.isLt; omega⟩ ⟨c.val % 8, by omega⟩ ⟨p.val % 128, by omega⟩) := by
  have hc := c.isLt
  have hp := p.isLt
  have e : Shape.reshapeEquiv (s := S6x625x128x20x8) (s' := S6x80000x160) shapeCasts_S6x625x128x20x8_S6x80000x160 (ix3 t p c)
      = ix5 t (⟨p.val / 128, by omega⟩ : Fin 625) (⟨p.val % 128, by omega⟩ : Fin 128) (⟨c.val / 8, by omega⟩ : Fin 20) (⟨c.val % 8, by omega⟩ : Fin 8) := by
    refine Shape.reshapeEquiv_eq_of_vals _ _ _ _ _ (rowMajor_val5 _ 12800000 20480 160 8 rfl rfl rfl rfl) (rowMajor_val3 _ 12800000 160 rfl rfl) ?_
    show t.val * 12800000 + p.val / 128 * 20480 + p.val % 128 * 160 + c.val / 8 * 8 + c.val % 8 = t.val * 12800000 + p.val * 160 + c.val
    omega
  unfold shapeCast
  rw [e]
  exact congrArg y (funext fun a => Fin.ext (match a with | ⟨0, _⟩ => rfl | ⟨1, _⟩ => rfl | ⟨2, _⟩ => rfl | ⟨3, _⟩ => rfl | ⟨4, _⟩ => rfl))

theorem scales_zero (a b : S6.Idx → F .f32) (t : Fin 6) : Host.scales a b (ix2 t 0) = a (ix1 t) := by
  refine (concatenate_pair_apply_left (s₁ := S6x1) (s₂ := S6x1) (t := S6x2) 1 _ _ _ (ix2 t 0) rfl (ix2 t 0) fun b => match b with | ⟨0, _⟩ => rfl | ⟨1, _⟩ => rfl).trans ?_
  exact congrArg a (funext fun a => Fin.ext (match a with | ⟨0, _⟩ => rfl))
theorem scales_one (a b : S6.Idx → F .f32) (t : Fin 6) : Host.scales a b (ix2 t 1) = b (ix1 t) := by
  refine (concatenate_pair_apply_right (s₁ := S6x1) (s₂ := S6x1) (t := S6x2) 1 _ _ _ (ix2 t 1) rfl rfl (ix2 t 0)
    (fun b => match b with | ⟨0, _⟩ => fun _ => rfl | ⟨1, _⟩ => fun h => absurd rfl h) rfl).trans ?_
  exact congrArg b (funext fun a => Fin.ext (match a with | ⟨0, _⟩ => rfl))

/-- A term in the arguments. -/
theorem term_eq (g : S6x160x2432.Idx → F .f32) (ids : S2400x6x128.Idx → BitVec 32) (wts : S2400x6x128.Idx → F .f32) (len : S2400x6.Idx → BitVec 32)
    (sc : S192.Idx → F .f32) (s : F .f32) (t : Fin 6) (hsc : ∀ x : ℕ, x < 16 → sc (i1 (32 * t.val + x)) = s) (ch : Fin 160) (b : Fin 2400) (l : Fin 128) (p : ℕ) :
    term (transpose S6x20x19x8x128 [0, 1, 3, 2, 4] (shapeCast S6x20x8x19x128 g shapeCasts_S6x160x2432_S6x20x8x19x128) transposes_S6x20x8x19x128_S6x20x19x8x128_0_1_3_2_4)
        (transpose S6x2400x128 [1, 0, 2] ids transposes_S2400x6x128_S6x2400x128_1_0_2) (transpose S6x2400x128 [1, 0, 2] wts transposes_S2400x6x128_S6x2400x128_1_0_2)
        (transpose S6x2400 [1, 0] len transposes_S2400x6_S6x2400_1_0) sc t.val ch.val b.val l.val p
      = if (BitVec.ofNat 32 l.val).slt (len (ix2 b t)) = true ∧ (ids (ix3 b t l)).toNat = p then
          codeV (g (ix3 t ch (⟨b.val, by have := b.isLt; omega⟩ : Fin 2432))) (wts (ix3 b t l)) s else 0 := by
  unfold term
  rw [len_at, pos_at, pos_at, hsc _ (Nat.mod_lt _ (by decide))]
  have hb : b.val < 2432 := by have := b.isLt; omega
  rw [show transpose S6x20x19x8x128 [0, 1, 3, 2, 4] (shapeCast S6x20x8x19x128 g shapeCasts_S6x160x2432_S6x20x8x19x128) transposes_S6x20x8x19x128_S6x20x19x8x128_0_1_3_2_4
    (i5 t.val (ch.val / 8) (b.val / 128) (ch.val % 8) (b.val % 128)) = _ from grad_at g t ch ⟨b.val, hb⟩]

end Cert.KernelIdeal.Pf

/-! ## The reference's codes -/

namespace Cert.ReferenceIdeal.Pf

open Cert.ReferenceIdeal Cert.ReferenceIdeal.Gen
open Idealize.ShloMosaic

/-- The reference's code of one bag, position and channel: the kernel's, where the position is below the bag's length. -/
theorem codes_at (g : S6x160x2432.Idx → Ideal .f32) (wts : S2400x6x128.Idx → Ideal .f32) (len : S2400x6.Idx → BitVec 32) (s : S6.Idx → Ideal .f32)
    (b : Fin 2400) (t : Fin 6) (l : Fin 128) (c : Fin 160) :
    select (broadcastInDim S2400x6x128x160 ![0, 1, 2, 3] bcast_S2400x6x128x1_S2400x6x128x160_0_1_2_3 (broadcastInDim S2400x6x128x1 ![0, 1, 2] bcast_S2400x6x128_S2400x6x128x1_0_1_2
        (cmpi .slt (broadcastInDim S2400x6x128 ![0, 1, 2] bcast_S1x1x128_S2400x6x128_0_1_2 (broadcastInDim S1x1x128 ![2] bcast_S128_S1x1x128_2 (iotaInDim S128 32 0)))
          (broadcastInDim S2400x6x128 ![0, 1, 2] bcast_S2400x6x1_S2400x6x128_0_1_2 (broadcastInDim S2400x6x1 ![0, 1] bcast_S2400x6_S2400x6x1_0_1 len)))))
      (fptosi (F := Ideal) 32 (Host.roundeven (mulf (mulf (broadcastInDim S2400x6x128x160 ![0, 1, 2, 3] bcast_S2400x6x1x160_S2400x6x128x160_0_1_2_3
          (broadcastInDim S2400x6x1x160 ![0, 1, 3] bcast_S2400x6x160_S2400x6x1x160_0_1_3 (transpose S2400x6x160 [2, 0, 1]
            (extractStridedSlice S6x160x2400 ![0, 0, 0] g slices_S6x160x2432_S6x160x2400_0_0_0) transposes_S6x160x2400_S2400x6x160_2_0_1)))
          (broadcastInDim S2400x6x128x160 ![0, 1, 2, 3] bcast_S2400x6x128x1_S2400x6x128x160_0_1_2_3 (broadcastInDim S2400x6x128x1 ![0, 1, 2] bcast_S2400x6x128_S2400x6x128x1_0_1_2 wts)))
          (broadcastInDim S2400x6x128x160 ![0, 1, 2, 3] bcast_S1x6x1x1_S2400x6x128x160_0_1_2_3 (broadcastInDim S1x6x1x1 ![1] bcast_S6_S1x6x1x1_1 s)))))
      (broadcastInDim S2400x6x128x160 ![] bcast_S_S2400x6x128x160 (id (constantI S_ 32 0#32))) (ix4 b t l c)
      = if (BitVec.ofNat 32 l.val).slt (len (ix2 b t)) = true then
          Cert.KernelIdeal.Pf.codeV (g (ix3 t c (⟨b.val, by have := b.isLt; omega⟩ : Fin 2432))) (wts (ix3 b t l)) (s (ix1 t)) else 0 := by
  have hg : broadcastInDim S2400x6x128x160 ![0, 1, 2, 3] bcast_S2400x6x1x160_S2400x6x128x160_0_1_2_3
      (broadcastInDim S2400x6x1x160 ![0, 1, 3] bcast_S2400x6x160_S2400x6x1x160_0_1_3 (transpose S2400x6x160 [2, 0, 1]
        (extractStridedSlice S6x160x2400 ![0, 0, 0] g slices_S6x160x2432_S6x160x2400_0_0_0) transposes_S6x160x2400_S2400x6x160_2_0_1)) (ix4 b t l c)
      = g (ix3 t c (⟨b.val, by have := b.isLt; omega⟩ : Fin 2432)) :=
    congrArg g (funext fun a => Fin.ext (match a with | ⟨0, _⟩ => Nat.zero_add _ | ⟨1, _⟩ => Nat.zero_add _ | ⟨2, _⟩ => Nat.zero_add _))
  have hw : broadcastInDim S2400x6x128x160 ![0, 1, 2, 3] bcast_S2400x6x128x1_S2400x6x128x160_0_1_2_3 (broadcastInDim S2400x6x128x1 ![0, 1, 2] bcast_S2400x6x128_S2400x6x128x1_0_1_2 wts) (ix4 b t l c)
      = wts (ix3 b t l) :=
    congrArg wts (funext fun a => Fin.ext (match a with | ⟨0, _⟩ => rfl | ⟨1, _⟩ => rfl | ⟨2, _⟩ => rfl))
  have hs : broadcastInDim S2400x6x128x160 ![0, 1, 2, 3] bcast_S1x6x1x1_S2400x6x128x160_0_1_2_3 (broadcastInDim S1x6x1x1 ![1] bcast_S6_S1x6x1x1_1 s) (ix4 b t l c) = s (ix1 t) :=
    congrArg s (funext fun a => Fin.ext (match a with | ⟨0, _⟩ => rfl))
  have hl : broadcastInDim S2400x6x128x160 ![0, 1, 2, 3] bcast_S2400x6x128x1_S2400x6x128x160_0_1_2_3 (broadcastInDim S2400x6x128x1 ![0, 1, 2] bcast_S2400x6x128_S2400x6x128x1_0_1_2
        (cmpi .slt (broadcastInDim S2400x6x128 ![0, 1, 2] bcast_S1x1x128_S2400x6x128_0_1_2 (broadcastInDim S1x1x128 ![2] bcast_S128_S1x1x128_2 (iotaInDim S128 32 0)))
          (broadcastInDim S2400x6x128 ![0, 1, 2] bcast_S2400x6x1_S2400x6x128_0_1_2 (broadcastInDim S2400x6x1 ![0, 1] bcast_S2400x6_S2400x6x1_0_1 len)))) (ix4 b t l c)
      = BitVec.ofBool ((BitVec.ofNat 32 l.val).slt (len (ix2 b t))) := by
    refine congrArg (fun v => BitVec.ofBool ((BitVec.ofNat 32 l.val).slt v)) (congrArg len (funext fun a => Fin.ext ?_))
    exact match a with | ⟨0, _⟩ => rfl | ⟨1, _⟩ => rfl
  unfold Cert.KernelIdeal.Pf.codeV
  rw [← hg, ← hw, ← hs]
  unfold select
  rw [hl]
  generalize (BitVec.ofNat 32 l.val).slt (len (ix2 b t)) = q
  cases q
  · exact (if_neg (by decide)).trans (if_neg (by decide)).symm
  · exact (if_pos (by decide)).trans (if_pos rfl).symm

end Cert.ReferenceIdeal.Pf

end
-- ==== Proof.Algebraic.lean ====
/-
  The idealized kernel computes the idealized reference.
-/
module

public import proofs.«01_k».proof.Proof.Ideal.Frame
public import proofs.«01_k».proof.Proof.Value
public import proofs.«01_k».proof.Proof.Gen.ReferenceIdeal.Run

@[expose] public section

set_option Elab.async false

noncomputable section

namespace Cert.KernelIdeal.Pf

open Cert.KernelIdeal Cert.KernelIdeal.Gen
open Idealize.ShloMosaic Idealize.SL.Sem Idealize.ShloMosaic.StableHlo

section

variable {F : FTy → Type} [FloatOps F]
variable (m : (ℓ : Loc nD τ sig) → Buf (Elt F) ℓ)

/-- The other two arguments on one device: the step's inverse and the step of each table. -/
abbrev aInv (d : Dev nD) : S6.Idx → F .f32 := launchContents m d (Proc.devRef .tc main_arg4)
abbrev aStep (d : Dev nD) : S6.Idx → F .f32 := launchContents m d (Proc.devRef .tc main_arg5)

/-- The results on one device. -/
abbrev resG (d : Dev nD) : S6x80000x160.Idx → F .f32 := V3 m d (Proc.devRef .tc main_v13)
abbrev resF (d : Dev nD) : S6x80000x160.Idx → BitVec 32 := V3 m d (Proc.devRef .tc main_v15)

theorem resF_tiled (d : Dev nD) (t : Fin 6) (p : Fin 80000) (c : Fin 160) :
    resF m d (ix3 t p c) = accN (vG5 m d) (vIds m d) (vWts m d) (vLen m d) (vSc m d) t.val c.val 2400 p.val := by
  have e : V2 m d (Proc.devRef .tc main_v11_1) = fixV m d := Function.update_self ..
  refine (congrFun (Host.post_main_v15 (V2 m d)) (ix3 t p c)).trans ((untile_at _ t p c).trans ?_)
  rw [e]
  show accN (vG5 m d) (vIds m d) (vWts m d) (vLen m d) (vSc m d) t.val (8 * (c.val / 8) + c.val % 8) 2400 (128 * (p.val / 128) + p.val % 128) = _
  rw [Nat.div_add_mod, Nat.div_add_mod]

/-- The fixed-point result: row `p`, channel `c` of table `t` receives the codes of the valid positions whose id is `p`. -/
theorem resF_at (d : Dev nD) (hp : PreAt m d) (t : Fin 6) (p : Fin 80000) (c : Fin 160) :
    resF m d (ix3 t p c) = ∑ b : Fin 2400, ∑ l : Fin 128, if (aIds m d (ix3 b t l)).toNat = p.val then
      (if (BitVec.ofNat 32 l.val).slt (aLen m d (ix2 b t)) = true then
        codeV (aG m d (ix3 t c (⟨b.val, by have := b.isLt; omega⟩ : Fin 2432))) (aWts m d (ix3 b t l)) (aInv m d (ix1 t)) else 0) else (0 : BitVec 32) := by
  rw [resF_tiled, accN_eq _ _ _ _ _ _ _ _ (ok_of_pre m d hp).len]
  refine Finset.sum_congr rfl fun b _ => Finset.sum_congr rfl fun l _ => ?_
  have hsc : ∀ x : ℕ, x < 16 → vSc m d (i1 (32 * t.val + x)) = aInv m d (ix1 t) := fun x hx =>
    (vSc_lane m d t 0 x hx).trans (scales_zero _ _ t)
  rw [vG5_eq, vIds_eq, vWts_eq, vLen_eq]
  refine (term_eq _ _ _ _ _ _ t hsc c b l p.val).trans ?_
  by_cases h1 : (BitVec.ofNat 32 l.val).slt (aLen m d (ix2 b t)) = true <;> by_cases h2 : (aIds m d (ix3 b t l)).toNat = p.val
  · rw [if_pos ⟨h1, h2⟩, if_pos h2, if_pos h1]
  · rw [if_neg fun h => h2 h.2, if_neg h2]
  · rw [if_neg fun h => h1 h.1, if_pos h2, if_neg h1]
  · rw [if_neg fun h => h1 h.1, if_neg h2]

/-- The float result: the fixed-point one, converted and scaled back. -/
theorem resG_at (d : Dev nD) (t : Fin 6) (p : Fin 80000) (c : Fin 160) :
    resG m d (ix3 t p c) = gradV (resF m d (ix3 t p c)) (aStep m d (ix1 t)) := by
  have e : V2 m d (Proc.devRef .tc main_v11_0) = gradVV m d :=
    (Function.update_of_ne (by decide) ..).trans (Function.update_self ..)
  refine (congrFun (Host.post_main_v13 (V2 m d)) (ix3 t p c)).trans ((untile_at _ t p c).trans ?_)
  rw [e, resF_tiled]
  show gradV (accN (vG5 m d) (vIds m d) (vWts m d) (vLen m d) (vSc m d) t.val (8 * (c.val / 8) + c.val % 8) 2400 (128 * (p.val / 128) + p.val % 128))
    (vSc m d (i1 (32 * t.val + 16))) = _
  rw [Nat.div_add_mod, Nat.div_add_mod]
  exact congrArg _ ((vSc_lane m d t 1 0 (by decide)).trans (scales_one _ _ t))

end

/-- The kernel and the reference, at the ideal instance, end with equal results (Defs.lean). -/
theorem algebraic : Cert.algebraic_KernelIdeal_ReferenceIdeal := by
  intro m g m' g' hpre hag
  have hp : ∀ d, PreAt m d := fun d => pre_at _ _ _ _ _ _ (hpre d)
  refine ⟨fun c => resG m c, fun c => resF m c, ?_, ?_⟩
  · refine (θ_run Cert.KernelIdeal.defs _ _).mono (fun r h c => ⟨h.1 c main_v13, h.1 c main_v15, args_unchanged m c r.2.mem (fun b => h.1 c b)⟩)
      (run_main (F := Ideal) m g fun d => ok_of_pre m d (hp d))
  · refine (θ_run Cert.ReferenceIdeal.defs _ _).mono (fun r h c => ?_) (Cert.ReferenceIdeal.Value.run (F := Ideal) m' g')
    obtain ⟨h35, h31, hargs⟩ := h c
    obtain ⟨e0, e1, e2, e3, e4, e5⟩ := hag c
    have hids : ∀ i, (aIds m c i).toNat < 80000 := fun i => by rw [eq_ix3 i]; exact (hp c _ _ _).1
    have hF : r.2.mem ((c.tc : Thread Cert.ReferenceIdeal.nD Cert.ReferenceIdeal.τ).loc Cert.ReferenceIdeal.main_v31) = resF m c := by
      rw [h31, e0, e1, e2, e3, e4]
      funext i
      rw [eq_ix3 i]
      refine (Cert.ReferenceIdeal.Pf.seg_sum (aIds m c) hids _ _ _ _).trans ((resF_at m c (hp c) _ _ _).trans ?_).symm
      refine Finset.sum_congr rfl fun b _ => Finset.sum_congr rfl fun l _ => ?_
      exact congrArg (fun z : BitVec 32 => if (aIds m c (ix3 b (i 0) l)).toNat = (i 1).val then z else 0)
        (Cert.ReferenceIdeal.Pf.codes_at (aG m c) (aWts m c) (aLen m c) (aInv m c) b (i 0) l (i 2)).symm
    refine ⟨?_, hF, hargs⟩
    rw [h35, ← h31, hF, e5]
    funext i
    rw [eq_ix3 i]
    refine Eq.trans ?_ (resG_at m c (i 0) (i 1) (i 2)).symm
    refine congrArg (fun s => gradV (resF m c (ix3 (i 0) (i 1) (i 2))) s) (congrArg (aStep m c) (funext fun a => Fin.ext ?_))
    exact match a with | ⟨0, _⟩ => rfl

end Cert.KernelIdeal.Pf

end
-- ==== Proof.lean ====
/-
  The certificate: the frames of the kernel, of its idealization and of the reference, and the equation of their results.
-/
module

public import proofs.«01_k».proof.Defs
public import proofs.«01_k».proof.Proof.Frame
public import proofs.«01_k».proof.Proof.Algebraic
public import proofs.«01_k».proof.Proof.Gen.ReferenceIdeal.Run
public import proofs.«01_k».proof.Proof.Gen.Pre_in_range

@[expose] public section

noncomputable section

namespace Cert.Proof

open Idealize.ShloMosaic Idealize.SL.Sem

/-- The reference's frame. -/
theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_in_range.Gen.facts,
  Cert.Kernel.Pf.frame, Cert.KernelIdeal.Pf.frame, frame_r, fun m ρ _ => frame_r m ρ trivial, trivial, Cert.KernelIdeal.Pf.algebraic⟩

end Cert.Proof

end
